-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def Pre_GdnIdeal_finite_gdn [hPre_finite_gdn : Cert.Pre_finite_gdn.Facts] (m : (ℓ : Loc Cert.GdnIdeal.nD Cert.GdnIdeal.τ Cert.GdnIdeal.sig) → Buf (Elt Ideal) ℓ) : Prop :=
  ∀ c : Dev Cert.GdnIdeal.nD,
    (Cert.Pre_finite_gdn.fn (F := Ideal) (m ((c.tc : Thread Cert.GdnIdeal.nD Cert.GdnIdeal.τ).loc Cert.GdnIdeal.main_arg0)) (m ((c.tc : Thread Cert.GdnIdeal.nD Cert.GdnIdeal.τ).loc Cert.GdnIdeal.main_arg1)) (m ((c.tc : Thread Cert.GdnIdeal.nD Cert.GdnIdeal.τ).loc Cert.GdnIdeal.main_arg2)) (m ((c.tc : Thread Cert.GdnIdeal.nD Cert.GdnIdeal.τ).loc Cert.GdnIdeal.main_arg3)) (m ((c.tc : Thread Cert.GdnIdeal.nD Cert.GdnIdeal.τ).loc Cert.GdnIdeal.main_arg4)) (m ((c.tc : Thread Cert.GdnIdeal.nD Cert.GdnIdeal.τ).loc Cert.GdnIdeal.main_arg5))) = (fun _ => 1#1)

def Pre_RefGdnIdeal (m : (ℓ : Loc Cert.RefGdnIdeal.nD Cert.RefGdnIdeal.τ Cert.RefGdnIdeal.sig) → Buf (Elt Ideal) ℓ) : Prop :=
  True

def Pre_RefGdnIdeal_finite_gdn [hPre_finite_gdn : Cert.Pre_finite_gdn.Facts] (m : (ℓ : Loc Cert.RefGdnIdeal.nD Cert.RefGdnIdeal.τ Cert.RefGdnIdeal.sig) → Buf (Elt Ideal) ℓ) : Prop :=
  ∀ c : Dev Cert.RefGdnIdeal.nD,
    (Cert.Pre_finite_gdn.fn (F := Ideal) (m ((c.tc : Thread Cert.RefGdnIdeal.nD Cert.RefGdnIdeal.τ).loc Cert.RefGdnIdeal.main_arg0)) (m ((c.tc : Thread Cert.RefGdnIdeal.nD Cert.RefGdnIdeal.τ).loc Cert.RefGdnIdeal.main_arg1)) (m ((c.tc : Thread Cert.RefGdnIdeal.nD Cert.RefGdnIdeal.τ).loc Cert.RefGdnIdeal.main_arg2)) (m ((c.tc : Thread Cert.RefGdnIdeal.nD Cert.RefGdnIdeal.τ).loc Cert.RefGdnIdeal.main_arg3)) (m ((c.tc : Thread Cert.RefGdnIdeal.nD Cert.RefGdnIdeal.τ).loc Cert.RefGdnIdeal.main_arg4)) (m ((c.tc : Thread Cert.RefGdnIdeal.nD Cert.RefGdnIdeal.τ).loc Cert.RefGdnIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1)
      ∧ r.2.mem ((c.tc : Thread Cert.RefProjIdeal.nD Cert.RefProjIdeal.τ).loc Cert.RefProjIdeal.main_arg2) = m ((c.tc : Thread Cert.RefProjIdeal.nD Cert.RefProjIdeal.τ).loc Cert.RefProjIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4)
      ∧ r.2.mem ((c.tc : Thread Cert.RefMergeIdeal.nD Cert.RefMergeIdeal.τ).loc Cert.RefMergeIdeal.main_arg5) = m ((c.tc : Thread Cert.RefMergeIdeal.nD Cert.RefMergeIdeal.τ).loc Cert.RefMergeIdeal.main_arg5)
      ∧ r.2.mem ((c.tc : Thread Cert.RefMergeIdeal.nD Cert.RefMergeIdeal.τ).loc Cert.RefMergeIdeal.main_arg6) = m ((c.tc : Thread Cert.RefMergeIdeal.nD Cert.RefMergeIdeal.τ).loc Cert.RefMergeIdeal.main_arg6)
      ∧ r.2.mem ((c.tc : Thread Cert.RefMergeIdeal.nD Cert.RefMergeIdeal.τ).loc Cert.RefMergeIdeal.main_arg7) = m ((c.tc : Thread Cert.RefMergeIdeal.nD Cert.RefMergeIdeal.τ).loc Cert.RefMergeIdeal.main_arg7))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4)
      ∧ r.2.mem ((c.tc : Thread Cert.Gdn.nD Cert.Gdn.τ).loc Cert.Gdn.main_arg5) = m ((c.tc : Thread Cert.Gdn.nD Cert.Gdn.τ).loc Cert.Gdn.main_arg5))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5))
      ∧ r.2.sem = fun _ => 0)

def quiescent_GdnIdeal_pre_finite_gdn [hGdnIdeal : Cert.GdnIdeal.Facts] [hPre_finite_gdn : Cert.Pre_finite_gdn.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal_finite_gdn m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5))
      ∧ r.2.sem = fun _ => 0)

def quiescent_RefGdnIdeal [hRefGdnIdeal : Cert.RefGdnIdeal.Facts] : Prop :=
  ∀ (m : (ℓ : Loc Cert.RefGdnIdeal.nD Cert.RefGdnIdeal.τ Cert.RefGdnIdeal.sig) → Buf (Elt Ideal) ℓ) (g : Dev Cert.RefGdnIdeal.nD → PrngReg), Pre_RefGdnIdeal m →
    θ_run (Cert.RefGdnIdeal.defs (F := Ideal)) (onTc (τ := Cert.RefGdnIdeal.τ) (Cert.RefGdnIdeal.main (F := Ideal))) ⟨m, fun _ => 0, g⟩ (fun r => (∀ c : Dev Cert.RefGdnIdeal.nD,
      r.2.mem ((c.tc : Thread Cert.RefGdnIdeal.nD Cert.RefGdnIdeal.τ).loc Cert.RefGdnIdeal.main_arg0) = m ((c.tc : Thread Cert.RefGdnIdeal.nD Cert.RefGdnIdeal.τ).loc Cert.RefGdnIdeal.main_arg0)
      ∧ r.2.mem ((c.tc : Thread Cert.RefGdnIdeal.nD Cert.RefGdnIdeal.τ).loc Cert.RefGdnIdeal.main_arg1) = m ((c.tc : Thread Cert.RefGdnIdeal.nD Cert.RefGdnIdeal.τ).loc Cert.RefGdnIdeal.main_arg1)
      ∧ r.2.mem ((c.tc : Thread Cert.RefGdnIdeal.nD Cert.RefGdnIdeal.τ).loc Cert.RefGdnIdeal.main_arg2) = m ((c.tc : Thread Cert.RefGdnIdeal.nD Cert.RefGdnIdeal.τ).loc Cert.RefGdnIdeal.main_arg2)
      ∧ r.2.mem ((c.tc : Thread Cert.RefGdnIdeal.nD Cert.RefGdnIdeal.τ).loc Cert.RefGdnIdeal.main_arg3) = m ((c.tc : Thread Cert.RefGdnIdeal.nD Cert.RefGdnIdeal.τ).loc Cert.RefGdnIdeal.main_arg3)
      ∧ r.2.mem ((c.tc : Thread Cert.RefGdnIdeal.nD Cert.RefGdnIdeal.τ).loc Cert.RefGdnIdeal.main_arg4) = m ((c.tc : Thread Cert.RefGdnIdeal.nD Cert.RefGdnIdeal.τ).loc Cert.RefGdnIdeal.main_arg4)
      ∧ r.2.mem ((c.tc : Thread Cert.RefGdnIdeal.nD Cert.RefGdnIdeal.τ).loc Cert.RefGdnIdeal.main_arg5) = m ((c.tc : Thread Cert.RefGdnIdeal.nD Cert.RefGdnIdeal.τ).loc Cert.RefGdnIdeal.main_arg5))
      ∧ r.2.sem = fun _ => 0)

def quiescent_RefGdnIdeal_pre_finite_gdn [hRefGdnIdeal : Cert.RefGdnIdeal.Facts] [hPre_finite_gdn : Cert.Pre_finite_gdn.Facts] : Prop :=
  ∀ (m : (ℓ : Loc Cert.RefGdnIdeal.nD Cert.RefGdnIdeal.τ Cert.RefGdnIdeal.sig) → Buf (Elt Ideal) ℓ) (g : Dev Cert.RefGdnIdeal.nD → PrngReg), Pre_RefGdnIdeal_finite_gdn m →
    θ_run (Cert.RefGdnIdeal.defs (F := Ideal)) (onTc (τ := Cert.RefGdnIdeal.τ) (Cert.RefGdnIdeal.main (F := Ideal))) ⟨m, fun _ => 0, g⟩ (fun r => (∀ c : Dev Cert.RefGdnIdeal.nD,
      r.2.mem ((c.tc : Thread Cert.RefGdnIdeal.nD Cert.RefGdnIdeal.τ).loc Cert.RefGdnIdeal.main_arg0) = m ((c.tc : Thread Cert.RefGdnIdeal.nD Cert.RefGdnIdeal.τ).loc Cert.RefGdnIdeal.main_arg0)
      ∧ r.2.mem ((c.tc : Thread Cert.RefGdnIdeal.nD Cert.RefGdnIdeal.τ).loc Cert.RefGdnIdeal.main_arg1) = m ((c.tc : Thread Cert.RefGdnIdeal.nD Cert.RefGdnIdeal.τ).loc Cert.RefGdnIdeal.main_arg1)
      ∧ r.2.mem ((c.tc : Thread Cert.RefGdnIdeal.nD Cert.RefGdnIdeal.τ).loc Cert.RefGdnIdeal.main_arg2) = m ((c.tc : Thread Cert.RefGdnIdeal.nD Cert.RefGdnIdeal.τ).loc Cert.RefGdnIdeal.main_arg2)
      ∧ r.2.mem ((c.tc : Thread Cert.RefGdnIdeal.nD Cert.RefGdnIdeal.τ).loc Cert.RefGdnIdeal.main_arg3) = m ((c.tc : Thread Cert.RefGdnIdeal.nD Cert.RefGdnIdeal.τ).loc Cert.RefGdnIdeal.main_arg3)
      ∧ r.2.mem ((c.tc : Thread Cert.RefGdnIdeal.nD Cert.RefGdnIdeal.τ).loc Cert.RefGdnIdeal.main_arg4) = m ((c.tc : Thread Cert.RefGdnIdeal.nD Cert.RefGdnIdeal.τ).loc Cert.RefGdnIdeal.main_arg4)
      ∧ r.2.mem ((c.tc : Thread Cert.RefGdnIdeal.nD Cert.RefGdnIdeal.τ).loc Cert.RefGdnIdeal.main_arg5) = m ((c.tc : Thread Cert.RefGdnIdeal.nD Cert.RefGdnIdeal.τ).loc Cert.RefGdnIdeal.main_arg5))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Ffn_FfnIdeal : Prop :=
  True

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)
      ∧ m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v31) = v0 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4))

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)
      ∧ m' ((c.tc : Thread Cert.RefProjIdeal.nD Cert.RefProjIdeal.τ).loc Cert.RefProjIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v14_0)) (v1 : (c : Dev Cert.ProjIdeal.nD) → Buf (Elt Ideal) ((c.tc : Thread Cert.ProjIdeal.nD Cert.ProjIdeal.τ).loc Cert.ProjIdeal.main_v14_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v14_0) = v0 c
          ∧ r.2.mem ((c.tc : Thread Cert.ProjIdeal.nD Cert.ProjIdeal.τ).loc Cert.ProjIdeal.main_v14_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v21) = v0 c
          ∧ r.2.mem ((c.tc : Thread Cert.RefProjIdeal.nD Cert.RefProjIdeal.τ).loc Cert.RefProjIdeal.main_v23) = v1 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1)
          ∧ r.2.mem ((c.tc : Thread Cert.RefProjIdeal.nD Cert.RefProjIdeal.τ).loc Cert.RefProjIdeal.main_arg2) = m' ((c.tc : Thread Cert.RefProjIdeal.nD Cert.RefProjIdeal.τ).loc Cert.RefProjIdeal.main_arg2))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)
      ∧ m' ((c.tc : Thread Cert.RefMergeIdeal.nD Cert.RefMergeIdeal.τ).loc Cert.RefMergeIdeal.main_arg5) = m ((c.tc : Thread Cert.MergeIdeal.nD Cert.MergeIdeal.τ).loc Cert.MergeIdeal.main_arg5)
      ∧ m' ((c.tc : Thread Cert.RefMergeIdeal.nD Cert.RefMergeIdeal.τ).loc Cert.RefMergeIdeal.main_arg6) = m ((c.tc : Thread Cert.MergeIdeal.nD Cert.MergeIdeal.τ).loc Cert.MergeIdeal.main_arg6)
      ∧ m' ((c.tc : Thread Cert.RefMergeIdeal.nD Cert.RefMergeIdeal.τ).loc Cert.RefMergeIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v71) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4)
          ∧ r.2.mem ((c.tc : Thread Cert.RefMergeIdeal.nD Cert.RefMergeIdeal.τ).loc Cert.RefMergeIdeal.main_arg5) = m' ((c.tc : Thread Cert.RefMergeIdeal.nD Cert.RefMergeIdeal.τ).loc Cert.RefMergeIdeal.main_arg5)
          ∧ r.2.mem ((c.tc : Thread Cert.RefMergeIdeal.nD Cert.RefMergeIdeal.τ).loc Cert.RefMergeIdeal.main_arg6) = m' ((c.tc : Thread Cert.RefMergeIdeal.nD Cert.RefMergeIdeal.τ).loc Cert.RefMergeIdeal.main_arg6)
          ∧ r.2.mem ((c.tc : Thread Cert.RefMergeIdeal.nD Cert.RefMergeIdeal.τ).loc Cert.RefMergeIdeal.main_arg7) = m' ((c.tc : Thread Cert.RefMergeIdeal.nD Cert.RefMergeIdeal.τ).loc Cert.RefMergeIdeal.main_arg7))

def preserves_Gdn_GdnIdeal : Prop :=
  True

def algebraic_GdnIdeal_RefGdnIdeal_pre_finite_gdn [hGdnIdeal : Cert.GdnIdeal.Facts] [hRefGdnIdeal : Cert.RefGdnIdeal.Facts] [hPre_finite_gdn : Cert.Pre_finite_gdn.Facts] : Prop :=
  ∀ (m : (ℓ : Loc Cert.GdnIdeal.nD Cert.GdnIdeal.τ Cert.GdnIdeal.sig) → Buf (Elt Ideal) ℓ) (g : Dev Cert.GdnIdeal.nD → PrngReg)
    (m' : (ℓ : Loc Cert.RefGdnIdeal.nD Cert.RefGdnIdeal.τ Cert.RefGdnIdeal.sig) → Buf (Elt Ideal) ℓ) (g' : Dev Cert.RefGdnIdeal.nD → PrngReg), Pre_GdnIdeal_finite_gdn m →
    (∀ c : Dev Cert.GdnIdeal.nD,
      m' ((c.tc : Thread Cert.RefGdnIdeal.nD Cert.RefGdnIdeal.τ).loc Cert.RefGdnIdeal.main_arg0) = m ((c.tc : Thread Cert.GdnIdeal.nD Cert.GdnIdeal.τ).loc Cert.GdnIdeal.main_arg0)
      ∧ m' ((c.tc : Thread Cert.RefGdnIdeal.nD Cert.RefGdnIdeal.τ).loc Cert.RefGdnIdeal.main_arg1) = m ((c.tc : Thread Cert.GdnIdeal.nD Cert.GdnIdeal.τ).loc Cert.GdnIdeal.main_arg1)
      ∧ m' ((c.tc : Thread Cert.RefGdnIdeal.nD Cert.RefGdnIdeal.τ).loc Cert.RefGdnIdeal.main_arg2) = m ((c.tc : Thread Cert.GdnIdeal.nD Cert.GdnIdeal.τ).loc Cert.GdnIdeal.main_arg2)
      ∧ m' ((c.tc : Thread Cert.RefGdnIdeal.nD Cert.RefGdnIdeal.τ).loc Cert.RefGdnIdeal.main_arg3) = m ((c.tc : Thread Cert.GdnIdeal.nD Cert.GdnIdeal.τ).loc Cert.GdnIdeal.main_arg3)
      ∧ m' ((c.tc : Thread Cert.RefGdnIdeal.nD Cert.RefGdnIdeal.τ).loc Cert.RefGdnIdeal.main_arg4) = m ((c.tc : Thread Cert.GdnIdeal.nD Cert.GdnIdeal.τ).loc Cert.GdnIdeal.main_arg4)
      ∧ m' ((c.tc : Thread Cert.RefGdnIdeal.nD Cert.RefGdnIdeal.τ).loc Cert.RefGdnIdeal.main_arg5) = m ((c.tc : Thread Cert.GdnIdeal.nD Cert.GdnIdeal.τ).loc Cert.GdnIdeal.main_arg5)) →
    ∃ (v0 : (c : Dev Cert.GdnIdeal.nD) → Buf (Elt Ideal) ((c.tc : Thread Cert.GdnIdeal.nD Cert.GdnIdeal.τ).loc Cert.GdnIdeal.main_v5)),
      θ_run (Cert.GdnIdeal.defs (F := Ideal)) (onTc (τ := Cert.GdnIdeal.τ) (Cert.GdnIdeal.main (F := Ideal))) ⟨m, fun _ => 0, g⟩ (fun r => ∀ c : Dev Cert.GdnIdeal.nD,
          r.2.mem ((c.tc : Thread Cert.GdnIdeal.nD Cert.GdnIdeal.τ).loc Cert.GdnIdeal.main_v5) = v0 c
          ∧ r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
          ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
          ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
          ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
          ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
          ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5))
      ∧ θ_run (Cert.RefGdnIdeal.defs (F := Ideal)) (onTc (τ := Cert.RefGdnIdeal.τ) (Cert.RefGdnIdeal.main (F := Ideal))) ⟨m', fun _ => 0, g'⟩ (fun r => ∀ c : Dev Cert.RefGdnIdeal.nD,
          r.2.mem ((c.tc : Thread Cert.RefGdnIdeal.nD Cert.RefGdnIdeal.τ).loc Cert.RefGdnIdeal.main_v96) = v0 c
          ∧ r.2.mem ((c.tc : Thread Cert.RefGdnIdeal.nD Cert.RefGdnIdeal.τ).loc Cert.RefGdnIdeal.main_arg0) = m' ((c.tc : Thread Cert.RefGdnIdeal.nD Cert.RefGdnIdeal.τ).loc Cert.RefGdnIdeal.main_arg0)
          ∧ r.2.mem ((c.tc : Thread Cert.RefGdnIdeal.nD Cert.RefGdnIdeal.τ).loc Cert.RefGdnIdeal.main_arg1) = m' ((c.tc : Thread Cert.RefGdnIdeal.nD Cert.RefGdnIdeal.τ).loc Cert.RefGdnIdeal.main_arg1)
          ∧ r.2.mem ((c.tc : Thread Cert.RefGdnIdeal.nD Cert.RefGdnIdeal.τ).loc Cert.RefGdnIdeal.main_arg2) = m' ((c.tc : Thread Cert.RefGdnIdeal.nD Cert.RefGdnIdeal.τ).loc Cert.RefGdnIdeal.main_arg2)
          ∧ r.2.mem ((c.tc : Thread Cert.RefGdnIdeal.nD Cert.RefGdnIdeal.τ).loc Cert.RefGdnIdeal.main_arg3) = m' ((c.tc : Thread Cert.RefGdnIdeal.nD Cert.RefGdnIdeal.τ).loc Cert.RefGdnIdeal.main_arg3)
          ∧ r.2.mem ((c.tc : Thread Cert.RefGdnIdeal.nD Cert.RefGdnIdeal.τ).loc Cert.RefGdnIdeal.main_arg4) = m' ((c.tc : Thread Cert.RefGdnIdeal.nD Cert.RefGdnIdeal.τ).loc Cert.RefGdnIdeal.main_arg4)
          ∧ r.2.mem ((c.tc : Thread Cert.RefGdnIdeal.nD Cert.RefGdnIdeal.τ).loc Cert.RefGdnIdeal.main_arg5) = m' ((c.tc : Thread Cert.RefGdnIdeal.nD Cert.RefGdnIdeal.τ).loc Cert.RefGdnIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hRefFfnIdeal : Cert.RefFfnIdeal.Facts) (hProj : Cert.Proj.Facts) (hProjIdeal : Cert.ProjIdeal.Facts) (hRefProjIdeal : Cert.RefProjIdeal.Facts) (hMerge : Cert.Merge.Facts) (hMergeIdeal : Cert.MergeIdeal.Facts) (hRefMergeIdeal : Cert.RefMergeIdeal.Facts) (hGdn : Cert.Gdn.Facts) (hGdnIdeal : Cert.GdnIdeal.Facts) (hRefGdnIdeal : Cert.RefGdnIdeal.Facts) (hPre_finite_scores : Cert.Pre_finite_scores.Facts) (hPre_finite_gdn : Cert.Pre_finite_gdn.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_RefFfnIdeal (hRefFfnIdeal := hRefFfnIdeal)
    ∧ quiescent_Proj (hProj := hProj)
    ∧ quiescent_ProjIdeal (hProjIdeal := hProjIdeal)
    ∧ quiescent_RefProjIdeal (hRefProjIdeal := hRefProjIdeal)
    ∧ quiescent_Merge (hMerge := hMerge)
    ∧ quiescent_MergeIdeal (hMergeIdeal := hMergeIdeal)
    ∧ quiescent_RefMergeIdeal (hRefMergeIdeal := hRefMergeIdeal)
    ∧ quiescent_Gdn (hGdn := hGdn)
    ∧ quiescent_GdnIdeal (hGdnIdeal := hGdnIdeal)
    ∧ quiescent_GdnIdeal_pre_finite_gdn (hGdnIdeal := hGdnIdeal) (hPre_finite_gdn := hPre_finite_gdn)
    ∧ quiescent_RefGdnIdeal (hRefGdnIdeal := hRefGdnIdeal)
    ∧ quiescent_RefGdnIdeal_pre_finite_gdn (hRefGdnIdeal := hRefGdnIdeal) (hPre_finite_gdn := hPre_finite_gdn)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_RefFfnIdeal (hFfnIdeal := hFfnIdeal) (hRefFfnIdeal := hRefFfnIdeal)
    ∧ preserves_Proj_ProjIdeal
    ∧ algebraic_ProjIdeal_RefProjIdeal (hProjIdeal := hProjIdeal) (hRefProjIdeal := hRefProjIdeal)
    ∧ preserves_Merge_MergeIdeal
    ∧ algebraic_MergeIdeal_RefMergeIdeal (hMergeIdeal := hMergeIdeal) (hRefMergeIdeal := hRefMergeIdeal)
    ∧ preserves_Gdn_GdnIdeal
    ∧ algebraic_GdnIdeal_RefGdnIdeal_pre_finite_gdn (hGdnIdeal := hGdnIdeal) (hRefGdnIdeal := hRefGdnIdeal) (hPre_finite_gdn := hPre_finite_gdn)
-- ==== Pre_finite_gdn.lean ====
abbrev S8x4096x8192 : Shape := ⟨3, ![8, 4096, 8192]⟩
abbrev S8x4096x128 : Shape := ⟨3, ![8, 4096, 128]⟩
abbrev S4x1536 : Shape := ⟨2, ![4, 1536]⟩
abbrev S4 : Shape := ⟨1, ![4]⟩
abbrev S128 : Shape := ⟨1, ![128]⟩
abbrev S4x512 : Shape := ⟨2, ![4, 512]⟩
abbrev S4x4x128 : Shape := ⟨3, ![4, 4, 128]⟩
abbrev S8x4096x512 : Shape := ⟨3, ![8, 4096, 512]⟩
abbrev S_ : Shape := ⟨0, ![]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S4x1 : Shape := ⟨2, ![4, 1]⟩
abbrev S1x1x4x1 : Shape := ⟨4, ![1, 1, 4, 1]⟩
abbrev S1x4x128 : Shape := ⟨3, ![1, 4, 128]⟩
abbrev S4x128 : Shape := ⟨2, ![4, 128]⟩
abbrev S1x1x4x128 : Shape := ⟨4, ![1, 1, 4, 128]⟩

class Facts : Prop where
  slices_S4x1536_S4x512_0_1024 : S4x1536.Slices ![0, 1024] S4x512
  shapeCasts_S4x512_S4x4x128 : S4x512.ShapeCasts S4x4x128
  slices_S8x4096x8192_S8x4096x512_0_0_1024 : S8x4096x8192.Slices ![0, 0, 1024] S8x4096x512
  bitsLt_bf16_f32 : FTy.bits .bf16 < FTy.bits .f32
  bcast_S_S8x4096x512 : S_.BroadcastsInDim S8x4096x512 (![] : Fin 0 → Fin S8x4096x512.rank)
  shapeCasts_S8x4096x512_S8x4096x4x128 : S8x4096x512.ShapeCasts S8x4096x4x128
  slices_S8x4096x128_S8x4096x4_0_0_0 : S8x4096x128.Slices ![0, 0, 0] S8x4096x4
  bcast_S_S8x4096x4 : S_.BroadcastsInDim S8x4096x4 (![] : Fin 0 → Fin S8x4096x4.rank)
  bcast_S8x4096x4_S8x4096x4x1_0_1_2 : S8x4096x4.BroadcastsInDim S8x4096x4x1 (![0, 1, 2] : Fin 3 → Fin S8x4096x4x1.rank)
  bcast_S8x4096x4x1_S8x4096x4x128_0_1_2_3 : S8x4096x4x1.BroadcastsInDim S8x4096x4x128 (![0, 1, 2, 3] : Fin 4 → Fin S8x4096x4x128.rank)
  bcast_S_S4 : S_.BroadcastsInDim S4 (![] : Fin 0 → Fin S4.rank)
  bcast_S4_S4x1_0 : S4.BroadcastsInDim S4x1 (![0] : Fin 1 → Fin S4x1.rank)
  bcast_S4x1_S1x1x4x1_2_3 : S4x1.BroadcastsInDim S1x1x4x1 (![2, 3] : Fin 2 → Fin S1x1x4x1.rank)
  bcast_S1x1x4x1_S8x4096x4x128_0_1_2_3 : S1x1x4x1.BroadcastsInDim S8x4096x4x128 (![0, 1, 2, 3] : Fin 4 → Fin S8x4096x4x128.rank)
  slices_S4x4x128_S1x4x128_0_0_0 : S4x4x128.Slices ![0, 0, 0] S1x4x128
  shapeCasts_S1x4x128_S4x128 : S1x4x128.ShapeCasts S4x128
  bcast_S_S4x128 : S_.BroadcastsInDim S4x128 (![] : Fin 0 → Fin S4x128.rank)
  bcast_S4x128_S1x1x4x128_2_3 : S4x128.BroadcastsInDim S1x1x4x128 (![2, 3] : Fin 2 → Fin S1x1x4x128.rank)
  bcast_S1x1x4x128_S8x4096x4x128_0_1_2_3 : S1x1x4x128.BroadcastsInDim S8x4096x4x128 (![0, 1, 2, 3] : Fin 4 → Fin S8x4096x4x128.rank)
  slices_S4x4x128_S1x4x128_1_0_0 : S4x4x128.Slices ![1, 0, 0] S1x4x128
  slices_S4x4x128_S1x4x128_2_0_0 : S4x4x128.Slices ![2, 0, 0] S1x4x128
  slices_S4x4x128_S1x4x128_3_0_0 : S4x4x128.Slices ![3, 0, 0] S1x4x128

variable [Facts]

def fn_part2 {F : FTy → Type} [FloatOps F] (main_v1 : FVec F S4x4x128 .f32) (main_v36 : IVec S8x4096x4x128 1) (main_v41 : IVec S4x128 1) : IVec S8x4096x4x128 1 :=
  let main_v42 : IVec S1x1x4x128 1 := broadcastInDim S1x1x4x128 ![2, 3] bcast_S4x128_S1x1x4x128_2_3 main_v41
  let main_v43 : IVec S8x4096x4x128 1 := broadcastInDim S8x4096x4x128 ![0, 1, 2, 3] bcast_S1x1x4x128_S8x4096x4x128_0_1_2_3 main_v42
  let main_v44 : IVec S8x4096x4x128 1 := andi main_v36 main_v43
  let main_v45 : FVec F S1x4x128 .f32 := (extractStridedSlice S1x4x128 ![2, 0, 0] · slices_S4x4x128_S1x4x128_2_0_0) main_v1
  let main_v46 : FVec F S4x128 .f32 := shapeCast S4x128 main_v45 shapeCasts_S1x4x128_S4x128
  let main_v47 : FVec F S4x128 .f32 := Host.absf main_v46
  let main_cst_5 : FVec F S_ .f32 := constant S_ .f32 0x7F800000#32
  let main_v48 : FVec F S4x128 .f32 := broadcastInDim S4x128 ![] bcast_S_S4x128 main_cst_5
  let main_v49 : IVec S4x128 1 := cmpf .olt main_v47 main_v48
  let main_v50 : IVec S1x1x4x128 1 := broadcastInDim S1x1x4x128 ![2, 3] bcast_S4x128_S1x1x4x128_2_3 main_v49
  let main_v51 : IVec S8x4096x4x128 1 := broadcastInDim S8x4096x4x128 ![0, 1, 2, 3] bcast_S1x1x4x128_S8x4096x4x128_0_1_2_3 main_v50
  let main_v52 : IVec S8x4096x4x128 1 := andi main_v44 main_v51
  let main_v53 : FVec F S1x4x128 .f32 := (extractStridedSlice S1x4x128 ![3, 0, 0] · slices_S4x4x128_S1x4x128_3_0_0) main_v1
  let main_v54 : FVec F S4x128 .f32 := shapeCast S4x128 main_v53 shapeCasts_S1x4x128_S4x128
  let main_v55 : FVec F S4x128 .f32 := Host.absf main_v54
  let main_cst_6 : FVec F S_ .f32 := constant S_ .f32 0x7F800000#32
  let main_v56 : FVec F S4x128 .f32 := broadcastInDim S4x128 ![] bcast_S_S4x128 main_cst_6
  let main_v57 : IVec S4x128 1 := cmpf .olt main_v55 main_v56
  let main_v58 : IVec S1x1x4x128 1 := broadcastInDim S1x1x4x128 ![2, 3] bcast_S4x128_S1x1x4x128_2_3 main_v57
  let main_v59 : IVec S8x4096x4x128 1 := broadcastInDim S8x4096x4x128 ![0, 1, 2, 3] bcast_S1x1x4x128_S8x4096x4x128_0_1_2_3 main_v58
  let main_v60 : IVec S8x4096x4x128 1 := andi main_v52 main_v59
  main_v60

def fn_part1 {F : FTy → Type} [FloatOps F] (main_arg4 : FVec F S4 .f32) (main_v1 : FVec F S4x4x128 .f32) (main_v14 : IVec S8x4096x4x128 1) (main_v20 : IVec S8x4096x4x128 1) : IVec S8x4096x4x128 1 :=
  let main_v21 : IVec S8x4096x4x128 1 := andi main_v14 main_v20
  let main_v22 : FVec F S4 .f32 := Host.absf main_arg4
  let main_cst_2 : FVec F S_ .f32 := constant S_ .f32 0x7F800000#32
  let main_v23 : FVec F S4 .f32 := broadcastInDim S4 ![] bcast_S_S4 main_cst_2
  let main_v24 : IVec S4 1 := cmpf .olt main_v22 main_v23
  let main_v25 : IVec S4x1 1 := broadcastInDim S4x1 ![0] bcast_S4_S4x1_0 main_v24
  let main_v26 : IVec S1x1x4x1 1 := broadcastInDim S1x1x4x1 ![2, 3] bcast_S4x1_S1x1x4x1_2_3 main_v25
  let main_v27 : IVec S8x4096x4x128 1 := broadcastInDim S8x4096x4x128 ![0, 1, 2, 3] bcast_S1x1x4x1_S8x4096x4x128_0_1_2_3 main_v26
  let main_v28 : IVec S8x4096x4x128 1 := andi main_v21 main_v27
  let main_v29 : FVec F S1x4x128 .f32 := (extractStridedSlice S1x4x128 ![0, 0, 0] · slices_S4x4x128_S1x4x128_0_0_0) main_v1
  let main_v30 : FVec F S4x128 .f32 := shapeCast S4x128 main_v29 shapeCasts_S1x4x128_S4x128
  let main_v31 : FVec F S4x128 .f32 := Host.absf main_v30
  let main_cst_3 : FVec F S_ .f32 := constant S_ .f32 0x7F800000#32
  let main_v32 : FVec F S4x128 .f32 := broadcastInDim S4x128 ![] bcast_S_S4x128 main_cst_3
  let main_v33 : IVec S4x128 1 := cmpf .olt main_v31 main_v32
  let main_v34 : IVec S1x1x4x128 1 := broadcastInDim S1x1x4x128 ![2, 3] bcast_S4x128_S1x1x4x128_2_3 main_v33
  let main_v35 : IVec S8x4096x4x128 1 := broadcastInDim S8x4096x4x128 ![0, 1, 2, 3] bcast_S1x1x4x128_S8x4096x4x128_0_1_2_3 main_v34
  let main_v36 : IVec S8x4096x4x128 1 := andi main_v28 main_v35
  let main_v37 : FVec F S1x4x128 .f32 := (extractStridedSlice S1x4x128 ![1, 0, 0] · slices_S4x4x128_S1x4x128_1_0_0) main_v1
  let main_v38 : FVec F S4x128 .f32 := shapeCast S4x128 main_v37 shapeCasts_S1x4x128_S4x128
  let main_v39 : FVec F S4x128 .f32 := Host.absf main_v38
  let main_cst_4 : FVec F S_ .f32 := constant S_ .f32 0x7F800000#32
  let main_v40 : FVec F S4x128 .f32 := broadcastInDim S4x128 ![] bcast_S_S4x128 main_cst_4
  let main_v41 : IVec S4x128 1 := cmpf .olt main_v39 main_v40
  fn_part2 (F := F) main_v1 main_v36 main_v41

def fn {F : FTy → Type} [FloatOps F] (main_arg0 : FVec F S8x4096x8192 .bf16) (main_arg1 : FVec F S8x4096x128 .f32) (main_arg2 : FVec F S4x1536 .f32) (main_arg3 : FVec F S4 .f32) (main_arg4 : FVec F S4 .f32) (main_arg5 : FVec F S128 .f32) : IVec S8x4096x4x128 1 :=
  let main_v0 : FVec F S4x512 .f32 := (extractStridedSlice S4x512 ![0, 1024] · slices_S4x1536_S4x512_0_1024) main_arg2
  let main_v1 : FVec F S4x4x128 .f32 := shapeCast S4x4x128 main_v0 shapeCasts_S4x512_S4x4x128
  let main_v2 : FVec F S8x4096x512 .bf16 := (extractStridedSlice S8x4096x512 ![0, 0, 1024] · slices_S8x4096x8192_S8x4096x512_0_0_1024) main_arg0
  let main_v3 : FVec F S8x4096x512 .f32 := (extf .f32 · bitsLt_bf16_f32) main_v2
  let main_v4 : FVec F S8x4096x512 .f32 := Host.absf main_v3
  let main_cst : FVec F S_ .f32 := constant S_ .f32 0x7F800000#32
  let main_v5 : FVec F S8x4096x512 .f32 := broadcastInDim S8x4096x512 ![] bcast_S_S8x4096x512 main_cst
  let main_v6 : IVec S8x4096x512 1 := cmpf .olt main_v4 main_v5
  let main_v7 : IVec S8x4096x4x128 1 := shapeCast S8x4096x4x128 main_v6 shapeCasts_S8x4096x512_S8x4096x4x128
  let main_v8 : FVec F S8x4096x4 .f32 := (extractStridedSlice S8x4096x4 ![0, 0, 0] · slices_S8x4096x128_S8x4096x4_0_0_0) main_arg1
  let main_v9 : FVec F S8x4096x4 .f32 := Host.absf main_v8
  let main_cst_0 : FVec F S_ .f32 := constant S_ .f32 0x7F800000#32
  let main_v10 : FVec F S8x4096x4 .f32 := broadcastInDim S8x4096x4 ![] bcast_S_S8x4096x4 main_cst_0
  let main_v11 : IVec S8x4096x4 1 := cmpf .olt main_v9 main_v10
  let main_v12 : IVec S8x4096x4x1 1 := broadcastInDim S8x4096x4x1 ![0, 1, 2] bcast_S8x4096x4_S8x4096x4x1_0_1_2 main_v11
  let main_v13 : IVec S8x4096x4x128 1 := broadcastInDim S8x4096x4x128 ![0, 1, 2, 3] bcast_S8x4096x4x1_S8x4096x4x128_0_1_2_3 main_v12
  let main_v14 : IVec S8x4096x4x128 1 := andi main_v7 main_v13
  let main_v15 : FVec F S4 .f32 := Host.absf main_arg3
  let main_cst_1 : FVec F S_ .f32 := constant S_ .f32 0x7F800000#32
  let main_v16 : FVec F S4 .f32 := broadcastInDim S4 ![] bcast_S_S4 main_cst_1
  let main_v17 : IVec S4 1 := cmpf .olt main_v15 main_v16
  let main_v18 : IVec S4x1 1 := broadcastInDim S4x1 ![0] bcast_S4_S4x1_0 main_v17
  let main_v19 : IVec S1x1x4x1 1 := broadcastInDim S1x1x4x1 ![2, 3] bcast_S4x1_S1x1x4x1_2_3 main_v18
  let main_v20 : IVec S8x4096x4x128 1 := broadcastInDim S8x4096x4x128 ![0, 1, 2, 3] bcast_S1x1x4x1_S8x4096x4x128_0_1_2_3 main_v19
  fn_part1 (F := F) main_arg4 main_v1 main_v14 main_v20
-- ==== Pre_finite_scores.lean ====
abbrev S8x4096x8192 : Shape := ⟨3, ![8, 4096, 8192]⟩
abbrev S8x4096x1024 : Shape := ⟨3, ![8, 4096, 1024]⟩
abbrev S_ : Shape := ⟨0, ![]⟩

class Facts : Prop where
  slices_S8x4096x8192_S8x4096x1024_0_0_2048 : S8x4096x8192.Slices ![0, 0, 2048] S8x4096x1024
  bitsLt_bf16_f32 : FTy.bits .bf16 < FTy.bits .f32
  bcast_S_S8x4096x1024 : S_.BroadcastsInDim S8x4096x1024 (![] : Fin 0 → Fin S8x4096x1024.rank)

variable [Facts]

def fn {F : FTy → Type} [FloatOps F] (main_arg0 : FVec F S8x4096x8192 .bf16) : IVec S8x4096x1024 1 :=
  let main_v0 : FVec F S8x4096x1024 .bf16 := (extractStridedSlice S8x4096x1024 ![0, 0, 2048] · slices_S8x4096x8192_S8x4096x1024_0_0_2048) main_arg0
  let main_v1 : FVec F S8x4096x1024 .f32 := (extf .f32 · bitsLt_bf16_f32) main_v0
  let main_v2 : FVec F S8x4096x1024 .f32 := Host.absf main_v1
  let main_cst : FVec F S_ .f32 := constant S_ .f32 0x7F800000#32
  let main_v3 : FVec F S8x4096x1024 .f32 := broadcastInDim S8x4096x1024 ![] bcast_S_S8x4096x1024 main_cst
  let main_v4 : IVec S8x4096x1024 1 := cmpf .olt main_v2 main_v3
  main_v4
-- ==== Kernel.lean ====
abbrev S8x4096x8192 : Shape := ⟨3, ![8, 4096, 8192]⟩
abbrev S8x4096x512 : Shape := ⟨3, ![8, 4096, 512]⟩
abbrev S1x256x128 : Shape := ⟨3, ![1, 256, 128]⟩
abbrev S1x4096x128 : Shape := ⟨3, ![1, 4096, 128]⟩
abbrev S256x128 : Shape := ⟨2, ![256, 128]⟩
abbrev S256x256 : Shape := ⟨2, ![256, 256]⟩
abbrev S256x1 : Shape := ⟨2, ![256, 1]⟩
abbrev S256 : Shape := ⟨1, ![256]⟩

abbrev nBuf : Space → Nat
  | .hbm => 2
  | .vmem => 8
  | .smem => 0
  | _ => 0

abbrev bufTy : (tb : Table) → Fin (tcTables nBuf tb) → BufTy
  | .hbm, ⟨0, _⟩ => ⟨S8x4096x8192, .bf16⟩
  | .hbm, ⟨1, _⟩ => ⟨S8x4096x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .bf16⟩
  | .local _ .vmem, ⟨7, _⟩ => ⟨S1x256x128, .bf16⟩
  | _, _ => ⟨S8x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 16], ![false, false, false]⟩

@[reducible] def k0_t1_loop (i : grid0.Coords) : Scf.Loop 32 :=
  let c0_i32 : BitVec 32 := 0#32
  let arg2 : BitVec 32 := BitVec.ofNat 32 (i 2).val
  let c1_i32 : BitVec 32 := 1#32
  let v15 : BitVec 32 := Scalar.addi arg2 c1_i32
  let v16 : BitVec 32 := Scalar.subi v15 c0_i32
  let c1_i32_4 : BitVec 32 := 1#32
  let v18 : BitVec 32 := Scalar.divsi v16 c1_i32_4
  let v19 : BitVec 32 := Scalar.muli v18 c1_i32_4
  let v20 : BitVec 32 := Scalar.addi c0_i32 v19
  let c1_i32_5 : BitVec 32 := 1#32
  ⟨c0_i32, v20, c1_i32_5⟩
def k0_mult1 (i : grid0.Coords) (k0_t1 : Fin (k0_t1_loop i).trips) : BitVec 32 :=
  let arg2 : BitVec 32 := BitVec.ofNat 32 (i 2).val
  let c0_i32 : BitVec 32 := 0#32
  let c1_i32_5 : BitVec 32 := 1#32
  let arg7 : BitVec 32 := Scf.iv c0_i32 c1_i32_5 k0_t1
  let v39 : BitVec 32 := Scalar.subi arg2 arg7
  let c256_i32 : BitVec 32 := 256#32
  let v40 : BitVec 32 := Scalar.muli v39 c256_i32
  v40
def k0_off1 (i : grid0.Coords) (k0_t1 : Fin (k0_t1_loop i).trips) : Fin 3 → Nat :=
  let c0_17 : Index := 0#32
  let arg2 : BitVec 32 := BitVec.ofNat 32 (i 2).val
  let c0_i32 : BitVec 32 := 0#32
  let c1_i32_5 : BitVec 32 := 1#32
  let arg7 : BitVec 32 := Scf.iv c0_i32 c1_i32_5 k0_t1
  let v39 : BitVec 32 := Scalar.subi arg2 arg7
  let c256_i32 : BitVec 32 := 256#32
  let v40 : BitVec 32 := Scalar.muli v39 c256_i32
  let v41 : BitVec 32 := v40
  let v42 : Index := Scalar.indexCast v41
  let c0_18 : Index := 0#32
  ![0, v42.toNat, 0]
@[reducible] def k0_t2_loop (i : grid0.Coords) : Scf.Loop 32 :=
  let c0_i32 : BitVec 32 := 0#32
  let arg2 : BitVec 32 := BitVec.ofNat 32 (i 2).val
  let c1_i32 : BitVec 32 := 1#32
  let v15 : BitVec 32 := Scalar.addi arg2 c1_i32
  let v16 : BitVec 32 := Scalar.subi v15 c0_i32
  let c1_i32_4 : BitVec 32 := 1#32
  let v18 : BitVec 32 := Scalar.divsi v16 c1_i32_4
  let v19 : BitVec 32 := Scalar.muli v18 c1_i32_4
  let v20 : BitVec 32 := Scalar.addi c0_i32 v19
  let v17 : BitVec 32 := Scalar.addi c0_i32 v16
  let c1_i32_6 : BitVec 32 := 1#32
  ⟨v20, v17, c1_i32_6⟩
def k0_mult2 (i : grid0.Coords) (k0_t2 : Fin (k0_t2_loop i).trips) : BitVec 32 :=
  let arg2 : BitVec 32 := BitVec.ofNat 32 (i 2).val
  let c0_i32 : BitVec 32 := 0#32
  let c1_i32 : BitVec 32 := 1#32
  let v15 : BitVec 32 := Scalar.addi arg2 c1_i32
  let v16 : BitVec 32 := Scalar.subi v15 c0_i32
  let c1_i32_4 : BitVec 32 := 1#32
  let v18 : BitVec 32 := Scalar.divsi v16 c1_i32_4
  let v19 : BitVec 32 := Scalar.muli v18 c1_i32_4
  let v20 : BitVec 32 := Scalar.addi c0_i32 v19
  let c1_i32_6 : BitVec 32 := 1#32
  let arg7 : BitVec 32 := Scf.iv v20 c1_i32_6 k0_t2
  let v39 : BitVec 32 := Scalar.subi arg2 arg7
  let c256_i32 : BitVec 32 := 256#32
  let v40 : BitVec 32 := Scalar.muli v39 c256_i32
  v40
def k0_off2 (i : grid0.Coords) (k0_t2 : Fin (k0_t2_loop i).trips) : Fin 3 → Nat :=
  let c0_17 : Index := 0#32
  let arg2 : BitVec 32 := BitVec.ofNat 32 (i 2).val
  let c0_i32 : BitVec 32 := 0#32
  let c1_i32 : BitVec 32 := 1#32
  let v15 : BitVec 32 := Scalar.addi arg2 c1_i32
  let v16 : BitVec 32 := Scalar.subi v15 c0_i32
  let c1_i32_4 : BitVec 32 := 1#32
  let v18 : BitVec 32 := Scalar.divsi v16 c1_i32_4
  let v19 : BitVec 32 := Scalar.muli v18 c1_i32_4
  let v20 : BitVec 32 := Scalar.addi c0_i32 v19
  let c1_i32_6 : BitVec 32 := 1#32
  let arg7 : BitVec 32 := Scf.iv v20 c1_i32_6 k0_t2
  let v39 : BitVec 32 := Scalar.subi arg2 arg7
  let c256_i32 : BitVec 32 := 256#32
  let v40 : BitVec 32 := Scalar.muli v39 c256_i32
  let v41 : BitVec 32 := v40
  let v42 : Index := Scalar.indexCast v41
  let c0_18 : Index := 0#32
  ![0, v42.toNat, 0]
@[reducible] def k0_t3_loop (i : grid0.Coords) : Scf.Loop 32 :=
  let c0_i32_10 : BitVec 32 := 0#32
  let arg2 : BitVec 32 := BitVec.ofNat 32 (i 2).val
  let c1_i32_9 : BitVec 32 := 1#32
  let v26 : BitVec 32 := Scalar.addi arg2 c1_i32_9
  let v27 : BitVec 32 := Scalar.subi v26 c0_i32_10
  let c1_i32_11 : BitVec 32 := 1#32
  let v29 : BitVec 32 := Scalar.divsi v27 c1_i32_11
  let v30 : BitVec 32 := Scalar.muli v29 c1_i32_11
  let v31 : BitVec 32 := Scalar.addi c0_i32_10 v30
  let c1_i32_12 : BitVec 32 := 1#32
  ⟨c0_i32_10, v31, c1_i32_12⟩
def k0_mult3 (i : grid0.Coords) (k0_t3 : Fin (k0_t3_loop i).trips) : BitVec 32 :=
  let arg2 : BitVec 32 := BitVec.ofNat 32 (i 2).val
  let c0_i32_10 : BitVec 32 := 0#32
  let c1_i32_12 : BitVec 32 := 1#32
  let arg7 : BitVec 32 := Scf.iv c0_i32_10 c1_i32_12 k0_t3
  let v39 : BitVec 32 := Scalar.subi arg2 arg7
  let c256_i32 : BitVec 32 := 256#32
  let v40 : BitVec 32 := Scalar.muli v39 c256_i32
  v40
def k0_off3 (i : grid0.Coords) (k0_t3 : Fin (k0_t3_loop i).trips) : Fin 3 → Nat :=
  let c0_17 : Index := 0#32
  let arg2 : BitVec 32 := BitVec.ofNat 32 (i 2).val
  let c0_i32_10 : BitVec 32 := 0#32
  let c1_i32_12 : BitVec 32 := 1#32
  let arg7 : BitVec 32 := Scf.iv c0_i32_10 c1_i32_12 k0_t3
  let v39 : BitVec 32 := Scalar.subi arg2 arg7
  let c256_i32 : BitVec 32 := 256#32
  let v40 : BitVec 32 := Scalar.muli v39 c256_i32
  let v41 : BitVec 32 := v40
  let v42 : Index := Scalar.indexCast v41
  let c0_18 : Index := 0#32
  ![0, v42.toNat, 0]
@[reducible] def k0_t4_loop (i : grid0.Coords) : Scf.Loop 32 :=
  let c0_i32_10 : BitVec 32 := 0#32
  let arg2 : BitVec 32 := BitVec.ofNat 32 (i 2).val
  let c1_i32_9 : BitVec 32 := 1#32
  let v26 : BitVec 32 := Scalar.addi arg2 c1_i32_9
  let v27 : BitVec 32 := Scalar.subi v26 c0_i32_10
  let c1_i32_11 : BitVec 32 := 1#32
  let v29 : BitVec 32 := Scalar.divsi v27 c1_i32_11
  let v30 : BitVec 32 := Scalar.muli v29 c1_i32_11
  let v31 : BitVec 32 := Scalar.addi c0_i32_10 v30
  let v28 : BitVec 32 := Scalar.addi c0_i32_10 v27
  let c1_i32_13 : BitVec 32 := 1#32
  ⟨v31, v28, c1_i32_13⟩
def k0_mult4 (i : grid0.Coords) (k0_t4 : Fin (k0_t4_loop i).trips) : BitVec 32 :=
  let arg2 : BitVec 32 := BitVec.ofNat 32 (i 2).val
  let c0_i32_10 : BitVec 32 := 0#32
  let c1_i32_9 : BitVec 32 := 1#32
  let v26 : BitVec 32 := Scalar.addi arg2 c1_i32_9
  let v27 : BitVec 32 := Scalar.subi v26 c0_i32_10
  let c1_i32_11 : BitVec 32 := 1#32
  let v29 : BitVec 32 := Scalar.divsi v27 c1_i32_11
  let v30 : BitVec 32 := Scalar.muli v29 c1_i32_11
  let v31 : BitVec 32 := Scalar.addi c0_i32_10 v30
  let c1_i32_13 : BitVec 32 := 1#32
  let arg7 : BitVec 32 := Scf.iv v31 c1_i32_13 k0_t4
  let v39 : BitVec 32 := Scalar.subi arg2 arg7
  let c256_i32 : BitVec 32 := 256#32
  let v40 : BitVec 32 := Scalar.muli v39 c256_i32
  v40
def k0_off4 (i : grid0.Coords) (k0_t4 : Fin (k0_t4_loop i).trips) : Fin 3 → Nat :=
  let c0_17 : Index := 0#32
  let arg2 : BitVec 32 := BitVec.ofNat 32 (i 2).val
  let c0_i32_10 : BitVec 32 := 0#32
  let c1_i32_9 : BitVec 32 := 1#32
  let v26 : BitVec 32 := Scalar.addi arg2 c1_i32_9
  let v27 : BitVec 32 := Scalar.subi v26 c0_i32_10
  let c1_i32_11 : BitVec 32 := 1#32
  let v29 : BitVec 32 := Scalar.divsi v27 c1_i32_11
  let v30 : BitVec 32 := Scalar.muli v29 c1_i32_11
  let v31 : BitVec 32 := Scalar.addi c0_i32_10 v30
  let c1_i32_13 : BitVec 32 := 1#32
  let arg7 : BitVec 32 := Scf.iv v31 c1_i32_13 k0_t4
  let v39 : BitVec 32 := Scalar.subi arg2 arg7
  let c256_i32 : BitVec 32 := 256#32
  let v40 : BitVec 32 := Scalar.muli v39 c256_i32
  let v41 : BitVec 32 := v40
  let v42 : Index := Scalar.indexCast v41
  let c0_18 : Index := 0#32
  ![0, v42.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x4096x8192 : Shape := ⟨3, ![8, 4096, 8192]⟩
abbrev S8x4096x512 : Shape := ⟨3, ![8, 4096, 512]⟩
abbrev S8x4096x8x64 : Shape := ⟨4, ![8, 4096, 8, 64]⟩
abbrev S8x8x4096x4096 : Shape := ⟨4, ![8, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S8x8x64x4096 : Shape := ⟨4, ![8, 8, 64, 4096]⟩

abbrev nBuf : Space → Nat
  | .hbm => 72
  | .vmem => 0
  | .smem => 0
  | _ => 0

abbrev bufTy : (tb : Table) → Fin (tcTables nBuf tb) → BufTy
  | .hbm, ⟨0, _⟩ => ⟨S8x4096x8192, .bf16⟩
  | .hbm, ⟨1, _⟩ => ⟨S8x4096x8192, .f32⟩
  | .hbm, ⟨2, _⟩ => ⟨S8x4096x512, .f32⟩
  | .hbm, ⟨3, _⟩ => ⟨S8x4096x512, .f32⟩
  | .hbm, ⟨4, _⟩ => ⟨S8x4096x512, .f32⟩
  | .hbm, ⟨5, _⟩ => ⟨S8x4096x8x64, .f32⟩
  | .hbm, ⟨6, _⟩ => ⟨S8x4096x8x64, .f32⟩
  | .hbm, ⟨7, _⟩ => ⟨S8x4096x8x64, .f32⟩
  | .hbm, ⟨8, _⟩ => ⟨S8x8x4096x4096, .f32⟩
  | .hbm, ⟨9, _⟩ => ⟨S_, .f32⟩
  | .hbm, ⟨10, _⟩ => ⟨S8x8x4096x4096, .f32⟩
  | .hbm, ⟨11, _⟩ => ⟨S8x8x4096x4096, .f32⟩
  | .hbm, ⟨12, _⟩ => ⟨S4096, .i32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S1x1x4096x4096, .i1⟩
  | .hbm, ⟨19, _⟩ => ⟨S8x8x4096x4096, .f32⟩
  | .hbm, ⟨20, _⟩ => ⟨S8x8x4096x4096, .f32⟩
  | .hbm, ⟨21, _⟩ => ⟨S_, .f32⟩
  | .hbm, ⟨22, _⟩ => ⟨S8x8x4096x4096, .f32⟩
  | .hbm, ⟨23, _⟩ => ⟨S8x8x4096x4096, .f32⟩
  | .hbm, ⟨24, _⟩ => ⟨S8x8x4096x4096, .f32⟩
  | .hbm, ⟨25, _⟩ => ⟨S8x8x4096x4096, .f32⟩
  | .hbm, ⟨26, _⟩ => ⟨S8x8x4096x4096, .i1⟩
  | .hbm, ⟨27, _⟩ => ⟨S8x8x4096x4096, .f32⟩
  | .hbm, ⟨28, _⟩ => ⟨S8x8x4096x4096, .f32⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S8x8x4096x4096, .f32⟩
  | .hbm, ⟨33, _⟩ => ⟨S8x8x4096x4096, .f32⟩
  | .hbm, ⟨34, _⟩ => ⟨S8x8x4096x4096, .f32⟩
  | .hbm, ⟨35, _⟩ => ⟨S8x8x4096x4096, .f32⟩
  | .hbm, ⟨36, _⟩ => ⟨S_, .f32⟩
  | .hbm, ⟨37, _⟩ => ⟨S_, .f32⟩
  | .hbm, ⟨38, _⟩ => ⟨S8x8x4096x4096, .i1⟩
  | .hbm, ⟨39, _⟩ => ⟨S8x8x4096x4096, .f32⟩
  | .hbm, ⟨40, _⟩ => ⟨S8x8x4096x4096, .f32⟩
  | .hbm, ⟨41, _⟩ => ⟨S_, .f32⟩
  | .hbm, ⟨42, _⟩ => ⟨S_, .f32⟩
  | .hbm, ⟨43, _⟩ => ⟨S8x8x4096x4096, .f32⟩
  | .hbm, ⟨44, _⟩ => ⟨S8x8x4096x4096, .f32⟩
  | .hbm, ⟨45, _⟩ => ⟨S8x8x4096x4096, .f32⟩
  | .hbm, ⟨46, _⟩ => ⟨S_, .f32⟩
  | .hbm, ⟨47, _⟩ => ⟨S8x8x4096x4096, .f32⟩
  | .hbm, ⟨48, _⟩ => ⟨S8x8x4096x4096, .f32⟩
  | .hbm, ⟨49, _⟩ => ⟨S8x8x4096x4096, .f32⟩
  | .hbm, ⟨50, _⟩ => ⟨S8x8x4096x4096, .f32⟩
  | .hbm, ⟨51, _⟩ => ⟨S8x8x4096x4096, .i1⟩
  | .hbm, ⟨52, _⟩ => ⟨S8x8x4096x4096, .f32⟩
  | .hbm, ⟨53, _⟩ => ⟨S8x8x4096x4096, .f32⟩
  | .hbm, ⟨54, _⟩ => ⟨S8x8x4096x4096, .f32⟩
  | .hbm, ⟨55, _⟩ => ⟨S8x8x4096x4096, .f32⟩
  | .hbm, ⟨56, _⟩ => ⟨S8x8x4096x4096, .f32⟩
  | .hbm, ⟨57, _⟩ => ⟨S8x8x4096x4096, .f32⟩
  | .hbm, ⟨58, _⟩ => ⟨S8x8x4096x4096, .f32⟩
  | .hbm, ⟨59, _⟩ => ⟨S8x8x4096x4096, .f32⟩
  | .hbm, ⟨60, _⟩ => ⟨S8x8x4096x4096, .f32⟩
  | .hbm, ⟨61, _⟩ => ⟨S8x8x4096x4096, .f32⟩
  | .hbm, ⟨62, _⟩ => ⟨S8x8x4096x4096, .f32⟩
  | .hbm, ⟨63, _⟩ => ⟨S_, .f32⟩
  | .hbm, ⟨64, _⟩ => ⟨S_, .f32⟩
  | .hbm, ⟨65, _⟩ => ⟨S8x8x4096x4096, .i1⟩
  | .hbm, ⟨66, _⟩ => ⟨S8x8x4096x4096, .f32⟩
  | .hbm, ⟨67, _⟩ => ⟨S8x8x4096x4096, .f32⟩
  | .hbm, ⟨68, _⟩ => ⟨S8x8x64x4096, .f32⟩
  | .hbm, ⟨69, _⟩ => ⟨S8x4096x8x64, .f32⟩
  | .hbm, ⟨70, _⟩ => ⟨S8x4096x512, .f32⟩
  | .hbm, ⟨71, _⟩ => ⟨S8x4096x512, .bf16⟩
  | _, _ => ⟨S8x4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v18 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_call2_cst : Ref sig .tc := ⟨.hbm, 41, rfl⟩
abbrev main_call2_v0 : Ref sig .tc := ⟨.hbm, 42, rfl⟩
abbrev main_v20 : Ref sig .tc := ⟨.hbm, 43, rfl⟩
abbrev main_v21 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩

abbrev nD : Nat := 1
abbrev τ : Topo := Topo.v7x

variable {F : FTy → Type} [FloatOps F]
-- ==== Ffn.lean ====
abbrev S8x4096x1024 : Shape := ⟨3, ![8, 4096, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S32768x1024, .f32⟩
  | .hbm, ⟨6, _⟩ => ⟨S1x1024, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_17 : BitVec 32 := 0#32
  let v37 : BitVec 1 := Scalar.cmpi .ne v36 c0_i32_17
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RefFfnIdeal.lean ====
abbrev S8x4096x1024 : Shape := ⟨3, ![8, 4096, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S_, .f32⟩
  | .hbm, ⟨32, _⟩ => ⟨S8x4096x1, .f32⟩
  | .hbm, ⟨33, _⟩ => ⟨S8x4096x1, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S8x4096x1, .f32⟩
  | .hbm, ⟨38, _⟩ => ⟨S8x4096x1024, .f32⟩
  | .hbm, ⟨39, _⟩ => ⟨S8x4096x1024, .f32⟩
  | .hbm, ⟨40, _⟩ => ⟨S1x1x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Proj.lean ====
abbrev S8x4096x1024 : Shape := ⟨3, ![8, 4096, 1024]⟩
abbrev S1024 : Shape := ⟨1, ![1024]⟩
abbrev S1024x8200 : Shape := ⟨2, ![1024, 8200]⟩
abbrev S1024x1536 : Shape := ⟨2, ![1024, 1536]⟩
abbrev S1024x512 : Shape := ⟨2, ![1024, 512]⟩
abbrev S1024x8 : Shape := ⟨2, ![1024, 8]⟩
abbrev S1024x3072 : Shape := ⟨2, ![1024, 3072]⟩
abbrev S1024x8192 : Shape := ⟨2, ![1024, 8192]⟩
abbrev S_ : Shape := ⟨0, ![]⟩
abbrev S1024x128 : Shape := ⟨2, ![1024, 128]⟩
abbrev S32768x1024 : Shape := ⟨2, ![32768, 1024]⟩
abbrev S1x1024 : Shape := ⟨2, ![1, 1024]⟩
abbrev S32768x8192 : Shape := ⟨2, ![32768, 8192]⟩
abbrev S32768x128 : Shape := ⟨2, ![32768, 128]⟩
abbrev S1024x1024 : Shape := ⟨2, ![1024, 1024]⟩
abbrev S1024x2048 : Shape := ⟨2, ![1024, 2048]⟩
abbrev S1024x1 : Shape := ⟨2, ![1024, 1]⟩

abbrev nBuf : Space → Nat
  | .hbm => 21
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x8200, .f32⟩
  | .hbm, ⟨3, _⟩ => ⟨S1024x1536, .f32⟩
  | .hbm, ⟨4, _⟩ => ⟨S1024x512, .f32⟩
  | .hbm, ⟨5, _⟩ => ⟨S1024x8, .f32⟩
  | .hbm, ⟨6, _⟩ => ⟨S1024x1536, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x3072, .f32⟩
  | .hbm, ⟨11, _⟩ => ⟨S1024x8192, .f32⟩
  | .hbm, ⟨12, _⟩ => ⟨S1024x8192, .bf16⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S32768x1024, .f32⟩
  | .hbm, ⟨18, _⟩ => ⟨S1x1024, .f32⟩
  | .hbm, ⟨19, _⟩ => ⟨S32768x8192, .bf16⟩
  | .hbm, ⟨20, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S1024x128, .bf16⟩
  | .local _ .vmem, ⟨6, _⟩ => ⟨S1024x2048, .bf16⟩
  | .local _ .vmem, ⟨7, _⟩ => ⟨S1024x2048, .bf16⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RefProjIdeal.lean ====
abbrev S8x4096x1024 : Shape := ⟨3, ![8, 4096, 1024]⟩
abbrev S1024 : Shape := ⟨1, ![1024]⟩
abbrev S1024x8200 : Shape := ⟨2, ![1024, 8200]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x8200 : Shape := ⟨3, ![8, 4096, 8200]⟩
abbrev S32768x8200 : Shape := ⟨2, ![32768, 8200]⟩
abbrev S32768x2048 : Shape := ⟨2, ![32768, 2048]⟩
abbrev S32768x512 : Shape := ⟨2, ![32768, 512]⟩
abbrev S32768x3072 : Shape := ⟨2, ![32768, 3072]⟩
abbrev S32768x8192 : Shape := ⟨2, ![32768, 8192]⟩
abbrev S32768x8 : Shape := ⟨2, ![32768, 8]⟩
abbrev S32768x128 : Shape := ⟨2, ![32768, 128]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x8200, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x8200, .f32⟩
  | .hbm, ⟨20, _⟩ => ⟨S32768x8200, .f32⟩
  | .hbm, ⟨21, _⟩ => ⟨S32768x2048, .f32⟩
  | .hbm, ⟨22, _⟩ => ⟨S32768x2048, .f32⟩
  | .hbm, ⟨23, _⟩ => ⟨S32768x512, .f32⟩
  | .hbm, ⟨24, _⟩ => ⟨S32768x512, .f32⟩
  | .hbm, ⟨25, _⟩ => ⟨S32768x3072, .f32⟩
  | .hbm, ⟨26, _⟩ => ⟨S32768x8192, .f32⟩
  | .hbm, ⟨27, _⟩ => ⟨S32768x8192, .bf16⟩
  | .hbm, ⟨28, _⟩ => ⟨S32768x8, .f32⟩
  | .hbm, ⟨29, _⟩ => ⟨S_, .i32⟩
  | .hbm, ⟨30, _⟩ => ⟨S_, .f32⟩
  | .hbm, ⟨31, _⟩ => ⟨S32768x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call0_v0 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Merge.lean ====
abbrev S8x4096x1024 : Shape := ⟨3, ![8, 4096, 1024]⟩
abbrev S8x4096x512 : Shape := ⟨3, ![8, 4096, 512]⟩
abbrev S8x4096x8192 : Shape := ⟨3, ![8, 4096, 8192]⟩
abbrev S3x512 : Shape := ⟨2, ![3, 512]⟩
abbrev S3x512x1024 : Shape := ⟨3, ![3, 512, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S1x512x512 : Shape := ⟨3, ![1, 512, 512]⟩
abbrev S1x8x512 : Shape := ⟨3, ![1, 8, 512]⟩
abbrev S520x512 : Shape := ⟨2, ![520, 512]⟩
abbrev S8x512 : Shape := ⟨2, ![8, 512]⟩
abbrev S512x512 : Shape := ⟨2, ![512, 512]⟩
abbrev S1x512 : Shape := ⟨2, ![1, 512]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 29
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x4096x8192, .bf16⟩
  | .hbm, ⟨4, _⟩ => ⟨S3x512, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S3x512x1024, .bf16⟩
  | .hbm, ⟨9, _⟩ => ⟨S1024x1024, .bf16⟩
  | .hbm, ⟨10, _⟩ => ⟨S1x1024, .f32⟩
  | .hbm, ⟨11, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x8x512, .bf16⟩
  | .local _ .vmem, ⟨9, _⟩ => ⟨S1x8x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x8x512, .bf16⟩
  | .local _ .vmem, ⟨13, _⟩ => ⟨S1x8x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S3x512, .f32⟩
  | .local _ .vmem, ⟨23, _⟩ => ⟨S3x512x1024, .bf16⟩
  | .local _ .vmem, ⟨24, _⟩ => ⟨S1024x1024, .bf16⟩
  | .local _ .vmem, ⟨25, _⟩ => ⟨S1x1024, .f32⟩
  | .local _ .vmem, ⟨26, _⟩ => ⟨S1x512x1024, .f32⟩
  | .local _ .vmem, ⟨27, _⟩ => ⟨S1x512x1024, .f32⟩
  | .local _ .vmem, ⟨28, _⟩ => ⟨S520x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_4 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let c0_i32_0 : BitVec 32 := 0#32
  ![arg0.toNat, v2.toNat, c7_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_6 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![arg0.toNat, v2.toNat, c8_i32.toNat]

def cc0_transform_7 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_8 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_9 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_10 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S3x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S3x512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== RefMergeIdeal.lean ====
abbrev S8x4096x1024 : Shape := ⟨3, ![8, 4096, 1024]⟩
abbrev S8x4096x512 : Shape := ⟨3, ![8, 4096, 512]⟩
abbrev S8x4096x8192 : Shape := ⟨3, ![8, 4096, 8192]⟩
abbrev S3x512 : Shape := ⟨2, ![3, 512]⟩
abbrev S3x512x1024 : Shape := ⟨3, ![3, 512, 1024]⟩
abbrev S1024x1024 : Shape := ⟨2, ![1024, 1024]⟩
abbrev S1024 : Shape := ⟨1, ![1024]⟩
abbrev S8x4096x3072 : Shape := ⟨3, ![8, 4096, 3072]⟩
abbrev S8x4096x3x1024 : Shape := ⟨4, ![8, 4096, 3, 1024]⟩
abbrev S_ : Shape := ⟨0, ![]⟩
abbrev S8x4098x512 : Shape := ⟨3, ![8, 4098, 512]⟩
abbrev S1x512 : Shape := ⟨2, ![1, 512]⟩
abbrev S512 : Shape := ⟨1, ![512]⟩
abbrev S1x1x512 : Shape := ⟨3, ![1, 1, 512]⟩
abbrev S8x4096x1x1024 : Shape := ⟨4, ![8, 4096, 1, 1024]⟩
abbrev S1x512x1024 : Shape := ⟨3, ![1, 512, 1024]⟩
abbrev S512x1024 : Shape := ⟨2, ![512, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 87
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x4096x8192, .bf16⟩
  | .hbm, ⟨4, _⟩ => ⟨S3x512, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S8x4096x8192, .f32⟩
  | .hbm, ⟨9, _⟩ => ⟨S8x4096x512, .f32⟩
  | .hbm, ⟨10, _⟩ => ⟨S8x4096x512, .f32⟩
  | .hbm, ⟨11, _⟩ => ⟨S8x4096x512, .f32⟩
  | .hbm, ⟨12, _⟩ => ⟨S8x4096x3072, .f32⟩
  | .hbm, ⟨13, _⟩ => ⟨S8x4096x3x1024, .f32⟩
  | .hbm, ⟨14, _⟩ => ⟨S8x4096x3x1024, .f32⟩
  | .hbm, ⟨15, _⟩ => ⟨S8x4096x3x1024, .f32⟩
  | .hbm, ⟨16, _⟩ => ⟨S_, .f32⟩
  | .hbm, ⟨17, _⟩ => ⟨S8x4096x3x1024, .f32⟩
  | .hbm, ⟨18, _⟩ => ⟨S8x4096x3x1024, .f32⟩
  | .hbm, ⟨19, _⟩ => ⟨S_, .f32⟩
  | .hbm, ⟨20, _⟩ => ⟨S8x4096x3x1024, .f32⟩
  | .hbm, ⟨21, _⟩ => ⟨S8x4096x3x1024, .f32⟩
  | .hbm, ⟨22, _⟩ => ⟨S8x4096x512, .f32⟩
  | .hbm, ⟨23, _⟩ => ⟨S_, .i32⟩
  | .hbm, ⟨24, _⟩ => ⟨S_, .f32⟩
  | .hbm, ⟨25, _⟩ => ⟨S8x4098x512, .f32⟩
  | .hbm, ⟨26, _⟩ => ⟨S1x512, .f32⟩
  | .hbm, ⟨27, _⟩ => ⟨S512, .f32⟩
  | .hbm, ⟨28, _⟩ => ⟨S8x4096x512, .f32⟩
  | .hbm, ⟨29, _⟩ => ⟨S1x1x512, .f32⟩
  | .hbm, ⟨30, _⟩ => ⟨S8x4096x512, .f32⟩
  | .hbm, ⟨31, _⟩ => ⟨S8x4096x512, .f32⟩
  | .hbm, ⟨32, _⟩ => ⟨S1x512, .f32⟩
  | .hbm, ⟨33, _⟩ => ⟨S512, .f32⟩
  | .hbm, ⟨34, _⟩ => ⟨S8x4096x512, .f32⟩
  | .hbm, ⟨35, _⟩ => ⟨S1x1x512, .f32⟩
  | .hbm, ⟨36, _⟩ => ⟨S8x4096x512, .f32⟩
  | .hbm, ⟨37, _⟩ => ⟨S8x4096x512, .f32⟩
  | .hbm, ⟨38, _⟩ => ⟨S8x4096x512, .f32⟩
  | .hbm, ⟨39, _⟩ => ⟨S1x512, .f32⟩
  | .hbm, ⟨40, _⟩ => ⟨S512, .f32⟩
  | .hbm, ⟨41, _⟩ => ⟨S8x4096x512, .f32⟩
  | .hbm, ⟨42, _⟩ => ⟨S1x1x512, .f32⟩
  | .hbm, ⟨43, _⟩ => ⟨S8x4096x512, .f32⟩
  | .hbm, ⟨44, _⟩ => ⟨S8x4096x512, .f32⟩
  | .hbm, ⟨45, _⟩ => ⟨S8x4096x512, .f32⟩
  | .hbm, ⟨46, _⟩ => ⟨S8x4096x512, .f32⟩
  | .hbm, ⟨47, _⟩ => ⟨S8x4096x1x1024, .f32⟩
  | .hbm, ⟨48, _⟩ => ⟨S8x4096x1024, .f32⟩
  | .hbm, ⟨49, _⟩ => ⟨S8x4096x512, .f32⟩
  | .hbm, ⟨50, _⟩ => ⟨S1x512x1024, .f32⟩
  | .hbm, ⟨51, _⟩ => ⟨S512x1024, .f32⟩
  | .hbm, ⟨52, _⟩ => ⟨S8x4096x1024, .f32⟩
  | .hbm, ⟨53, _⟩ => ⟨S8x4096x1024, .f32⟩
  | .hbm, ⟨54, _⟩ => ⟨S8x4096x1x1024, .f32⟩
  | .hbm, ⟨55, _⟩ => ⟨S8x4096x1024, .f32⟩
  | .hbm, ⟨56, _⟩ => ⟨S8x4096x512, .f32⟩
  | .hbm, ⟨57, _⟩ => ⟨S1x512x1024, .f32⟩
  | .hbm, ⟨58, _⟩ => ⟨S512x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S8x4096x1x1024, .f32⟩
  | .hbm, ⟨63, _⟩ => ⟨S8x4096x1024, .f32⟩
  | .hbm, ⟨64, _⟩ => ⟨S1x512x1024, .f32⟩
  | .hbm, ⟨65, _⟩ => ⟨S512x1024, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S8x4096x1024, .f32⟩
  | .hbm, ⟨71, _⟩ => ⟨S_, .f32⟩
  | .hbm, ⟨72, _⟩ => ⟨S8x4096, .f32⟩
  | .hbm, ⟨73, _⟩ => ⟨S8x4096x1, .f32⟩
  | .hbm, ⟨74, _⟩ => ⟨S_, .f32⟩
  | .hbm, ⟨75, _⟩ => ⟨S8x4096x1, .f32⟩
  | .hbm, ⟨76, _⟩ => ⟨S8x4096x1, .f32⟩
  | .hbm, ⟨77, _⟩ => ⟨S_, .f32⟩
  | .hbm, ⟨78, _⟩ => ⟨S8x4096x1, .f32⟩
  | .hbm, ⟨79, _⟩ => ⟨S8x4096x1, .f32⟩
  | .hbm, ⟨80, _⟩ => ⟨S8x4096x1, .f32⟩
  | .hbm, ⟨81, _⟩ => ⟨S8x4096x1024, .f32⟩
  | .hbm, ⟨82, _⟩ => ⟨S8x4096x1024, .f32⟩
  | .hbm, ⟨83, _⟩ => ⟨S1x1x1024, .f32⟩
  | .hbm, ⟨84, _⟩ => ⟨S8x4096x1024, .f32⟩
  | .hbm, ⟨85, _⟩ => ⟨S8x4096x1024, .f32⟩
  | .hbm, ⟨86, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_call0_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_1 : Ref sig .tc := ⟨.hbm, 71, rfl⟩
abbrev main_v59 : Ref sig .tc := ⟨.hbm, 72, rfl⟩
abbrev main_v60 : Ref sig .tc := ⟨.hbm, 73, rfl⟩
abbrev main_cst_2 : Ref sig .tc := ⟨.hbm, 74, rfl⟩
abbrev main_v61 : Ref sig .tc := ⟨.hbm, 75, rfl⟩
abbrev main_v62 : Ref sig .tc := ⟨.hbm, 76, rfl⟩
abbrev main_cst_3 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩

abbrev nD : Nat := 1
abbrev τ : Topo := Topo.v7x

variable {F : FTy → Type} [FloatOps F]
-- ==== Gdn.lean ====
abbrev S8x4096x8192 : Shape := ⟨3, ![8, 4096, 8192]⟩
abbrev S8x4096x128 : Shape := ⟨3, ![8, 4096, 128]⟩
abbrev S4x1536 : Shape := ⟨2, ![4, 1536]⟩
abbrev S4 : Shape := ⟨1, ![4]⟩
abbrev S128 : Shape := ⟨1, ![128]⟩
abbrev S_ : Shape := ⟨0, ![]⟩
abbrev S1x128 : Shape := ⟨2, ![1, 128]⟩
abbrev S8x4096x512 : Shape := ⟨3, ![8, 4096, 512]⟩
abbrev S1x256x1536 : Shape := ⟨3, ![1, 256, 1536]⟩
abbrev S1x8x1536 : Shape := ⟨3, ![1, 8, 1536]⟩
abbrev S1x256x512 : Shape := ⟨3, ![1, 256, 512]⟩
abbrev S1x256x128 : Shape := ⟨3, ![1, 256, 128]⟩
abbrev S264x1536 : Shape := ⟨2, ![264, 1536]⟩
abbrev S256x1536 : Shape := ⟨2, ![256, 1536]⟩
abbrev S256x128 : Shape := ⟨2, ![256, 128]⟩
abbrev S4x128x128 : Shape := ⟨3, ![4, 128, 128]⟩
abbrev S8x1536 : Shape := ⟨2, ![8, 1536]⟩
abbrev S1x1536 : Shape := ⟨2, ![1, 1536]⟩
abbrev S64x64 : Shape := ⟨2, ![64, 64]⟩
abbrev S64x128 : Shape := ⟨2, ![64, 128]⟩
abbrev S128x64 : Shape := ⟨2, ![128, 64]⟩
abbrev S64 : Shape := ⟨1, ![64]⟩
abbrev S64x1 : Shape := ⟨2, ![64, 1]⟩
abbrev S1x64 : Shape := ⟨2, ![1, 64]⟩
abbrev S1x1 : Shape := ⟨2, ![1, 1]⟩
abbrev S1x128x128 : Shape := ⟨3, ![1, 128, 128]⟩
abbrev S128x128 : Shape := ⟨2, ![128, 128]⟩
abbrev S1x64x128 : Shape := ⟨3, ![1, 64, 128]⟩

abbrev nBuf : Space → Nat
  | .hbm => 16
  | .vmem => 19
  | .smem => 0
  | _ => 0

abbrev bufTy : (tb : Table) → Fin (tcTables nBuf tb) → BufTy
  | .hbm, ⟨0, _⟩ => ⟨S8x4096x8192, .bf16⟩
  | .hbm, ⟨1, _⟩ => ⟨S8x4096x128, .f32⟩
  | .hbm, ⟨2, _⟩ => ⟨S4x1536, .f32⟩
  | .hbm, ⟨3, _⟩ => ⟨S4, .f32⟩
  | .hbm, ⟨4, _⟩ => ⟨S4, .f32⟩
  | .hbm, ⟨5, _⟩ => ⟨S128, .f32⟩
  | .hbm, ⟨6, _⟩ => ⟨S_, .i32⟩
  | .hbm, ⟨7, _⟩ => ⟨S_, .f32⟩
  | .hbm, ⟨8, _⟩ => ⟨S128, .f32⟩
  | .hbm, ⟨9, _⟩ => ⟨S1x128, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S1x128, .f32⟩
  | .hbm, ⟨15, _⟩ => ⟨S8x4096x512, .bf16⟩
  | .local _ .vmem, ⟨0, _⟩ => ⟨S1x256x1536, .bf16⟩
  | .local _ .vmem, ⟨1, _⟩ => ⟨S1x256x1536, .bf16⟩
  | .local _ .vmem, ⟨2, _⟩ => ⟨S1x8x1536, .bf16⟩
  | .local _ .vmem, ⟨3, _⟩ => ⟨S1x8x1536, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x128, .f32⟩
  | .local _ .vmem, ⟨7, _⟩ => ⟨S1x256x128, .f32⟩
  | .local _ .vmem, ⟨8, _⟩ => ⟨S4x1536, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x256x512, .bf16⟩
  | .local _ .vmem, ⟨13, _⟩ => ⟨S1x256x512, .bf16⟩
  | .local _ .vmem, ⟨14, _⟩ => ⟨S264x1536, .f32⟩
  | .local _ .vmem, ⟨15, _⟩ => ⟨S256x1536, .f32⟩
  | .local _ .vmem, ⟨16, _⟩ => ⟨S256x128, .f32⟩
  | .local _ .vmem, ⟨17, _⟩ => ⟨S256x128, .f32⟩
  | .local _ .vmem, ⟨18, _⟩ => ⟨S4x128x128, .f32⟩
  | _, _ => ⟨S8x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32_45 : BitVec 32 := 0#32
  let c4_i32 : BitVec 32 := 4#32
  let v95 : BitVec 32 := Scalar.addi c0_i32_45 c4_i32
  let c1_i32 : BitVec 32 := 1#32
  ⟨c0_i32_45, v95, c1_i32⟩
def k0_mult1 (k0_t1 : Fin k0_t1_loop.trips) : BitVec 32 :=
  let c0_i32_45 : BitVec 32 := 0#32
  let c1_i32 : BitVec 32 := 1#32
  let arg16 : BitVec 32 := Scf.iv c0_i32_45 c1_i32 k0_t1
  let c64_i32 : BitVec 32 := 64#32
  let v96 : BitVec 32 := Scalar.muli arg16 c64_i32
  v96
def k0_off1 (k0_t1 : Fin k0_t1_loop.trips) : Fin 2 → Nat :=
  let c0_i32_45 : BitVec 32 := 0#32
  let c1_i32 : BitVec 32 := 1#32
  let arg16 : BitVec 32 := Scf.iv c0_i32_45 c1_i32 k0_t1
  let c64_i32 : BitVec 32 := 64#32
  let v96 : BitVec 32 := Scalar.muli arg16 c64_i32
  let v97 : BitVec 32 := v96
  let v98 : Index := Scalar.indexCast v97
  let c0_47 : Index := 0#32
  ![v98.toNat, 0]
def k0_off2 (k0_t1 : Fin k0_t1_loop.trips) : Fin 2 → Nat :=
  let c0_i32_45 : BitVec 32 := 0#32
  let c1_i32 : BitVec 32 := 1#32
  let arg16 : BitVec 32 := Scf.iv c0_i32_45 c1_i32 k0_t1
  let c64_i32 : BitVec 32 := 64#32
  let v96 : BitVec 32 := Scalar.muli arg16 c64_i32
  let v97 : BitVec 32 := v96
  let v104 : Index := Scalar.indexCast v97
  let c0_50 : Index := 0#32
  ![v104.toNat, 0]
def k0_off3 (k0_t1 : Fin k0_t1_loop.trips) : Fin 2 → Nat :=
  let c0_i32_45 : BitVec 32 := 0#32
  let c1_i32 : BitVec 32 := 1#32
  let arg16 : BitVec 32 := Scf.iv c0_i32_45 c1_i32 k0_t1
  let c64_i32 : BitVec 32 := 64#32
  let v96 : BitVec 32 := Scalar.muli arg16 c64_i32
  let v97 : BitVec 32 := v96
  let v106 : Index := Scalar.indexCast v97
  let c512 : Index := 512#32
  ![v106.toNat, 512]
def k0_off4 (k0_t1 : Fin k0_t1_loop.trips) : Fin 2 → Nat :=
  let c0_i32_45 : BitVec 32 := 0#32
  let c1_i32 : BitVec 32 := 1#32
  let arg16 : BitVec 32 := Scf.iv c0_i32_45 c1_i32 k0_t1
  let c64_i32 : BitVec 32 := 64#32
  let v96 : BitVec 32 := Scalar.muli arg16 c64_i32
  let v97 : BitVec 32 := v96
  let v108 : Index := Scalar.indexCast v97
  let c1024 : Index := 1024#32
  ![v108.toNat, 1024]
def k0_off5 (k0_t1 : Fin k0_t1_loop.trips) : Fin 3 → Nat :=
  let c0_87 : Index := 0#32
  let c0_i32_45 : BitVec 32 := 0#32
  let c1_i32 : BitVec 32 := 1#32
  let arg16 : BitVec 32 := Scf.iv c0_i32_45 c1_i32 k0_t1
  let c64_i32 : BitVec 32 := 64#32
  let v96 : BitVec 32 := Scalar.muli arg16 c64_i32
  let v97 : BitVec 32 := v96
  let v217 : Index := Scalar.indexCast v97
  let c0_88 : Index := 0#32
  ![0, v217.toNat, 0]
def k0_off6 (k0_t1 : Fin k0_t1_loop.trips) : Fin 2 → Nat :=
  let c0_i32_45 : BitVec 32 := 0#32
  let c1_i32 : BitVec 32 := 1#32
  let arg16 : BitVec 32 := Scf.iv c0_i32_45 c1_i32 k0_t1
  let c64_i32 : BitVec 32 := 64#32
  let v96 : BitVec 32 := Scalar.muli arg16 c64_i32
  let v97 : BitVec 32 := v96
  let v235 : Index := Scalar.indexCast v97
  let c128 : Index := 128#32
  ![v235.toNat, 128]
def k0_off7 (k0_t1 : Fin k0_t1_loop.trips) : Fin 2 → Nat :=
  let c0_i32_45 : BitVec 32 := 0#32
  let c1_i32 : BitVec 32 := 1#32
  let arg16 : BitVec 32 := Scf.iv c0_i32_45 c1_i32 k0_t1
  let c64_i32 : BitVec 32 := 64#32
  let v96 : BitVec 32 := Scalar.muli arg16 c64_i32
  let v97 : BitVec 32 := v96
  let v237 : Index := Scalar.indexCast v97
  let c640 : Index := 640#32
  ![v237.toNat, 640]
def k0_off8 (k0_t1 : Fin k0_t1_loop.trips) : Fin 2 → Nat :=
  let c0_i32_45 : BitVec 32 := 0#32
  let c1_i32 : BitVec 32 := 1#32
  let arg16 : BitVec 32 := Scf.iv c0_i32_45 c1_i32 k0_t1
  let c64_i32 : BitVec 32 := 64#32
  let v96 : BitVec 32 := Scalar.muli arg16 c64_i32
  let v97 : BitVec 32 := v96
  let v239 : Index := Scalar.indexCast v97
  let c1152 : Index := 1152#32
  ![v239.toNat, 1152]
def k0_off9 (k0_t1 : Fin k0_t1_loop.trips) : Fin 3 → Nat :=
  let c0_130 : Index := 0#32
  let c0_i32_45 : BitVec 32 := 0#32
  let c1_i32 : BitVec 32 := 1#32
  let arg16 : BitVec 32 := Scf.iv c0_i32_45 c1_i32 k0_t1
  let c64_i32 : BitVec 32 := 64#32
  let v96 : BitVec 32 := Scalar.muli arg16 c64_i32
  let v97 : BitVec 32 := v96
  let v348 : Index := Scalar.indexCast v97
  let c128_131 : Index := 128#32
  ![0, v348.toNat, 128]
def k0_off10 (k0_t1 : Fin k0_t1_loop.trips) : Fin 2 → Nat :=
  let c0_i32_45 : BitVec 32 := 0#32
  let c1_i32 : BitVec 32 := 1#32
  let arg16 : BitVec 32 := Scf.iv c0_i32_45 c1_i32 k0_t1
  let c64_i32 : BitVec 32 := 64#32
  let v96 : BitVec 32 := Scalar.muli arg16 c64_i32
  let v97 : BitVec 32 := v96
  let v366 : Index := Scalar.indexCast v97
  let c256 : Index := 256#32
  ![v366.toNat, 256]
def k0_off11 (k0_t1 : Fin k0_t1_loop.trips) : Fin 2 → Nat :=
  let c0_i32_45 : BitVec 32 := 0#32
  let c1_i32 : BitVec 32 := 1#32
  let arg16 : BitVec 32 := Scf.iv c0_i32_45 c1_i32 k0_t1
  let c64_i32 : BitVec 32 := 64#32
  let v96 : BitVec 32 := Scalar.muli arg16 c64_i32
  let v97 : BitVec 32 := v96
  let v368 : Index := Scalar.indexCast v97
  let c768 : Index := 768#32
  ![v368.toNat, 768]
def k0_off12 (k0_t1 : Fin k0_t1_loop.trips) : Fin 2 → Nat :=
  let c0_i32_45 : BitVec 32 := 0#32
  let c1_i32 : BitVec 32 := 1#32
  let arg16 : BitVec 32 := Scf.iv c0_i32_45 c1_i32 k0_t1
  let c64_i32 : BitVec 32 := 64#32
  let v96 : BitVec 32 := Scalar.muli arg16 c64_i32
  let v97 : BitVec 32 := v96
  let v370 : Index := Scalar.indexCast v97
  let c1280 : Index := 1280#32
  ![v370.toNat, 1280]
def k0_off13 (k0_t1 : Fin k0_t1_loop.trips) : Fin 3 → Nat :=
  let c0_173 : Index := 0#32
  let c0_i32_45 : BitVec 32 := 0#32
  let c1_i32 : BitVec 32 := 1#32
  let arg16 : BitVec 32 := Scf.iv c0_i32_45 c1_i32 k0_t1
  let c64_i32 : BitVec 32 := 64#32
  let v96 : BitVec 32 := Scalar.muli arg16 c64_i32
  let v97 : BitVec 32 := v96
  let v479 : Index := Scalar.indexCast v97
  let c256_174 : Index := 256#32
  ![0, v479.toNat, 256]
def k0_off14 (k0_t1 : Fin k0_t1_loop.trips) : Fin 2 → Nat :=
  let c0_i32_45 : BitVec 32 := 0#32
  let c1_i32 : BitVec 32 := 1#32
  let arg16 : BitVec 32 := Scf.iv c0_i32_45 c1_i32 k0_t1
  let c64_i32 : BitVec 32 := 64#32
  let v96 : BitVec 32 := Scalar.muli arg16 c64_i32
  let v97 : BitVec 32 := v96
  let v497 : Index := Scalar.indexCast v97
  let c384 : Index := 384#32
  ![v497.toNat, 384]
def k0_off15 (k0_t1 : Fin k0_t1_loop.trips) : Fin 2 → Nat :=
  let c0_i32_45 : BitVec 32 := 0#32
  let c1_i32 : BitVec 32 := 1#32
  let arg16 : BitVec 32 := Scf.iv c0_i32_45 c1_i32 k0_t1
  let c64_i32 : BitVec 32 := 64#32
  let v96 : BitVec 32 := Scalar.muli arg16 c64_i32
  let v97 : BitVec 32 := v96
  let v499 : Index := Scalar.indexCast v97
  let c896 : Index := 896#32
  ![v499.toNat, 896]
def k0_off16 (k0_t1 : Fin k0_t1_loop.trips) : Fin 2 → Nat :=
  let c0_i32_45 : BitVec 32 := 0#32
  let c1_i32 : BitVec 32 := 1#32
  let arg16 : BitVec 32 := Scf.iv c0_i32_45 c1_i32 k0_t1
  let c64_i32 : BitVec 32 := 64#32
  let v96 : BitVec 32 := Scalar.muli arg16 c64_i32
  let v97 : BitVec 32 := v96
  let v501 : Index := Scalar.indexCast v97
  let c1408 : Index := 1408#32
  ![v501.toNat, 1408]
def k0_off17 (k0_t1 : Fin k0_t1_loop.trips) : Fin 3 → Nat :=
  let c0_216 : Index := 0#32
  let c0_i32_45 : BitVec 32 := 0#32
  let c1_i32 : BitVec 32 := 1#32
  let arg16 : BitVec 32 := Scf.iv c0_i32_45 c1_i32 k0_t1
  let c64_i32 : BitVec 32 := 64#32
  let v96 : BitVec 32 := Scalar.muli arg16 c64_i32
  let v97 : BitVec 32 := v96
  let v610 : Index := Scalar.indexCast v97
  let c384_217 : Index := 384#32
  ![0, v610.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefGdnIdeal.lean ====
abbrev S8x4096x8192 : Shape := ⟨3, ![8, 4096, 8192]⟩
abbrev S8x4096x128 : Shape := ⟨3, ![8, 4096, 128]⟩
abbrev S4x1536 : Shape := ⟨2, ![4, 1536]⟩
abbrev S4 : Shape := ⟨1, ![4]⟩
abbrev S128 : Shape := ⟨1, ![128]⟩
abbrev S8x4096x1536 : Shape := ⟨3, ![8, 4096, 1536]⟩
abbrev S_ : Shape := ⟨0, ![]⟩
abbrev S8x4099x1536 : Shape := ⟨3, ![8, 4099, 1536]⟩
abbrev S1x1536 : Shape := ⟨2, ![1, 1536]⟩
abbrev S1536 : Shape := ⟨1, ![1536]⟩
abbrev S1x1x1536 : Shape := ⟨3, ![1, 1, 1536]⟩
abbrev S8x4096x512 : Shape := ⟨3, ![8, 4096, 512]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S1x1x4 : Shape := ⟨3, ![1, 1, 4]⟩
abbrev S8x4x128x128 : Shape := ⟨4, ![8, 4, 128, 128]⟩
abbrev S4096 : Shape := ⟨1, ![4096]⟩
abbrev S4096x8x4x128 : Shape := ⟨4, ![4096, 8, 4, 128]⟩
abbrev S1 : Shape := ⟨1, ![1]⟩
abbrev S8x1x4x128 : Shape := ⟨4, ![8, 1, 4, 128]⟩
abbrev S8x4x128 : Shape := ⟨3, ![8, 4, 128]⟩
abbrev S8x1x4 : Shape := ⟨3, ![8, 1, 4]⟩
abbrev S8x4 : Shape := ⟨2, ![8, 4]⟩
abbrev S8x4x1x1 : Shape := ⟨4, ![8, 4, 1, 1]⟩
abbrev S8x4x1 : Shape := ⟨3, ![8, 4, 1]⟩
abbrev S8x4x128x1 : Shape := ⟨4, ![8, 4, 128, 1]⟩
abbrev S8x4x1x128 : Shape := ⟨4, ![8, 4, 1, 128]⟩
abbrev S1x8x4x128 : Shape := ⟨4, ![1, 8, 4, 128]⟩
abbrev S1x1x1x128 : Shape := ⟨4, ![1, 1, 1, 128]⟩

abbrev nBuf : Space → Nat
  | .hbm => 230
  | .vmem => 0
  | .smem => 0
  | _ => 0

abbrev hbmTy0_0 (i : Nat) : BufTy := match i % 128 with
  | 0 => ⟨S8x4096x8192, .bf16⟩
  | 1 => ⟨S8x4096x128, .f32⟩
  | 2 => ⟨S4x1536, .f32⟩
  | 3 => ⟨S4, .f32⟩
  | 4 => ⟨S4, .f32⟩
  | 5 => ⟨S128, .f32⟩
  | 6 => ⟨S8x4096x8192, .f32⟩
  | 7 => ⟨S8x4096x1536, .f32⟩
  | 8 => ⟨S_, .i32⟩
  | 9 => ⟨S_, .f32⟩
  | 10 => ⟨S8x4099x1536, .f32⟩
  | 11 => ⟨S1x1536, .f32⟩
  | 12 => ⟨S1536, .f32⟩
  | 13 => ⟨S8x4096x1536, .f32⟩
  | 14 => ⟨S1x1x1536, .f32⟩
  | 15 => ⟨S8x4096x1536, .f32⟩
  | 16 => ⟨S8x4096x1536, .f32⟩
  | 17 => ⟨S1x1536, .f32⟩
  | 18 => ⟨S1536, .f32⟩
  | 19 => ⟨S8x4096x1536, .f32⟩
  | 20 => ⟨S1x1x1536, .f32⟩
  | 21 => ⟨S8x4096x1536, .f32⟩
  | 22 => ⟨S8x4096x1536, .f32⟩
  | 23 => ⟨S8x4096x1536, .f32⟩
  | 24 => ⟨S1x1536, .f32⟩
  | 25 => ⟨S1536, .f32⟩
  | 26 => ⟨S8x4096x1536, .f32⟩
  | 27 => ⟨S1x1x1536, .f32⟩
  | 28 => ⟨S8x4096x1536, .f32⟩
  | 29 => ⟨S8x4096x1536, .f32⟩
  | 30 => ⟨S8x4096x1536, .f32⟩
  | 31 => ⟨S1x1536, .f32⟩
  | 32 => ⟨S1536, .f32⟩
  | 33 => ⟨S8x4096x1536, .f32⟩
  | 34 => ⟨S1x1x1536, .f32⟩
  | 35 => ⟨S8x4096x1536, .f32⟩
  | 36 => ⟨S8x4096x1536, .f32⟩
  | 37 => ⟨S8x4096x1536, .f32⟩
  | 38 => ⟨S8x4096x1536, .f32⟩
  | 39 => ⟨S8x4096x1536, .f32⟩
  | 40 => ⟨S_, .f32⟩
  | 41 => ⟨S8x4096x1536, .f32⟩
  | 42 => ⟨S8x4096x1536, .f32⟩
  | 43 => ⟨S_, .f32⟩
  | 44 => ⟨S8x4096x1536, .f32⟩
  | 45 => ⟨S8x4096x1536, .f32⟩
  | 46 => ⟨S8x4096x1536, .f32⟩
  | 47 => ⟨S8x4096x512, .f32⟩
  | 48 => ⟨S8x4096x4x128, .f32⟩
  | 49 => ⟨S8x4096x4x128, .f32⟩
  | 50 => ⟨S_, .f32⟩
  | 51 => ⟨S8x4096x4, .f32⟩
  | 52 => ⟨S8x4096x4x1, .f32⟩
  | 53 => ⟨S_, .f32⟩
  | 54 => ⟨S8x4096x4x1, .f32⟩
  | 55 => ⟨S8x4096x4x1, .f32⟩
  | 56 => ⟨S8x4096x4x1, .f32⟩
  | 57 => ⟨S8x4096x4x128, .f32⟩
  | 58 => ⟨S8x4096x4x128, .f32⟩
  | 59 => ⟨S_, .f32⟩
  | 60 => ⟨S8x4096x4x128, .f32⟩
  | 61 => ⟨S8x4096x4x128, .f32⟩
  | 62 => ⟨S8x4096x512, .f32⟩
  | 63 => ⟨S8x4096x4x128, .f32⟩
  | 64 => ⟨S8x4096x4x128, .f32⟩
  | 65 => ⟨S_, .f32⟩
  | 66 => ⟨S8x4096x4, .f32⟩
  | 67 => ⟨S8x4096x4x1, .f32⟩
  | 68 => ⟨S_, .f32⟩
  | 69 => ⟨S8x4096x4x1, .f32⟩
  | 70 => ⟨S8x4096x4x1, .f32⟩
  | 71 => ⟨S8x4096x4x1, .f32⟩
  | 72 => ⟨S8x4096x4x128, .f32⟩
  | 73 => ⟨S8x4096x4x128, .f32⟩
  | 74 => ⟨S8x4096x512, .f32⟩
  | 75 => ⟨S8x4096x4x128, .f32⟩
  | 76 => ⟨S8x4096x4, .f32⟩
  | 77 => ⟨S8x4096x4, .f32⟩
  | 78 => ⟨S8x4096x4, .f32⟩
  | 79 => ⟨S_, .f32⟩
  | 80 => ⟨S8x4096x4, .f32⟩
  | 81 => ⟨S8x4096x4, .f32⟩
  | 82 => ⟨S_, .f32⟩
  | 83 => ⟨S8x4096x4, .f32⟩
  | 84 => ⟨S8x4096x4, .f32⟩
  | 85 => ⟨S4, .f32⟩
  | 86 => ⟨S4, .f32⟩
  | 87 => ⟨S8x4096x4, .f32⟩
  | 88 => ⟨S1x1x4, .f32⟩
  | 89 => ⟨S8x4096x4, .f32⟩
  | 90 => ⟨S8x4096x4, .f32⟩
  | 91 => ⟨S_, .f32⟩
  | 92 => ⟨S8x4096x4, .f32⟩
  | 93 => ⟨S8x4096x4, .f32⟩
  | 94 => ⟨S8x4096x4, .f32⟩
  | 95 => ⟨S8x4096x4, .f32⟩
  | 96 => ⟨S8x4096x4, .i1⟩
  | 97 => ⟨S8x4096x4, .f32⟩
  | 98 => ⟨S8x4096x4, .f32⟩
  | 99 => ⟨S8x4096x4, .f32⟩
  | 100 => ⟨S8x4096x4, .f32⟩
  | 101 => ⟨S8x4096x4, .f32⟩
  | 102 => ⟨S8x4096x4, .f32⟩
  | 103 => ⟨S8x4096x4, .f32⟩
  | 104 => ⟨S8x4096x4, .f32⟩
  | 105 => ⟨S1x1x4, .f32⟩
  | 106 => ⟨S8x4096x4, .f32⟩
  | 107 => ⟨S8x4096x4, .f32⟩
  | 108 => ⟨S_, .f32⟩
  | 109 => ⟨S8x4x128x128, .f32⟩
  | 110 => ⟨S4096, .i32⟩
  | 111 => ⟨S_, .f32⟩
  | 112 => ⟨S4096x8x4x128, .f32⟩
  | 113 => ⟨S_, .i32⟩
  | 114 => ⟨S4096, .i32⟩
  | 115 => ⟨S8x4096x4x128, .f32⟩
  | 116 => ⟨S8x4096x4x128, .f32⟩
  | 117 => ⟨S8x4096x4x128, .f32⟩
  | 118 => ⟨S8x4096x4, .f32⟩
  | 119 => ⟨S8x4096x4, .f32⟩
  | 120 => ⟨S_, .i32⟩
  | 121 => ⟨S8x4x128x128, .f32⟩
  | 122 => ⟨S4096x8x4x128, .f32⟩
  | 123 => ⟨S_, .i32⟩
  | 124 => ⟨S_, .i1⟩
  | 125 => ⟨S1, .i32⟩
  | 126 => ⟨S_, .i32⟩
  | 127 => ⟨S_, .i32⟩
  | _ => ⟨S8x4096x8192, .bf16⟩

abbrev hbmTy0_1 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S8x1x4x128, .f32⟩
  | 8 => ⟨S8x4x128, .f32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S8x1x4x128, .f32⟩
  | 18 => ⟨S8x4x128, .f32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S8x1x4x128, .f32⟩
  | 28 => ⟨S8x4x128, .f32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S8x1x4, .f32⟩
  | 37 => ⟨S8x4, .f32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S8x1x4, .f32⟩
  | 46 => ⟨S8x4, .f32⟩
  | 47 => ⟨S8x4, .f32⟩
  | 48 => ⟨S8x4x1x1, .f32⟩
  | 49 => ⟨S8x4x128x128, .f32⟩
  | 50 => ⟨S8x4x128x128, .f32⟩
  | 51 => ⟨S8x4x1, .f32⟩
  | 52 => ⟨S8x4x128, .f32⟩
  | 53 => ⟨S8x4x128, .f32⟩
  | 54 => ⟨S8x4x128, .f32⟩
  | 55 => ⟨S8x4x128, .f32⟩
  | 56 => ⟨S8x4x128x1, .f32⟩
  | 57 => ⟨S8x4x1x128, .f32⟩
  | 58 => ⟨S8x4x128x128, .f32⟩
  | 59 => ⟨S8x4x128x128, .f32⟩
  | 60 => ⟨S8x4x128x128, .f32⟩
  | 61 => ⟨S8x4x128x128, .f32⟩
  | 62 => ⟨S8x4x128, .f32⟩
  | 63 => ⟨S1x8x4x128, .f32⟩
  | 64 => ⟨S_, .i32⟩
  | 65 => ⟨S_, .i32⟩
  | 66 => ⟨S_, .i32⟩
  | 67 => ⟨S4096x8x4x128, .f32⟩
  | 68 => ⟨S_, .i32⟩
  | 69 => ⟨S_, .i32⟩
  | 70 => ⟨S8x4096x4x128, .f32⟩
  | 71 => ⟨S8x4096x4x128, .f32⟩
  | 72 => ⟨S_, .f32⟩
  | 73 => ⟨S8x4096x4, .f32⟩
  | 74 => ⟨S8x4096x4x1, .f32⟩
  | 75 => ⟨S_, .f32⟩
  | 76 => ⟨S8x4096x4x1, .f32⟩
  | 77 => ⟨S8x4096x4x1, .f32⟩
  | 78 => ⟨S_, .f32⟩
  | 79 => ⟨S8x4096x4x1, .f32⟩
  | 80 => ⟨S8x4096x4x1, .f32⟩
  | 81 => ⟨S8x4096x4x1, .f32⟩
  | 82 => ⟨S8x4096x4x128, .f32⟩
  | 83 => ⟨S8x4096x4x128, .f32⟩
  | 84 => ⟨S1x1x1x128, .f32⟩
  | 85 => ⟨S8x4096x4x128, .f32⟩
  | 86 => ⟨S8x4096x4x128, .f32⟩
  | 87 => ⟨S8x4096x512, .bf16⟩
  | 88 => ⟨S8x4096x512, .f32⟩
  | 89 => ⟨S8x4096x4x128, .f32⟩
  | 90 => ⟨S8x4096x4x128, .f32⟩
  | 91 => ⟨S8x4096x4x128, .f32⟩
  | 92 => ⟨S_, .f32⟩
  | 93 => ⟨S8x4096x4x128, .f32⟩
  | 94 => ⟨S8x4096x4x128, .f32⟩
  | 95 => ⟨S_, .f32⟩
  | 96 => ⟨S8x4096x4x128, .f32⟩
  | 97 => ⟨S8x4096x4x128, .f32⟩
  | 98 => ⟨S8x4096x4x128, .f32⟩
  | 99 => ⟨S8x4096x4x128, .f32⟩
  | 100 => ⟨S8x4096x512, .f32⟩
  | 101 => ⟨S8x4096x512, .bf16⟩
  | _ => ⟨S8x4096x8192, .bf16⟩

abbrev hbmTy (i : Nat) : BufTy := match i / 128 with
  | 0 => hbmTy0_0 i
  | 1 => hbmTy0_1 i
  | _ => ⟨S8x4096x8192, .bf16⟩

abbrev bufTy : (tb : Table) → Fin (tcTables nBuf tb) → BufTy
  | .hbm, ⟨i, _⟩ => hbmTy i
  | _, _ => ⟨S8x4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst : Ref sig .tc := ⟨.hbm, 50, rfl⟩
abbrev main_v34 : Ref sig .tc := ⟨.hbm, 51, rfl⟩
abbrev main_v35 : Ref sig .tc := ⟨.hbm, 52, rfl⟩
abbrev main_cst_0 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_1 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_2 : Ref sig .tc := ⟨.hbm, 65, rfl⟩
abbrev main_v46 : Ref sig .tc := ⟨.hbm, 66, rfl⟩
abbrev main_v47 : Ref sig .tc := ⟨.hbm, 67, rfl⟩
abbrev main_cst_3 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_4 : Ref sig .tc := ⟨.hbm, 79, rfl⟩
abbrev main_v58 : Ref sig .tc := ⟨.hbm, 80, rfl⟩
abbrev main_v59 : Ref sig .tc := ⟨.hbm, 81, rfl⟩
abbrev main_cst_5 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_call2_cst : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_6 : Ref sig .tc := ⟨.hbm, 108, rfl⟩
abbrev main_v72 : Ref sig .tc := ⟨.hbm, 109, rfl⟩
abbrev main_v73 : Ref sig .tc := ⟨.hbm, 110, rfl⟩
abbrev main_cst_7 : Ref sig .tc := ⟨.hbm, 111, rfl⟩
abbrev main_v74 : Ref sig .tc := ⟨.hbm, 112, rfl⟩
abbrev main_c_8 : Ref sig .tc := ⟨.hbm, 113, rfl⟩
abbrev main_v75_0 : Ref sig .tc := ⟨.hbm, 114, rfl⟩
abbrev main_v75_1 : Ref sig .tc := ⟨.hbm, 115, rfl⟩
abbrev main_v75_2 : Ref sig .tc := ⟨.hbm, 116, rfl⟩
abbrev main_v75_3 : Ref sig .tc := ⟨.hbm, 117, rfl⟩
abbrev main_v75_4 : Ref sig .tc := ⟨.hbm, 118, rfl⟩
abbrev main_v75_5 : Ref sig .tc := ⟨.hbm, 119, rfl⟩
abbrev main_v75_6 : Ref sig .tc := ⟨.hbm, 120, rfl⟩
abbrev main_v75_7 : Ref sig .tc := ⟨.hbm, 121, rfl⟩
abbrev main_v75_8 : Ref sig .tc := ⟨.hbm, 122, rfl⟩
abbrev main_while0c_c_20 : Ref sig .tc := ⟨.hbm, 123, rfl⟩
abbrev main_while0c_v97 : Ref sig .tc := ⟨.hbm, 124, rfl⟩
abbrev main_while0b_call3_v0 : Ref sig .tc := ⟨.hbm, 125, rfl⟩
abbrev main_while0b_v97 : Ref sig .tc := ⟨.hbm, 126, rfl⟩
abbrev main_while0b_call4_c : Ref sig .tc := ⟨.hbm, 127, rfl⟩
abbrev main_while0b_call4_v0 : Ref sig .tc := ⟨.hbm, 128, rfl⟩
abbrev main_while0b_call4_c_0 : Ref sig .tc := ⟨.hbm, 129, rfl⟩
abbrev main_while0b_call4_v1 : Ref sig .tc := ⟨.hbm, 130, rfl⟩
abbrev main_while0b_call4_v2 : Ref sig .tc := ⟨.hbm, 131, rfl⟩
abbrev main_while0b_call4_c_1 : Ref sig .tc := ⟨.hbm, 132, rfl⟩
abbrev main_while0b_call4_c_2 : Ref sig .tc := ⟨.hbm, 133, rfl⟩
abbrev main_while0b_call4_c_3 : Ref sig .tc := ⟨.hbm, 134, rfl⟩
abbrev main_while0b_call4_v3 : Ref sig .tc := ⟨.hbm, 135, rfl⟩
abbrev main_while0b_v98 : Ref sig .tc := ⟨.hbm, 136, rfl⟩
abbrev main_while0b_call5_c : Ref sig .tc := ⟨.hbm, 137, rfl⟩
abbrev main_while0b_call5_v0 : Ref sig .tc := ⟨.hbm, 138, rfl⟩
abbrev main_while0b_call5_c_0 : Ref sig .tc := ⟨.hbm, 139, rfl⟩
abbrev main_while0b_call5_v1 : Ref sig .tc := ⟨.hbm, 140, rfl⟩
abbrev main_while0b_call5_v2 : Ref sig .tc := ⟨.hbm, 141, rfl⟩
abbrev main_while0b_call5_c_1 : Ref sig .tc := ⟨.hbm, 142, rfl⟩
abbrev main_while0b_call5_c_2 : Ref sig .tc := ⟨.hbm, 143, rfl⟩
abbrev main_while0b_call5_c_3 : Ref sig .tc := ⟨.hbm, 144, rfl⟩
abbrev main_while0b_call5_v3 : Ref sig .tc := ⟨.hbm, 145, rfl⟩
abbrev main_while0b_v99 : Ref sig .tc := ⟨.hbm, 146, rfl⟩
abbrev main_while0b_call6_c : Ref sig .tc := ⟨.hbm, 147, rfl⟩
abbrev main_while0b_call6_v0 : Ref sig .tc := ⟨.hbm, 148, rfl⟩
abbrev main_while0b_call6_c_0 : Ref sig .tc := ⟨.hbm, 149, rfl⟩
abbrev main_while0b_call6_v1 : Ref sig .tc := ⟨.hbm, 150, rfl⟩
abbrev main_while0b_call6_v2 : Ref sig .tc := ⟨.hbm, 151, rfl⟩
abbrev main_while0b_call6_c_1 : Ref sig .tc := ⟨.hbm, 152, rfl⟩
abbrev main_while0b_call6_c_2 : Ref sig .tc := ⟨.hbm, 153, rfl⟩
abbrev main_while0b_call6_c_3 : Ref sig .tc := ⟨.hbm, 154, rfl⟩
abbrev main_while0b_call6_v3 : Ref sig .tc := ⟨.hbm, 155, rfl⟩
abbrev main_while0b_v100 : Ref sig .tc := ⟨.hbm, 156, rfl⟩
abbrev main_while0b_call7_c : Ref sig .tc := ⟨.hbm, 157, rfl⟩
abbrev main_while0b_call7_v0 : Ref sig .tc := ⟨.hbm, 158, rfl⟩
abbrev main_while0b_call7_c_0 : Ref sig .tc := ⟨.hbm, 159, rfl⟩
abbrev main_while0b_call7_v1 : Ref sig .tc := ⟨.hbm, 160, rfl⟩
abbrev main_while0b_call7_v2 : Ref sig .tc := ⟨.hbm, 161, rfl⟩
abbrev main_while0b_call7_c_1 : Ref sig .tc := ⟨.hbm, 162, rfl⟩
abbrev main_while0b_call7_c_2 : Ref sig .tc := ⟨.hbm, 163, rfl⟩
abbrev main_while0b_call7_v3 : Ref sig .tc := ⟨.hbm, 164, rfl⟩
abbrev main_while0b_v101 : Ref sig .tc := ⟨.hbm, 165, rfl⟩
abbrev main_while0b_call8_c : Ref sig .tc := ⟨.hbm, 166, rfl⟩
abbrev main_while0b_call8_v0 : Ref sig .tc := ⟨.hbm, 167, rfl⟩
abbrev main_while0b_call8_c_0 : Ref sig .tc := ⟨.hbm, 168, rfl⟩
abbrev main_while0b_call8_v1 : Ref sig .tc := ⟨.hbm, 169, rfl⟩
abbrev main_while0b_call8_v2 : Ref sig .tc := ⟨.hbm, 170, rfl⟩
abbrev main_while0b_call8_c_1 : Ref sig .tc := ⟨.hbm, 171, rfl⟩
abbrev main_while0b_call8_c_2 : Ref sig .tc := ⟨.hbm, 172, rfl⟩
abbrev main_while0b_call8_v3 : Ref sig .tc := ⟨.hbm, 173, rfl⟩
abbrev main_while0b_v102 : Ref sig .tc := ⟨.hbm, 174, rfl⟩
abbrev main_while0b_v103 : Ref sig .tc := ⟨.hbm, 175, rfl⟩
abbrev main_while0b_v104 : Ref sig .tc := ⟨.hbm, 176, rfl⟩
abbrev main_while0b_v105 : Ref sig .tc := ⟨.hbm, 177, rfl⟩
abbrev main_while0b_v106 : Ref sig .tc := ⟨.hbm, 178, rfl⟩
abbrev main_while0b_v107 : Ref sig .tc := ⟨.hbm, 179, rfl⟩
abbrev main_while0b_v108 : Ref sig .tc := ⟨.hbm, 180, rfl⟩
abbrev main_while0b_v109 : Ref sig .tc := ⟨.hbm, 181, rfl⟩
abbrev main_while0b_v110 : Ref sig .tc := ⟨.hbm, 182, rfl⟩
abbrev main_while0b_v111 : Ref sig .tc := ⟨.hbm, 183, rfl⟩
abbrev main_while0b_v112 : Ref sig .tc := ⟨.hbm, 184, rfl⟩
abbrev main_while0b_v113 : Ref sig .tc := ⟨.hbm, 185, rfl⟩
abbrev main_while0b_v114 : Ref sig .tc := ⟨.hbm, 186, rfl⟩
abbrev main_while0b_v115 : Ref sig .tc := ⟨.hbm, 187, rfl⟩
abbrev main_while0b_v116 : Ref sig .tc := ⟨.hbm, 188, rfl⟩
abbrev main_while0b_v117 : Ref sig .tc := ⟨.hbm, 189, rfl⟩
abbrev main_while0b_v118 : Ref sig .tc := ⟨.hbm, 190, rfl⟩
abbrev main_while0b_call9_v0 : Ref sig .tc := ⟨.hbm, 191, rfl⟩
abbrev main_while0b_call9_c : Ref sig .tc := ⟨.hbm, 192, rfl⟩
abbrev main_while0b_call9_c_0 : Ref sig .tc := ⟨.hbm, 193, rfl⟩
abbrev main_while0b_call9_c_1 : Ref sig .tc := ⟨.hbm, 194, rfl⟩
abbrev main_while0b_v119 : Ref sig .tc := ⟨.hbm, 195, rfl⟩
abbrev main_while0b_c_20 : Ref sig .tc := ⟨.hbm, 196, rfl⟩
abbrev main_while0b_v120 : Ref sig .tc := ⟨.hbm, 197, rfl⟩
abbrev main_v76 : Ref sig .tc := ⟨.hbm, 198, rfl⟩
abbrev main_v77 : Ref sig .tc := ⟨.hbm, 199, rfl⟩
abbrev main_cst_9 : Ref sig .tc := ⟨.hbm, 200, rfl⟩
abbrev main_v78 : Ref sig .tc := ⟨.hbm, 201, rfl⟩
abbrev main_v79 : Ref sig .tc := ⟨.hbm, 202, rfl⟩
abbrev main_cst_10 : Ref sig .tc := ⟨.hbm, 203, rfl⟩
abbrev main_v80 : Ref sig .tc := ⟨.hbm, 204, rfl⟩
abbrev main_v81 : Ref sig .tc := ⟨.hbm, 205, rfl⟩
abbrev main_cst_11 : Ref sig .tc := ⟨.hbm, 206, rfl⟩
abbrev main_v82 : Ref sig .tc := ⟨.hbm, 207, rfl⟩
abbrev main_v83 : Ref sig .tc := ⟨.hbm, 208, rfl⟩
abbrev main_v84 : Ref sig .tc := ⟨.hbm, 209, rfl⟩
abbrev main_v85 : Ref sig .tc := ⟨.hbm, 210, rfl⟩
abbrev main_v86 : Ref sig .tc := ⟨.hbm, 211, rfl⟩
abbrev main_v87 : Ref sig .tc := ⟨.hbm, 212, rfl⟩
abbrev main_v88 : Ref sig .tc := ⟨.hbm, 213, rfl⟩
abbrev main_v89 : Ref sig .tc := ⟨.hbm, 214, rfl⟩
abbrev main_v90 : Ref sig .tc := ⟨.hbm, 215, rfl⟩
abbrev main_v91 : Ref sig .tc := ⟨.hbm, 216, rfl⟩
abbrev main_v92 : Ref sig .tc := ⟨.hbm, 217, rfl⟩
abbrev main_call10_v0 : Ref sig .tc := ⟨.hbm, 218, rfl⟩
abbrev main_call10_v1 : Ref sig .tc := ⟨.hbm, 219, rfl⟩
abbrev main_call10_cst : Ref sig .tc := ⟨.hbm, 220, rfl⟩
abbrev main_call10_v2 : Ref sig .tc := ⟨.hbm, 221, rfl⟩
abbrev main_call10_v3 : Ref sig .tc := ⟨.hbm, 222, rfl⟩
abbrev main_call10_cst_0 : Ref sig .tc := ⟨.hbm, 223, rfl⟩
abbrev main_call10_v4 : Ref sig .tc := ⟨.hbm, 224, rfl⟩
abbrev main_call10_v5 : Ref sig .tc := ⟨.hbm, 225, rfl⟩
abbrev main_v93 : Ref sig .tc := ⟨.hbm, 226, rfl⟩
abbrev main_v94 : Ref sig .tc := ⟨.hbm, 227, rfl⟩
abbrev main_v95 : Ref sig .tc := ⟨.hbm, 228, rfl⟩
abbrev main_v96 : Ref sig .tc := ⟨.hbm, 229, rfl⟩

abbrev nD : Nat := 1
abbrev τ : Topo := Topo.v7x

variable {F : FTy → Type} [FloatOps F]

abbrev main_while0_count : Scf.Loop 32 := ⟨0#32, 4096#32, 1#32⟩
-- ==== Proof.FfnStep.lean ====
/- What one grid point of the MLP kernel computes, as formulas over the extended reals. -/
module

public import proofs.«01_k».proof.Proof.Gen.FfnIdeal.Value
public import Idealize.ShloMosaic.Lib.Pointwise
public import Idealize.ShloMosaic.Lib.Tactic
public import Idealize.ShloMosaic.Lib.Claim

@[expose] public section

set_option maxRecDepth 16384

noncomputable section

namespace Cert.Proof.FfnStep

open Cert.FfnIdeal Cert.FfnIdeal.Gen Idealize.ShloMosaic Idealize.ShloMosaic.TcCoe Idealize.SL.Sem

/-- The offsets zero, zero are zero on every axis. -/
theorem hz : (![0, 0] : Fin 2 → Nat) = fun _ => 0 := funext fun a => by fin_cases a <;> rfl

section Pieces

variable {F : FTy → Type} [FloatOps F]
variable (c : Dev nD) (i : grid0.Coords)
  (a2 : Memref sig .tc .vmem S1024x1024 .f32) (h2 : a2.IsWhole) (a3 : Memref sig .tc .vmem S1x1024 .f32) (h3 : a3.IsWhole)
  (a4 : Memref sig .tc .vmem S1024x1024 .bf16) (h4 : a4.IsWhole) (a5 : Memref sig .tc .vmem S1024x1024 .bf16) (h5 : a5.IsWhole)
  (a6 : Memref sig .tc .vmem S1x1024 .f32) (h6 : a6.IsWhole) (a7 : Memref sig .tc .vmem S1024x1024 .f32) (h7 : a7.IsWhole)
  (a8 : Memref sig .tc .vmem S1024x1024 .f32) (h8 : a8.IsWhole)
  (x0 : Vec F S1024x1024 .f32) (x1 : Vec F S1x1024 .f32) (x2 x3 : Vec F S1024x1024 .bf16) (x4 : Vec F S1x1024 .f32)

/-- At the first hidden block of a row block the accumulator is zeroed, then the block's product is added. -/
theorem sout_A (hc0 : cond0_0 i) (hc1 : ¬cond0_1 i) :
    sout0_A_0 c i a2 h2 a3 h3 a4 h4 a5 h5 a6 h6 a7 h7 a8 h8 hc0 hc1 x0 x1 x2 x3 x4 = k0_pay4 x0 x1 x2 k0_pay2 x3 := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S1024x1024) hz]
  simp only [View.readAt_eq_ld, h2.read_unread, h3.read_unread, h4.read_unread, h5.read_unread, View.ld_unit_zero (S := S1024x1024) hz,
    View.ld_unit_zero (S := S1x1024) hz, View.readCov_unit_zero (S := S1024x1024) _ hz]

/-- At a middle hidden block the block's product is added to the accumulator. -/
theorem sout_B (hc0 : ¬cond0_0 i) (hc1 : ¬cond0_1 i) (xs : Vec F S1024x1024 .f32) :
    sout0_B_0 c i a2 h2 a3 h3 a4 h4 a5 h5 a6 h6 a7 h7 a8 h8 hc0 hc1 x0 x1 x2 x3 x4 xs = k0_pay4 x0 x1 x2 xs x3 := by
  unfold sout0_B_0
  rw [View.read_writes_eq_canon _ _ _ (scover0_B_0 c i a2 h2 a3 h3 a4 h4 a5 h5 a6 h6 a7 h7 a8 h8 hc0 hc1 x0 x1 x2 x3 x4 xs)]
  unfold kernelRun0_B
  dsimp only
  sl_unfold_words
  rw [View.canon_unit_zero (S := S1024x1024) hz]
  simp only [View.readAt_eq_ld, h2.read_unread, h3.read_unread, h4.read_unread, h5.read_unread, h8.read_unread,
    View.ld_unit_zero (S := S1024x1024) hz, View.ld_unit_zero (S := S1x1024) hz]

/-- At the last hidden block likewise. -/
theorem sout_C (hc0 : ¬cond0_0 i) (hc1 : cond0_1 i) (xs : Vec F S1024x1024 .f32) :
    sout0_C_0 c i a2 h2 a3 h3 a4 h4 a5 h5 a6 h6 a7 h7 a8 h8 hc0 hc1 x0 x1 x2 x3 x4 xs = k0_pay4 x0 x1 x2 xs x3 := by
  unfold sout0_C_0
  rw [View.read_writes_eq_canon _ _ _ (scover0_C_0 c i a2 h2 a3 h3 a4 h4 a5 h5 a6 h6 a7 h7 a8 h8 hc0 hc1 x0 x1 x2 x3 x4 xs)]
  unfold kernelRun0_C
  dsimp only
  sl_unfold_words
  rw [View.canon_unit_zero (S := S1024x1024) hz]
  simp only [View.readAt_eq_ld, h2.read_unread, h3.read_unread, h4.read_unread, h5.read_unread, h8.read_unread,
    View.ld_unit_zero (S := S1024x1024) hz, View.ld_unit_zero (S := S1x1024) hz]

/-- At the last hidden block the output is the input plus the normalised accumulator. -/
theorem out_C (hc0 : ¬cond0_0 i) (hc1 : cond0_1 i) (xs : Vec F S1024x1024 .f32) :
    out0_C_5 c i a2 h2 a3 h3 a4 h4 a5 h5 a6 h6 a7 h7 a8 h8 hc0 hc1 x0 x1 x2 x3 x4 xs
      = k0_pay1 (k0_pay3 x0) (k0_pay4 x0 x1 x2 xs x3) x4 := by
  unfold out0_C_5
  rw [View.read_writes_eq_canon _ _ _ (cover0_C_5 c i a2 h2 a3 h3 a4 h4 a5 h5 a6 h6 a7 h7 a8 h8 hc0 hc1 x0 x1 x2 x3 x4 xs)]
  unfold kernelRun0_C
  dsimp only
  sl_unfold_words
  rw [View.canon_unit_zero (S := S1024x1024) hz]
  simp only [View.readAt_eq_ld, h2.read_unread, h3.read_unread, h4.read_unread, h5.read_unread, h6.read_unread, h8.read_unread,
    View.ld_unit_zero (S := S1024x1024) hz, View.ld_unit_zero (S := S1x1024) hz, View.readCov_unit_zero (S := S1024x1024) _ hz]

end Pieces

/-- The scale of a root-mean-square normalisation over 1024 entries, from the sum of the squares of the entries. -/
def rms (s : EReal) : EReal := Ideal.rsqrt (Ideal.div s (Ideal.ofBits FTy.f32 0x44800000#32) + Ideal.ofBits FTy.f32 0x358637BD#32)

/-- Entry `d` of a row normalised to root mean square one and weighted by `w`. -/
def nrm (x w : Fin 1024 → EReal) (d : Fin 1024) : EReal := x d * rms (∑ k, x k * x k) * w d

/-- A hidden unit of the MLP: the square of the positive part of the normalised row times the unit's weights. -/
def unit (x w u : Fin 1024 → EReal) : EReal := max (∑ e, nrm x w e * u e) 0 * max (∑ e, nrm x w e * u e) 0

/-- The kernel's inner step at one element: the accumulator plus the block's hidden units times their output weights. -/
theorem pay4_apply (x0 : Vec Ideal S1024x1024 .f32) (x1 : Vec Ideal S1x1024 .f32) (x2 x3 : Vec Ideal S1024x1024 .bf16)
    (xs : Vec Ideal S1024x1024 .f32) (r d : Fin 1024) :
    k0_pay4 x0 x1 x2 xs x3 (ix2 r d) = xs (ix2 r d)
      + ∑ k : Fin 1024, unit (fun e => x0 (ix2 r e)) (fun e => x1 (ix2 0 e)) (fun e => x2 (ix2 e k)) * x3 (ix2 k d) := by
  unfold_payloads
  pointwise
  rfl

/-- The kernel's last step at one element: the input plus the normalised accumulator row. -/
theorem pay1_apply (x0 : Vec Ideal S1024x1024 .f32) (x4 : Vec Ideal S1x1024 .f32) (xs : Vec Ideal S1024x1024 .f32) (r d : Fin 1024) :
    k0_pay1 (k0_pay3 x0) xs x4 (ix2 r d)
      = x0 (ix2 r d) + nrm (fun e => xs (ix2 r e)) (fun e => x4 (ix2 0 e)) d := by
  unfold_payloads
  pointwise
  rfl

/-- The zeroed accumulator. -/
theorem pay2_apply (r d : Fin 1024) : k0_pay2 (F := Ideal) (ix2 r d) = 0 := by
  unfold_payloads
  pointwise

end Cert.Proof.FfnStep

end
-- ==== Proof.FfnRun.lean ====
/- The MLP kernel's result array as one function of its arguments, over the extended reals: the blocks that the grid points
   read, the accumulator after each point as a sum over the hidden units met so far, and the array after the run. -/
module

public import proofs.«01_k».proof.Proof.FfnStep

@[expose] public section

set_option maxRecDepth 16384

noncomputable section

namespace Cert.Proof.FfnRun

open Cert.FfnIdeal Cert.FfnIdeal.Gen Cert.FfnIdeal.Value Cert.Proof.FfnStep Idealize.ShloMosaic Idealize.ShloMosaic.TcCoe Idealize.SL.Sem

variable (m : (ℓ : Loc nD τ sig) → Buf (Elt Ideal) ℓ) (ρ : Dev nD → PrngReg) (c : Dev nD)

/-- The five argument arrays. -/
abbrev argX : Vec Ideal S8x4096x1024 .f32 := m ((c : Thread nD τ).loc main_arg0)
/-- One of the arguments on a device. -/
abbrev argN1 : Vec Ideal S1024 .f32 := m ((c : Thread nD τ).loc main_arg1)
/-- One of the arguments on a device. -/
abbrev argW1 : Vec Ideal S1024x4096 .f32 := m ((c : Thread nD τ).loc main_arg2)
/-- One of the arguments on a device. -/
abbrev argW2 : Vec Ideal S4096x1024 .f32 := m ((c : Thread nD τ).loc main_arg3)
/-- One of the arguments on a device. -/
abbrev argN2 : Vec Ideal S1024 .f32 := m ((c : Thread nD τ).loc main_arg4)

/-- Row `R` of the input, the batch and the position counted together. -/
def row (R : Fin 32768) (d : Fin 1024) : EReal :=
  argX m c (ix3 (⟨R.val / 4096, by omega⟩ : Fin 8) (⟨R.val % 4096, by omega⟩ : Fin 4096) d)

/-- The block index of each input window at each grid point. -/
theorem idx_in : ∀ t : Fin cfg0.N, win0_0.index t (0 : Fin 2) = t.val / 4 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 4
    ∧ win0_3.index t (0 : Fin 2) = t.val % 4 ∧ win0_3.index t (1 : Fin 2) = 0
    ∧ win0_4.index t (0 : Fin 2) = 0 ∧ win0_4.index t (1 : Fin 2) = 0 :=
  (by decide +kernel : ∀ t : Fin grid0.N, _)

/-- A grid point's number is below the number of points. -/
theorem lt_N (t : Fin cfg0.N) : t.val < 128 := lt_of_lt_of_eq t.isLt N_0

/-- The block of rows at point `t`. -/
theorem iblk0_apply (t : Fin cfg0.N) (r d : Fin 1024) :
    iblk m c 0 t (ix2 r d) = row m c ⟨t.val / 4 * 1024 + r.val, by have := lt_N t; omega⟩ d := by
  obtain ⟨e0, e1, -⟩ := idx_in t
  have hemb : ((cfg0.win 0).blk t).view.emb (ix2 r d)
      = (ix2 (⟨t.val / 4 * 1024 + r.val, by have := lt_N t; omega⟩ : Fin 32768) d : S32768x1024.Idx) := by
    funext a; apply Fin.ext
    match a with
    | ⟨0, _⟩ => show win0_0.index t (0 : Fin 2) * 1024 + 1 * r.val = t.val / 4 * 1024 + r.val; omega
    | ⟨1, _⟩ => show win0_0.index t (1 : Fin 2) * 1024 + 1 * d.val = d.val; omega
  show V m c (Pipeline.arrRef spec0 0) (((cfg0.win 0).blk t).view.emb (ix2 r d)) = _
  rw [hemb]
  entry_read
  pointwise [row]

/-- The weights of the first normalisation. -/
theorem iblk1_apply (t : Fin cfg0.N) (d : Fin 1024) : iblk m c 1 t (ix2 0 d) = argN1 m c (ix1 d) := by
  obtain ⟨-, -, e0, e1, -⟩ := idx_in t
  have hemb : ((cfg0.win 1).blk t).view.emb (ix2 0 d) = (ix2 (0 : Fin 1) d : S1x1024.Idx) := by
    funext a; apply Fin.ext
    match a with
    | ⟨0, _⟩ => show win0_1.index t (0 : Fin 2) * 1 + 1 * 0 = 0; omega
    | ⟨1, _⟩ => show win0_1.index t (1 : Fin 2) * 1024 + 1 * d.val = d.val; omega
  show V m c (Pipeline.arrRef spec0 1) (((cfg0.win 1).blk t).view.emb (ix2 0 d)) = _
  rw [hemb]
  entry_read
  pointwise

/-- The input weights of the point's block of hidden units. -/
theorem iblk2_apply (t : Fin cfg0.N) (e k : Fin 1024) : iblk m c 2 t (ix2 e k) = argW1 m c (ix2 e ⟨t.val % 4 * 1024 + k.val, by omega⟩) := by
  obtain ⟨-, -, -, -, e0, e1, -⟩ := idx_in t
  have hemb : ((cfg0.win 2).blk t).view.emb (ix2 e k) = (ix2 e (⟨t.val % 4 * 1024 + k.val, by omega⟩ : Fin 4096) : S1024x4096.Idx) := by
    funext a; apply Fin.ext
    match a with
    | ⟨0, _⟩ => show win0_2.index t (0 : Fin 2) * 1024 + 1 * e.val = e.val; omega
    | ⟨1, _⟩ => show win0_2.index t (1 : Fin 2) * 1024 + 1 * k.val = t.val % 4 * 1024 + k.val; omega
  show V m c (Pipeline.arrRef spec0 2) (((cfg0.win 2).blk t).view.emb (ix2 e k)) = _
  rw [hemb]
  entry_read
  pointwise

/-- The output weights of the point's block of hidden units. -/
theorem iblk3_apply (t : Fin cfg0.N) (k d : Fin 1024) : iblk m c 3 t (ix2 k d) = argW2 m c (ix2 ⟨t.val % 4 * 1024 + k.val, by omega⟩ d) := by
  obtain ⟨-, -, -, -, -, -, e0, e1, -⟩ := idx_in t
  have hemb : ((cfg0.win 3).blk t).view.emb (ix2 k d) = (ix2 (⟨t.val % 4 * 1024 + k.val, by omega⟩ : Fin 4096) d : S4096x1024.Idx) := by
    funext a; apply Fin.ext
    match a with
    | ⟨0, _⟩ => show win0_3.index t (0 : Fin 2) * 1024 + 1 * k.val = t.val % 4 * 1024 + k.val; omega
    | ⟨1, _⟩ => show win0_3.index t (1 : Fin 2) * 1024 + 1 * d.val = d.val; omega
  show V m c (Pipeline.arrRef spec0 3) (((cfg0.win 3).blk t).view.emb (ix2 k d)) = _
  rw [hemb]
  entry_read
  pointwise

/-- The weights of the second normalisation. -/
theorem iblk4_apply (t : Fin cfg0.N) (d : Fin 1024) : iblk m c 4 t (ix2 0 d) = argN2 m c (ix1 d) := by
  obtain ⟨-, -, -, -, -, -, -, -, e0, e1⟩ := idx_in t
  have hemb : ((cfg0.win 4).blk t).view.emb (ix2 0 d) = (ix2 (0 : Fin 1) d : S1x1024.Idx) := by
    funext a; apply Fin.ext
    match a with
    | ⟨0, _⟩ => show win0_4.index t (0 : Fin 2) * 1 + 1 * 0 = 0; omega
    | ⟨1, _⟩ => show win0_4.index t (1 : Fin 2) * 1024 + 1 * d.val = d.val; omega
  show V m c (Pipeline.arrRef spec0 4) (((cfg0.win 4).blk t).view.emb (ix2 0 d)) = _
  rw [hemb]
  entry_read
  pointwise

/-- What hidden unit `k` adds to element `d` of row `R` of the MLP's result. -/
def term (R : Fin 32768) (d : Fin 1024) (k : Fin 4096) : EReal :=
  unit (row m c R) (fun e => argN1 m c (ix1 e)) (fun e => argW1 m c (ix2 e k)) * argW2 m c (ix2 k d)

/-- What block `j` of 1024 hidden units adds. -/
def blockTerm (R : Fin 32768) (d : Fin 1024) (j : ℕ) : EReal :=
  ∑ k : Fin 1024, if h : j < 4 then term m c R d ⟨j * 1024 + k.val, by omega⟩ else 0

/-- The inner step at a grid point: the accumulator plus what the point's block of hidden units adds. -/
theorem step_apply (t : Fin cfg0.N) (xs : Vec Ideal S1024x1024 .f32) (r d : Fin 1024) :
    k0_pay4 (iblk m c 0 t) (iblk m c 1 t) (iblk m c 2 t) xs (iblk m c 3 t) (ix2 r d)
      = xs (ix2 r d) + blockTerm m c ⟨t.val / 4 * 1024 + r.val, by have := lt_N t; omega⟩ d (t.val % 4) := by
  rw [pay4_apply]
  congr 1
  unfold blockTerm
  refine Finset.sum_congr rfl fun k _ => ?_
  rw [dif_pos (Nat.mod_lt _ (by decide)), iblk3_apply]
  unfold term
  simp only [iblk0_apply, iblk1_apply, iblk2_apply]

/-- The accumulator after hidden block `j` of row block `b`: the sum of the blocks up to `j`. -/
theorem acc_apply (b : ℕ) (hb : b < 32) (r d : Fin 1024) : ∀ (j : ℕ) (hj : j < 4) (h : 4 * b + j < cfg0.N),
    (outsAt0 m c (4 * b + j) h).2 (ix2 r d) = ∑ s ∈ Finset.range (j + 1), blockTerm m c ⟨b * 1024 + r.val, by omega⟩ d s
  | 0, hj, h => by
    have h0 : (⟨4 * b + 0, h⟩ : Fin cfg0.N).val % 4 = 0 := by show (4 * b + 0) % 4 = 0; omega
    have h3 : ¬(⟨4 * b + 0, h⟩ : Fin cfg0.N).val % 4 = 3 := by omega
    rw [show outsAt0 m c (4 * b + 0) h = _ from outsAt0_A m c ⟨4 * b + 0, h⟩ h0 h3]
    dsimp only
    rw [sout_A, step_apply, pay2_apply, zero_add]
    simp only [Finset.sum_range_succ, Finset.sum_range_zero, zero_add]
    congr 1
    · apply Fin.ext; show (4 * b + 0) / 4 * 1024 + r.val = b * 1024 + r.val; omega
  | j + 1, hj, h => by
    have h0 : ¬(⟨4 * b + (j + 1), h⟩ : Fin cfg0.N).val % 4 = 0 := by show ¬(4 * b + (j + 1)) % 4 = 0; omega
    have ih := acc_apply b hb r d j (by omega) (by omega)
    have hR : (⟨(4 * b + (j + 1)) / 4 * 1024 + r.val, by omega⟩ : Fin 32768) = ⟨b * 1024 + r.val, by omega⟩ := by
      apply Fin.ext; show (4 * b + (j + 1)) / 4 * 1024 + r.val = b * 1024 + r.val; omega
    have hj' : (4 * b + (j + 1)) % 4 = j + 1 := by omega
    rw [Finset.sum_range_succ, ← ih]
    by_cases h3 : (⟨4 * b + (j + 1), h⟩ : Fin cfg0.N).val % 4 = 3
    · rw [show outsAt0 m c (4 * b + (j + 1)) h = _ from outsAt0_C m c ⟨4 * b + (j + 1), h⟩ h0 h3]
      dsimp only
      rw [sout_C, step_apply]
      simp only [hR, hj']
      rfl
    · rw [show outsAt0 m c (4 * b + (j + 1)) h = _ from outsAt0_B m c ⟨4 * b + (j + 1), h⟩ h0 h3]
      dsimp only
      rw [sout_B, step_apply]
      simp only [hR, hj']
      rfl

/-- Row `R` of the MLP before its second normalisation. -/
def mlp (R : Fin 32768) (d : Fin 1024) : EReal := ∑ k : Fin 4096, term m c R d k

/-- The four blocks of hidden units together are all of them. -/
theorem sum_blocks (R : Fin 32768) (d : Fin 1024) : ∑ s ∈ Finset.range 4, blockTerm m c R d s = mlp m c R d := by
  rw [Finset.sum_range]
  unfold blockTerm mlp
  simp only [Fin.is_lt, dite_true]
  rw [← Fintype.sum_prod_type' (f := fun (s : Fin 4) (k : Fin 1024) => term m c R d ⟨s.val * 1024 + k.val, by omega⟩)]
  refine (Fintype.sum_equiv finProdFinEquiv _ _ fun x => ?_)
  congr 1
  apply Fin.ext
  show x.1.val * 1024 + x.2.val = x.2.val + 1024 * x.1.val
  omega

/-- What the array holds after the run. -/
def result (i : S32768x1024.Idx) : EReal :=
  row m c (i 0) (i 1) + nrm (fun e => mlp m c (i 0) e) (fun e => argN2 m c (ix1 e)) (i 1)

/-- The array after all points is the result. -/
theorem G5_eq : G5 m c = result m c := by
  funext i
  obtain ⟨R, d, rfl⟩ : ∃ (R : Fin 32768) (d : Fin 1024), i = ix2 R d := ⟨i 0, i 1, eq_ix2 i⟩
  have hp : pt5Of (ix2 R d) = 4 * (R.val / 1024) + 3 := by
    show 4 * (1 * (R.val / 1024 - 0) + 1 * (d.val / 1024 - 0)) + 3 = _
    omega
  have hN : cfg0.N = 128 := N_0
  have hlt : 4 * (R.val / 1024) + 3 < cfg0.N := by omega
  have hl : loc5Of (ix2 R d) = ix2 (⟨R.val % 1024, by omega⟩ : Fin 1024) d := by
    funext a; apply Fin.ext
    match a with
    | ⟨0, _⟩ => rfl
    | ⟨1, _⟩ => show d.val % 1024 = d.val; omega
  unfold G5
  rw [dif_pos (by rw [hp]; exact hlt), hl, fold0_congr m c _ _ (4 * (R.val / 1024) + 3) (by omega) hp, ← outsAt0_sweep m c _ hlt]
  have h0 : ¬(⟨4 * (R.val / 1024) + 3, hlt⟩ : Fin cfg0.N).val % 4 = 0 := by show ¬(4 * (R.val / 1024) + 3) % 4 = 0; omega
  have h3 : (⟨4 * (R.val / 1024) + 3, hlt⟩ : Fin cfg0.N).val % 4 = 3 := by show (4 * (R.val / 1024) + 3) % 4 = 3; omega
  have hacc := fun e => acc_apply m c (R.val / 1024) (by omega) ⟨R.val % 1024, by omega⟩ e 3 (by omega) hlt
  rw [show outsAt0 m c (4 * (R.val / 1024) + 3) hlt = _ from outsAt0_C m c ⟨4 * (R.val / 1024) + 3, hlt⟩ h0 h3] at hacc ⊢
  dsimp only at hacc ⊢
  simp only [sout_C] at hacc
  rw [out_C, pay1_apply]
  simp only [hacc, iblk0_apply, iblk4_apply]
  have hR : (⟨(4 * (R.val / 1024) + 3) / 4 * 1024 + R.val % 1024, by omega⟩ : Fin 32768) = R := by
    apply Fin.ext; show (4 * (R.val / 1024) + 3) / 4 * 1024 + R.val % 1024 = R.val; omega
  have hR' : (⟨R.val / 1024 * 1024 + R.val % 1024, by omega⟩ : Fin 32768) = R := by
    apply Fin.ext; show R.val / 1024 * 1024 + R.val % 1024 = R.val; omega
  simp only [hR, hR', show (3 : ℕ) + 1 = 4 from rfl, sum_blocks]
  rfl

end Cert.Proof.FfnRun

end
-- ==== Proof.FfnRef.lean ====
/- The MLP reference's result array as the same function of its arguments as the kernel's. -/
module

public import proofs.«01_k».proof.Proof.FfnStep
public import proofs.«01_k».proof.Proof.Gen.RefFfnIdeal.Read

@[expose] public section

set_option maxRecDepth 16384

noncomputable section

namespace Cert.Proof.FfnRef

open Cert.RefFfnIdeal Cert.RefFfnIdeal.Read Cert.Proof.FfnStep Idealize.ShloMosaic

variable (x0 : (⟨S8x4096x1024, .f32⟩ : BufTy).Contents (Elt Ideal)) (x1 : (⟨S1024, .f32⟩ : BufTy).Contents (Elt Ideal))
  (x2 : (⟨S1024x4096, .f32⟩ : BufTy).Contents (Elt Ideal)) (x3 : (⟨S4096x1024, .f32⟩ : BufTy).Contents (Elt Ideal))
  (x4 : (⟨S1024, .f32⟩ : BufTy).Contents (Elt Ideal))

/-- The first normalisation. -/
theorem v12 (b : Fin 8) (s : Fin 4096) (d : Fin 1024) :
    val_main_v12 (F := Ideal) x0 x1 (ix3 b s d) = nrm (fun e => x0 (ix3 b s e)) (fun e => x1 (ix1 e)) d := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The hidden units. -/
theorem v15 (b : Fin 8) (s : Fin 4096) (k : Fin 4096) :
    val_main_v15 (F := Ideal) x0 x1 x2 (ix3 b s k)
      = unit (fun e => x0 (ix3 b s e)) (fun e => x1 (ix1 e)) (fun e => x2 (ix2 e k)) := by
  pointwise [val_main_v15, val_main_v14, val_main_v13, val_main_call0_v0, val_main_call0_cst]
  simp only [v12]
  rfl

/-- The product with the output weights. -/
theorem v16 (b : Fin 8) (s : Fin 4096) (d : Fin 1024) :
    val_main_v16 (F := Ideal) x0 x1 x2 x3 (ix3 b s d)
      = ∑ k : Fin 4096, unit (fun e => x0 (ix3 b s e)) (fun e => x1 (ix1 e)) (fun e => x2 (ix2 e k)) * x3 (ix2 k d) := by
  pointwise [val_main_v16]
  simp only [v15]

/-- The result at row `R`, element `d`. -/
theorem v31 (R : Fin 32768) (d : Fin 1024) :
    val_main_v31 (F := Ideal) x0 x1 x2 x3 x4 (ix2 R d)
      = x0 (ix3 (⟨R.val / 4096, by omega⟩ : Fin 8) (⟨R.val % 4096, by omega⟩ : Fin 4096) d)
        + nrm (fun e => ∑ k : Fin 4096,
            unit (fun e => x0 (ix3 (⟨R.val / 4096, by omega⟩ : Fin 8) (⟨R.val % 4096, by omega⟩ : Fin 4096) e)) (fun e => x1 (ix1 e))
              (fun e => x2 (ix2 e k)) * x3 (ix2 k e)) (fun e => x4 (ix1 e)) d := by
  pointwise [val_main_v31, val_main_v30, val_main_v29, val_main_v28, val_main_v27, val_main_v26, val_main_v25, val_main_v24, val_main_v23,
    val_main_v22, val_main_v21, val_main_v20, val_main_v19, val_main_v18, val_main_v17, val_main_cst_2, val_main_cst_3, val_main_cst_4]
  simp only [v16]
  rfl

end Cert.Proof.FfnRef

end
-- ==== Proof.FfnClaim.lean ====
/- The claims about the MLP kernel: that kernel and reference leave the same array. -/
module

public import proofs.«01_k».proof.Defs
public import proofs.«01_k».proof.Proof.FfnRun
public import proofs.«01_k».proof.Proof.FfnRef
public import proofs.«01_k».proof.Proof.Gen.Ffn.Frame
public import Idealize.ShloMosaic.Lib.Quiescent

@[expose] public section

noncomputable section

namespace Cert.Proof.FfnClaim

open Idealize.ShloMosaic Idealize.ShloMosaic.TcCoe Idealize.SL.Sem

/-- The reference runs, keeps its arguments and ends quiescent. -/
theorem frame_reference : Cert.quiescent_RefFfnIdeal := fun m ρ _ =>
  (θ_run Cert.RefFfnIdeal.defs _ _).mono (fun r h => ⟨fun c => (h c).2, sem_eq_zero_of_no_sems (by decide) r.2⟩)
    (Cert.RefFfnIdeal.Value.run (F := Ideal) m ρ)

/-- From arguments that agree, kernel and reference end with the same result array: `FfnRun.result` of the arguments. -/
theorem algebraic : Cert.algebraic_FfnIdeal_RefFfnIdeal := by
  intro m ρ m' ρ' _ hagree
  refine ⟨fun c => Cert.Proof.FfnRun.result m c, (θ_run Cert.FfnIdeal.defs _ _).mono (fun r h c =>
    ⟨(h c).1.trans (Cert.Proof.FfnRun.G5_eq m c), (h c).2⟩) (Cert.FfnIdeal.Value.run (F := Ideal) m ρ), ?_⟩
  refine (θ_run Cert.RefFfnIdeal.defs _ _).mono (fun _ h c => ⟨(h c).1.trans ?_, (h c).2⟩) (Cert.RefFfnIdeal.Value.run (F := Ideal) m' ρ')
  obtain ⟨h0, h1, h2, h3, h4⟩ := hagree c
  rw [Cert.RefFfnIdeal.Read.val_main_v31_eq, h0, h1, h2, h3, h4]
  funext i
  obtain ⟨R, d, rfl⟩ : ∃ (R : Fin 32768) (d : Fin 1024), i = ix2 R d := ⟨i 0, i 1, eq_ix2 i⟩
  rw [Cert.Proof.FfnRef.v31]
  rfl

end Cert.Proof.FfnClaim

end
-- ==== Proof.SbMath.lean ====
/- Stick-breaking attention weights as formulas over the extended reals, and the sums the kernel takes block by block. -/
module

public import Idealize.ShloMosaic.Lib.Pointwise
public import Idealize.ShloMosaic.Lib.Tactic

@[expose] public section

noncomputable section

namespace Cert.Proof.SbMath

open Idealize.ShloMosaic

/-- `log (1 - sigmoid z)`: minus the softplus of `z`, in the overflow-free form. -/
def logOneMinus (z : EReal) : EReal := 0 - (max z 0 + Ideal.log (1 + Ideal.exp (0 - max z (-z))))

/-- At a number it is a number. -/
theorem logOneMinus_coe (x : ℝ) :
    logOneMinus (x : EReal) = ((-(max x 0 + Real.log (1 + Real.exp (-|x|))) : ℝ) : EReal) := by
  have h1 : max (x : EReal) (-(x : EReal)) = ((|x| : ℝ) : EReal) := by
    rw [← EReal.coe_neg, ← EReal.coe_strictMono.monotone.map_max]; rfl
  have h2 : (0 : EReal) - ((|x| : ℝ) : EReal) = ((-|x| : ℝ) : EReal) := by
    rw [← EReal.coe_zero, ← EReal.coe_sub, zero_sub]
  have h3 : Ideal.exp ((-|x| : ℝ) : EReal) = ((Real.exp (-|x|) : ℝ) : EReal) := rfl
  have h4 : (1 : EReal) + ((Real.exp (-|x|) : ℝ) : EReal) = ((1 + Real.exp (-|x|) : ℝ) : EReal) := by
    rw [EReal.coe_add, EReal.coe_one]
  have h5 : Ideal.log ((1 + Real.exp (-|x|) : ℝ) : EReal) = ((Real.log (1 + Real.exp (-|x|)) : ℝ) : EReal) :=
    if_neg (not_le.2 (by positivity))
  have h6 : max (x : EReal) 0 = ((max x 0 : ℝ) : EReal) := by
    rw [← EReal.coe_zero, ← EReal.coe_strictMono.monotone.map_max]
  unfold logOneMinus
  rw [h1, h2, h3, h4, h5, h6, ← EReal.coe_add, ← EReal.coe_zero, ← EReal.coe_sub, zero_sub]

/-- `z + log (1 - sigmoid z)` is `log (sigmoid z)`, that is `log (1 - sigmoid (-z))`, at a number `z`. -/
theorem add_logOneMinus (x : ℝ) : (x : EReal) + logOneMinus x = logOneMinus (-(x : EReal)) := by
  rw [← EReal.coe_neg, logOneMinus_coe, logOneMinus_coe, ← EReal.coe_add, abs_neg]
  congr 1
  rcases le_total 0 x with h | h
  · rw [max_eq_left h, max_eq_right (neg_nonpos.2 h)]; ring
  · rw [max_eq_right h, max_eq_left (neg_nonneg.2 h)]; ring

/-- The log weight left over at key `s` for the query at time `T`: zero from the query's own time on. -/
def lm (z : ℕ → EReal) (T s : ℕ) : EReal := if s < T then logOneMinus (z s) else 0

/-- The attention weight of key `s` for the query at time `T`, the later keys counted up to `n`. -/
def att (z : ℕ → EReal) (T n s : ℕ) : EReal :=
  if s < T then Ideal.exp ((z s + lm z T s) + ∑ j ∈ Finset.Ico (s + 1) n, lm z T j) else 0

/-- The masked logarithm of a score that is a number is a number. -/
theorem lm_coe (z : ℕ → EReal) (hz : ∀ s, ∃ x : ℝ, z s = x) (T s : ℕ) : ∃ y : ℝ, lm z T s = y := by
  obtain ⟨x, hx⟩ := hz s
  unfold lm
  split_ifs
  · exact ⟨_, by rw [hx, logOneMinus_coe]⟩
  · exact ⟨0, rfl⟩

/-- Keys from the query's time on add nothing. -/
theorem sum_lm_extend (z : ℕ → EReal) (T a n n' : ℕ) (h : T ≤ n) (h' : n ≤ n') :
    ∑ j ∈ Finset.Ico a n, lm z T j = ∑ j ∈ Finset.Ico a n', lm z T j := by
  refine Finset.sum_subset (Finset.Ico_subset_Ico_right h') fun j hj hn => if_neg ?_
  rw [Finset.mem_Ico] at hj hn
  omega

/-- The attention weights do not depend on how far past the query the later keys are counted. -/
theorem att_extend (z : ℕ → EReal) (T n n' s : ℕ) (h : T ≤ n) (h' : n ≤ n') : att z T n s = att z T n' s := by
  unfold att
  rw [sum_lm_extend z T _ n n' h h']

/-- A weighted sum over the keys stops at the query's time. -/
theorem sum_att_extend (z v : ℕ → EReal) (T n n' : ℕ) (h : T ≤ n) (h' : n ≤ n') :
    ∑ s ∈ Finset.Ico 0 n, att z T n s * v s = ∑ s ∈ Finset.Ico 0 n', att z T n' s * v s := by
  rw [Finset.sum_congr rfl fun s _ => by rw [att_extend z T n n' s h h']]
  refine Finset.sum_subset (Finset.Ico_subset_Ico_right h') fun j hj hn => ?_
  rw [Finset.mem_Ico] at hj hn
  unfold att
  rw [if_neg (by omega), zero_mul]

/-- A block's terms, read by lane, are the terms of an interval. -/
theorem sum_block (g : ℕ → EReal) (b : ℕ) : ∑ u : Fin 256, g (b + u.val) = ∑ s ∈ Finset.Ico b (b + 256), g s := by
  rw [Finset.sum_Ico_eq_sum_range, Nat.add_sub_cancel_left, Finset.sum_range]

/-- The lanes above lane `u` of a block are the keys after it. -/
theorem sum_above (g : ℕ → EReal) (b : ℕ) (u : Fin 256) :
    ∑ j : Fin 256, (if u.val < j.val then g (b + j.val) else 0) = ∑ s ∈ Finset.Ico (b + u.val + 1) (b + 256), g s := by
  rw [← Finset.sum_filter]
  refine Finset.sum_bij' (fun (j : Fin 256) _ => b + j.val) (fun s hs => ⟨s - b, ?_⟩) ?_ ?_ ?_ ?_ ?_
  · rw [Finset.mem_Ico] at hs; omega
  · intro j hj; rw [Finset.mem_filter] at hj; rw [Finset.mem_Ico]; omega
  · intro s hs; rw [Finset.mem_Ico] at hs; simp only [Finset.mem_filter, Finset.mem_univ, true_and]; omega
  · intro j _; exact Fin.ext (Nat.add_sub_cancel_left b j.val)
  · intro s hs; rw [Finset.mem_Ico] at hs; show b + (s - b) = s; omega
  · intro j _; rfl

/-- Splitting a number into three parts and adding up the products of the parts with a 0/1 lane gives the selected numbers. -/
theorem sum_split (x : Fin 256 → EReal) (hx : ∀ j, ∃ y : ℝ, x j = y) (p : Fin 256 → Prop) [DecidablePred p] :
    ∑ j, x j * (if p j then 1 else 0) + ∑ j, (x j - x j) * (if p j then 1 else 0)
      + ∑ j, (x j - x j - (x j - x j)) * (if p j then 1 else 0) = ∑ j, if p j then x j else 0 := by
  rw [← Finset.sum_add_distrib, ← Finset.sum_add_distrib]
  refine Finset.sum_congr rfl fun j _ => ?_
  obtain ⟨y, hy⟩ := hx j
  have h0 : (y : EReal) - (y : EReal) = 0 := by rw [← EReal.coe_sub, sub_self, EReal.coe_zero]
  rw [hy, h0]
  split_ifs <;> simp

/-- A running total that counts from key `s` on, less the key's own term, is the total of the later keys. -/
theorem sum_sub_self (g : ℕ → EReal) (hg : ∀ s, ∃ y : ℝ, g s = y) (s n : ℕ) (h : s < n) :
    ∑ j ∈ Finset.Ico s n, g j - g s = ∑ j ∈ Finset.Ico (s + 1) n, g j := by
  choose y hy using hg
  rw [Finset.sum_eq_sum_Ico_succ_bot h, hy s, add_comm]
  exact EReal.add_sub_cancel_right

end Cert.Proof.SbMath

end
-- ==== Proof.SbStep.lean ====
/- One grid point of the stick-breaking attention kernel: what its two loops over key blocks yield, as formulas. -/
module

public import proofs.«01_k».proof.Proof.Gen.KernelIdeal.Value
public import Idealize.ShloMosaic.Lib.Pointwise
public import Idealize.ShloMosaic.Lib.Tactic
public import Idealize.ShloMosaic.Lib.Claim
public import proofs.«01_k».proof.Proof.SbMath

@[expose] public section

set_option maxRecDepth 16384

noncomputable section

namespace Cert.Proof.SbStep

open Cert.KernelIdeal Cert.KernelIdeal.Gen Idealize.ShloMosaic Idealize.ShloMosaic.TcCoe Idealize.SL.Sem Cert.Proof.SbMath

/-- The offsets of a whole three-axis array are zero on every axis. -/
theorem hz3 : (![0, 0, 0] : Fin 3 → Nat) = fun _ => 0 := funext fun a => by fin_cases a <;> rfl

/-- The rows of a key or value block: 256 rows of the array from row `n` on. -/
def blk {F : FTy → Type} [FloatOps F] (x : Vec F S1x4096x128 .bf16) (n : ℕ) (hn : n + 256 ≤ 4096) : Vec F S1x256x128 .bf16 :=
  fun i => x (ix3 0 ⟨n + (i 1).val, by have h : (i 1).val < 256 := (i 1).isLt; omega⟩ (i 2))

/-- An entry of a block of 256 rows is the array's entry that many rows on. -/
theorem blk_apply {F : FTy → Type} [FloatOps F] (x : Vec F S1x4096x128 .bf16) (n : ℕ) (hn : n + 256 ≤ 4096) (o : Fin 1) (u : Fin 256) (d : Fin 128) :
    blk x n hn (ix3 o u d) = x (ix3 0 ⟨n + u.val, by omega⟩ d) := rfl

/-- The first key row of trip `k` at query block `w`: the blocks are walked from the query's own downwards. -/
theorem row_toNat : ∀ w k : Fin 16, k ≤ w →
    BitVec.toNat (Scalar.indexCast (Scalar.muli (Scalar.subi (BitVec.ofNat 32 w.val) (Scf.iv 0#32 1#32 k.val)) 256#32)) = (w.val - k.val) * 256 := by
  decide +kernel

/-- The loops over key blocks run once per block up to the query's own. -/
theorem trips_eq : ∀ w : Fin 16, Scf.trips (0#32) (Scalar.addi (0#32)
    (Scalar.muli (Scalar.divsi (Scalar.subi (Scalar.addi (BitVec.ofNat 32 w.val) 1#32) 0#32) 1#32) 1#32)) 1#32 = w.val + 1 := by
  decide +kernel

/-- The remainder loops are empty. -/
theorem rest_eq : ∀ w : Fin 16, Scf.trips (Scalar.addi (0#32)
    (Scalar.muli (Scalar.divsi (Scalar.subi (Scalar.addi (BitVec.ofNat 32 w.val) 1#32) 0#32) 1#32) 1#32))
    (Scalar.addi (0#32) (Scalar.subi (Scalar.addi (BitVec.ofNat 32 w.val) 1#32) 0#32)) 1#32 = 0 := by
  decide +kernel

/-- Reading 256 rows of a key or value array from a row that is `n` as a number. -/
theorem ld_rows {F : FTy → Type} [FloatOps F] (x : Vec F S1x4096x128 .bf16) (off : Fin 3 → ℕ) (n : ℕ) (hn : n + 256 ≤ 4096)
    (h0 : off 0 = 0) (h1 : off 1 = n) (h2 : off 2 = 0) (inb) :
    View.ld x (Rect.unit (s := S1x4096x128) off S1x256x128.size inb) = blk x n hn := by
  subst h1
  funext i
  show x ((Rect.unit (s := S1x4096x128) off S1x256x128.size inb).idx i) = _
  unfold blk
  congr 1
  funext a
  apply Fin.ext
  match a with
  | ⟨0, _⟩ => show off 0 + 1 * (i 0).val = 0; have h : (i 0).val < 1 := (i 0).isLt; omega
  | ⟨1, _⟩ => show off 1 + 1 * (i 1).val = off 1 + (i 1).val; omega
  | ⟨2, _⟩ => show off 2 + 1 * (i 2).val = (i 2).val; omega

section Pieces

variable {F : FTy → Type} [FloatOps F]
variable (𝒱 : Variants) (c : Dev nD) (bd : Option 𝒱.V) (i : grid0.Coords)
  (a3 : Memref sig .tc .vmem S1x256x128 .bf16) (h3 : a3.IsWhole) (a4 : Memref sig .tc .vmem S1x4096x128 .bf16) (h4 : a4.IsWhole)
  (a5 : Memref sig .tc .vmem S1x4096x128 .bf16) (h5 : a5.IsWhole) (a6 : Memref sig .tc .vmem S1x256x128 .bf16) (h6 : a6.IsWhole)
  (v0 : Vec F S1x256x128 .bf16) (x1 x2 : Vec F S1x4096x128 .bf16)

/-- The row number of each element of a score block. -/
abbrev rowI : IVec S256x256 32 := iota .tc S256x256 32 [0] iota_S256x256_d0_w32
/-- The lane number of each element of a score block. -/
abbrev colI : IVec S256x256 32 := iota .tc S256x256 32 [1] iota_S256x256_d1_w32
/-- The query block's number as a word. -/
abbrev qw (i : grid0.Coords) : BitVec 32 := BitVec.ofNat 32 (i 2).val

/-- One trip over a key block, for the queries `q` of one head: the running log weight and the accumulated output. -/
def step (q : FVec F S256x128 .bf16) (kb vb : Vec F S1x256x128 .bf16) (k : Fin (k0_t1_loop i).trips)
    (acc : FVec F S256x1 .f32 × FVec F S256x128 .f32) : FVec F S256x1 .f32 × FVec F S256x128 .f32 :=
  (k0_pay30 acc.1 (k0_pay5 i (qw i) rowI colI q 0#32 1#32 k kb),
    k0_pay29 acc.1 acc.2 (k0_pay2 vb) (k0_pay3 q kb) (k0_pay4 i (qw i) rowI colI 0#32 1#32 k)
      (k0_pay5 i (qw i) rowI colI q 0#32 1#32 k kb) (k0_pay6 i (qw i) rowI colI k0_pay25 q 0#32 1#32 k kb))

/-- Both loops make one trip more than the query block's number. -/
theorem trips1 : (k0_t1_loop i).trips = (i 2).val + 1 := trips_eq (i 2)

/-- The row trip `k` starts at lies in the array. -/
theorem row_le {k : ℕ} : ((i 2).val - k) * 256 + 256 ≤ 4096 := by
  have h : (i 2).val < 16 := (i 2).isLt
  omega

/-- A trip of the first half's loop is `step` on the blocks of keys and values it reads. -/
theorem trip1 (k : Fin (k0_t1_loop i).trips) (acc : FVec F S256x1 .f32 × FVec F S256x128 .f32) :
    tripR_k0_t1 𝒱 c bd i a3 h3 a4 h4 a5 h5 a6 h6 (qw i) v0 rowI colI (h4.unread x1) (h5.unread x2) k acc
      = step i (k0_pay26 v0) (blk x1 (((i 2).val - k.val) * 256) (row_le i)) (blk x2 (((i 2).val - k.val) * 256) (row_le i)) k acc := by
  have hk : k.val < (i 2).val + 1 := lt_of_lt_of_eq k.isLt (trips1 i)
  have h16 : (i 2).val < 16 := (i 2).isLt
  have hrow := row_toNat (i 2) ⟨k.val, by omega⟩ (by show k.val ≤ (i 2).val; omega)
  unfold tripR_k0_t1 trip_k0_t1
  dsimp only
  sl_unfold_words
  simp only [View.readAt_eq_ld, h4.read_unread, h5.read_unread]
  rw [step, ← ld_rows x1 (k0_off1 i k) _ (row_le i) rfl hrow rfl (k0_off1_inb i k),
    ← ld_rows x2 (k0_off1 i k) _ (row_le i) rfl hrow rfl (k0_off1_inb i k)]
  rfl

/-- A trip of the second half's loop is the same `step`, with the other half of the queries. -/
theorem trip3 (k : Fin (k0_t3_loop i).trips) (acc : FVec F S256x1 .f32 × FVec F S256x128 .f32) :
    tripR_k0_t3 𝒱 c bd i a3 h3 a4 h4 a5 h5 a6 h6 (qw i) v0 rowI colI (h4.unread x1) (h5.unread x2) k acc
      = step i (k0_pay33 v0) (blk x1 (((i 2).val - k.val) * 256) (row_le i)) (blk x2 (((i 2).val - k.val) * 256) (row_le i)) k acc := by
  have hk : k.val < (i 2).val + 1 := lt_of_lt_of_eq k.isLt (trips1 i)
  have h16 : (i 2).val < 16 := (i 2).isLt
  have hrow := row_toNat (i 2) ⟨k.val, by omega⟩ (by show k.val ≤ (i 2).val; omega)
  unfold tripR_k0_t3 trip_k0_t3
  dsimp only
  sl_unfold_words
  simp only [View.readAt_eq_ld, h4.read_unread, h5.read_unread]
  rw [step, ← ld_rows x1 (k0_off3 i k) _ (row_le i) rfl hrow rfl (k0_off3_inb i k),
    ← ld_rows x2 (k0_off3 i k) _ (row_le i) rfl hrow rfl (k0_off3_inb i k)]
  rfl

/-- The running log weight and output of one head after `n` key blocks. -/
def walk (q : FVec F S256x128 .bf16) : ℕ → FVec F S256x1 .f32 × FVec F S256x128 .f32
  | 0 => (k0_pay27, k0_pay28)
  | n + 1 => if h : n < (k0_t1_loop i).trips then
      step i q (blk x1 (((i 2).val - n) * 256) (row_le i)) (blk x2 (((i 2).val - n) * 256) (row_le i)) ⟨n, h⟩ (walk q n)
    else walk q n

/-- The first loop's running pair after `n` trips is `walk`. -/
theorem st1 (n : ℕ) (hn : n ≤ (k0_t1_loop i).trips) :
    st_k0_t1 𝒱 c bd i a3 h3 a4 h4 a5 h5 a6 h6 (qw i) v0 rowI colI (h4.unread x1) (h5.unread x2) (k0_pay27, k0_pay28) n
      = walk i x1 x2 (k0_pay26 v0) n := by
  induction n with
  | zero => rfl
  | succ n ih =>
    have h : n < (k0_t1_loop i).trips := hn
    rw [walk, dif_pos h, ← ih (le_of_lt h)]
    exact (st_k0_t1_succ 𝒱 c bd i a3 h3 a4 h4 a5 h5 a6 h6 (qw i) v0 rowI colI (h4.unread x1) (h5.unread x2) (k0_pay27, k0_pay28) ⟨n, h⟩).trans
      (trip1 𝒱 c bd i a3 h3 a4 h4 a5 h5 a6 h6 v0 x1 x2 ⟨n, h⟩ _)

/-- The second loop's running pair after `n` trips is `walk`. -/
theorem st3 (n : ℕ) (hn : n ≤ (k0_t1_loop i).trips) :
    st_k0_t3 𝒱 c bd i a3 h3 a4 h4 a5 h5 a6 h6 (qw i) v0 rowI colI (h4.unread x1) (h5.unread x2) (k0_pay34, k0_pay35) n
      = walk i x1 x2 (k0_pay33 v0) n := by
  induction n with
  | zero => rfl
  | succ n ih =>
    have h : n < (k0_t1_loop i).trips := hn
    rw [walk, dif_pos h, ← ih (le_of_lt h)]
    exact (st_k0_t3_succ 𝒱 c bd i a3 h3 a4 h4 a5 h5 a6 h6 (qw i) v0 rowI colI (h4.unread x1) (h5.unread x2) (k0_pay34, k0_pay35) ⟨n, h⟩).trans
      (trip3 𝒱 c bd i a3 h3 a4 h4 a5 h5 a6 h6 v0 x1 x2 ⟨n, h⟩ _)

/-- What the grid point leaves in its output block: the two heads' outputs, by lane. -/
theorem out_A (x0 : Vec F S1x256x128 .bf16) :
    out0_A_3 c i a3 h3 a4 h4 a5 h5 a6 h6 x0 x1 x2
      = k0_pay1 (k0_pay40 (walk i x1 x2 (k0_pay26 x0) ((i 2).val + 1)).2 (walk i x1 x2 (k0_pay33 x0) ((i 2).val + 1)).2) := by
  unfold out0_A_3
  rw [View.read_writes_eq_canon _ _ _ (cover0_A_3 c i a3 h3 a4 h4 a5 h5 a6 h6 x0 x1 x2)]
  unfold kernelRun0_A
  dsimp only
  sl_unfold_words
  rw [View.canon_unit_zero (S := S1x256x128) hz3]
  simp only [View.readAt_eq_ld, h3.read_unread, View.ld_unit_zero (S := S1x256x128) hz3]
  rw [rest_eq (i 2), trips_eq (i 2), st_k0_t2_zero, st_k0_t4_zero]
  rw [st1 Variants.none c none i a3 h3 a4 h4 a5 h5 a6 h6 x0 x1 x2 _ (le_of_eq (trips1 i).symm),
    st3 Variants.none c none i a3 h3 a4 h4 a5 h5 a6 h6 x0 x1 x2 _ (le_of_eq (trips1 i).symm)]

end Pieces

section AtIndex

variable (i : grid0.Coords)

/-- The scores of a block: the products of queries and keys, times an eighth. -/
theorem pay3_apply (q : FVec Ideal S256x128 .bf16) (b : Vec Ideal S1x256x128 .bf16) (r u : Fin 256) :
    k0_pay3 q b (ix2 r u) = (∑ x, q (ix2 r x) * b (ix3 0 u x)) * Ideal.ofBits FTy.f32 0x3E000000#32 := by
  unfold k0_pay3
  pointwise

/-- The mask's word at trip `k`: lane `u` of the block is before row `r` of the queries. -/
theorem mask_word : ∀ k : Fin 16, ∀ w : Fin 16,
    Scalar.muli (Scalar.subi (BitVec.ofNat 32 w.val) (Scalar.subi (BitVec.ofNat 32 w.val) (Scf.iv 0#32 1#32 k.val))) 256#32 = BitVec.ofNat 32 (k.val * 256) := by
  decide +kernel

/-- A number below two to the 31 as a signed word is itself. -/
theorem toInt_small (n : ℕ) (h : n < 2 ^ 31) : (BitVec.ofNat 32 n).toInt = (n : Int) := by
  rw [BitVec.toInt_eq_toNat_cond, BitVec.toNat_ofNat, Nat.mod_eq_of_lt (by omega), if_pos (by omega)]

/-- The mask of a block: the keys strictly before the query. -/
theorem pay4_apply (k : Fin (k0_t1_loop i).trips) (r u : Fin 256) :
    k0_pay4 i (qw i) rowI colI 0#32 1#32 k (ix2 r u) = BitVec.ofBool (decide (u.val < r.val + k.val * 256)) := by
  have hk : k.val < (i 2).val + 1 := lt_of_lt_of_eq k.isLt (trips1 i)
  have h16 : (i 2).val < 16 := (i 2).isLt
  unfold k0_pay4
  pointwise
  rw [show qw i = BitVec.ofNat 32 (i 2).val from rfl, mask_word ⟨k.val, by omega⟩ (i 2), WordCmp.cmpi_slt_eq]
  congr 1
  apply decide_eq_decide.2
  have h1 : (IntOp.subi (BitVec.ofNat 32 u.val) (BitVec.ofNat 32 r.val)).toInt = (u.val : Int) - r.val := by
    show (BitVec.ofNat 32 u.val - BitVec.ofNat 32 r.val).toInt = _
    rw [BitVec.toInt_sub, toInt_small _ (by omega), toInt_small _ (by omega)]
    simp only [Int.bmod_def]
    omega
  have h2 : (BitVec.ofNat 32 (k.val * 256)).toInt = ((k.val * 256 : ℕ) : Int) := toInt_small _ (by omega)
  rw [h1, h2]
  omega

/-- The masked logarithm of one minus the stick's share. -/
theorem pay5_apply (k : Fin (k0_t1_loop i).trips) (q : FVec Ideal S256x128 .bf16) (b : Vec Ideal S1x256x128 .bf16) (r u : Fin 256) :
    k0_pay5 i (qw i) rowI colI q 0#32 1#32 k b (ix2 r u)
      = if u.val < r.val + k.val * 256 then logOneMinus (k0_pay3 q b (ix2 r u)) else 0 := by
  unfold k0_pay5
  pointwise
  rw [pay4_apply]
  pointwise
  rfl

/-- The 0/1 matrix that adds up what comes later. -/
theorem pay25_apply (r u : Fin 256) : k0_pay25 (F := Ideal) (ix2 r u) = if u.val < r.val then 1 else 0 := by
  unfold k0_pay25
  pointwise
  rw [WordCmp.cmpi_sgt_ofNat (by omega) (by omega)]
  show (((BitVec.setWidth 32 (BitVec.ofBool (decide (u.val < r.val)))).toInt : ℝ) : EReal) = _
  by_cases h : u.val < r.val
  · rw [if_pos h, decide_eq_true h, show (BitVec.setWidth 32 (BitVec.ofBool true)).toInt = 1 from by decide, Int.cast_one, EReal.coe_one]
  · rw [if_neg h, decide_eq_false h, show (BitVec.setWidth 32 (BitVec.ofBool false)).toInt = 0 from by decide, Int.cast_zero, EReal.coe_zero]

/-- The sum of the masked logarithms after a key within its block. -/
theorem pay6_apply (k : Fin (k0_t1_loop i).trips) (q : FVec Ideal S256x128 .bf16) (b : Vec Ideal S1x256x128 .bf16) (r u : Fin 256)
    (hb : ∀ j : Fin 256, ∃ y : ℝ, k0_pay5 i (qw i) rowI colI q 0#32 1#32 k b (ix2 r j) = y) :
    k0_pay6 i (qw i) rowI colI k0_pay25 q 0#32 1#32 k b (ix2 r u)
      = ∑ j : Fin 256, if u.val < j.val then k0_pay5 i (qw i) rowI colI q 0#32 1#32 k b (ix2 r j) else 0 := by
  unfold k0_pay6
  pointwise [pay25_apply]
  exact sum_split _ hb _

/-- The running output: what there was, and the block's weights times its values. -/
theorem pay29_apply (a : FVec Ideal S256x1 .f32) (acc : FVec Ideal S256x128 .f32) (v : Vec Ideal S1x256x128 .bf16) (z : FVec Ideal S256x256 .f32)
    (k : Fin (k0_t1_loop i).trips) (l af : FVec Ideal S256x256 .f32) (r : Fin 256) (d : Fin 128) :
    k0_pay29 a acc (k0_pay2 v) z (k0_pay4 i (qw i) rowI colI 0#32 1#32 k) l af (ix2 r d)
      = acc (ix2 r d) + ∑ u : Fin 256, (if u.val < r.val + k.val * 256 then
          Ideal.exp (z (ix2 r u) + l (ix2 r u) + af (ix2 r u) + a (ix2 r 0)) else 0) * v (ix3 0 u d) := by
  unfold k0_pay29 k0_pay2
  pointwise [pay4_apply]

/-- The running log weight: what there was, and the block's masked logarithms. -/
theorem pay30_apply (a : FVec Ideal S256x1 .f32) (l : FVec Ideal S256x256 .f32) (r : Fin 256) (o : Fin 1) :
    k0_pay30 a l (ix2 r o) = a (ix2 r o) + ∑ u : Fin 256, l (ix2 r u) := by
  unfold k0_pay30
  pointwise

/-- The first half of the queries' columns, zeros in the second. -/
theorem pay26_apply (x : Vec Ideal S1x256x128 .bf16) (r : Fin 256) (d : Fin 128) :
    k0_pay26 (F := Ideal) x (ix2 r d) = if d.val < 64 then x (ix3 0 r d) else 0 := by
  unfold k0_pay26 k0_pay23 k0_pay22 k0_pay24
  pointwise
  rw [WordCmp.cmpi_slt_ofNat (by omega) (by omega)]
  pointwise

/-- The second half of the queries' columns, zeros in the first. -/
theorem pay33_apply (x : Vec Ideal S1x256x128 .bf16) (r : Fin 256) (d : Fin 128) :
    k0_pay33 (F := Ideal) x (ix2 r d) = if d.val < 64 then 0 else x (ix3 0 r d) := by
  unfold k0_pay33 k0_pay23 k0_pay22 k0_pay24
  pointwise
  rw [WordCmp.cmpi_slt_ofNat (by omega) (by omega)]
  pointwise

/-- The stored block: the first half's output in the first half of the columns, the second half's in the second. -/
theorem pay40_apply (a b : FVec Ideal S256x128 .f32) (o : Fin 1) (r : Fin 256) (d : Fin 128) :
    k0_pay1 (F := Ideal) (k0_pay40 a b) (ix3 o r d) = if d.val < 64 then a (ix2 r d) else b (ix2 r d) := by
  unfold k0_pay1 k0_pay40 k0_pay23
  pointwise
  rw [WordCmp.cmpi_slt_ofNat (by omega) (by omega)]
  pointwise

/-- The running log weight starts at zero. -/
theorem pay27_apply (r : Fin 256) (o : Fin 1) : k0_pay27 (F := Ideal) (ix2 r o) = 0 := by
  unfold k0_pay27
  pointwise

/-- The running output starts at zero. -/
theorem pay28_apply (r : Fin 256) (d : Fin 128) : k0_pay28 (F := Ideal) (ix2 r d) = 0 := by
  unfold k0_pay28
  pointwise

end AtIndex

end Cert.Proof.SbStep

end
-- ==== Proof.SbRun.lean ====
/- The stick-breaking kernel's result array as one function of its argument, over the extended reals: the running log weight
   and output after each key block, the blocks that the grid points read, and the array after the run. -/
module

public import proofs.«01_k».proof.Proof.SbStep

@[expose] public section

set_option maxRecDepth 16384

noncomputable section

namespace Cert.Proof.SbRun

open Cert.KernelIdeal Cert.KernelIdeal.Gen Cert.KernelIdeal.Value Cert.Proof.SbStep Cert.Proof.SbMath Idealize.ShloMosaic Idealize.ShloMosaic.TcCoe Idealize.SL.Sem

section Walk

variable (i : grid0.Coords) (x1 x2 : Vec Ideal S1x4096x128 .bf16) (q : FVec Ideal S256x128 .bf16)

/-- The score of query row `r` with the key of row `s`. -/
def score (r : Fin 256) (s : ℕ) : EReal :=
  if h : s < 4096 then (∑ d, q (ix2 r d) * x1 (ix3 0 ⟨s, h⟩ d)) * Ideal.ofBits FTy.f32 0x3E000000#32 else 0

/-- Lane `d` of the value of row `s`. -/
def val (d : Fin 128) (s : ℕ) : EReal := if h : s < 4096 then x2 (ix3 0 ⟨s, h⟩ d) else 0

/-- A block's scores are the scores of the keys at their positions. -/
theorem pay3_score (k : ℕ) (r u : Fin 256) :
    k0_pay3 q (blk x1 (((i 2).val - k) * 256) (row_le i)) (ix2 r u) = score x1 q r (((i 2).val - k) * 256 + u.val) := by
  have h := row_le i (k := k)
  rw [pay3_apply, score, dif_pos (by omega)]
  simp only [blk_apply]

/-- A block's masked logarithms are `lm` at the keys' positions. -/
theorem pay5_lm (k : Fin (k0_t1_loop i).trips) (r u : Fin 256) :
    k0_pay5 i (qw i) rowI colI q 0#32 1#32 k (blk x1 (((i 2).val - k.val) * 256) (row_le i)) (ix2 r u)
      = lm (score x1 q r) ((i 2).val * 256 + r.val) (((i 2).val - k.val) * 256 + u.val) := by
  have hk : k.val < (i 2).val + 1 := lt_of_lt_of_eq k.isLt (trips1 i)
  rw [pay5_apply, pay3_score, lm]
  exact if_congr (by omega) rfl rfl

/-- After `n` key blocks the running log weight is the sum over the keys of these blocks, and the output is the weighted sum of
    their values: the keys walked are those from the `n`-th block below the query's own up to the end of that block. -/
theorem walk_apply (hs : ∀ r s, ∃ y : ℝ, score x1 q r s = y) (r : Fin 256) (d : Fin 128) : ∀ n : ℕ, n ≤ (i 2).val + 1 →
    (walk i x1 x2 q n).1 (ix2 r 0) = ∑ j ∈ Finset.Ico (((i 2).val + 1 - n) * 256) (((i 2).val + 1) * 256),
        lm (score x1 q r) ((i 2).val * 256 + r.val) j
    ∧ (walk i x1 x2 q n).2 (ix2 r d) = ∑ s ∈ Finset.Ico (((i 2).val + 1 - n) * 256) (((i 2).val + 1) * 256),
        att (score x1 q r) ((i 2).val * 256 + r.val) (((i 2).val + 1) * 256) s * val x2 d s
  | 0, _ => by
    rw [Nat.sub_zero, Finset.Ico_self, Finset.sum_empty, Finset.sum_empty]
    exact ⟨pay27_apply r 0, pay28_apply r d⟩
  | n + 1, hn => by
    obtain ⟨ih1, ih2⟩ := walk_apply hs r d n (by omega)
    have hlt : n < (k0_t1_loop i).trips := by rw [trips1]; omega
    have hrow := row_le i (k := n)
    have hb : ((i 2).val + 1 - (n + 1)) * 256 = ((i 2).val - n) * 256 := by omega
    have he : ((i 2).val + 1 - n) * 256 = ((i 2).val - n) * 256 + 256 := by omega
    have hle : ((i 2).val - n) * 256 + 256 ≤ ((i 2).val + 1) * 256 := by omega
    rw [he] at ih1 ih2
    rw [walk, dif_pos hlt, hb, ← Finset.sum_Ico_consecutive _ (Nat.le_add_right _ 256) hle,
      ← Finset.sum_Ico_consecutive _ (Nat.le_add_right (((i 2).val - n) * 256) 256) hle, ← ih1, ← ih2, ← sum_block, ← sum_block]
    unfold step
    dsimp only
    rw [pay30_apply, pay29_apply]
    refine ⟨?_, ?_⟩
    · rw [add_comm]
      congr 1
      exact Finset.sum_congr rfl fun u _ => pay5_lm i x1 q ⟨n, hlt⟩ r u
    · rw [add_comm]
      congr 1
      refine Finset.sum_congr rfl fun u _ => ?_
      have h5 := fun j => pay5_lm i x1 q ⟨n, hlt⟩ r j
      have hv : blk x2 (((i 2).val - n) * 256) (row_le i) (ix3 0 u d) = val x2 d (((i 2).val - n) * 256 + u.val) := by
        rw [val, dif_pos (by omega)]
        rfl
      rw [hv, att]
      congr 1
      refine if_congr (by show u.val < r.val + n * 256 ↔ _; omega) ?_ rfl
      rw [pay6_apply i ⟨n, hlt⟩ q _ r u (fun j => by rw [h5]; exact lm_coe _ (hs r) _ _), ih1]
      simp only [h5]
      rw [sum_above (fun s => lm (score x1 q r) ((i 2).val * 256 + r.val) s), pay3_score, add_assoc,
        Finset.sum_Ico_consecutive _ (by omega) hle]

/-- The whole walk: the keys of the whole sequence, weighted. -/
theorem walk_end (hs : ∀ r s, ∃ y : ℝ, score x1 q r s = y) (r : Fin 256) (d : Fin 128) :
    (walk i x1 x2 q ((i 2).val + 1)).2 (ix2 r d) = ∑ s ∈ Finset.Ico 0 4096,
        att (score x1 q r) ((i 2).val * 256 + r.val) 4096 s * val x2 d s := by
  have h16 : (i 2).val < 16 := (i 2).isLt
  rw [(walk_apply i x1 x2 q hs r d ((i 2).val + 1) le_rfl).2, Nat.sub_self, Nat.zero_mul,
    sum_att_extend _ _ _ _ 4096 (by omega) (by omega)]

end Walk

variable (m : (ℓ : Loc nD τ sig) → Buf (Elt Ideal) ℓ) (ρ : Dev nD → PrngReg) (c : Dev nD)

/-- The argument array. -/
abbrev argX : Vec Ideal S8x4096x8192 .bf16 := m ((c : Thread nD τ).loc main_arg0)

/-- The block index of each window at each grid point. -/
theorem idx_in : ∀ t : Fin cfg0.N, win0_0.index t (0 : Fin 3) = t.val / 64 ∧ win0_0.index t (1 : Fin 3) = t.val % 16 ∧ win0_0.index t (2 : Fin 3) = 16 + t.val / 16 % 4
    ∧ win0_1.index t (0 : Fin 3) = t.val / 64 ∧ win0_1.index t (1 : Fin 3) = 0 ∧ win0_1.index t (2 : Fin 3) = 20 + t.val / 16 % 4
    ∧ win0_2.index t (0 : Fin 3) = t.val / 64 ∧ win0_2.index t (1 : Fin 3) = 0 ∧ win0_2.index t (2 : Fin 3) = 24 + t.val / 16 % 4
    ∧ win0_3.index t (0 : Fin 3) = t.val / 64 ∧ win0_3.index t (1 : Fin 3) = t.val % 16 ∧ win0_3.index t (2 : Fin 3) = t.val / 16 % 4
    ∧ (grid0.coords t 2).val = t.val % 16 :=
  (by decide +kernel : ∀ t : Fin grid0.N, _)

/-- A grid point's number is below the number of points. -/
theorem lt_N (t : Fin cfg0.N) : t.val < 512 := lt_of_lt_of_eq t.isLt N_0

/-- The batch of a point. -/
abbrev bOf (t : Fin cfg0.N) : Fin 8 := ⟨t.val / 64, by have := lt_N t; omega⟩

/-- The block of queries at point `t`. -/
theorem iblk0_apply (t : Fin cfg0.N) (r : Fin 256) (d : Fin 128) :
    iblk m c 0 t (ix3 0 r d) = argX m c (ix3 (bOf t) ⟨t.val % 16 * 256 + r.val, by omega⟩ ⟨2048 + t.val / 16 % 4 * 128 + d.val, by omega⟩) := by
  obtain ⟨e0, e1, e2, -⟩ := idx_in t
  have hemb : ((cfg0.win 0).blk t).view.emb (ix3 0 r d)
      = (ix3 (bOf t) (⟨t.val % 16 * 256 + r.val, by omega⟩ : Fin 4096) (⟨2048 + t.val / 16 % 4 * 128 + d.val, by omega⟩ : Fin 8192) : S8x4096x8192.Idx) := by
    funext a; apply Fin.ext
    match a with
    | ⟨0, _⟩ => show win0_0.index t (0 : Fin 3) * 1 + 1 * 0 = t.val / 64; omega
    | ⟨1, _⟩ => show win0_0.index t (1 : Fin 3) * 256 + 1 * r.val = t.val % 16 * 256 + r.val; omega
    | ⟨2, _⟩ => show win0_0.index t (2 : Fin 3) * 128 + 1 * d.val = 2048 + t.val / 16 % 4 * 128 + d.val; omega
  show V m c (Pipeline.arrRef spec0 0) (((cfg0.win 0).blk t).view.emb (ix3 0 r d)) = _
  rw [hemb]

/-- The keys at point `t`. -/
theorem iblk1_apply (t : Fin cfg0.N) (s : Fin 4096) (d : Fin 128) :
    iblk m c 1 t (ix3 0 s d) = argX m c (ix3 (bOf t) s ⟨2560 + t.val / 16 % 4 * 128 + d.val, by omega⟩) := by
  obtain ⟨-, -, -, e0, e1, e2, -⟩ := idx_in t
  have hemb : ((cfg0.win 1).blk t).view.emb (ix3 0 s d)
      = (ix3 (bOf t) s (⟨2560 + t.val / 16 % 4 * 128 + d.val, by omega⟩ : Fin 8192) : S8x4096x8192.Idx) := by
    funext a; apply Fin.ext
    match a with
    | ⟨0, _⟩ => show win0_1.index t (0 : Fin 3) * 1 + 1 * 0 = t.val / 64; omega
    | ⟨1, _⟩ => show win0_1.index t (1 : Fin 3) * 4096 + 1 * s.val = s.val; omega
    | ⟨2, _⟩ => show win0_1.index t (2 : Fin 3) * 128 + 1 * d.val = 2560 + t.val / 16 % 4 * 128 + d.val; omega
  show V m c (Pipeline.arrRef spec0 1) (((cfg0.win 1).blk t).view.emb (ix3 0 s d)) = _
  rw [hemb]

/-- The values at point `t`. -/
theorem iblk2_apply (t : Fin cfg0.N) (s : Fin 4096) (d : Fin 128) :
    iblk m c 2 t (ix3 0 s d) = argX m c (ix3 (bOf t) s ⟨3072 + t.val / 16 % 4 * 128 + d.val, by omega⟩) := by
  obtain ⟨-, -, -, -, -, -, e0, e1, e2, -⟩ := idx_in t
  have hemb : ((cfg0.win 2).blk t).view.emb (ix3 0 s d)
      = (ix3 (bOf t) s (⟨3072 + t.val / 16 % 4 * 128 + d.val, by omega⟩ : Fin 8192) : S8x4096x8192.Idx) := by
    funext a; apply Fin.ext
    match a with
    | ⟨0, _⟩ => show win0_2.index t (0 : Fin 3) * 1 + 1 * 0 = t.val / 64; omega
    | ⟨1, _⟩ => show win0_2.index t (1 : Fin 3) * 4096 + 1 * s.val = s.val; omega
    | ⟨2, _⟩ => show win0_2.index t (2 : Fin 3) * 128 + 1 * d.val = 3072 + t.val / 16 % 4 * 128 + d.val; omega
  show V m c (Pipeline.arrRef spec0 2) (((cfg0.win 2).blk t).view.emb (ix3 0 s d)) = _
  rw [hemb]

/-- An element of the output block is an element of the output array. -/
theorem emb3 (t : Fin cfg0.N) (o : Fin 1) (r : Fin 256) (d : Fin 128) : ((cfg0.win 3).blk t).view.emb (ix3 o r d)
    = (ix3 (bOf t) (⟨t.val % 16 * 256 + r.val, by omega⟩ : Fin 4096) (⟨t.val / 16 % 4 * 128 + d.val, by omega⟩ : Fin 512) : S8x4096x512.Idx) := by
  obtain ⟨-, -, -, -, -, -, -, -, -, e0, e1, e2, -⟩ := idx_in t
  funext a; apply Fin.ext
  match a with
  | ⟨0, _⟩ => show win0_3.index t (0 : Fin 3) * 1 + 1 * o.val = t.val / 64; omega
  | ⟨1, _⟩ => show win0_3.index t (1 : Fin 3) * 256 + 1 * r.val = t.val % 16 * 256 + r.val; omega
  | ⟨2, _⟩ => show win0_3.index t (2 : Fin 3) * 128 + 1 * d.val = t.val / 16 % 4 * 128 + d.val; omega

/-- A sum over 128 lanes that a mask restricts to the first 64 lanes, and to the last 64. -/
theorem sum_low (f g : Fin 128 → EReal) : ∑ d : Fin 128, (if d.val < 64 then f d else 0) * g d = ∑ e : Fin 64, f ⟨e.val, by omega⟩ * g ⟨e.val, by omega⟩ := by
  rw [show ∑ d : Fin 128, (if d.val < 64 then f d else 0) * g d = _ from Fin.sum_univ_add (a := 64) (b := 64) _]
  refine (congrArg₂ (· + ·) (Finset.sum_congr rfl fun e _ => ?_) (Finset.sum_eq_zero fun e _ => ?_)).trans (add_zero _)
  · rw [if_pos (show (Fin.castAdd 64 e).val < 64 from e.isLt)]; rfl
  · rw [if_neg (show ¬(Fin.natAdd 64 e).val < 64 by show ¬64 + e.val < 64; omega), zero_mul]

/-- A product with a vector that is zero in its first half is the product of the second halves. -/
theorem sum_high (f g : Fin 128 → EReal) : ∑ d : Fin 128, (if d.val < 64 then 0 else f d) * g d = ∑ e : Fin 64, f ⟨64 + e.val, by omega⟩ * g ⟨64 + e.val, by omega⟩ := by
  rw [show ∑ d : Fin 128, (if d.val < 64 then 0 else f d) * g d = _ from Fin.sum_univ_add (a := 64) (b := 64) _]
  refine (congrArg₂ (· + ·) (Finset.sum_eq_zero fun e _ => ?_) (Finset.sum_congr rfl fun e _ => ?_)).trans (zero_add _)
  · rw [if_pos (show (Fin.castAdd 64 e).val < 64 from e.isLt), zero_mul]
  · rw [if_neg (show ¬(Fin.natAdd 64 e).val < 64 by show ¬64 + e.val < 64; omega)]; rfl

/-- The score of the query at time `T` with the key at time `s`, in batch `b` and head `h`. -/
def zs (X : Vec Ideal S8x4096x8192 .bf16) (b : Fin 8) (h : Fin 8) (T : Fin 4096) (s : ℕ) : EReal :=
  if hs : s < 4096 then (∑ e : Fin 64, X (ix3 b T ⟨2048 + h.val * 64 + e.val, by omega⟩) * X (ix3 b ⟨s, hs⟩ ⟨2560 + h.val * 64 + e.val, by omega⟩))
    * Ideal.ofBits FTy.f32 0x3E000000#32 else 0

/-- Lane `e` of the value at time `s`, in batch `b` and head `h`. -/
def vs (X : Vec Ideal S8x4096x8192 .bf16) (b : Fin 8) (h : Fin 8) (e : Fin 64) (s : ℕ) : EReal :=
  if hs : s < 4096 then X (ix3 b ⟨s, hs⟩ ⟨3072 + h.val * 64 + e.val, by omega⟩) else 0

/-- Stick-breaking attention: lane `e` of head `h` for the query at time `T` of batch `b`. -/
def attn (X : Vec Ideal S8x4096x8192 .bf16) (b : Fin 8) (T : Fin 4096) (h : Fin 8) (e : Fin 64) : EReal :=
  ∑ s ∈ Finset.Ico 0 4096, att (zs X b h T) T.val 4096 s * vs X b h e s

/-- The heads' outputs side by side. -/
def result (X : Vec Ideal S8x4096x8192 .bf16) (i : S8x4096x512.Idx) : EReal :=
  attn X (i 0) (i 1) ⟨(i 2).val / 64, by have h : (i 2).val < 512 := (i 2).isLt; omega⟩ ⟨(i 2).val % 64, by omega⟩

/-- Every query and key is a number. -/
def Finite (X : Vec Ideal S8x4096x8192 .bf16) : Prop :=
  ∀ (b : Fin 8) (s : Fin 4096) (j : Fin 8192), 2048 ≤ j.val → j.val < 3072 → ∃ y : ℝ, X (ix3 b s j) = y

/-- The scale is a number. -/
theorem eighth : ∃ y : ℝ, Ideal.ofBits FTy.f32 0x3E000000#32 = y :=
  ⟨1 / 8, by simp [Ideal.ofBits, Ideal.ieee, -EReal.coe_mul]; norm_num⟩

/-- A product of vectors of numbers is a number. -/
theorem sum_mul_real {n : ℕ} (f g : Fin n → EReal) (hf : ∀ e, ∃ y : ℝ, f e = y) (hg : ∀ e, ∃ y : ℝ, g e = y) :
    ∃ y : ℝ, ∑ e, f e * g e = y := by
  choose a ha using hf
  choose b hb using hg
  refine ⟨∑ e, a e * b e, ?_⟩
  rw [Finset.sum_congr rfl fun e _ => by rw [ha, hb, ← EReal.coe_mul]]
  exact (map_sum (⟨⟨Real.toEReal, EReal.coe_zero⟩, EReal.coe_add⟩ : ℝ →+ EReal) _ _).symm

/-- Scores of numbers are numbers. -/
theorem zs_real (X : Vec Ideal S8x4096x8192 .bf16) (hX : Finite X) (b : Fin 8) (h : Fin 8) (T : Fin 4096) (s : ℕ) : ∃ y : ℝ, zs X b h T s = y := by
  unfold zs
  split_ifs with hs
  · obtain ⟨a, ha⟩ := sum_mul_real (fun e : Fin 64 => X (ix3 b T ⟨2048 + h.val * 64 + e.val, by omega⟩))
      (fun e : Fin 64 => X (ix3 b ⟨s, hs⟩ ⟨2560 + h.val * 64 + e.val, by omega⟩))
      (fun e => hX _ _ _ (by show 2048 ≤ 2048 + h.val * 64 + e.val; omega) (by show 2048 + h.val * 64 + e.val < 3072; omega))
      (fun e => hX _ _ _ (by show 2048 ≤ 2560 + h.val * 64 + e.val; omega) (by show 2560 + h.val * 64 + e.val < 3072; omega))
    obtain ⟨k, hk⟩ := eighth
    exact ⟨a * k, by rw [ha, hk, EReal.coe_mul]⟩
  · exact ⟨0, rfl⟩

/-- The scores that a point's masked queries give are the scores of one head: the low lanes hold an even head. -/
theorem score_low (t : Fin cfg0.N) (r : Fin 256) : score (iblk m c 1 t) (k0_pay26 (F := Ideal) (iblk m c 0 t)) r
    = zs (argX m c) (bOf t) ⟨t.val / 16 % 4 * 2, by omega⟩ ⟨t.val % 16 * 256 + r.val, by omega⟩ := by
  funext s
  unfold score zs
  split_ifs with hs
  · congr 1
    simp only [pay26_apply]
    rw [sum_low]
    refine Finset.sum_congr rfl fun e _ => ?_
    rw [iblk0_apply, iblk1_apply]
    congr 4 <;> dsimp only <;> omega
  · rfl

/-- The high lanes hold an odd head. -/
theorem score_high (t : Fin cfg0.N) (r : Fin 256) : score (iblk m c 1 t) (k0_pay33 (F := Ideal) (iblk m c 0 t)) r
    = zs (argX m c) (bOf t) ⟨t.val / 16 % 4 * 2 + 1, by omega⟩ ⟨t.val % 16 * 256 + r.val, by omega⟩ := by
  funext s
  unfold score zs
  split_ifs with hs
  · congr 1
    simp only [pay33_apply]
    rw [sum_high]
    refine Finset.sum_congr rfl fun e _ => ?_
    rw [iblk0_apply, iblk1_apply]
    congr 4 <;> dsimp only <;> omega
  · rfl

/-- The values of a point, by lane. -/
theorem val_eq (t : Fin cfg0.N) (d : Fin 128) (h : Fin 8) (e : Fin 64) (hd : t.val / 16 % 4 * 128 + d.val = h.val * 64 + e.val) :
    val (iblk m c 2 t) d = vs (argX m c) (bOf t) h e := by
  funext s
  unfold val vs
  split_ifs with hs
  · rw [iblk2_apply]
    congr 2
    apply Fin.ext
    dsimp only
    omega
  · rfl

/-- What a grid point leaves in its output block. -/
theorem out_apply (hX : Finite (argX m c)) (t : Fin cfg0.N) (o : Fin 1) (r : Fin 256) (d : Fin 128) :
    out0_A_3 c (grid0.coords t) (ms0_0 t) (hs0_0 t) (ms0_1 t) (hs0_1 t) (ms0_2 t) (hs0_2 t) (ms0_3 t) (hs0_3 t) (iblk m c 0 t) (iblk m c 1 t) (iblk m c 2 t) (ix3 o r d)
      = result (argX m c) (ix3 (bOf t) ⟨t.val % 16 * 256 + r.val, by omega⟩ ⟨t.val / 16 % 4 * 128 + d.val, by omega⟩) := by
  have hi : (grid0.coords t 2).val = t.val % 16 := (idx_in t).2.2.2.2.2.2.2.2.2.2.2.2
  rw [out_A, pay40_apply,
    walk_end (grid0.coords t) _ _ _ (fun r s => by rw [score_low]; exact zs_real _ hX _ _ _ _),
    walk_end (grid0.coords t) _ _ _ (fun r s => by rw [score_high]; exact zs_real _ hX _ _ _ _), score_low, score_high, hi]
  show _ = attn (argX m c) (bOf t) ⟨t.val % 16 * 256 + r.val, _⟩ ⟨(t.val / 16 % 4 * 128 + d.val) / 64, _⟩ ⟨(t.val / 16 % 4 * 128 + d.val) % 64, _⟩
  unfold attn
  by_cases hd : d.val < 64
  · have hh : (⟨(t.val / 16 % 4 * 128 + d.val) / 64, by omega⟩ : Fin 8) = ⟨t.val / 16 % 4 * 2, by omega⟩ := Fin.ext (by dsimp only; omega)
    rw [if_pos hd, hh, val_eq m c t d ⟨t.val / 16 % 4 * 2, by omega⟩ ⟨(t.val / 16 % 4 * 128 + d.val) % 64, by omega⟩ (by dsimp only; omega)]
  · have hh : (⟨(t.val / 16 % 4 * 128 + d.val) / 64, by omega⟩ : Fin 8) = ⟨t.val / 16 % 4 * 2 + 1, by omega⟩ := Fin.ext (by dsimp only; omega)
    rw [if_neg hd, hh, val_eq m c t d ⟨t.val / 16 % 4 * 2 + 1, by omega⟩ ⟨(t.val / 16 % 4 * 128 + d.val) % 64, by omega⟩ (by dsimp only; omega)]

/-- What a point writes back is its block of the result. -/
theorem flushed_eq (hX : Finite (argX m c)) (t : Fin cfg0.N) :
    (dats m 0 c).flushed 3 t = ((cfg0.win 3).blk t).view.read (Elt Ideal) (result (argX m c)) := by
  rw [flushed3_A]
  funext j
  obtain ⟨o, r, d, rfl⟩ : ∃ (o : Fin 1) (r : Fin 256) (d : Fin 128), j = ix3 o r d := ⟨j 0, j 1, j 2, eq_ix3 j⟩
  show out0_A_3 c (grid0.coords t) (ms0_0 t) (hs0_0 t) (ms0_1 t) (hs0_1 t) (ms0_2 t) (hs0_2 t) (ms0_3 t) (hs0_3 t) (iblk m c 0 t) (iblk m c 1 t) (iblk m c 2 t) (ix3 o r d)
    = result (argX m c) (((cfg0.win 3).blk t).view.emb (ix3 o r d))
  rw [emb3, out_apply m c hX]

/-- Every index of the result array is in some point's block. -/
theorem covered (i : S8x4096x512.Idx) : ∃ t : Fin cfg0.N, (cfg0.win 3).flush t = true ∧ i ∈ ((cfg0.win 3).blk t).view.set := by
  obtain ⟨b, T, j, rfl⟩ : ∃ (b : Fin 8) (T : Fin 4096) (j : Fin 512), i = ix3 b T j := ⟨i 0, i 1, i 2, eq_ix3 i⟩
  have hN : cfg0.N = 512 := N_0
  have hlt : b.val * 64 + j.val / 128 * 16 + T.val / 256 < cfg0.N := by omega
  refine ⟨⟨b.val * 64 + j.val / 128 * 16 + T.val / 256, hlt⟩, flush0_3 _, ?_⟩
  have h := ((cfg0.win 3).blk ⟨b.val * 64 + j.val / 128 * 16 + T.val / 256, hlt⟩).view.emb_mem_set
    (ix3 (0 : Fin 1) (⟨T.val % 256, by omega⟩ : Fin 256) (⟨j.val % 128, by omega⟩ : Fin 128))
  rw [emb3] at h
  have he : (ix3 b T j : S8x4096x512.Idx) = ix3 (bOf ⟨b.val * 64 + j.val / 128 * 16 + T.val / 256, hlt⟩)
      (⟨(b.val * 64 + j.val / 128 * 16 + T.val / 256) % 16 * 256 + T.val % 256, by omega⟩ : Fin 4096)
      (⟨(b.val * 64 + j.val / 128 * 16 + T.val / 256) / 16 % 4 * 128 + j.val % 128, by omega⟩ : Fin 512) := by
    congr 1 <;> apply Fin.ext <;> dsimp only <;> omega
  rw [he]
  exact h

/-- The result array after the run. -/
theorem final (hX : Finite (argX m c)) : (dats m 0 c).arrAt 3 cfg0.N = result (argX m c) :=
  (dats m 0 c).arrAt_eq_of_cover 3 (result (argX m c)) (fun t _ => flushed_eq m c hX t) covered

/-- The run with the result array at its function of the argument, where the queries and keys are numbers. -/
theorem run (hX : ∀ c, Finite (argX m c)) : θ_run defs (onTc (τ := τ) (main (F := Ideal))) ⟨m, fun _ => 0, ρ⟩ fun r => ∀ c : Dev nD,
      r.2.mem ((c : Thread nD τ).loc main_v0) = result (argX m c)
      ∧ r.2.mem ((c : Thread nD τ).loc main_arg0) = m ((c : Thread nD τ).loc main_arg0) :=
  (θ_run defs _ _).mono (fun r h c => ⟨(h c).1.trans (final m c (hX c)), (h c).2⟩) (run_blocks m ρ)

end Cert.Proof.SbRun

end
-- ==== Proof.SbRef.lean ====
/- The stick-breaking reference's result array as the same function of its argument as the kernel's, where the queries and keys
   are numbers. -/
module

public import proofs.«01_k».proof.Proof.SbRun
public import proofs.«01_k».proof.Proof.Gen.ReferenceIdeal.Read

@[expose] public section

set_option maxRecDepth 16384

noncomputable section

namespace Cert.Proof.SbRef

open Cert.ReferenceIdeal Cert.ReferenceIdeal.Gen Cert.ReferenceIdeal.Read Cert.Proof.SbMath Cert.Proof.SbRun Idealize.ShloMosaic

/-- Adding up a list from a start value. -/
theorem foldl_add {α : Type} (f : α → EReal) (l : List α) : ∀ v : EReal, l.foldl (fun r n => r + f n) v = v + (l.map f).sum := by
  induction l with
  | nil => intro v; exact (add_zero v).symm
  | cons a l ih => intro v; rw [List.foldl_cons, ih, List.map_cons, List.sum_cons, add_assoc]

/-- A window sum over the extended reals adds up the window's elements one after another. -/
theorem window_sum {s t u : Shape} {φ : FTy} (window strides lo hi : Fin s.rank → ℕ) (x : FVec Ideal s φ) (init : FVec Ideal u φ)
    (h : s.ReduceWindows window strides lo hi t) (hu : 0 < u.numel) :
    Host.reduceWindowAdd (F := Ideal) window strides lo hi x init h hu
      = Host.reduceWindow (· + ·) window strides lo hi (x : s.Idx → EReal) (fun _ : (⟨0, ![]⟩ : Shape).Idx => init (Shape.Idx.first hu)) h := rfl

/-- The shape of the running total's window: the whole last axis. -/
abbrev W : Shape := ⟨4, ![1, 1, 1, 4096]⟩

/-- The window has 4096 lanes. -/
theorem W_numel : W.numel = 4096 := by decide

/-- Position `n` of the window is lane `n`. -/
theorem lane (n : Fin W.numel) : (W.rowMajor.symm n 0).val = 0 ∧ (W.rowMajor.symm n 1).val = 0 ∧ (W.rowMajor.symm n 2).val = 0
    ∧ (W.rowMajor.symm n 3).val = n.val := by
  have h : (W.rowMajor (W.rowMajor.symm n)).val = n.val := by rw [Equiv.apply_symm_apply]
  rw [Shape.rowMajor_val_four] at h
  have h0 : (W.rowMajor.symm n 0).val < 1 := (W.rowMajor.symm n 0).isLt
  have h1 : (W.rowMajor.symm n 1).val < 1 := (W.rowMajor.symm n 1).isLt
  have h2 : (W.rowMajor.symm n 2).val < 1 := (W.rowMajor.symm n 2).isLt
  generalize (W.rowMajor.symm n 0).val = a0 at *
  generalize (W.rowMajor.symm n 1).val = a1 at *
  generalize (W.rowMajor.symm n 2).val = a2 at *
  generalize (W.rowMajor.symm n 3).val = a3 at *
  have e0 : a0 = 0 := by omega
  have e1 : a1 = 0 := by omega
  have e2 : a2 = 0 := by omega
  subst e0 e1 e2
  refine ⟨rfl, rfl, rfl, ?_⟩
  rw [← h]
  show a3 = ((0 * 1 + 0) * 1 + 0) * 4096 + a3
  omega

/-- A running total over the last axis, from the end: each element is the sum of the elements from its own on. -/
theorem total_apply (x : FVec Ideal S8x8x4096x4096 .f32) (init : FVec Ideal S_ .f32) (hinit : ∀ i, init i = 0) (h) (hu)
    (b h' : Fin 8) (t s : Fin 4096) :
    Host.reduceWindowAdd (F := Ideal) (t := S8x8x4096x4096) ![1, 1, 1, 4096] ![1, 1, 1, 1] ![0, 0, 0, 0] ![0, 0, 0, 4095] x init h hu (ix4 b h' t s)
      = ∑ j ∈ Finset.Ico s.val 4096, if hj : j < 4096 then x (ix4 b h' t ⟨j, hj⟩) else 0 := by
  rw [window_sum]
  unfold Host.reduceWindow
  dsimp only
  refine (foldl_add _ _ _).trans ?_
  rw [hinit, zero_add, ← Fin.sum_univ_def]
  refine (Finset.sum_congr rfl fun n _ => (?_ : _ = (fun n : ℕ => if hj : s.val + n < 4096 then x (ix4 b h' t ⟨s.val + n, hj⟩) else 0) n.val)).trans ?_
  · obtain ⟨l0, l1, l2, l3⟩ := lane n
    dsimp only
    by_cases hn : s.val + n.val < 4096
    · rw [dif_pos hn, dif_pos fun a => by
        match a with
        | ⟨0, _⟩ => exact ⟨Nat.zero_le _, by show b.val * 1 + (W.rowMajor.symm n 0).val - 0 < 8; omega⟩
        | ⟨1, _⟩ => exact ⟨Nat.zero_le _, by show h'.val * 1 + (W.rowMajor.symm n 1).val - 0 < 8; omega⟩
        | ⟨2, _⟩ => exact ⟨Nat.zero_le _, by show t.val * 1 + (W.rowMajor.symm n 2).val - 0 < 4096; omega⟩
        | ⟨3, _⟩ => exact ⟨Nat.zero_le _, by show s.val * 1 + (W.rowMajor.symm n 3).val - 0 < 4096; omega⟩]
      congr 1
      funext a
      apply Fin.ext
      match a with
      | ⟨0, _⟩ => show b.val * 1 + (W.rowMajor.symm n 0).val - 0 = b.val; omega
      | ⟨1, _⟩ => show h'.val * 1 + (W.rowMajor.symm n 1).val - 0 = h'.val; omega
      | ⟨2, _⟩ => show t.val * 1 + (W.rowMajor.symm n 2).val - 0 = t.val; omega
      | ⟨3, _⟩ => show s.val * 1 + (W.rowMajor.symm n 3).val - 0 = s.val + n.val; omega
    · rw [dif_neg hn, dif_neg fun hin => hn ?_]
      have h3 := (hin 3).2
      change s.val * 1 + (W.rowMajor.symm n 3).val - 0 < 4096 at h3
      omega
  refine (Finset.sum_range (n := W.numel) (fun n : ℕ => if hj : s.val + n < 4096 then (x (ix4 b h' t ⟨s.val + n, hj⟩) : EReal) else 0)).symm.trans ?_
  rw [W_numel, Finset.sum_Ico_eq_sum_range]
  symm
  refine Finset.sum_subset (Finset.range_subset_range.2 (Nat.sub_le _ _)) fun n _ hn => dif_neg ?_
  rw [Finset.mem_range] at hn
  omega

variable (x0 : (⟨S8x4096x8192, .bf16⟩ : BufTy).Contents (Elt Ideal))

/-- The overflow-free softplus, negated, as the host writes it. -/
theorem softplus (z : EReal) : (-if z ≠ z then z else max z 0 + Ideal.log1p (Ideal.exp (-FloatOps.absf (F := Ideal) (φ := .f32) z))) = logOneMinus z := by
  rw [if_neg fun h => h rfl, logOneMinus, zero_sub, zero_sub]
  rfl

/-- The negated softplus of the negated score is the logarithm of one minus the logistic function. -/
theorem softplus_neg (z : EReal) :
    (-if - -z ≠ - -z then - -z else max (- -z) 0 + Ideal.log1p (Ideal.exp (-FloatOps.absf (F := Ideal) (φ := .f32) (- -z)))) = logOneMinus z := by
  rw [neg_neg, softplus]

/-- The scores. -/
theorem v9 (b h : Fin 8) (t s : Fin 4096) : val_main_v9 (F := Ideal) x0 (ix4 b h t s) = zs x0 b h t s.val := by
  unfold zs
  rw [dif_pos s.isLt]
  pointwise [val_main_v9, val_main_v8, val_main_cst, val_main_v7, val_main_v5, val_main_v4, val_main_v2, val_main_v1, val_main_v0]
  simp only [Nat.add_assoc]

/-- The mask: a key before the query. -/
theorem v16 (o o' : Fin 1) (t s : Fin 4096) : val_main_v16 (F := Ideal) (ix4 o o' t s) = BitVec.ofBool (decide (s.val < t.val)) := by
  pointwise [val_main_v16, val_main_v15, val_main_v14, val_main_v13, val_main_v12, val_main_v11, val_main_v10]
  rw [WordCmp.cmpi_slt_ofNat (by omega) (by omega)]

/-- `log (1 - sigmoid z)` of the scores. -/
theorem v18 (b h : Fin 8) (t s : Fin 4096) : val_main_v18 (F := Ideal) x0 (ix4 b h t s) = logOneMinus (zs x0 b h t s.val) := by
  pointwise [val_main_v18, val_main_call0_v1, val_main_call0_call0_v4, val_main_call0_call0_v11, val_main_call0_call0_v10, val_main_call0_call0_v9,
    val_main_call0_call0_v8, val_main_call0_call0_v7, val_main_call0_call0_v6, val_main_call0_call0_v5, val_main_call0_call0_v3, val_main_call0_call0_v2,
    val_main_call0_call0_v1, val_main_call0_call0_v0, val_main_call0_call0_cst, val_main_call0_v0, val_main_v17]
  simp only [v9]
  exact softplus_neg _

/-- The masked `log (1 - sigmoid z)`. -/
theorem v19 (b h : Fin 8) (t s : Fin 4096) : val_main_v19 (F := Ideal) x0 (ix4 b h t s) = lm (zs x0 b h t) t.val s.val := by
  pointwise [val_main_v19, val_main_call1_v1, val_main_call1_v2, val_main_call1_v0, val_main_cst_0]
  rw [v16, v18]
  pointwise [id]
  rfl

/-- Its running total from the last key back. -/
theorem v20 (b h : Fin 8) (t s : Fin 4096) : val_main_v20 (F := Ideal) x0 (ix4 b h t s) = ∑ j ∈ Finset.Ico s.val 4096, lm (zs x0 b h t) t.val j := by
  unfold val_main_v20
  rw [total_apply _ _ fun i => by pointwise [val_main_call2_v0, val_main_call2_cst]]
  refine Finset.sum_congr rfl fun j hj => ?_
  rw [dif_pos (Finset.mem_Ico.1 hj).2, v19]

/-- `log (sigmoid z)` of the scores. -/
theorem v22 (b h : Fin 8) (t s : Fin 4096) : val_main_v22 (F := Ideal) x0 (ix4 b h t s) = logOneMinus (-zs x0 b h t s.val) := by
  pointwise [val_main_v22, val_main_call3_v1, val_main_call3_call0_v4, val_main_call3_call0_v11, val_main_call3_call0_v10, val_main_call3_call0_v9,
    val_main_call3_call0_v8, val_main_call3_call0_v7, val_main_call3_call0_v6, val_main_call3_call0_v5, val_main_call3_call0_v3, val_main_call3_call0_v2,
    val_main_call3_call0_v1, val_main_call3_call0_v0, val_main_call3_call0_cst, val_main_call3_v0]
  simp only [v9]
  exact softplus _

/-- The attention weights, where the queries and keys are numbers. -/
theorem v25 (hX : Finite x0) (b h : Fin 8) (t s : Fin 4096) : val_main_v25 (F := Ideal) x0 (ix4 b h t s) = att (zs x0 b h t) t.val 4096 s.val := by
  have hz := zs_real x0 hX b h t
  obtain ⟨y, hy⟩ := hz s.val
  pointwise [val_main_v25, val_main_v24, val_main_v23, val_main_v21, val_main_call4_v1, val_main_call4_v2, val_main_call4_v0, val_main_cst_1, id]
  rw [v16, v19, v20, v22, sum_sub_self _ (lm_coe _ hz t.val) _ _ s.isLt, hy, ← add_logOneMinus, ← hy]
  pointwise
  unfold att lm
  split_ifs with hs
  · rfl
  · rfl

/-- The result. -/
theorem v29 (hX : Finite x0) (b : Fin 8) (t : Fin 4096) (d : Fin 512) : val_main_v29 (F := Ideal) x0 (ix3 b t d) = result x0 (ix3 b t d) := by
  pointwise [val_main_v29, val_main_v28, val_main_v27, val_main_v26]
  simp only [v25 x0 hX]
  unfold result attn
  rw [Finset.sum_Ico_eq_sum_range, Nat.sub_zero, Finset.sum_range]
  refine Finset.sum_congr rfl fun s _ => ?_
  rw [mul_comm, Nat.zero_add]
  refine congrArg₂ (· * ·) rfl (Eq.trans ?_ (dif_pos s.isLt).symm)
  pointwise [val_main_v6, val_main_v3, val_main_v0]
  congr 2
  apply Fin.ext
  dsimp only
  omega

end Cert.Proof.SbRef

end
-- ==== Proof.SbClaim.lean ====
/- The claims about the stick-breaking attention kernel: that kernel and reference leave the same array where the queries and
   keys are numbers. -/
module

public import proofs.«01_k».proof.Defs
public import proofs.«01_k».proof.Proof.SbRun
public import proofs.«01_k».proof.Proof.SbRef
public import Idealize.ShloMosaic.Lib.Quiescent

@[expose] public section

noncomputable section

namespace Cert.Proof.SbClaim

open Idealize.ShloMosaic Idealize.ShloMosaic.TcCoe Idealize.SL.Sem

/-- The shape relations that the precondition's operations take. -/
theorem pre_facts : Cert.Pre_finite_scores.Facts where
  slices_S8x4096x8192_S8x4096x1024_0_0_2048 := by decide
  bitsLt_bf16_f32 := by decide
  bcast_S_S8x4096x1024 := by decide

/-- The reference runs, keeps its argument and ends quiescent. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- An extended real whose absolute value is below infinity is a number. -/
theorem real_of_abs_lt (x : EReal) (h : max x (-x) < ⊤) : ∃ y : ℝ, x = y := by
  induction x with
  | bot => exact absurd h (by simp)
  | coe y => exact ⟨y, rfl⟩
  | top => exact absurd h (by simp)

/-- The pattern of infinity is infinity. -/
theorem inf_f32 : Ideal.ofBits .f32 0x7F800000#32 = (⊤ : EReal) := by
  simp [Ideal.ofBits, Ideal.ieee]

/-- A comparison whose bit is one holds. -/
theorem of_bit (p : Prop) [Decidable p] (h : BitVec.ofBool (decide p) = 1#1) : p := by
  by_contra hn
  rw [decide_eq_false hn] at h
  exact absurd h (by decide)

/-- Where the precondition holds, the queries and keys are numbers. -/
theorem finite [Cert.Pre_finite_scores.Facts] (x : Vec Ideal Cert.KernelIdeal.S8x4096x8192 .bf16)
    (h : (Cert.Pre_finite_scores.fn (F := Ideal) x) = fun _ => 1#1) : Cert.Proof.SbRun.Finite x := by
  intro b s j h1 h2
  have hx := congrFun h (ix3 b s (⟨j.val - 2048, by omega⟩ : Fin 1024))
  unfold Cert.Pre_finite_scores.fn at hx
  dsimp only at hx
  have he : (ix3 b s j : Cert.KernelIdeal.S8x4096x8192.Idx) = ix3 b s (⟨2048 + (j.val - 2048), by omega⟩ : Fin 8192) := by
    refine congrArg (ix3 b s) (Fin.ext ?_); show j.val = 2048 + (j.val - 2048); omega
  rw [he]
  refine real_of_abs_lt _ ?_
  pointwise at hx
  rw [inf_f32] at hx
  exact of_bit _ hx

/-- From arguments that agree, the queries and keys numbers, kernel and reference end with the same result array:
    `SbRun.result` of the argument. -/
theorem algebraic : Cert.algebraic_KernelIdeal_ReferenceIdeal_pre_finite_scores (hPre_finite_scores := pre_facts) := by
  intro m ρ m' ρ' hpre hagree
  have hX : ∀ c, Cert.Proof.SbRun.Finite (Cert.Proof.SbRun.argX m c) := fun c => @finite pre_facts _ (hpre c)
  refine ⟨fun c => Cert.Proof.SbRun.result (Cert.Proof.SbRun.argX m c), Cert.Proof.SbRun.run m ρ hX, ?_⟩
  refine (θ_run Cert.ReferenceIdeal.defs _ _).mono (fun _ h c => ⟨(h c).1.trans ?_, (h c).2⟩) (Cert.ReferenceIdeal.Value.run (F := Ideal) m' ρ')
  have h0 := hagree c
  rw [Cert.ReferenceIdeal.Read.val_main_v29_eq, h0]
  funext i
  obtain ⟨b, t, d, rfl⟩ : ∃ (b : Fin 8) (t : Fin 4096) (d : Fin 512), i = ix3 b t d := ⟨i 0, i 1, i 2, eq_ix3 i⟩
  exact Cert.Proof.SbRef.v29 _ (hX c) b t d

end Cert.Proof.SbClaim

end
-- ==== Proof.ProjIdealFrame.lean ====
/- The run of the input projection kernel over its grid of 32 row blocks by 4 column blocks, at any values. At the first
   column block of a row block the kernel normalises the rows, keeps them in its scratch buffer and stores the second result's
   block; at the other three it only multiplies the kept rows, and the second result's buffer stays as it is until it is
   written back after the fourth. The module states what one point does, what every buffer holds after each point, and that
   the program terminates with its arguments unchanged and its semaphores at zero. -/
module

public import proofs.«01_k».proof.Proof.Gen.ProjIdeal.Frame
public import proofs.«01_k».proof.Proof.Gen.ProjIdeal.Skeleton
public import proofs.«01_k».proof.Proof.Gen.ProjIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.ProjIdealFrame

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets zero, zero are zero on every axis. -/
theorem hz : (![0, 0] : Fin 2 → Nat) = fun _ => 0 := funext fun a => by fin_cases a <;> rfl

/-- The condition of the body's branch holds exactly at the first column block of a row block. -/
theorem first_iff : ∀ t : Fin cfg0.N, k0_cond1 (grid0.coords t) = 1#1 ↔ t.val % 4 = 0 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [k0_cond1, e0, e1]
    word_cmp
   : ∀ t : Fin grid0.N, k0_cond1 (grid0.coords t) = 1#1 ↔ t.val % 4 = 0)

/-- One store of a whole buffer at offset zero leaves the stored value, whatever the buffer held. -/
theorem read_store {sh : Shape} {e : EltTy} (v : View sig .tc .vmem sh e) (f) {off : Fin sh.rank → ℕ} (hoff : off = fun _ => 0)
    (inb) (x : Vec F sh e) :
    v.read (Elt F) (v.writes (Elt F) f [⟨Rect.unit (s := sh) off sh.size inb, x⟩]) = x := by
  subst hoff
  rw [View.read_writes_eq_canon _ _ _ (fun y => ⟨_, List.mem_singleton_self _, by
    show y ∈ (Rect.whole sh).set; rw [Rect.set_whole]; exact Finset.mem_univ y⟩), View.canon_unit_zero rfl]

section Body

variable (c : Dev nD) (i : grid0.Coords)
  (a2 : Memref sig .tc .vmem S1024x1024 .f32) (h2 : a2.IsWhole) (a3 : Memref sig .tc .vmem S1x1024 .f32) (h3 : a3.IsWhole)
  (a4 : Memref sig .tc .vmem S1024x2048 .bf16) (h4 : a4.IsWhole) (a5 : Memref sig .tc .vmem S1024x128 .bf16) (h5 : a5.IsWhole)
  (a6 : Memref sig .tc .vmem S1024x2048 .bf16) (h6 : a6.IsWhole) (a7 : Memref sig .tc .vmem S1024x128 .f32) (h7 : a7.IsWhole)
  (a8 : Memref sig .tc .vmem S1024x1024 .bf16) (h8 : a8.IsWhole)
  (x0 : Vec F S1024x1024 .f32) (x1 : Vec F S1x1024 .f32) (x2 : Vec F S1024x2048 .bf16) (x3 : Vec F S1024x128 .bf16)

/-- The body at the first column block: the scratch buffer gets the normalised rows, the two output buffers their products
    with the two weight blocks. -/
theorem body_first (hc : k0_cond1 i = 1#1) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ (∃ d, owns (c : Thread nD τ) a6 fullShare d)
        ∗ (∃ d, owns (c : Thread nD τ) a7 fullShare d) ∗ (∃ d, owns (c : Thread nD τ) a8 fullShare d)
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare (k0_pay4 (k0_pay2 x0 x1) x2)
            ∗ owns (c : Thread nD τ) a7 fullShare (k0_pay3 x0 x1 x3) ∗ owns (c : Thread nD τ) a8 fullShare (k0_pay2 x0 x1)) -∗ K ⟨⟩))
      ⊢ wp frame (wpE (defs₀ (F := F)) Variants.none c none) E (cc0_in_proj i a2 h2 a3 h3 a4 h4 a5 h5 a6 h6 a7 h7 a8 h8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds, %fs, -, HS⟩, Hk⟩
  obtain rfl := h2.eq_unread hf0; obtain rfl := h3.eq_unread hf1; obtain rfl := h4.eq_unread hf2; obtain rfl := h5.eq_unread hf3
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; swap; · iexact H4
    ipureintro
    sl_unfold_words
    refine (read_store (sh := S1024x2048) _ _ hz _ _).trans ?_
    simp only [View.readAt_eq_ld, h2.read_unread, h3.read_unread, h4.read_unread, View.ld_unit_zero (S := S1024x1024) hz,
      View.ld_unit_zero (S := S1x1024) hz, View.ld_unit_zero (S := S1024x2048) hz, View.readCov_unit_zero (S := S1024x1024) _ hz]
  isplitl [H5]
  · iexists _; isplitr; swap; · iexact H5
    ipureintro
    sl_unfold_words
    refine (read_store (sh := S1024x128) _ _ hz _ _).trans ?_
    simp only [View.readAt_eq_ld, h2.read_unread, h3.read_unread, h5.read_unread, View.ld_unit_zero (S := S1024x1024) hz,
      View.ld_unit_zero (S := S1x1024) hz, View.ld_unit_zero (S := S1024x128) hz]
  iexists _; isplitr; swap; · iexact HS
  ipureintro
  sl_unfold_words
  refine (read_store (sh := S1024x1024) _ _ hz _ _).trans ?_
  simp only [View.readAt_eq_ld, h2.read_unread, h3.read_unread, View.ld_unit_zero (S := S1024x1024) hz,
    View.ld_unit_zero (S := S1x1024) hz]

/-- The body at a later column block: the first output buffer gets the product of the kept rows with the weight block, and
    the second output buffer and the scratch buffer stay as they are. -/
theorem body_later (hc : ¬k0_cond1 i = 1#1) (x5 : Vec F S1024x128 .f32) (xs : Vec F S1024x1024 .bf16) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ (∃ d, owns (c : Thread nD τ) a6 fullShare d)
        ∗ owns (c : Thread nD τ) a7 fullShare x5 ∗ owns (c : Thread nD τ) a8 fullShare xs
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare (k0_pay4 xs x2)
            ∗ owns (c : Thread nD τ) a7 fullShare x5 ∗ owns (c : Thread nD τ) a8 fullShare xs) -∗ K ⟨⟩))
      ⊢ wp frame (wpE (defs₀ (F := F)) Variants.none c none) E (cc0_in_proj i a2 h2 a3 h3 a4 h4 a5 h5 a6 h6 a7 h7 a8 h8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
  obtain rfl := h2.eq_unread hf0; obtain rfl := h3.eq_unread hf1; obtain rfl := h4.eq_unread hf2; obtain rfl := h5.eq_unread hf3
  obtain rfl := h7.eq_unread hf5; obtain rfl := h8.eq_unread hfs
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; swap; · iexact H4
    ipureintro
    sl_unfold_words
    refine (read_store (sh := S1024x2048) _ _ hz _ _).trans ?_
    simp only [View.readAt_eq_ld, h8.read_unread, h4.read_unread, View.ld_unit_zero (S := S1024x1024) hz,
      View.ld_unit_zero (S := S1024x2048) hz]
  isplitl [H5]
  · iexists _; isplitr; · ipureintro; exact h7.read_unread _
    iexact H5
  iexists _; isplitr; · ipureintro; exact h8.read_unread _
  iexact HS

end Body

variable (m : (ℓ : Loc nD τ sig) → Buf (Elt F) ℓ) (ρ : Dev nD → PrngReg)

/-- The first point of the row block that position `t` is in. -/
def start (t : Fin cfg0.N) : Fin cfg0.N := ⟨t.val - t.val % 4, Nat.lt_of_le_of_lt (Nat.sub_le _ _) t.isLt⟩

/-- A row block starts at its first column block. -/
theorem start_first (t : Fin cfg0.N) (h : t.val % 4 = 0) : start t = t := Fin.ext (by simp only [start]; omega)

/-- Two neighbouring column blocks of a row block have the same start. -/
theorem start_later (t : Fin cfg0.N) (h : ¬t.val % 4 = 0) (hn : t.val - 1 < cfg0.N) : start ⟨t.val - 1, hn⟩ = start t :=
  Fin.ext (by simp only [start]; omega)

/-- The normalised rows kept in the scratch buffer at position `t`. -/
def rows (c : Dev nD) (t : Fin cfg0.N) : Vec F S1024x1024 .bf16 := k0_pay2 (iblk m c 0 (start t)) (iblk m c 1 (start t))

/-- The second result's block of the row block at position `t`. -/
def second (c : Dev nD) (t : Fin cfg0.N) : Vec F S1024x128 .f32 :=
  k0_pay3 (iblk m c 0 (start t)) (iblk m c 1 (start t)) (iblk m c 3 (start t))

/-- The scratch operand. -/
abbrev scM : Memref sig .tc .vmem S1024x1024 .bf16 := Memref.whole cc0_scratch0

/-- The scratch buffer at some contents and the generator register at some state. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; rfl

/-- What is held before position `n`: the scratch buffer at anything before the first point, then at the rows of the point before. -/
def held (c : Dev nD) : (n : ℕ) → n ≤ cfg0.N → sProp 𝕄
  | 0, _ => Pipeline.ΦA spec0 c
  | n + 1, hn => iprop(owns (c : Thread nD τ) scM fullShare (rows m c ⟨n, hn⟩) ∗ (∃ r, prngReg c r))

/-- After a point the scratch rows are that point's rows. -/
theorem held_pos (c : Dev nD) (n : ℕ) (h : n ≤ cfg0.N) (hz : n ≠ 0) :
    held m c n h = iprop(owns (c : Thread nD τ) scM fullShare (rows m c ⟨n - 1, by omega⟩) ∗ (∃ r, prngReg c r)) := by
  cases n with
  | zero => exact absurd rfl hz
  | succ n => rfl

/-- The scratch buffer holds something at every position. -/
theorem held_some (c : Dev nD) (n : ℕ) (h : n ≤ cfg0.N) :
    held m c n h ⊢ iprop((∃ d, owns (c : Thread nD τ) scM fullShare d) ∗ (∃ r, prngReg c r)) := by
  cases n with
  | zero => rw [show held m c 0 h = Pipeline.ΦA spec0 c from rfl, PhiA_eq]
  | succ n =>
    rw [held_pos m c _ _ (Nat.succ_ne_zero n)]
    iintro ⟨HS, Hg⟩
    isplitl [HS]
    · iexists _; iexact HS
    iexact Hg

/-- What every buffer holds after the body at each point: the inputs their blocks, the first output the product of the kept
    rows with the weight block, the second output its row block's second result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (rows m c t) (iblk m c 2 t)
    | ⟨5, _⟩ => second m c t
  Φ t := held m c t.val (Nat.le_of_lt_succ t.isLt)
  q _ := fullShare
  owed _ := 0

/-- A window's array before the first point is what the launch finds. -/
theorem A_eq (c : Dev nD) (w : Fin cfg0.W) : (dats m 0 c).A w = V m c (Pipeline.arrRef spec0 w) := by
  dsimp only [dats]

/-- The loop's invariant before a point is what is held there. -/
theorem Phi_castSucc (c : Dev nD) (t : Fin cfg0.N) : (dats m 0 c).Φ t.castSucc = held m c t.val (Nat.le_of_lt t.isLt) := by
  dsimp only [dats]; exact Pipeline.Dat.Φ_castSucc (held m c) t

/-- The block of window 0 after the body. -/
theorem after_0 (c : Dev nD) (t : Fin cfg0.N) : (dats m 0 c).after 0 t = iblk m c 0 t := by dsimp only [dats]
/-- The block of window 1 after the body. -/
theorem after_1 (c : Dev nD) (t : Fin cfg0.N) : (dats m 0 c).after 1 t = iblk m c 1 t := by dsimp only [dats]
/-- The block of window 2 after the body. -/
theorem after_2 (c : Dev nD) (t : Fin cfg0.N) : (dats m 0 c).after 2 t = iblk m c 2 t := by dsimp only [dats]
/-- The block of window 3 after the body. -/
theorem after_3 (c : Dev nD) (t : Fin cfg0.N) : (dats m 0 c).after 3 t = iblk m c 3 t := by dsimp only [dats]
/-- The block of window 4 after the body. -/
theorem after_4 (c : Dev nD) (t : Fin cfg0.N) : (dats m 0 c).after 4 t = k0_pay4 (rows m c t) (iblk m c 2 t) := by dsimp only [dats]
/-- The block of window 5 after the body. -/
theorem after_5 (c : Dev nD) (t : Fin cfg0.N) : (dats m 0 c).after 5 t = second m c t := by dsimp only [dats]

/-- The block of window 0 before the body. -/
theorem before_0 (c : Dev nD) (t : Fin cfg0.N) (d) : (dats m 0 c).before 0 t d = iblk m c 0 t :=
  before0_0_of m (dats m 0 c) (A_eq m c 0) (after_0 m c) t d
/-- The block of window 1 before the body. -/
theorem before_1 (c : Dev nD) (t : Fin cfg0.N) (d) : (dats m 0 c).before 1 t d = iblk m c 1 t :=
  before0_1_of m (dats m 0 c) (A_eq m c 1) (after_1 m c) t d
/-- The block of window 2 before the body. -/
theorem before_2 (c : Dev nD) (t : Fin cfg0.N) (d) : (dats m 0 c).before 2 t d = iblk m c 2 t :=
  before0_2_of m (dats m 0 c) (A_eq m c 2) (after_2 m c) t d
/-- The block of window 3 before the body. -/
theorem before_3 (c : Dev nD) (t : Fin cfg0.N) (d) : (dats m 0 c).before 3 t d = iblk m c 3 t :=
  before0_3_of m (dats m 0 c) (A_eq m c 3) (after_3 m c) t d

/-- The second output's buffer is stored into exactly at the first column block. -/
theorem idle_5 (t : Fin cfg0.N) : cfg0.idle 5 (grid0.coords t) = !decide (t.val % 4 = 0) := by
  show (!(k0_cond1 (grid0.coords t) == 1#1)) = _
  congr 1
  rw [beq_eq_decide]
  exact decide_eq_decide.mpr (first_iff t)

/-- It is written back exactly at the last column block. -/
theorem flush_5 (t : Fin cfg0.N) : (cfg0.win 5).flush t = decide (t.val % 4 = 3) := by
  by_cases h : t.val % 4 = 3
  · rw [(flush0_5 t).mpr h, decide_eq_true h]
  · rw [decide_eq_false h]; exact Bool.eq_false_iff.mpr fun hf => h ((flush0_5 t).mp hf)

/-- At a later column block the second output's buffer still holds its row block's second result. -/
theorem before_5 (c : Dev nD) (n : ℕ) : ∀ (t : Fin cfg0.N), t.val = n → ¬t.val % 4 = 0 → ∀ d, (dats m 0 c).before 5 t d = second m c t := by
  induction n with
  | zero => intro t ht h; rw [ht] at h; exact absurd (Nat.zero_mod _) h
  | succ n ih =>
    intro t ht h d
    have hn : t.val - 1 < cfg0.N := Nat.lt_of_le_of_lt (Nat.sub_le _ _) t.isLt
    have hs : second m c ⟨t.val - 1, hn⟩ = second m c t := by unfold second; rw [start_later t h hn]
    rw [(dats m 0 c).before_of_pos 5 t (by omega) ((cfg0.win 5).fetch_out rfl t), flush_5,
      decide_eq_false (by show ¬(t.val - 1) % 4 = 3; omega), if_neg Bool.false_ne_true, ← hs]
    by_cases h1 : (t.val - 1) % 4 = 0
    · have hi := idle_5 ⟨t.val - 1, hn⟩
      rw [decide_eq_true (show (⟨t.val - 1, hn⟩ : Fin cfg0.N).val % 4 = 0 from h1)] at hi
      unfold Dat.left
      rw [hi]
      exact after_5 m c _
    · have hi := idle_5 ⟨t.val - 1, hn⟩
      rw [decide_eq_false (show ¬(⟨t.val - 1, hn⟩ : Fin cfg0.N).val % 4 = 0 from h1)] at hi
      unfold Dat.left
      rw [hi]
      exact ih ⟨t.val - 1, hn⟩ (by show t.val - 1 = n; omega) h1 d

/-- What the second output's buffer must hold after a later column block. -/
theorem leaves_5 (c : Dev nD) (t : Fin cfg0.N) (h : ¬t.val % 4 = 0) :
    (owns (c : Thread nD τ) (st0_5 t) fullShare (second m c t) : sProp 𝕄) ⊢ (dats m 0 c).leavesExact 5 t := by
  have hi := idle_5 t
  rw [decide_eq_false h] at hi
  have hf := flush_5 t
  by_cases h3 : t.val % 4 = 3
  · rw [decide_eq_true h3] at hf
    unfold Dat.leavesExact
    rw [hi, hf, after_5]
    exact Idealize.SL.BI.Entails.refl _
  · rw [decide_eq_false h3] at hf
    rw [Dat.leavesExact_idle (dats m 0 c) 5 t hi hf]
    iintro H
    iexists second m c t
    rw [before_5 m c t.val t rfl h]
    iexact H

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it must return. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 1600000 in
/-- The body at any point turns what it is called with into what it must return. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    show (dats m 0 c).Φ t.succ = iprop(owns (c : Thread nD τ) scM fullShare (rows m c t) ∗ (∃ r, prngReg c r)) from rfl, Phi_castSucc]
  rw [show (dats m 0 c).leavesExact 0 t = owns (c : Thread nD τ) (st0_0 t) fullShare (iblk m c 0 t) from after_0 m c t ▸ rfl,
    show (dats m 0 c).leavesExact 1 t = owns (c : Thread nD τ) (st0_1 t) fullShare (iblk m c 1 t) from after_1 m c t ▸ rfl,
    show (dats m 0 c).leavesExact 2 t = owns (c : Thread nD τ) (st0_2 t) fullShare (iblk m c 2 t) from after_2 m c t ▸ rfl,
    show (dats m 0 c).leavesExact 3 t = owns (c : Thread nD τ) (st0_3 t) fullShare (iblk m c 3 t) from after_3 m c t ▸ rfl,
    show (dats m 0 c).leavesExact 4 t = owns (c : Thread nD τ) (st0_4 t) fullShare (k0_pay4 (rows m c t) (iblk m c 2 t)) from after_4 m c t ▸ rfl]
  by_cases h : t.val % 4 = 0
  · have hi := idle_5 t
    rw [decide_eq_true h] at hi
    rw [show (dats m 0 c).leavesExact 5 t = owns (c : Thread nD τ) (st0_5 t) fullShare (second m c t) from by
      unfold Dat.leavesExact; rw [hi, ← after_5 m c t]; rfl]
    unfold rows second
    rw [start_first t h]
    iintro ⟨HΦ, Ho, ⟨%d0, H0⟩, ⟨%d1, H1⟩, ⟨%d2, H2⟩, ⟨%d3, H3⟩, ⟨%d4, H4⟩, ⟨%d5, H5⟩⟩
    ihave ⟨HS, Hg⟩ := (held_some m c t.val (Nat.le_of_lt t.isLt)) $$ HΦ
    iapply (body_first c (grid0.coords t) _ _ _ _ _ _ _ _ _ _ _ _ _ _ (iblk m c 0 t) (iblk m c 1 t) (iblk m c 2 t) (iblk m c 3 t)
      ((first_iff t).mpr h) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · have hp : t.val ≠ 0 := fun h0 => h (by rw [h0])
    have hr : rows m c ⟨t.val - 1, Nat.lt_of_le_of_lt (Nat.sub_le _ _) t.isLt⟩ = rows m c t := by
      unfold rows; rw [start_later t h]
    rw [held_pos m c _ _ hp, hr]
    simp only [before_5 m c t.val t rfl h]
    iintro ⟨⟨HS, Hg⟩, Ho, ⟨%d0, H0⟩, ⟨%d1, H1⟩, ⟨%d2, H2⟩, ⟨%d3, H3⟩, ⟨%d4, H4⟩, ⟨%d5, H5⟩⟩
    iapply (body_later c (grid0.coords t) _ _ _ _ _ _ _ _ _ _ _ _ _ _ (iblk m c 0 t) (iblk m c 1 t) (iblk m c 2 t) (iblk m c 3 t)
      (fun hc => h ((first_iff t).mp hc)) (second m c t) (rows m c t) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves_5 m c t h)
    iexact H5

/-- The body's table entry at a point is its body. -/
theorem defs₀_row (t : Fin cfg0.N) : defs₀ (F := F) .tc cfg0.body (cfg0.bodyArgs t (cfg0.slots t)) = bodyAt0 t := by
  unfold defs₀; rw [Defs.onTc_tc]

/-- The library's obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch's memory gives the invariant before the first point. -/
theorem hin (c : Dev nD) : Pipeline.ΦA spec0 c ⊢ (dats m 0 c).Φ 0 := by
  rw [show (dats m 0 c).Φ 0 = Pipeline.ΦA spec0 c from rfl]

/-- The invariant after the last point gives the launch's memory back. -/
theorem hout (c : Dev nD) : (dats m 0 c).Φ (Fin.last cfg0.N) ⊢ Pipeline.ΦA spec0 c := by
  rw [PhiA_eq]
  exact held_some m c cfg0.N (Nat.le_refl _)

set_option backward.isDefEq.respectTransparency.types false in
/-- Every execution terminates, with the pipeline's arrays at what the proof data gives, every other buffer as the region
    found it, and every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every execution terminates with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Proof.ProjIdealFrame

end
-- ==== Proof.ProjStep.lean ====
/- The input projection in mathematical terms: what its two results are at each index, as functions of the arguments, and
   what one grid point of the kernel computes, over the extended reals. -/
module

public import proofs.«01_k».proof.Proof.ProjIdealFrame
public import proofs.«01_k».proof.Proof.FfnStep
public import Idealize.ShloMosaic.Lib.Pointwise

@[expose] public section

set_option maxRecDepth 16384

noncomputable section

namespace Cert.Proof.ProjStep

open Cert.ProjIdeal Cert.ProjIdeal.Gen Idealize.ShloMosaic
open Cert.Proof.FfnStep (nrm)

/-- Which column of the input weights column `n` of the first result comes from: the columns of the eight decay and step
    weights (2048 to 2055) are left out, and the two groups of 512 columns from 4104 change places. -/
def colOf (n : Fin 8192) : Fin 8200 :=
  ⟨if n.val < 2048 then n.val else if n.val < 4096 then n.val + 8 else if n.val < 4608 then n.val + 520
    else if n.val < 5120 then n.val - 504 else n.val + 8, by split_ifs <;> omega⟩

/-- The padding value, the integer zero as a number. -/
theorem sitofp_zero : FloatOps.sitofp (F := Ideal) FTy.f32 (0#32) = (0 : EReal) := by
  show (((0#32 : BitVec 32).toInt : ℝ) : EReal) = 0
  simp

section Results

variable (X : Vec Ideal S8x4096x1024 .f32) (N : Vec Ideal S1024 .f32) (W : Vec Ideal S1024x8200 .f32)

/-- Row `R` of the normalised input, the batch and the position counted together. -/
def row (R : Fin 32768) (k : Fin 1024) : EReal :=
  nrm (fun e => X (ix3 (⟨R.val / 4096, by omega⟩ : Fin 8) (⟨R.val % 4096, by omega⟩ : Fin 4096) e)) (fun e => N (ix1 e)) k

/-- The normalised row `R` times column `j` of the input weights. -/
def proj (R : Fin 32768) (j : Fin 8200) : EReal := ∑ k : Fin 1024, row X N R k * W (ix2 k j)

/-- The first result. -/
def wide (i : S32768x8192.Idx) : EReal := proj X N W (i 0) (colOf (i 1))

/-- The second result: the eight decay and step columns, then zeros. -/
def side (i : S32768x128.Idx) : EReal := if h : (i 1).val < 8 then proj X N W (i 0) ⟨2048 + (i 1).val, by omega⟩ else 0

end Results

/-- The normalised rows of a block. -/
theorem pay2_apply (x0 : Vec Ideal S1024x1024 .f32) (x1 : Vec Ideal S1x1024 .f32) (r d : Fin 1024) :
    k0_pay2 x0 x1 (ix2 r d) = nrm (fun e => x0 (ix2 r e)) (fun e => x1 (ix2 0 e)) d := by
  unfold_payloads
  pointwise
  rfl

/-- The rows of a block times the second weights. -/
theorem pay3_apply (x0 : Vec Ideal S1024x1024 .f32) (x1 : Vec Ideal S1x1024 .f32) (x3 : Vec Ideal S1024x128 .bf16) (r : Fin 1024) (d : Fin 128) :
    k0_pay3 x0 x1 x3 (ix2 r d) = ∑ k : Fin 1024, nrm (fun e => x0 (ix2 r e)) (fun e => x1 (ix2 0 e)) k * x3 (ix2 k d) := by
  unfold_payloads
  pointwise
  rfl

/-- The kept rows times a block of the first weights. -/
theorem pay4_apply (h : Vec Ideal S1024x1024 .bf16) (x2 : Vec Ideal S1024x2048 .bf16) (r : Fin 1024) (d : Fin 2048) :
    k0_pay4 h x2 (ix2 r d) = ∑ k : Fin 1024, h (ix2 r k) * x2 (ix2 k d) := by
  unfold_payloads
  pointwise

end Cert.Proof.ProjStep

end
-- ==== Proof.ProjRun.lean ====
/- The input projection kernel's two result arrays as functions of its arguments, over the extended reals: the blocks that the
   grid points read, the blocks that they write back, and the arrays after the run. -/
module

public import proofs.«01_k».proof.Proof.ProjStep

@[expose] public section

set_option maxRecDepth 16384

noncomputable section

namespace Cert.Proof.ProjRun

open Cert.ProjIdeal Cert.ProjIdeal.Gen Cert.Proof.ProjStep Cert.Proof.ProjIdealFrame
open Idealize.ShloMosaic Idealize.ShloMosaic.TcCoe Idealize.SL.Sem

variable (m : (ℓ : Loc nD τ sig) → Buf (Elt Ideal) ℓ) (ρ : Dev nD → PrngReg) (c : Dev nD)

/-- One of the arguments on a device. -/
abbrev argX : Vec Ideal S8x4096x1024 .f32 := m ((c : Thread nD τ).loc main_arg0)
/-- One of the arguments on a device. -/
abbrev argN : Vec Ideal S1024 .f32 := m ((c : Thread nD τ).loc main_arg1)
/-- One of the arguments on a device. -/
abbrev argW : Vec Ideal S1024x8200 .f32 := m ((c : Thread nD τ).loc main_arg2)

/-- The block index of each window at each grid point. -/
theorem idx : ∀ t : Fin cfg0.N, win0_0.index t (0 : Fin 2) = t.val / 4 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 4
    ∧ win0_3.index t (0 : Fin 2) = 0 ∧ win0_3.index t (1 : Fin 2) = 0
    ∧ win0_4.index t (0 : Fin 2) = t.val / 4 ∧ win0_4.index t (1 : Fin 2) = t.val % 4
    ∧ win0_5.index t (0 : Fin 2) = t.val / 4 ∧ win0_5.index t (1 : Fin 2) = 0 :=
  (by decide +kernel : ∀ t : Fin grid0.N, _)

/-- A grid point's number is below the number of points. -/
theorem lt_N (t : Fin cfg0.N) : t.val < 128 := lt_of_lt_of_eq t.isLt N_0

/-- Row `r` of the point's block of rows, counted in the whole input. -/
def rowOf (t : Fin cfg0.N) (r : Fin 1024) : Fin 32768 := ⟨t.val / 4 * 1024 + r.val, by have := lt_N t; omega⟩

/-- The rows of the input that a point reads. -/
theorem iblk0_apply (t : Fin cfg0.N) (r d : Fin 1024) :
    iblk m c 0 t (ix2 r d) = argX m c (ix3 (⟨(rowOf t r).val / 4096, by omega⟩ : Fin 8) (⟨(rowOf t r).val % 4096, by omega⟩ : Fin 4096) d) := by
  obtain ⟨e0, e1, -⟩ := idx t
  have hemb : ((cfg0.win 0).blk t).view.emb (ix2 r d) = (ix2 (rowOf t r) d : S32768x1024.Idx) := by
    funext a; apply Fin.ext
    match a with
    | ⟨0, _⟩ => show win0_0.index t (0 : Fin 2) * 1024 + 1 * r.val = t.val / 4 * 1024 + r.val; omega
    | ⟨1, _⟩ => show win0_0.index t (1 : Fin 2) * 1024 + 1 * d.val = d.val; omega
  show V m c (Pipeline.arrRef spec0 0) (((cfg0.win 0).blk t).view.emb (ix2 r d)) = _
  rw [hemb]
  simp only [V, hostOps0, hostOps0_1, hostOps0_2, List.flatten_cons, List.flatten_nil, List.append_nil, List.cons_append, List.nil_append]
  entry_read
  pointwise

/-- The weights of the normalisation. -/
theorem iblk1_apply (t : Fin cfg0.N) (d : Fin 1024) : iblk m c 1 t (ix2 0 d) = argN m c (ix1 d) := by
  obtain ⟨-, -, e0, e1, -⟩ := idx t
  have hemb : ((cfg0.win 1).blk t).view.emb (ix2 0 d) = (ix2 (0 : Fin 1) d : S1x1024.Idx) := by
    funext a; apply Fin.ext
    match a with
    | ⟨0, _⟩ => show win0_1.index t (0 : Fin 2) * 1 + 1 * 0 = 0; omega
    | ⟨1, _⟩ => show win0_1.index t (1 : Fin 2) * 1024 + 1 * d.val = d.val; omega
  show V m c (Pipeline.arrRef spec0 1) (((cfg0.win 1).blk t).view.emb (ix2 0 d)) = _
  rw [hemb]
  simp only [V, hostOps0, hostOps0_1, hostOps0_2, List.flatten_cons, List.flatten_nil, List.append_nil, List.cons_append, List.nil_append]
  entry_read
  pointwise

set_option maxHeartbeats 1600000 in
/-- The first weights as the kernel is given them, in the order of the first result's columns. -/
theorem weights_apply (k : Fin 1024) (n : Fin 8192) : V m c main_v9 (ix2 k n) = argW m c (ix2 k (colOf n)) := by
  show StableHlo.after (hostOps0 ++ (hostOps0_1 ++ (hostOps0_2 ++ []))) (fun b => m (c, b)) main_v9 (ix2 k n) = _
  dsimp only [hostOps0, hostOps0_1, hostOps0_2, List.append_nil, List.cons_append, List.nil_append]
  simp only [StableHlo.after_cons, StableHlo.after_nil]
  after_results_simp
  pointwise
  after_results_simp
  pointwise
  unfold colOf
  split_ifs <;> refine congrArg (argW m c) (congrArg (ix2 k) (Fin.ext ?_)) <;> dsimp only <;> first | omega | (split_ifs <;> omega)

/-- The point's block of columns of the first weights. -/
theorem iblk2_apply (t : Fin cfg0.N) (k : Fin 1024) (j : Fin 2048) :
    iblk m c 2 t (ix2 k j) = argW m c (ix2 k (colOf ⟨t.val % 4 * 2048 + j.val, by omega⟩)) := by
  obtain ⟨-, -, -, -, e0, e1, -⟩ := idx t
  have hemb : ((cfg0.win 2).blk t).view.emb (ix2 k j) = (ix2 k (⟨t.val % 4 * 2048 + j.val, by omega⟩ : Fin 8192) : S1024x8192.Idx) := by
    funext a; apply Fin.ext
    match a with
    | ⟨0, _⟩ => show win0_2.index t (0 : Fin 2) * 1024 + 1 * k.val = k.val; omega
    | ⟨1, _⟩ => show win0_2.index t (1 : Fin 2) * 2048 + 1 * j.val = t.val % 4 * 2048 + j.val; omega
  show V m c (Pipeline.arrRef spec0 2) (((cfg0.win 2).blk t).view.emb (ix2 k j)) = _
  rw [hemb]
  exact weights_apply m c k _

/-- The second weights, padded with zeros to 128 columns. -/
theorem iblk3_apply (t : Fin cfg0.N) (k : Fin 1024) (j : Fin 128) :
    iblk m c 3 t (ix2 k j) = if h : j.val < 8 then argW m c (ix2 k ⟨2048 + j.val, by omega⟩) else 0 := by
  obtain ⟨-, -, -, -, -, -, e0, e1, -⟩ := idx t
  have hemb : ((cfg0.win 3).blk t).view.emb (ix2 k j) = (ix2 k j : S1024x128.Idx) := by
    funext a; apply Fin.ext
    match a with
    | ⟨0, _⟩ => show win0_3.index t (0 : Fin 2) * 1024 + 1 * k.val = k.val; omega
    | ⟨1, _⟩ => show win0_3.index t (1 : Fin 2) * 128 + 1 * j.val = j.val; omega
  show V m c (Pipeline.arrRef spec0 3) (((cfg0.win 3).blk t).view.emb (ix2 k j)) = _
  rw [hemb]
  simp only [V, hostOps0, hostOps0_1, hostOps0_2, List.flatten_cons, List.flatten_nil, List.append_nil, List.cons_append, List.nil_append]
  entry_read
  simp only [StableHlo.TRef.toBuf, StableHlo.TRef.ofBuf, cast_eq]
  pointwise
  simp only [sitofp_zero]

/-- The normalised rows that a point multiplies. -/
theorem rows_apply (t : Fin cfg0.N) (r k : Fin 1024) : rows m c t (ix2 r k) = row (argX m c) (argN m c) (rowOf t r) k := by
  have hr : rowOf (start t) r = rowOf t r := Fin.ext (by show (t.val - t.val % 4) / 4 * 1024 + r.val = t.val / 4 * 1024 + r.val; omega)
  unfold rows
  rw [pay2_apply]
  simp only [iblk0_apply, iblk1_apply, hr]
  rfl

/-- What a point stores of the first result. -/
theorem after4_apply (t : Fin cfg0.N) (r : Fin 1024) (j : Fin 2048) :
    k0_pay4 (rows m c t) (iblk m c 2 t) (ix2 r j)
      = wide (argX m c) (argN m c) (argW m c) (ix2 (rowOf t r) ⟨t.val % 4 * 2048 + j.val, by omega⟩) := by
  rw [pay4_apply]
  simp only [rows_apply, iblk2_apply]
  rfl

/-- What a row block stores of the second result. -/
theorem after5_apply (t : Fin cfg0.N) (r : Fin 1024) (j : Fin 128) :
    second m c t (ix2 r j) = side (argX m c) (argN m c) (argW m c) (ix2 (rowOf t r) j) := by
  have hr : rowOf (start t) r = rowOf t r := Fin.ext (by show (t.val - t.val % 4) / 4 * 1024 + r.val = t.val / 4 * 1024 + r.val; omega)
  unfold second
  rw [pay3_apply]
  simp only [iblk0_apply, iblk1_apply, iblk3_apply, hr]
  show _ = if h : j.val < 8 then proj (argX m c) (argN m c) (argW m c) (rowOf t r) ⟨2048 + j.val, by omega⟩ else 0
  by_cases h : j.val < 8
  · simp only [dif_pos h]
    rfl
  · simp only [dif_neg h, mul_zero, Finset.sum_const_zero]

/-- Where a point's block of the first result lies. -/
theorem emb4 (t : Fin cfg0.N) (r : Fin 1024) (j : Fin 2048) : ((cfg0.win 4).blk t).view.emb (ix2 r j)
    = (ix2 (rowOf t r) (⟨t.val % 4 * 2048 + j.val, by omega⟩ : Fin 8192) : S32768x8192.Idx) := by
  obtain ⟨-, -, -, -, -, -, -, -, e0, e1, -⟩ := idx t
  funext a; apply Fin.ext
  match a with
  | ⟨0, _⟩ => show win0_4.index t (0 : Fin 2) * 1024 + 1 * r.val = t.val / 4 * 1024 + r.val; omega
  | ⟨1, _⟩ => show win0_4.index t (1 : Fin 2) * 2048 + 1 * j.val = t.val % 4 * 2048 + j.val; omega

/-- Where a point's block of the second result lies. -/
theorem emb5 (t : Fin cfg0.N) (r : Fin 1024) (j : Fin 128) : ((cfg0.win 5).blk t).view.emb (ix2 r j) = (ix2 (rowOf t r) j : S32768x128.Idx) := by
  obtain ⟨-, -, -, -, -, -, -, -, -, -, e0, e1⟩ := idx t
  funext a; apply Fin.ext
  match a with
  | ⟨0, _⟩ => show win0_5.index t (0 : Fin 2) * 1024 + 1 * r.val = t.val / 4 * 1024 + r.val; omega
  | ⟨1, _⟩ => show win0_5.index t (1 : Fin 2) * 128 + 1 * j.val = j.val; omega

/-- What a point writes back of the first result is its block of it. -/
theorem flushed4 (t : Fin cfg0.N) : (dats m 0 c).flushed 4 t
    = ((cfg0.win 4).blk t).view.read (Elt Ideal) (wide (argX m c) (argN m c) (argW m c)) := by
  show (dats m 0 c).after 4 t = _
  rw [after_4]
  funext j
  obtain ⟨r, d, rfl⟩ : ∃ (r : Fin 1024) (d : Fin 2048), j = ix2 r d := ⟨j 0, j 1, eq_ix2 j⟩
  show k0_pay4 (rows m c t) (iblk m c 2 t) (ix2 r d)
    = wide (argX m c) (argN m c) (argW m c) (((cfg0.win 4).blk t).view.emb (ix2 r d))
  rw [emb4, after4_apply]

/-- What a point writes back of the second result is its block of it. -/
theorem flushed5 (t : Fin cfg0.N) : (dats m 0 c).flushed 5 t
    = ((cfg0.win 5).blk t).view.read (Elt Ideal) (side (argX m c) (argN m c) (argW m c)) := by
  show (dats m 0 c).after 5 t = _
  rw [after_5]
  funext j
  obtain ⟨r, d, rfl⟩ : ∃ (r : Fin 1024) (d : Fin 128), j = ix2 r d := ⟨j 0, j 1, eq_ix2 j⟩
  show second m c t (ix2 r d) = side (argX m c) (argN m c) (argW m c) (((cfg0.win 5).blk t).view.emb (ix2 r d))
  rw [emb5, after5_apply]

/-- Every index of the first result is in some point's block. -/
theorem covered4 (i : S32768x8192.Idx) : ∃ t : Fin cfg0.N, (cfg0.win 4).flush t = true ∧ i ∈ ((cfg0.win 4).blk t).view.set := by
  obtain ⟨R, n, rfl⟩ : ∃ (R : Fin 32768) (n : Fin 8192), i = ix2 R n := ⟨i 0, i 1, eq_ix2 i⟩
  have hN : cfg0.N = 128 := N_0
  have hlt : R.val / 1024 * 4 + n.val / 2048 < cfg0.N := by omega
  refine ⟨⟨R.val / 1024 * 4 + n.val / 2048, hlt⟩, flush0_4 _, ?_⟩
  have h := ((cfg0.win 4).blk ⟨R.val / 1024 * 4 + n.val / 2048, hlt⟩).view.emb_mem_set
    (ix2 (⟨R.val % 1024, by omega⟩ : Fin 1024) (⟨n.val % 2048, by omega⟩ : Fin 2048))
  rw [emb4] at h
  have he : (ix2 R n : S32768x8192.Idx) = ix2 (rowOf ⟨R.val / 1024 * 4 + n.val / 2048, hlt⟩ ⟨R.val % 1024, by omega⟩)
      (⟨(R.val / 1024 * 4 + n.val / 2048) % 4 * 2048 + n.val % 2048, by omega⟩ : Fin 8192) := by
    unfold rowOf
    congr 1 <;> apply Fin.ext <;> dsimp only <;> omega
  rw [he]
  exact h

/-- Every index of the second result is in some row block that is written back. -/
theorem covered5 (i : S32768x128.Idx) : ∃ t : Fin cfg0.N, (cfg0.win 5).flush t = true ∧ i ∈ ((cfg0.win 5).blk t).view.set := by
  obtain ⟨R, n, rfl⟩ : ∃ (R : Fin 32768) (n : Fin 128), i = ix2 R n := ⟨i 0, i 1, eq_ix2 i⟩
  have hN : cfg0.N = 128 := N_0
  have hlt : R.val / 1024 * 4 + 3 < cfg0.N := by omega
  refine ⟨⟨R.val / 1024 * 4 + 3, hlt⟩, (flush0_5 _).mpr (by show (R.val / 1024 * 4 + 3) % 4 = 3; omega), ?_⟩
  have h := ((cfg0.win 5).blk ⟨R.val / 1024 * 4 + 3, hlt⟩).view.emb_mem_set (ix2 (⟨R.val % 1024, by omega⟩ : Fin 1024) n)
  rw [emb5] at h
  have he : (ix2 R n : S32768x128.Idx) = ix2 (rowOf ⟨R.val / 1024 * 4 + 3, hlt⟩ ⟨R.val % 1024, by omega⟩) n := by
    unfold rowOf
    congr 1 <;> apply Fin.ext <;> dsimp only <;> omega
  rw [he]
  exact h

/-- The first result array after the run. -/
theorem final4 : (dats m 0 c).arrAt 4 cfg0.N = wide (argX m c) (argN m c) (argW m c) :=
  (dats m 0 c).arrAt_eq_of_cover 4 _ (fun t _ => flushed4 m c t) covered4

/-- The second result array after the run. -/
theorem final5 : (dats m 0 c).arrAt 5 cfg0.N = side (argX m c) (argN m c) (argW m c) :=
  (dats m 0 c).arrAt_eq_of_cover 5 _ (fun t _ => flushed5 m c t) covered5

/-- The run with both result arrays at their functions of the arguments, and the arguments unchanged. -/
theorem run : θ_run defs (onTc (τ := τ) (Cert.ProjIdeal.main (F := Ideal))) ⟨m, fun _ => 0, ρ⟩ fun r => ∀ c : Dev nD,
      r.2.mem ((c : Thread nD τ).loc main_v14_0) = wide (argX m c) (argN m c) (argW m c)
      ∧ r.2.mem ((c : Thread nD τ).loc main_v14_1) = side (argX m c) (argN m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1.1 c).1 4).trans (final4 m c), ((h.1.1 c).1 5).trans (final5 m c), h.2.1 c⟩)
    (θ_run_and (run_quiescent m ρ) (frame m ρ))

end Cert.Proof.ProjRun

end
-- ==== Proof.ProjRef.lean ====
/- The input projection's reference at each index of its two results: the same functions of the arguments as the kernel's. -/
module

public import proofs.«01_k».proof.Proof.ProjStep
public import proofs.«01_k».proof.Proof.Gen.RefProjIdeal.Read

@[expose] public section

set_option maxRecDepth 16384

noncomputable section

namespace Cert.Proof.ProjRef

open Cert.RefProjIdeal Cert.RefProjIdeal.Read Idealize.ShloMosaic
open Cert.Proof.FfnStep (nrm)
open Cert.Proof.ProjStep (colOf row proj wide side)

variable (x0 : (⟨S8x4096x1024, .f32⟩ : BufTy).Contents (Elt Ideal)) (x1 : (⟨S1024, .f32⟩ : BufTy).Contents (Elt Ideal))
  (x2 : (⟨S1024x8200, .f32⟩ : BufTy).Contents (Elt Ideal))

/-- The normalised input. -/
theorem v12 (b : Fin 8) (s : Fin 4096) (d : Fin 1024) :
    val_main_v12 (F := Ideal) x0 x1 (ix3 b s d) = nrm (fun e => x0 (ix3 b s e)) (fun e => x1 (ix1 e)) d := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The product with the input weights, the batch and the position counted together. -/
theorem v14 (R : Fin 32768) (j : Fin 8200) : val_main_v14 (F := Ideal) x0 x1 x2 (ix2 R j) = proj x0 x1 x2 R j := by
  pointwise [val_main_v14, val_main_v13]
  simp only [v12]
  rfl

/-- The first result. -/
theorem v21 : val_main_v21 (F := Ideal) x0 x1 x2 = wide x0 x1 x2 := by
  funext i
  obtain ⟨R, n, rfl⟩ : ∃ (R : Fin 32768) (n : Fin 8192), i = ix2 R n := ⟨i 0, i 1, eq_ix2 i⟩
  pointwise [val_main_v21, val_main_v20, val_main_v19, val_main_v18, val_main_v17, val_main_v16, val_main_v15]
  simp only [v14]
  show _ = proj x0 x1 x2 R (colOf n)
  unfold colOf
  split_ifs <;> refine congrArg (proj x0 x1 x2 R) (Fin.ext ?_) <;> dsimp only <;> first | omega | (split_ifs <;> omega)

/-- The second result. -/
theorem v23 : val_main_v23 (F := Ideal) x0 x1 x2 = side x0 x1 x2 := by
  funext i
  obtain ⟨R, n, rfl⟩ : ∃ (R : Fin 32768) (n : Fin 128), i = ix2 R n := ⟨i 0, i 1, eq_ix2 i⟩
  pointwise [val_main_v23, val_main_v22, val_main_call0_v0, val_main_c]
  simp only [v14, Cert.Proof.ProjStep.sitofp_zero]
  rfl

end Cert.Proof.ProjRef

end
-- ==== Proof.ProjClaim.lean ====
/- The claims about the input projection: that kernel and reference leave the same two arrays. -/
module

public import proofs.«01_k».proof.Defs
public import proofs.«01_k».proof.Proof.ProjRun
public import proofs.«01_k».proof.Proof.ProjRef
public import Idealize.ShloMosaic.Lib.Quiescent

@[expose] public section

noncomputable section

namespace Cert.Proof.ProjClaim

open Idealize.ShloMosaic Idealize.ShloMosaic.TcCoe Idealize.SL.Sem

/-- The reference runs, keeps its arguments and ends quiescent. -/
theorem frame_reference : Cert.quiescent_RefProjIdeal := fun m ρ _ =>
  (θ_run Cert.RefProjIdeal.defs _ _).mono (fun r h => ⟨fun c => (h c).2.2, sem_eq_zero_of_no_sems (by decide) r.2⟩)
    (Cert.RefProjIdeal.Value.run (F := Ideal) m ρ)

/-- From arguments that agree, kernel and reference end with the same two result arrays: `ProjStep.wide` and
    `ProjStep.side` of the arguments. -/
theorem algebraic : Cert.algebraic_ProjIdeal_RefProjIdeal := by
  intro m ρ m' ρ' _ hagree
  refine ⟨_, _, Cert.Proof.ProjRun.run m ρ, ?_⟩
  refine (θ_run Cert.RefProjIdeal.defs _ _).mono (fun _ h c => ⟨(h c).1.trans ?_, (h c).2.1.trans ?_, (h c).2.2⟩)
    (Cert.RefProjIdeal.Value.run (F := Ideal) m' ρ')
  · obtain ⟨h0, h1, h2⟩ := hagree c
    rw [Cert.RefProjIdeal.Read.val_main_v21_eq, h0, h1, h2]
    exact Cert.Proof.ProjRef.v21 _ _ _
  · obtain ⟨h0, h1, h2⟩ := hagree c
    rw [h0, h1, h2]
    exact (Cert.RefProjIdeal.Read.val_main_v23_eq _ _ _).trans (Cert.Proof.ProjRef.v23 _ _ _)

end Cert.Proof.ProjClaim

end
-- ==== Proof.MergeStep.lean ====
/- What one grid point of the merge kernel computes, as formulas over the extended reals. -/
module

public import proofs.«01_k».proof.Proof.FfnStep
public import proofs.«01_k».proof.Proof.Gen.MergeIdeal.Value
public import Idealize.ShloMosaic.Lib.Pointwise
public import Idealize.ShloMosaic.Lib.Tactic
public import Idealize.ShloMosaic.Lib.Claim

@[expose] public section

set_option maxRecDepth 16384

noncomputable section

namespace Cert.Proof.MergeStep

open Cert.MergeIdeal Cert.MergeIdeal.Gen Idealize.ShloMosaic Idealize.ShloMosaic.TcCoe Idealize.SL.Sem
open Cert.Proof.FfnStep (nrm)

/-- The offsets of a whole matrix are zero on every axis. -/
theorem hz2 : (![0, 0] : Fin 2 → Nat) = fun _ => 0 := funext fun a => by fin_cases a <;> rfl
/-- The offsets of a whole three-axis array are zero on every axis. -/
theorem hz3 : (![0, 0, 0] : Fin 3 → Nat) = fun _ => 0 := funext fun a => by fin_cases a <;> rfl

section Pieces

variable {F : FTy → Type} [FloatOps F]
variable (m : (ℓ : Loc nD τ sig) → Buf (Elt F) ℓ) (c : Dev nD)

/-- Row `o` of the convolution's weights, as a point loads it. -/
def tap (x : Vec F S3x512 .f32) (o : Nat) (h : ∀ a, (![o, 0] : Fin 2 → Nat) a + S1x512.size a ≤ S3x512.size a) : Vec F S1x512 .f32 :=
  View.ld x (Rect.unit ![o, 0] S1x512.size h)

/-- Branch `o`'s weights, as a point loads them. -/
def slab (x : Vec F S3x512x1024 .bf16) (o : Nat)
    (h : ∀ a, (![o, 0, 0] : Fin 3 → Nat) a + S1x512x1024.size a ≤ S3x512x1024.size a) : Vec F S1x512x1024 .bf16 :=
  View.ld x (Rect.unit ![o, 0, 0] S1x512x1024.size h)

/-- The 512 rows from row `o` of the buffer into which a point has put the eight rows `p` before its block and, below them, the
    512 rows `q` of its block. -/
def window (p : Vec F S8x512 .f32) (q : Vec F S512x512 .f32) (o : Nat)
    (h : ∀ a, (![o, 0] : Fin 2 → Nat) a + S512x512.size a ≤ S520x512.size a) : Vec F S512x512 .f32 :=
  (View.whole cc0_scratch0).readCov (Val := Elt F)
    [⟨Rect.unit (s := S520x512) ![8, 0] S512x512.size inb_S520x512_S512x512_8_0, q⟩,
      ⟨Rect.unit (s := S520x512) ![0, 0] S8x512.size inb_S520x512_S8x512_0_0, p⟩]
    (Rect.unit (s := S520x512) ![o, 0] S512x512.size h).toLoadRect

/-- Row `o` of the weights. -/
theorem tap_apply (x : Vec F S3x512 .f32) (o : Nat) (ho : o < 3) (h) (j : Fin 512) : tap x o h (ix2 0 j) = x (ix2 ⟨o, ho⟩ j) := by
  show x _ = x _
  congr 1
  funext a; apply Fin.ext
  match a with
  | ⟨0, _⟩ => show o + 1 * 0 = o; omega
  | ⟨1, _⟩ => show 0 + 1 * j.val = j.val; omega

/-- Branch `o`'s weights. -/
theorem slab_apply (x : Vec F S3x512x1024 .bf16) (o : Nat) (ho : o < 3) (h) (k : Fin 512) (d : Fin 1024) :
    slab x o h (ix3 0 k d) = x (ix3 ⟨o, ho⟩ k d) := by
  show x _ = x _
  congr 1
  funext a; apply Fin.ext
  match a with
  | ⟨0, _⟩ => show o + 1 * 0 = o; omega
  | ⟨1, _⟩ => show 0 + 1 * k.val = k.val; omega
  | ⟨2, _⟩ => show 0 + 1 * d.val = d.val; omega

/-- Row `r` of the window is row `r + o` of the eight rows, or of the block when the eight rows end before it. -/
theorem window_apply (p : Vec F S8x512 .f32) (q : Vec F S512x512 .f32) (o : Nat) (ho : o ≤ 8) (inb) (r j : Fin 512) :
    window p q o inb (ix2 r j)
      = if h : r.val + o < 8 then p (ix2 ⟨r.val + o, h⟩ j) else q (ix2 ⟨r.val + o - 8, by omega⟩ j) := by
  show View.readCov _ _ _ _ = _
  rw [View.readCov_eq_canon']
  show View.canon _ ((Rect.unit (s := S520x512) ![o, 0] S512x512.size inb).emb (ix2 r j)) = _
  have e : (Rect.unit (s := S520x512) ![o, 0] S512x512.size inb).emb (ix2 r j) = (ix2 (⟨r.val + o, by omega⟩ : Fin 520) j : S520x512.Idx) := by
    funext a; apply Fin.ext
    match a with
    | ⟨0, _⟩ => show o + 1 * r.val = r.val + o; omega
    | ⟨1, _⟩ => show 0 + 1 * j.val = j.val; omega
  rw [e]
  by_cases h : r.val + o < 8
  · have e0 : (ix2 (⟨r.val + o, by omega⟩ : Fin 520) j : S520x512.Idx)
        = (Rect.unit (s := S520x512) ![0, 0] S8x512.size inb_S520x512_S8x512_0_0).emb (ix2 (⟨r.val + o, h⟩ : Fin 8) j) := by
      funext a; apply Fin.ext
      match a with
      | ⟨0, _⟩ => show r.val + o = 0 + 1 * (r.val + o); omega
      | ⟨1, _⟩ => show j.val = 0 + 1 * j.val; omega
    rw [dif_pos h, View.canon_cons_of_not_mem, e0, View.canon_cons_emb]
    intro hm
    obtain ⟨x, hx⟩ := (Rect.unit (s := S520x512) ![8, 0] S512x512.size inb_S520x512_S512x512_8_0).exists_idx_of_mem hm
    have h0 : 8 + 1 * (x 0).val = r.val + o := congrArg Fin.val (congrFun hx (0 : Fin 2))
    omega
  · have e8 : (ix2 (⟨r.val + o, by omega⟩ : Fin 520) j : S520x512.Idx)
        = (Rect.unit (s := S520x512) ![8, 0] S512x512.size inb_S520x512_S512x512_8_0).emb (ix2 (⟨r.val + o - 8, by omega⟩ : Fin 512) j) := by
      funext a; apply Fin.ext
      match a with
      | ⟨0, _⟩ => show r.val + o = 8 + 1 * (r.val + o - 8); omega
      | ⟨1, _⟩ => show j.val = 0 + 1 * j.val; omega
    rw [dif_neg h, e8, View.canon_cons_emb]

/-- The convolution branch at a point: from the products of its own rows and of the eight rows before, and the gate's rows. -/
def branch (t : Fin cfg0.N) : Vec F S512x512 .f32 :=
  k0_pay6
    (k0_pay4 (tap (iblk m c 11 t) 0 inb_S3x512_S1x512_0_0)
      (window (k0_pay2 (grid0.coords t) (iblk m c 4 t) (iblk m c 6 t)) (k0_pay3 (iblk m c 3 t) (iblk m c 5 t)) 6 inb_S520x512_S512x512_6_0))
    (window (k0_pay2 (grid0.coords t) (iblk m c 4 t) (iblk m c 6 t)) (k0_pay3 (iblk m c 3 t) (iblk m c 5 t)) 7 inb_S520x512_S512x512_7_0)
    (k0_pay5 (tap (iblk m c 11 t) 1 inb_S3x512_S1x512_1_0))
    (tap (iblk m c 11 t) 2 inb_S3x512_S1x512_2_0)
    (window (k0_pay2 (grid0.coords t) (iblk m c 4 t) (iblk m c 6 t)) (k0_pay3 (iblk m c 3 t) (iblk m c 5 t)) 8 inb_S520x512_S512x512_8_0)
    (iblk m c 7 t)

/-- The gated sum of the three branches times the output weights, at a point. -/
def merged (t : Fin cfg0.N) : Vec F S512x1024 .f32 :=
  k0_pay9 (branch m c t)
    (k0_pay7 (iblk m c 8 t) (iblk m c 1 t) (slab (iblk m c 12 t) 0 inb_S3x512x1024_S1x512x1024_0_0_0))
    (k0_pay8 (iblk m c 9 t)) (iblk m c 2 t) (slab (iblk m c 12 t) 1 inb_S3x512x1024_S1x512x1024_1_0_0) (iblk m c 10 t)
    (slab (iblk m c 12 t) 2 inb_S3x512x1024_S1x512x1024_2_0_0) (iblk m c 13 t)

/-- What a point leaves in its output block. -/
theorem out_A (t : Fin cfg0.N) : outsAt0 m c t
    = k0_pay1 (merged m c t) (k0_pay10 (iblk m c 0 t)) (k0_pay11 (iblk m c 14 t)) (mulf (merged m c t) (merged m c t)) := by
  unfold outsAt0 out0_A_15
  rw [View.read_writes_eq_canon _ _ _ (cover0_A_15 c _ _ _ _ _ _ _ _ _ _ _ _ _ _ _ _ _ _ _ _ _ _ _ _ _ _ _ _ _ _ _ _ _ _ _ _ _ _ _
    _ _ _ _ _ _ _ _ _ _ _)]
  unfold kernelRun0_A
  dsimp only
  sl_unfold_words
  rw [View.canon_unit_zero (S := S1x512x1024) hz3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (hs0_11 t).read_unread, (hs0_12 t).read_unread, (hs0_13 t).read_unread,
    (hs0_14 t).read_unread, View.ld_unit_zero (S := S1x512x1024) hz3, View.ld_unit_zero (S := S1x512x512) hz3,
    View.ld_unit_zero (S := S1x8x512) hz3, View.ld_unit_zero (S := S1024x1024) hz2, View.ld_unit_zero (S := S1x1024) hz2]
  rfl

end Pieces

/-- The logistic function. -/
def sig (g : EReal) : EReal := Ideal.div 1 (1 + Ideal.exp (0 - g))

/-- The gated sum of three branches, each a row of 512 entries times a column of weights. -/
def gated (g0 g1 g2 : EReal) (a0 a1 a2 w0 w1 w2 : Fin 512 → EReal) : EReal :=
  sig g0 * ∑ k, a0 k * w0 k + sig g1 * ∑ k, a1 k * w1 k + sig g2 * ∑ k, a2 k * w2 k

/-- The products before the convolution, at one element. -/
theorem pay3_apply (x y : Vec Ideal S1x512x512 .bf16) (r j : Fin 512) : k0_pay3 x y (ix2 r j) = x (ix3 0 r j) * y (ix3 0 r j) := by
  unfold_payloads
  pointwise

/-- Only the first block of positions has the second grid coordinate zero. -/
theorem first : ∀ t : Fin cfg0.N, Scalar.cmpi .eq (BitVec.ofNat 32 (grid0.coords t 1).val) 0#32 = if t.val % 8 = 0 then 1#1 else 0#1 :=
  (by decide +kernel : ∀ t : Fin grid0.N, _)

/-- The products of the eight rows before a block; zero before the first block. -/
theorem pay2_apply (t : Fin cfg0.N) (x y : Vec Ideal S1x8x512 .bf16) (r : Fin 8) (j : Fin 512) :
    k0_pay2 (grid0.coords t) x y (ix2 r j) = if t.val % 8 = 0 then 0 else x (ix3 0 r j) * y (ix3 0 r j) := by
  unfold_payloads
  pointwise
  rw [first]
  split_ifs <;> rfl

/-- The convolution branch at one element, from the three windows. -/
theorem pay6_apply (w0 w1 w2 : Vec Ideal S1x512 .f32) (a b d : Vec Ideal S512x512 .f32) (s : Vec Ideal S1x512x512 .bf16) (r j : Fin 512) :
    k0_pay6 (k0_pay4 w0 a) b (k0_pay5 w1) w2 d s (ix2 r j)
      = s (ix3 0 r j) * (w0 (ix2 0 j) * a (ix2 r j) + w1 (ix2 0 j) * b (ix2 r j) + w2 (ix2 0 j) * d (ix2 r j)) := by
  unfold_payloads
  pointwise

/-- The gated sum times the output weights at one element. -/
theorem pay9_apply (v : Vec Ideal S512x512 .f32) (g0 g1 g2 w0 w1 w2 : Vec Ideal S1x512x1024 .bf16) (ya yb : Vec Ideal S1x512x512 .bf16)
    (wo : Vec Ideal S1024x1024 .bf16) (r : Fin 512) (d : Fin 1024) :
    k0_pay9 v (k0_pay7 g0 ya w0) (k0_pay8 g1) yb w1 g2 w2 wo (ix2 r d)
      = ∑ e : Fin 1024, gated (g0 (ix3 0 r e)) (g1 (ix3 0 r e)) (g2 (ix3 0 r e))
          (fun k => ya (ix3 0 r k)) (fun k => yb (ix3 0 r k)) (fun k => v (ix2 r k))
          (fun k => w0 (ix3 0 k e)) (fun k => w1 (ix3 0 k e)) (fun k => w2 (ix3 0 k e)) * wo (ix2 e d) := by
  unfold_payloads
  pointwise
  rfl

/-- The kernel's last step at one element: the input plus the normalised row. -/
theorem pay1_apply (p : Vec Ideal S512x1024 .f32) (x : Vec Ideal S1x512x1024 .f32) (w : Vec Ideal S1x1024 .f32) (r : Fin 512) (d : Fin 1024) :
    k0_pay1 p (k0_pay10 x) (k0_pay11 w) (mulf p p) (ix3 0 r d)
      = x (ix3 0 r d) + nrm (fun e => p (ix2 r e)) (fun e => w (ix2 0 e)) d := by
  unfold_payloads
  pointwise
  rfl

/-! ## The result as a function of the arguments -/

variable (x : Vec Ideal S8x4096x1024 .f32) (ya yb : Vec Ideal S8x4096x512 .bf16) (p : Vec Ideal S8x4096x8192 .bf16)
  (cw : Vec Ideal S3x512 .f32) (wb : Vec Ideal S3x512x1024 .f32) (wo : Vec Ideal S1024x1024 .f32) (nw : Vec Ideal S1024 .f32)

/-- The product that the convolution runs over, at one position and channel. -/
def prod (b : Fin 8) (s : Fin 4096) (j : Fin 512) : EReal :=
  p (ix3 b s ⟨3584 + j.val, by omega⟩) * p (ix3 b s ⟨4096 + j.val, by omega⟩)

/-- The product at the position two before `n`, and zero before the first position. -/
def late (b : Fin 8) (n : Nat) (hn : n < 4098) (j : Fin 512) : EReal :=
  if h : n < 2 then 0 else prod p b ⟨n - 2, by omega⟩ j

/-- The convolution branch: the gate times the weighted sum of the products at this position and the two before. -/
def conv (b : Fin 8) (s : Fin 4096) (j : Fin 512) : EReal :=
  p (ix3 b s ⟨4608 + j.val, by omega⟩) * (cw (ix2 0 j) * late p b s.val (by omega) j + cw (ix2 1 j) * late p b (s.val + 1) (by omega) j
    + cw (ix2 2 j) * late p b (s.val + 2) (by omega) j)

/-- The gated sum of the branches at one position and channel. -/
def mix (b : Fin 8) (s : Fin 4096) (e : Fin 1024) : EReal :=
  gated (p (ix3 b s ⟨5120 + e.val, by omega⟩)) (p (ix3 b s ⟨6144 + e.val, by omega⟩)) (p (ix3 b s ⟨7168 + e.val, by omega⟩))
    (fun k => ya (ix3 b s k)) (fun k => yb (ix3 b s k)) (fun k => conv p cw b s k)
    (fun k => wb (ix3 0 k e)) (fun k => wb (ix3 1 k e)) (fun k => wb (ix3 2 k e))

/-- The result: the input plus the normalised product of the gated sum with the output weights. -/
def result : Vec Ideal S8x4096x1024 .f32 := fun i =>
  x i + nrm (fun d => ∑ e : Fin 1024, mix ya yb p cw wb (i 0) (i 1) e * wo (ix2 e d)) (fun e => nw (ix1 e)) (i 2)

end Cert.Proof.MergeStep

end
-- ==== Proof.MergeRun.lean ====
/- The merge kernel's result array as a function of its arguments, over the extended reals: the blocks that the grid points
   read, the blocks that they write back, and the array after the run. -/
module

public import proofs.«01_k».proof.Proof.MergeStep

@[expose] public section

set_option maxRecDepth 16384

noncomputable section

namespace Cert.Proof.MergeRun

open Cert.MergeIdeal Cert.MergeIdeal.Gen Cert.MergeIdeal.Value Cert.Proof.MergeStep
open Idealize.ShloMosaic Idealize.ShloMosaic.TcCoe Idealize.SL.Sem
open Cert.Proof.FfnStep (nrm)

variable (m : (ℓ : Loc nD τ sig) → Buf (Elt Ideal) ℓ) (ρ : Dev nD → PrngReg) (c : Dev nD)

/-- One of the arguments on a device. -/
abbrev argX : Vec Ideal S8x4096x1024 .f32 := m ((c : Thread nD τ).loc main_arg0)
/-- One of the arguments on a device. -/
abbrev argA : Vec Ideal S8x4096x512 .bf16 := m ((c : Thread nD τ).loc main_arg1)
/-- One of the arguments on a device. -/
abbrev argB : Vec Ideal S8x4096x512 .bf16 := m ((c : Thread nD τ).loc main_arg2)
/-- One of the arguments on a device. -/
abbrev argP : Vec Ideal S8x4096x8192 .bf16 := m ((c : Thread nD τ).loc main_arg3)
/-- One of the arguments on a device. -/
abbrev argC : Vec Ideal S3x512 .f32 := m ((c : Thread nD τ).loc main_arg4)
/-- One of the arguments on a device. -/
abbrev argW : Vec Ideal S3x512x1024 .f32 := m ((c : Thread nD τ).loc main_arg5)
/-- One of the arguments on a device. -/
abbrev argO : Vec Ideal S1024x1024 .f32 := m ((c : Thread nD τ).loc main_arg6)
/-- One of the arguments on a device. -/
abbrev argN : Vec Ideal S1024 .f32 := m ((c : Thread nD τ).loc main_arg7)

/-- A grid point's number is below the number of points. -/
theorem lt_N (t : Fin cfg0.N) : t.val < 64 := lt_of_lt_of_eq t.isLt N_0

/-- The batch of a point. -/
def bOf (t : Fin cfg0.N) : Fin 8 := ⟨t.val / 8, by have := lt_N t; omega⟩

/-- Row `r` of the point's block of positions, counted in the whole sequence. -/
def sOf (t : Fin cfg0.N) (r : Fin 512) : Fin 4096 := ⟨t.val % 8 * 512 + r.val, by omega⟩

/-- Row `r` of the eight rows before the point's block; of the first eight rows at the first block. -/
def hOf (t : Fin cfg0.N) (r : Fin 8) : Fin 4096 := ⟨(t.val % 8 * 64 - 1) * 8 + r.val, by omega⟩

/-- The block index, at each grid point, of the windows that take whole blocks of positions. -/
theorem idx : ∀ t : Fin cfg0.N, (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = t.val % 8 ∧ win0_1.index t (2 : Fin 3) = 0)
    ∧ (win0_2.index t (0 : Fin 3) = t.val / 8 ∧ win0_2.index t (1 : Fin 3) = t.val % 8 ∧ win0_2.index t (2 : Fin 3) = 0)
    ∧ (win0_3.index t (0 : Fin 3) = t.val / 8 ∧ win0_3.index t (1 : Fin 3) = t.val % 8 ∧ win0_3.index t (2 : Fin 3) = 7)
    ∧ (win0_5.index t (0 : Fin 3) = t.val / 8 ∧ win0_5.index t (1 : Fin 3) = t.val % 8 ∧ win0_5.index t (2 : Fin 3) = 8)
    ∧ (win0_7.index t (0 : Fin 3) = t.val / 8 ∧ win0_7.index t (1 : Fin 3) = t.val % 8 ∧ win0_7.index t (2 : Fin 3) = 9)
    ∧ (win0_8.index t (0 : Fin 3) = t.val / 8 ∧ win0_8.index t (1 : Fin 3) = t.val % 8 ∧ win0_8.index t (2 : Fin 3) = 5)
    ∧ (win0_9.index t (0 : Fin 3) = t.val / 8 ∧ win0_9.index t (1 : Fin 3) = t.val % 8 ∧ win0_9.index t (2 : Fin 3) = 6)
    ∧ (win0_10.index t (0 : Fin 3) = t.val / 8 ∧ win0_10.index t (1 : Fin 3) = t.val % 8 ∧ win0_10.index t (2 : Fin 3) = 7)
    ∧ (win0_15.index t (0 : Fin 3) = t.val / 8 ∧ win0_15.index t (1 : Fin 3) = t.val % 8 ∧ win0_15.index t (2 : Fin 3) = 0) :=
  (by decide +kernel : ∀ t : Fin grid0.N, _)

/-- … of the windows that take the eight positions before a block. -/
theorem idxBefore : ∀ t : Fin cfg0.N, (win0_4.index t (0 : Fin 3) = t.val / 8 ∧ win0_4.index t (1 : Fin 3) = t.val % 8 * 64 - 1 ∧ win0_4.index t (2 : Fin 3) = 7)
    ∧ (win0_6.index t (0 : Fin 3) = t.val / 8 ∧ win0_6.index t (1 : Fin 3) = t.val % 8 * 64 - 1 ∧ win0_6.index t (2 : Fin 3) = 8) :=
  (by decide +kernel : ∀ t : Fin grid0.N, _)

/-- … and of the windows that take the whole of an array of weights. -/
theorem idxWeights : ∀ t : Fin cfg0.N, (win0_11.index t (0 : Fin 2) = 0 ∧ win0_11.index t (1 : Fin 2) = 0)
    ∧ (win0_12.index t (0 : Fin 3) = 0 ∧ win0_12.index t (1 : Fin 3) = 0 ∧ win0_12.index t (2 : Fin 3) = 0)
    ∧ (win0_13.index t (0 : Fin 2) = 0 ∧ win0_13.index t (1 : Fin 2) = 0)
    ∧ (win0_14.index t (0 : Fin 2) = 0 ∧ win0_14.index t (1 : Fin 2) = 0) :=
  (by decide +kernel : ∀ t : Fin grid0.N, _)

/-- The input rows. -/
theorem iblk0_apply (t : Fin cfg0.N) (r : Fin 512) (d : Fin 1024) :
    iblk m c 0 t (ix3 0 r d) = argX m c (ix3 (bOf t) (sOf t r) d) := by
  obtain ⟨⟨e0, e1, e2⟩, -⟩ := idx t
  have hemb : ((cfg0.win 0).blk t).view.emb (ix3 0 r d) = (ix3 (bOf t) (sOf t r) d : S8x4096x1024.Idx) := by
    funext a; apply Fin.ext
    match a with
    | ⟨0, _⟩ => show win0_0.index t (0 : Fin 3) * 1 + 1 * 0 = t.val / 8; omega
    | ⟨1, _⟩ => show win0_0.index t (1 : Fin 3) * 512 + 1 * r.val = t.val % 8 * 512 + r.val; omega
    | ⟨2, _⟩ => show win0_0.index t (2 : Fin 3) * 1024 + 1 * d.val = d.val; omega
  show V m c (Pipeline.arrRef spec0 0) (((cfg0.win 0).blk t).view.emb (ix3 0 r d)) = _
  rw [hemb]
  exact congrFun (V_main_arg0 m c) _

/-- The first branch's rows. -/
theorem iblk1_apply (t : Fin cfg0.N) (r : Fin 512) (d : Fin 512) :
    iblk m c 1 t (ix3 0 r d) = argA m c (ix3 (bOf t) (sOf t r) d) := by
  obtain ⟨-, ⟨e0, e1, e2⟩, -⟩ := idx t
  have hemb : ((cfg0.win 1).blk t).view.emb (ix3 0 r d) = (ix3 (bOf t) (sOf t r) d : S8x4096x512.Idx) := by
    funext a; apply Fin.ext
    match a with
    | ⟨0, _⟩ => show win0_1.index t (0 : Fin 3) * 1 + 1 * 0 = t.val / 8; omega
    | ⟨1, _⟩ => show win0_1.index t (1 : Fin 3) * 512 + 1 * r.val = t.val % 8 * 512 + r.val; omega
    | ⟨2, _⟩ => show win0_1.index t (2 : Fin 3) * 512 + 1 * d.val = d.val; omega
  show V m c (Pipeline.arrRef spec0 1) (((cfg0.win 1).blk t).view.emb (ix3 0 r d)) = _
  rw [hemb]
  exact congrFun (V_main_arg1 m c) _

/-- The second branch's rows. -/
theorem iblk2_apply (t : Fin cfg0.N) (r : Fin 512) (d : Fin 512) :
    iblk m c 2 t (ix3 0 r d) = argB m c (ix3 (bOf t) (sOf t r) d) := by
  obtain ⟨-, -, ⟨e0, e1, e2⟩, -⟩ := idx t
  have hemb : ((cfg0.win 2).blk t).view.emb (ix3 0 r d) = (ix3 (bOf t) (sOf t r) d : S8x4096x512.Idx) := by
    funext a; apply Fin.ext
    match a with
    | ⟨0, _⟩ => show win0_2.index t (0 : Fin 3) * 1 + 1 * 0 = t.val / 8; omega
    | ⟨1, _⟩ => show win0_2.index t (1 : Fin 3) * 512 + 1 * r.val = t.val % 8 * 512 + r.val; omega
    | ⟨2, _⟩ => show win0_2.index t (2 : Fin 3) * 512 + 1 * d.val = d.val; omega
  show V m c (Pipeline.arrRef spec0 2) (((cfg0.win 2).blk t).view.emb (ix3 0 r d)) = _
  rw [hemb]
  exact congrFun (V_main_arg2 m c) _

/-- The convolution's input. -/
theorem iblk3_apply (t : Fin cfg0.N) (r : Fin 512) (d : Fin 512) :
    iblk m c 3 t (ix3 0 r d) = argP m c (ix3 (bOf t) (sOf t r) (⟨3584 + d.val, by omega⟩ : Fin 8192)) := by
  obtain ⟨-, -, -, ⟨e0, e1, e2⟩, -⟩ := idx t
  have hemb : ((cfg0.win 3).blk t).view.emb (ix3 0 r d) = (ix3 (bOf t) (sOf t r) (⟨3584 + d.val, by omega⟩ : Fin 8192) : S8x4096x8192.Idx) := by
    funext a; apply Fin.ext
    match a with
    | ⟨0, _⟩ => show win0_3.index t (0 : Fin 3) * 1 + 1 * 0 = t.val / 8; omega
    | ⟨1, _⟩ => show win0_3.index t (1 : Fin 3) * 512 + 1 * r.val = t.val % 8 * 512 + r.val; omega
    | ⟨2, _⟩ => show win0_3.index t (2 : Fin 3) * 512 + 1 * d.val = 3584 + d.val; omega
  show V m c (Pipeline.arrRef spec0 3) (((cfg0.win 3).blk t).view.emb (ix3 0 r d)) = _
  rw [hemb]
  exact congrFun (V_main_arg3 m c) _

/-- The convolution's input in the eight rows before. -/
theorem iblk4_apply (t : Fin cfg0.N) (r : Fin 8) (d : Fin 512) :
    iblk m c 4 t (ix3 0 r d) = argP m c (ix3 (bOf t) (hOf t r) (⟨3584 + d.val, by omega⟩ : Fin 8192)) := by
  obtain ⟨⟨e0, e1, e2⟩, -⟩ := idxBefore t
  have hemb : ((cfg0.win 4).blk t).view.emb (ix3 0 r d) = (ix3 (bOf t) (hOf t r) (⟨3584 + d.val, by omega⟩ : Fin 8192) : S8x4096x8192.Idx) := by
    funext a; apply Fin.ext
    match a with
    | ⟨0, _⟩ => show win0_4.index t (0 : Fin 3) * 1 + 1 * 0 = t.val / 8; omega
    | ⟨1, _⟩ => show win0_4.index t (1 : Fin 3) * 8 + 1 * r.val = (t.val % 8 * 64 - 1) * 8 + r.val; omega
    | ⟨2, _⟩ => show win0_4.index t (2 : Fin 3) * 512 + 1 * d.val = 3584 + d.val; omega
  show V m c (Pipeline.arrRef spec0 4) (((cfg0.win 4).blk t).view.emb (ix3 0 r d)) = _
  rw [hemb]
  exact congrFun (V_main_arg3 m c) _

/-- The convolution's first gate. -/
theorem iblk5_apply (t : Fin cfg0.N) (r : Fin 512) (d : Fin 512) :
    iblk m c 5 t (ix3 0 r d) = argP m c (ix3 (bOf t) (sOf t r) (⟨4096 + d.val, by omega⟩ : Fin 8192)) := by
  obtain ⟨-, -, -, -, ⟨e0, e1, e2⟩, -⟩ := idx t
  have hemb : ((cfg0.win 5).blk t).view.emb (ix3 0 r d) = (ix3 (bOf t) (sOf t r) (⟨4096 + d.val, by omega⟩ : Fin 8192) : S8x4096x8192.Idx) := by
    funext a; apply Fin.ext
    match a with
    | ⟨0, _⟩ => show win0_5.index t (0 : Fin 3) * 1 + 1 * 0 = t.val / 8; omega
    | ⟨1, _⟩ => show win0_5.index t (1 : Fin 3) * 512 + 1 * r.val = t.val % 8 * 512 + r.val; omega
    | ⟨2, _⟩ => show win0_5.index t (2 : Fin 3) * 512 + 1 * d.val = 4096 + d.val; omega
  show V m c (Pipeline.arrRef spec0 5) (((cfg0.win 5).blk t).view.emb (ix3 0 r d)) = _
  rw [hemb]
  exact congrFun (V_main_arg3 m c) _

/-- The convolution's first gate in the eight rows before. -/
theorem iblk6_apply (t : Fin cfg0.N) (r : Fin 8) (d : Fin 512) :
    iblk m c 6 t (ix3 0 r d) = argP m c (ix3 (bOf t) (hOf t r) (⟨4096 + d.val, by omega⟩ : Fin 8192)) := by
  obtain ⟨-, e0, e1, e2⟩ := idxBefore t
  have hemb : ((cfg0.win 6).blk t).view.emb (ix3 0 r d) = (ix3 (bOf t) (hOf t r) (⟨4096 + d.val, by omega⟩ : Fin 8192) : S8x4096x8192.Idx) := by
    funext a; apply Fin.ext
    match a with
    | ⟨0, _⟩ => show win0_6.index t (0 : Fin 3) * 1 + 1 * 0 = t.val / 8; omega
    | ⟨1, _⟩ => show win0_6.index t (1 : Fin 3) * 8 + 1 * r.val = (t.val % 8 * 64 - 1) * 8 + r.val; omega
    | ⟨2, _⟩ => show win0_6.index t (2 : Fin 3) * 512 + 1 * d.val = 4096 + d.val; omega
  show V m c (Pipeline.arrRef spec0 6) (((cfg0.win 6).blk t).view.emb (ix3 0 r d)) = _
  rw [hemb]
  exact congrFun (V_main_arg3 m c) _

/-- The convolution's second gate. -/
theorem iblk7_apply (t : Fin cfg0.N) (r : Fin 512) (d : Fin 512) :
    iblk m c 7 t (ix3 0 r d) = argP m c (ix3 (bOf t) (sOf t r) (⟨4608 + d.val, by omega⟩ : Fin 8192)) := by
  obtain ⟨-, -, -, -, -, ⟨e0, e1, e2⟩, -⟩ := idx t
  have hemb : ((cfg0.win 7).blk t).view.emb (ix3 0 r d) = (ix3 (bOf t) (sOf t r) (⟨4608 + d.val, by omega⟩ : Fin 8192) : S8x4096x8192.Idx) := by
    funext a; apply Fin.ext
    match a with
    | ⟨0, _⟩ => show win0_7.index t (0 : Fin 3) * 1 + 1 * 0 = t.val / 8; omega
    | ⟨1, _⟩ => show win0_7.index t (1 : Fin 3) * 512 + 1 * r.val = t.val % 8 * 512 + r.val; omega
    | ⟨2, _⟩ => show win0_7.index t (2 : Fin 3) * 512 + 1 * d.val = 4608 + d.val; omega
  show V m c (Pipeline.arrRef spec0 7) (((cfg0.win 7).blk t).view.emb (ix3 0 r d)) = _
  rw [hemb]
  exact congrFun (V_main_arg3 m c) _

/-- The first branch gate. -/
theorem iblk8_apply (t : Fin cfg0.N) (r : Fin 512) (d : Fin 1024) :
    iblk m c 8 t (ix3 0 r d) = argP m c (ix3 (bOf t) (sOf t r) (⟨5120 + d.val, by omega⟩ : Fin 8192)) := by
  obtain ⟨-, -, -, -, -, -, ⟨e0, e1, e2⟩, -⟩ := idx t
  have hemb : ((cfg0.win 8).blk t).view.emb (ix3 0 r d) = (ix3 (bOf t) (sOf t r) (⟨5120 + d.val, by omega⟩ : Fin 8192) : S8x4096x8192.Idx) := by
    funext a; apply Fin.ext
    match a with
    | ⟨0, _⟩ => show win0_8.index t (0 : Fin 3) * 1 + 1 * 0 = t.val / 8; omega
    | ⟨1, _⟩ => show win0_8.index t (1 : Fin 3) * 512 + 1 * r.val = t.val % 8 * 512 + r.val; omega
    | ⟨2, _⟩ => show win0_8.index t (2 : Fin 3) * 1024 + 1 * d.val = 5120 + d.val; omega
  show V m c (Pipeline.arrRef spec0 8) (((cfg0.win 8).blk t).view.emb (ix3 0 r d)) = _
  rw [hemb]
  exact congrFun (V_main_arg3 m c) _

/-- The second branch gate. -/
theorem iblk9_apply (t : Fin cfg0.N) (r : Fin 512) (d : Fin 1024) :
    iblk m c 9 t (ix3 0 r d) = argP m c (ix3 (bOf t) (sOf t r) (⟨6144 + d.val, by omega⟩ : Fin 8192)) := by
  obtain ⟨-, -, -, -, -, -, -, ⟨e0, e1, e2⟩, -⟩ := idx t
  have hemb : ((cfg0.win 9).blk t).view.emb (ix3 0 r d) = (ix3 (bOf t) (sOf t r) (⟨6144 + d.val, by omega⟩ : Fin 8192) : S8x4096x8192.Idx) := by
    funext a; apply Fin.ext
    match a with
    | ⟨0, _⟩ => show win0_9.index t (0 : Fin 3) * 1 + 1 * 0 = t.val / 8; omega
    | ⟨1, _⟩ => show win0_9.index t (1 : Fin 3) * 512 + 1 * r.val = t.val % 8 * 512 + r.val; omega
    | ⟨2, _⟩ => show win0_9.index t (2 : Fin 3) * 1024 + 1 * d.val = 6144 + d.val; omega
  show V m c (Pipeline.arrRef spec0 9) (((cfg0.win 9).blk t).view.emb (ix3 0 r d)) = _
  rw [hemb]
  exact congrFun (V_main_arg3 m c) _

/-- The third branch gate. -/
theorem iblk10_apply (t : Fin cfg0.N) (r : Fin 512) (d : Fin 1024) :
    iblk m c 10 t (ix3 0 r d) = argP m c (ix3 (bOf t) (sOf t r) (⟨7168 + d.val, by omega⟩ : Fin 8192)) := by
  obtain ⟨-, -, -, -, -, -, -, -, ⟨e0, e1, e2⟩, -⟩ := idx t
  have hemb : ((cfg0.win 10).blk t).view.emb (ix3 0 r d) = (ix3 (bOf t) (sOf t r) (⟨7168 + d.val, by omega⟩ : Fin 8192) : S8x4096x8192.Idx) := by
    funext a; apply Fin.ext
    match a with
    | ⟨0, _⟩ => show win0_10.index t (0 : Fin 3) * 1 + 1 * 0 = t.val / 8; omega
    | ⟨1, _⟩ => show win0_10.index t (1 : Fin 3) * 512 + 1 * r.val = t.val % 8 * 512 + r.val; omega
    | ⟨2, _⟩ => show win0_10.index t (2 : Fin 3) * 1024 + 1 * d.val = 7168 + d.val; omega
  show V m c (Pipeline.arrRef spec0 10) (((cfg0.win 10).blk t).view.emb (ix3 0 r d)) = _
  rw [hemb]
  exact congrFun (V_main_arg3 m c) _

/-- The convolution's weights. -/
theorem iblk11_apply (t : Fin cfg0.N) (i : Fin 3) (j : Fin 512) : iblk m c 11 t (ix2 i j) = argC m c (ix2 i j) := by
  obtain ⟨⟨e0, e1⟩, -⟩ := idxWeights t
  have hemb : ((cfg0.win 11).blk t).view.emb (ix2 i j) = (ix2 i j : S3x512.Idx) := by
    funext a; apply Fin.ext
    match a with
    | ⟨0, _⟩ => show win0_11.index t (0 : Fin 2) * 3 + 1 * i.val = i.val; omega
    | ⟨1, _⟩ => show win0_11.index t (1 : Fin 2) * 512 + 1 * j.val = j.val; omega
  show V m c (Pipeline.arrRef spec0 11) (((cfg0.win 11).blk t).view.emb (ix2 i j)) = _
  rw [hemb]
  exact congrFun (V_main_arg4 m c) _

/-- The branches' weights. -/
theorem iblk12_apply (t : Fin cfg0.N) (i : Fin 3) (k : Fin 512) (d : Fin 1024) : iblk m c 12 t (ix3 i k d) = argW m c (ix3 i k d) := by
  obtain ⟨-, ⟨e0, e1, e2⟩, -⟩ := idxWeights t
  have hemb : ((cfg0.win 12).blk t).view.emb (ix3 i k d) = (ix3 i k d : S3x512x1024.Idx) := by
    funext a; apply Fin.ext
    match a with
    | ⟨0, _⟩ => show win0_12.index t (0 : Fin 3) * 3 + 1 * i.val = i.val; omega
    | ⟨1, _⟩ => show win0_12.index t (1 : Fin 3) * 512 + 1 * k.val = k.val; omega
    | ⟨2, _⟩ => show win0_12.index t (2 : Fin 3) * 1024 + 1 * d.val = d.val; omega
  show V m c (Pipeline.arrRef spec0 12) (((cfg0.win 12).blk t).view.emb (ix3 i k d)) = _
  rw [hemb]
  entry_read
  pointwise

/-- The output weights. -/
theorem iblk13_apply (t : Fin cfg0.N) (k d : Fin 1024) : iblk m c 13 t (ix2 k d) = argO m c (ix2 k d) := by
  obtain ⟨-, -, ⟨e0, e1⟩, -⟩ := idxWeights t
  have hemb : ((cfg0.win 13).blk t).view.emb (ix2 k d) = (ix2 k d : S1024x1024.Idx) := by
    funext a; apply Fin.ext
    match a with
    | ⟨0, _⟩ => show win0_13.index t (0 : Fin 2) * 1024 + 1 * k.val = k.val; omega
    | ⟨1, _⟩ => show win0_13.index t (1 : Fin 2) * 1024 + 1 * d.val = d.val; omega
  show V m c (Pipeline.arrRef spec0 13) (((cfg0.win 13).blk t).view.emb (ix2 k d)) = _
  rw [hemb]
  entry_read
  pointwise

/-- The weights of the normalisation. -/
theorem iblk14_apply (t : Fin cfg0.N) (d : Fin 1024) : iblk m c 14 t (ix2 0 d) = argN m c (ix1 d) := by
  obtain ⟨-, -, -, e0, e1⟩ := idxWeights t
  have hemb : ((cfg0.win 14).blk t).view.emb (ix2 0 d) = (ix2 (0 : Fin 1) d : S1x1024.Idx) := by
    funext a; apply Fin.ext
    match a with
    | ⟨0, _⟩ => show win0_14.index t (0 : Fin 2) * 1 + 1 * 0 = 0; omega
    | ⟨1, _⟩ => show win0_14.index t (1 : Fin 2) * 1024 + 1 * d.val = d.val; omega
  show V m c (Pipeline.arrRef spec0 14) (((cfg0.win 14).blk t).view.emb (ix2 0 d)) = _
  rw [hemb]
  entry_read
  pointwise

/-- Row `r` of the window from row `o` is the product at the position `8 - o` before row `r`, zero before the first position. -/
theorem window_late (t : Fin cfg0.N) (o : Nat) (h6 : 6 ≤ o) (h8 : o ≤ 8) (inb) (r j : Fin 512) :
    window (k0_pay2 (grid0.coords t) (iblk m c 4 t) (iblk m c 6 t)) (k0_pay3 (iblk m c 3 t) (iblk m c 5 t)) o inb (ix2 r j)
      = late (argP m c) (bOf t) ((sOf t r).val + (o - 6)) (by omega) j := by
  have hs : (sOf t r).val = t.val % 8 * 512 + r.val := rfl
  rw [window_apply _ _ o h8]
  unfold late
  by_cases h : r.val + o < 8
  · rw [dif_pos h, pay2_apply, iblk4_apply, iblk6_apply]
    by_cases h0 : t.val % 8 = 0
    · rw [if_pos h0, dif_pos (by omega)]
    · have e : hOf t ⟨r.val + o, h⟩ = ⟨(sOf t r).val + (o - 6) - 2, by omega⟩ :=
        Fin.ext (by show (t.val % 8 * 64 - 1) * 8 + (r.val + o) = (sOf t r).val + (o - 6) - 2; omega)
      rw [if_neg h0, dif_neg (by omega), e]
      rfl
  · have e : sOf t ⟨r.val + o - 8, by omega⟩ = ⟨(sOf t r).val + (o - 6) - 2, by omega⟩ :=
      Fin.ext (by show t.val % 8 * 512 + (r.val + o - 8) = (sOf t r).val + (o - 6) - 2; omega)
    rw [dif_neg h, pay3_apply, iblk3_apply, iblk5_apply, dif_neg (by omega), e]
    rfl

/-- The convolution branch at a point. -/
theorem branch_apply (t : Fin cfg0.N) (r j : Fin 512) :
    branch m c t (ix2 r j) = conv (argP m c) (argC m c) (bOf t) (sOf t r) j := by
  unfold branch
  rw [pay6_apply, tap_apply _ 0 (by omega), tap_apply _ 1 (by omega), tap_apply _ 2 (by omega), window_late _ _ _ 6 (by omega) (by omega),
    window_late _ _ _ 7 (by omega) (by omega), window_late _ _ _ 8 (by omega) (by omega), iblk7_apply, iblk11_apply, iblk11_apply,
    iblk11_apply]
  rfl

/-- The gated sum times the output weights, at a point. -/
theorem merged_apply (t : Fin cfg0.N) (r : Fin 512) (d : Fin 1024) : merged m c t (ix2 r d)
    = ∑ e : Fin 1024, mix (argA m c) (argB m c) (argP m c) (argC m c) (argW m c) (bOf t) (sOf t r) e * argO m c (ix2 e d) := by
  unfold merged
  rw [pay9_apply]
  simp only [slab_apply _ 0 (by omega), slab_apply _ 1 (by omega), slab_apply _ 2 (by omega), branch_apply, iblk1_apply, iblk2_apply,
    iblk8_apply, iblk9_apply, iblk10_apply, iblk12_apply, iblk13_apply]
  rfl

/-- The result of the run, as a function of the arguments. -/
abbrev final : Vec Ideal S8x4096x1024 .f32 :=
  result (argX m c) (argA m c) (argB m c) (argP m c) (argC m c) (argW m c) (argO m c) (argN m c)

/-- What a point leaves in its output block. -/
theorem out_apply (t : Fin cfg0.N) (r : Fin 512) (d : Fin 1024) :
    outsAt0 m c t (ix3 0 r d) = final m c (ix3 (bOf t) (sOf t r) d) := by
  rw [out_A, pay1_apply]
  simp only [merged_apply, iblk0_apply, iblk14_apply]
  rfl

/-- Where a point's output block lies. -/
theorem emb15 (t : Fin cfg0.N) (r : Fin 512) (d : Fin 1024) :
    ((cfg0.win 15).blk t).view.emb (ix3 0 r d) = (ix3 (bOf t) (sOf t r) d : S8x4096x1024.Idx) := by
  obtain ⟨-, -, -, -, -, -, -, -, -, e0, e1, e2⟩ := idx t
  funext a; apply Fin.ext
  match a with
  | ⟨0, _⟩ => show win0_15.index t (0 : Fin 3) * 1 + 1 * 0 = t.val / 8; omega
  | ⟨1, _⟩ => show win0_15.index t (1 : Fin 3) * 512 + 1 * r.val = t.val % 8 * 512 + r.val; omega
  | ⟨2, _⟩ => show win0_15.index t (2 : Fin 3) * 1024 + 1 * d.val = d.val; omega

/-- What a point writes back is its block of the result. -/
theorem flushed_eq (t : Fin cfg0.N) : (dats m 0 c).flushed 15 t = ((cfg0.win 15).blk t).view.read (Elt Ideal) (final m c) := by
  rw [flushed15]
  funext j
  obtain ⟨z, r, d, rfl⟩ : ∃ (z : Fin 1) (r : Fin 512) (d : Fin 1024), j = ix3 z r d := ⟨j 0, j 1, j 2, eq_ix3 j⟩
  obtain rfl : z = 0 := Subsingleton.elim _ _
  show outsAt0 m c t (ix3 0 r d) = final m c (((cfg0.win 15).blk t).view.emb (ix3 0 r d))
  rw [emb15, out_apply]

/-- Every index of the result is in some point's block. -/
theorem covered (i : S8x4096x1024.Idx) : ∃ t : Fin cfg0.N, (cfg0.win 15).flush t = true ∧ i ∈ ((cfg0.win 15).blk t).view.set := by
  obtain ⟨b, s, d, rfl⟩ : ∃ (b : Fin 8) (s : Fin 4096) (d : Fin 1024), i = ix3 b s d := ⟨i 0, i 1, i 2, eq_ix3 i⟩
  have hN : cfg0.N = 64 := N_0
  have hlt : b.val * 8 + s.val / 512 < cfg0.N := by omega
  refine ⟨⟨b.val * 8 + s.val / 512, hlt⟩, flush0_15 _, ?_⟩
  have h := ((cfg0.win 15).blk ⟨b.val * 8 + s.val / 512, hlt⟩).view.emb_mem_set (ix3 0 (⟨s.val % 512, by omega⟩ : Fin 512) d)
  rw [emb15] at h
  have he : (ix3 b s d : S8x4096x1024.Idx)
      = ix3 (bOf ⟨b.val * 8 + s.val / 512, hlt⟩) (sOf ⟨b.val * 8 + s.val / 512, hlt⟩ ⟨s.val % 512, by omega⟩) d := by
    unfold bOf sOf
    congr 1 <;> apply Fin.ext <;> dsimp only <;> omega
  rw [he]
  exact h

/-- The result array after the run. -/
theorem final_eq : (dats m 0 c).arrAt 15 cfg0.N = final m c :=
  (dats m 0 c).arrAt_eq_of_cover 15 (final m c) (fun t _ => flushed_eq m c t) covered

/-- The run with the result array at its function of the arguments, and the arguments unchanged. -/
theorem run : θ_run defs (onTc (τ := τ) (Cert.MergeIdeal.main (F := Ideal))) ⟨m, fun _ => 0, ρ⟩ fun r => ∀ c : Dev nD,
      r.2.mem ((c : Thread nD τ).loc main_v3) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final_eq m c), (h c).2⟩) (run_blocks m ρ)

end Cert.Proof.MergeRun

end
-- ==== Proof.MergeRef.lean ====
/- The merge reference's result array as the same function of its arguments as the kernel's. -/
module

public import proofs.«01_k».proof.Proof.MergeStep
public import proofs.«01_k».proof.Proof.ProjStep
public import proofs.«01_k».proof.Proof.Gen.RefMergeIdeal.Read

@[expose] public section

set_option maxRecDepth 16384

noncomputable section

namespace Cert.Proof.MergeRef

open Cert.RefMergeIdeal Cert.RefMergeIdeal.Read Idealize.ShloMosaic
open Cert.Proof.FfnStep (nrm)
open Cert.Proof.MergeStep (sig gated prod late conv mix result)

variable (x0 : (⟨S8x4096x1024, .f32⟩ : BufTy).Contents (Elt Ideal)) (x1 x2 : (⟨S8x4096x512, .bf16⟩ : BufTy).Contents (Elt Ideal))
  (x3 : (⟨S8x4096x8192, .bf16⟩ : BufTy).Contents (Elt Ideal)) (x4 : (⟨S3x512, .f32⟩ : BufTy).Contents (Elt Ideal))
  (x5 : (⟨S3x512x1024, .f32⟩ : BufTy).Contents (Elt Ideal)) (x6 : (⟨S1024x1024, .f32⟩ : BufTy).Contents (Elt Ideal))
  (x7 : (⟨S1024, .f32⟩ : BufTy).Contents (Elt Ideal))

/-- The gates of the three branches. -/
theorem v11 (b : Fin 8) (s : Fin 4096) (i : Fin 3) (e : Fin 1024) :
    val_main_v11 (F := Ideal) x3 (ix4 b s i e) = sig (x3 (ix3 b s ⟨5120 + (i.val * 1024 + e.val), by omega⟩)) := by
  pointwise [val_main_v11, val_main_v10, val_main_v9, val_main_v8, val_main_v7, val_main_v6, val_main_v5, val_main_v4, val_main_v0,
    val_main_cst, val_main_cst_0]
  show _ = Ideal.div 1 (1 + Ideal.exp (0 - _))
  rw [zero_sub]

/-- The products with two zeros before the first position. -/
theorem v13 (b : Fin 8) (s : Fin 4098) (j : Fin 512) : val_main_v13 (F := Ideal) x3 (ix3 b s j) = late x3 b s.val s.isLt j := by
  pointwise [val_main_v13, val_main_v12, val_main_v2, val_main_v1, val_main_v0, val_main_call0_v0, val_main_c]
  unfold late prod
  by_cases h : s.val < 2
  · rw [dif_neg (by omega), dif_pos h, Cert.Proof.ProjStep.sitofp_zero]
  · rw [dif_pos (by omega), dif_neg h, mul_comm]

/-- The convolution branch. -/
theorem v34 (b : Fin 8) (s : Fin 4096) (j : Fin 512) : val_main_v34 (F := Ideal) x3 x4 (ix3 b s j) = conv x3 x4 b s j := by
  pointwise [val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v17,
    val_main_v16, val_main_v15, val_main_v14, val_main_v3, val_main_v0]
  simp only [v13]
  simp only [Nat.add_comm 1, Nat.add_comm 2]
  rfl

/-- The gated sum of the branches. -/
theorem v56 (b : Fin 8) (s : Fin 4096) (e : Fin 1024) :
    val_main_v56 (F := Ideal) x1 x2 x3 x4 x5 (ix3 b s e) = mix x1 x2 x3 x4 x5 b s e := by
  pointwise [val_main_v56, val_main_v55, val_main_v54, val_main_v53, val_main_v52, val_main_v51, val_main_v50, val_main_v49, val_main_v48,
    val_main_v47, val_main_v46, val_main_v45, val_main_v44, val_main_v43, val_main_v42, val_main_v41, val_main_v40, val_main_v39,
    val_main_v38, val_main_v37, val_main_v36, val_main_v35]
  simp only [v11, v34]
  have e0 : (⟨5120 + (((0 : Fin 3) : ℕ) * 1024 + e.val), by omega⟩ : Fin 8192) = ⟨5120 + e.val, by omega⟩ := Fin.ext (by simp)
  have e1 : (⟨5120 + (((1 : Fin 3) : ℕ) * 1024 + e.val), by omega⟩ : Fin 8192) = ⟨6144 + e.val, by omega⟩ := Fin.ext (by simp; omega)
  have e2 : (⟨5120 + (((2 : Fin 3) : ℕ) * 1024 + e.val), by omega⟩ : Fin 8192) = ⟨7168 + e.val, by omega⟩ := Fin.ext (by simp; omega)
  rw [e0, e1, e2]
  rfl

/-- The product with the output weights. -/
theorem v57 (b : Fin 8) (s : Fin 4096) (d : Fin 1024) : val_main_v57 (F := Ideal) x1 x2 x3 x4 x5 x6 (ix3 b s d)
    = ∑ e : Fin 1024, mix x1 x2 x3 x4 x5 b s e * x6 (ix2 e d) := by
  pointwise [val_main_v57]
  simp only [v56]

/-- The result. -/
theorem v71 : val_main_v71 (F := Ideal) x0 x1 x2 x3 x4 x5 x6 x7 = result x0 x1 x2 x3 x4 x5 x6 x7 := by
  funext i
  obtain ⟨b, s, d, rfl⟩ : ∃ (b : Fin 8) (s : Fin 4096) (d : Fin 1024), i = ix3 b s d := ⟨i 0, i 1, i 2, eq_ix3 i⟩
  pointwise [val_main_v71, val_main_v70, val_main_v69, val_main_v68, val_main_v67, val_main_v66, val_main_v65, val_main_v64, val_main_v63,
    val_main_v62, val_main_v61, val_main_v60, val_main_v59, val_main_v58, val_main_cst_1, val_main_cst_2, val_main_cst_3]
  simp only [v57]
  rfl

end Cert.Proof.MergeRef

end
-- ==== Proof.MergeClaim.lean ====
/- The claims about the merge of the branches: that kernel and reference leave the same array. -/
module

public import proofs.«01_k».proof.Defs
public import proofs.«01_k».proof.Proof.MergeRun
public import proofs.«01_k».proof.Proof.MergeRef
public import Idealize.ShloMosaic.Lib.Quiescent

@[expose] public section

noncomputable section

namespace Cert.Proof.MergeClaim

open Idealize.ShloMosaic Idealize.ShloMosaic.TcCoe Idealize.SL.Sem

/-- The reference runs, keeps its arguments and ends quiescent. -/
theorem frame_reference : Cert.quiescent_RefMergeIdeal := fun m ρ _ =>
  (θ_run Cert.RefMergeIdeal.defs _ _).mono (fun r h => ⟨fun c => (h c).2, sem_eq_zero_of_no_sems (by decide) r.2⟩)
    (Cert.RefMergeIdeal.Value.run (F := Ideal) m ρ)

/-- From arguments that agree, kernel and reference end with the same result array: `MergeStep.result` of the arguments. -/
theorem algebraic : Cert.algebraic_MergeIdeal_RefMergeIdeal := by
  intro m ρ m' ρ' _ hagree
  refine ⟨_, Cert.Proof.MergeRun.run m ρ, ?_⟩
  refine (θ_run Cert.RefMergeIdeal.defs _ _).mono (fun _ h c => ⟨(h c).1.trans ?_, (h c).2⟩)
    (Cert.RefMergeIdeal.Value.run (F := Ideal) m' ρ')
  obtain ⟨h0, h1, h2, h3, h4, h5, h6, h7⟩ := hagree c
  rw [Cert.RefMergeIdeal.Read.val_main_v71_eq, h0, h1, h2, h3, h4, h5, h6, h7]
  exact Cert.Proof.MergeRef.v71 _ _ _ _ _ _ _ _

end Cert.Proof.MergeClaim

end
-- ==== Proof.GdnLoop.lean ====
/-
The loop over the four chunks of a tile in the gated DeltaNet kernel.

The pieces which the trips before `k` write are collected in a recursion that mentions the contents of the states, but not those of
the output block: the kernel prints a load of the output block before each store into it, and its value is dropped. So what the
loop leaves in the output block does not depend on what the block held before.
-/
module

public import proofs.«01_k».proof.Proof.Gen.GdnIdeal.Frame.Runs

@[expose] public section

set_option maxRecDepth 8192
set_option maxHeartbeats 4000000

noncomputable section

namespace Cert.Proof.GdnLoop

open Cert.GdnIdeal Cert.GdnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What a trip holds: the memrefs it reads, at what they contain, and the output block and the states it writes. -/
abbrev Trip_k0_t1 (c : Dev nD) (arg4 : Memref sig .tc .vmem S1x256x512 .bf16) (arg12 : Memref sig .tc .vmem S256x1536 .f32) (arg13 : Memref sig .tc .vmem S256x128 .f32) (arg14 : Memref sig .tc .vmem S256x128 .f32) (arg10 : Memref sig .tc .vmem S1x256x512 .bf16) (arg15 : Memref sig .tc .vmem S4x128x128 .f32) (X_arg4 : BufTy.Contents (Elt F) arg4.view.ty) (X_arg12 : BufTy.Contents (Elt F) arg12.view.ty) (X_arg13 : BufTy.Contents (Elt F) arg13.view.ty) (X_arg14 : BufTy.Contents (Elt F) arg14.view.ty) (f_arg10 : BufTy.Contents (Elt F) arg10.view.ty) (f_arg15 : BufTy.Contents (Elt F) arg15.view.ty) : sProp 𝕄G :=
  iprop((arg4.view.loc (c : Thread nD τ) ↦[arg4.view.set]{fullShare} X_arg4) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg10.view.loc (c : Thread nD τ) ↦[arg10.view.set]{fullShare} f_arg10) ∗ (arg15.view.loc (c : Thread nD τ) ↦[arg15.view.set]{fullShare} f_arg15))

/-- One trip of the kernel's loop over the chunks of a tile, run once at a symbolic trip number `k`. The pieces it writes into the
    output block (`arg10`) and into the states (`arg15`) are functions of the contents it finds in the states only: what the trip
    loads from the output block before storing into it is never used. -/
@[irreducible] def tripRun (𝒱 : Variants) (c : Dev nD) (bd : Option 𝒱.V) (i : grid0.Coords) (arg2 : Memref sig .tc .vmem S1x256x1536 .bf16) (harg2 : arg2.IsWhole) (arg3 : Memref sig .tc .vmem S1x8x1536 .bf16) (harg3 : arg3.IsWhole) (arg4 : Memref sig .tc .vmem S1x256x512 .bf16) (harg4 : arg4.IsWhole) (arg5 : Memref sig .tc .vmem S1x256x128 .f32) (harg5 : arg5.IsWhole) (arg6 : Memref sig .tc .vmem S4x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x256x512 .bf16) (harg10 : arg10.IsWhole) (arg11 : Memref sig .tc .vmem S264x1536 .f32) (harg11 : arg11.IsWhole) (arg12 : Memref sig .tc .vmem S256x1536 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S4x128x128 .f32) (harg15 : arg15.IsWhole) (v93 : Vec F S1x128 .f32) (X_arg4 : BufTy.Contents (Elt F) arg4.view.ty) (X_arg12 : BufTy.Contents (Elt F) arg12.view.ty) (X_arg13 : BufTy.Contents (Elt F) arg13.view.ty) (X_arg14 : BufTy.Contents (Elt F) arg14.view.ty) (k : Fin k0_t1_loop.trips) :
    Σ' (L_arg10 : (BufTy.Contents (Elt F) arg15.view.ty → List (View.Piece (Elt F) S1x256x512 .bf16))) , { L_arg15 : (BufTy.Contents (Elt F) arg15.view.ty → List (View.Piece (Elt F) S4x128x128 .f32)) // ∀ (E : Set ℕ) (f_arg10 : BufTy.Contents (Elt F) arg10.view.ty) (f_arg15 : BufTy.Contents (Elt F) arg15.view.ty),
      Trip_k0_t1 (F := F) c arg4 arg12 arg13 arg14 arg10 arg15 X_arg4 X_arg12 X_arg13 X_arg14 f_arg10 f_arg15
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 v93 k PUnit.unit)
          (fun _ => Trip_k0_t1 (F := F) c arg4 arg12 arg13 arg14 arg10 arg15 X_arg4 X_arg12 X_arg13 X_arg14 (arg10.view.writes (Elt F) f_arg10 (L_arg10 f_arg15)) (arg15.view.writes (Elt F) f_arg15 (L_arg15 f_arg15))) } := by
  have hk : k.val < 4 := Nat.lt_of_lt_of_le k.isLt k0_t1_abs.2.1
  refine ⟨?_, ?_, fun E f_arg10 f_arg15 => ?run⟩
  case run =>
    unfold k0_t1_body
    iintro ⟨HR_arg4, HR_arg12, HR_arg13, HR_arg14, HW_arg10, HW_arg15⟩
    sl_exec
    sl_step
    sl_close

/-- The two lists of pieces of trip `k`, by projection. -/
abbrev tripPieces (𝒱 : Variants) (c : Dev nD) (bd : Option 𝒱.V) (i : grid0.Coords) (arg2 : Memref sig .tc .vmem S1x256x1536 .bf16) (harg2 : arg2.IsWhole) (arg3 : Memref sig .tc .vmem S1x8x1536 .bf16) (harg3 : arg3.IsWhole) (arg4 : Memref sig .tc .vmem S1x256x512 .bf16) (harg4 : arg4.IsWhole) (arg5 : Memref sig .tc .vmem S1x256x128 .f32) (harg5 : arg5.IsWhole) (arg6 : Memref sig .tc .vmem S4x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x256x512 .bf16) (harg10 : arg10.IsWhole) (arg11 : Memref sig .tc .vmem S264x1536 .f32) (harg11 : arg11.IsWhole) (arg12 : Memref sig .tc .vmem S256x1536 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S4x128x128 .f32) (harg15 : arg15.IsWhole) (v93 : Vec F S1x128 .f32) (X_arg4 : BufTy.Contents (Elt F) arg4.view.ty) (X_arg12 : BufTy.Contents (Elt F) arg12.view.ty) (X_arg13 : BufTy.Contents (Elt F) arg13.view.ty) (X_arg14 : BufTy.Contents (Elt F) arg14.view.ty) (k : Fin k0_t1_loop.trips) (f_arg15 : BufTy.Contents (Elt F) arg15.view.ty) : List (View.Piece (Elt F) S1x256x512 .bf16) × List (View.Piece (Elt F) S4x128x128 .f32) :=
  ((tripRun (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 k).1 f_arg15, (tripRun (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 k).2.1 f_arg15)

/-- Puts the pieces of trip `k` before those of the earlier trips. -/
@[irreducible] def piecesStep (𝒱 : Variants) (c : Dev nD) (bd : Option 𝒱.V) (i : grid0.Coords) (arg2 : Memref sig .tc .vmem S1x256x1536 .bf16) (harg2 : arg2.IsWhole) (arg3 : Memref sig .tc .vmem S1x8x1536 .bf16) (harg3 : arg3.IsWhole) (arg4 : Memref sig .tc .vmem S1x256x512 .bf16) (harg4 : arg4.IsWhole) (arg5 : Memref sig .tc .vmem S1x256x128 .f32) (harg5 : arg5.IsWhole) (arg6 : Memref sig .tc .vmem S4x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x256x512 .bf16) (harg10 : arg10.IsWhole) (arg11 : Memref sig .tc .vmem S264x1536 .f32) (harg11 : arg11.IsWhole) (arg12 : Memref sig .tc .vmem S256x1536 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S4x128x128 .f32) (harg15 : arg15.IsWhole) (v93 : Vec F S1x128 .f32) (X_arg4 : BufTy.Contents (Elt F) arg4.view.ty) (X_arg12 : BufTy.Contents (Elt F) arg12.view.ty) (X_arg13 : BufTy.Contents (Elt F) arg13.view.ty) (X_arg14 : BufTy.Contents (Elt F) arg14.view.ty) (G_arg15 : BufTy.Contents (Elt F) arg15.view.ty) (k : ℕ) (prev : List (View.Piece (Elt F) S1x256x512 .bf16) × List (View.Piece (Elt F) S4x128x128 .f32)) : List (View.Piece (Elt F) S1x256x512 .bf16) × List (View.Piece (Elt F) S4x128x128 .f32) :=
  if h : k < k0_t1_loop.trips then
    ((tripPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 ⟨k, h⟩ (arg15.view.writes (Elt F) G_arg15 prev.2)).1 ++ prev.1, (tripPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 ⟨k, h⟩ (arg15.view.writes (Elt F) G_arg15 prev.2)).2 ++ prev.2)
  else prev

/-- The pieces of the trips before `k`, the last trip first. Each trip's are taken at the states which the earlier trips left; the
    contents of the output block do not occur. -/
def pieces (𝒱 : Variants) (c : Dev nD) (bd : Option 𝒱.V) (i : grid0.Coords) (arg2 : Memref sig .tc .vmem S1x256x1536 .bf16) (harg2 : arg2.IsWhole) (arg3 : Memref sig .tc .vmem S1x8x1536 .bf16) (harg3 : arg3.IsWhole) (arg4 : Memref sig .tc .vmem S1x256x512 .bf16) (harg4 : arg4.IsWhole) (arg5 : Memref sig .tc .vmem S1x256x128 .f32) (harg5 : arg5.IsWhole) (arg6 : Memref sig .tc .vmem S4x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x256x512 .bf16) (harg10 : arg10.IsWhole) (arg11 : Memref sig .tc .vmem S264x1536 .f32) (harg11 : arg11.IsWhole) (arg12 : Memref sig .tc .vmem S256x1536 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S4x128x128 .f32) (harg15 : arg15.IsWhole) (v93 : Vec F S1x128 .f32) (X_arg4 : BufTy.Contents (Elt F) arg4.view.ty) (X_arg12 : BufTy.Contents (Elt F) arg12.view.ty) (X_arg13 : BufTy.Contents (Elt F) arg13.view.ty) (X_arg14 : BufTy.Contents (Elt F) arg14.view.ty) (G_arg15 : BufTy.Contents (Elt F) arg15.view.ty) : ℕ → List (View.Piece (Elt F) S1x256x512 .bf16) × List (View.Piece (Elt F) S4x128x128 .f32)
  | 0 => ([], [])
  | k + 1 => piecesStep 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 G_arg15 k (pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 G_arg15 k)

/-- The pieces of the trips up to and with `k` are those of `k` before those of the trips earlier than `k`. -/
theorem pieces_succ (𝒱 : Variants) (c : Dev nD) (bd : Option 𝒱.V) (i : grid0.Coords) (arg2 : Memref sig .tc .vmem S1x256x1536 .bf16) (harg2 : arg2.IsWhole) (arg3 : Memref sig .tc .vmem S1x8x1536 .bf16) (harg3 : arg3.IsWhole) (arg4 : Memref sig .tc .vmem S1x256x512 .bf16) (harg4 : arg4.IsWhole) (arg5 : Memref sig .tc .vmem S1x256x128 .f32) (harg5 : arg5.IsWhole) (arg6 : Memref sig .tc .vmem S4x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x256x512 .bf16) (harg10 : arg10.IsWhole) (arg11 : Memref sig .tc .vmem S264x1536 .f32) (harg11 : arg11.IsWhole) (arg12 : Memref sig .tc .vmem S256x1536 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S4x128x128 .f32) (harg15 : arg15.IsWhole) (v93 : Vec F S1x128 .f32) (X_arg4 : BufTy.Contents (Elt F) arg4.view.ty) (X_arg12 : BufTy.Contents (Elt F) arg12.view.ty) (X_arg13 : BufTy.Contents (Elt F) arg13.view.ty) (X_arg14 : BufTy.Contents (Elt F) arg14.view.ty) (G_arg15 : BufTy.Contents (Elt F) arg15.view.ty) (k : Fin k0_t1_loop.trips) :
    pieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 G_arg15 (k.val + 1)
      = ((tripPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 k (arg15.view.writes (Elt F) G_arg15 (pieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 G_arg15 k.val).2)).1 ++ (pieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 G_arg15 k.val).1, (tripPieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 k (arg15.view.writes (Elt F) G_arg15 (pieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 G_arg15 k.val).2)).2 ++ (pieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 G_arg15 k.val).2) := by
  rw [pieces.eq_2]; unfold piecesStep; exact dif_pos k.isLt

/-- The loop's invariant before trip `k`: what the trips only read is unchanged, and the output block and the states hold their
    contents at the loop's entry with the pieces of the trips before `k` written over. -/
abbrev inv (𝒱 : Variants) (c : Dev nD) (bd : Option 𝒱.V) (i : grid0.Coords) (arg2 : Memref sig .tc .vmem S1x256x1536 .bf16) (harg2 : arg2.IsWhole) (arg3 : Memref sig .tc .vmem S1x8x1536 .bf16) (harg3 : arg3.IsWhole) (arg4 : Memref sig .tc .vmem S1x256x512 .bf16) (harg4 : arg4.IsWhole) (arg5 : Memref sig .tc .vmem S1x256x128 .f32) (harg5 : arg5.IsWhole) (arg6 : Memref sig .tc .vmem S4x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x256x512 .bf16) (harg10 : arg10.IsWhole) (arg11 : Memref sig .tc .vmem S264x1536 .f32) (harg11 : arg11.IsWhole) (arg12 : Memref sig .tc .vmem S256x1536 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S4x128x128 .f32) (harg15 : arg15.IsWhole) (v93 : Vec F S1x128 .f32) (X_arg4 : BufTy.Contents (Elt F) arg4.view.ty) (X_arg12 : BufTy.Contents (Elt F) arg12.view.ty) (X_arg13 : BufTy.Contents (Elt F) arg13.view.ty) (X_arg14 : BufTy.Contents (Elt F) arg14.view.ty) (G_arg10 : BufTy.Contents (Elt F) arg10.view.ty) (G_arg15 : BufTy.Contents (Elt F) arg15.view.ty) (k : ℕ) (_u : PUnit) : sProp 𝕄G :=
  iprop((arg4.view.loc (c : Thread nD τ) ↦[arg4.view.set]{fullShare} X_arg4) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (∃ f, (arg10.view.loc (c : Thread nD τ) ↦[arg10.view.set]{fullShare} f) ∗ ⌜f = arg10.view.writes (Elt F) G_arg10 (pieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 G_arg15 k).1⌝) ∗ (∃ f, (arg15.view.loc (c : Thread nD τ) ↦[arg15.view.set]{fullShare} f) ∗ ⌜f = arg15.view.writes (Elt F) G_arg15 (pieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 G_arg15 k).2⌝))

set_option warn.classDefReducibility false in
/-- The invariant with the proof that one trip keeps it. -/
@[sl_loop] def loopInv (𝒱 : Variants) (c : Dev nD) (bd : Option 𝒱.V) (E : Set ℕ) (i : grid0.Coords) (arg2 : Memref sig .tc .vmem S1x256x1536 .bf16) (harg2 : arg2.IsWhole) (arg3 : Memref sig .tc .vmem S1x8x1536 .bf16) (harg3 : arg3.IsWhole) (arg4 : Memref sig .tc .vmem S1x256x512 .bf16) (harg4 : arg4.IsWhole) (arg5 : Memref sig .tc .vmem S1x256x128 .f32) (harg5 : arg5.IsWhole) (arg6 : Memref sig .tc .vmem S4x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x256x512 .bf16) (harg10 : arg10.IsWhole) (arg11 : Memref sig .tc .vmem S264x1536 .f32) (harg11 : arg11.IsWhole) (arg12 : Memref sig .tc .vmem S256x1536 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S4x128x128 .f32) (harg15 : arg15.IsWhole) (v93 : Vec F S1x128 .f32) (X_arg4 : BufTy.Contents (Elt F) arg4.view.ty) (X_arg12 : BufTy.Contents (Elt F) arg12.view.ty) (X_arg13 : BufTy.Contents (Elt F) arg13.view.ty) (X_arg14 : BufTy.Contents (Elt F) arg14.view.ty) (G_arg10 : BufTy.Contents (Elt F) arg10.view.ty) (G_arg15 : BufTy.Contents (Elt F) arg15.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 v93 where
  inv := inv (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 G_arg10 G_arg15
  step k acc := by
    iintro ⟨HR_arg4, HR_arg12, HR_arg13, HR_arg14, ⟨%f_arg10, HW_arg10, %h_arg10⟩, ⟨%f_arg15, HW_arg15, %h_arg15⟩⟩
    iapply (wp_wand_r Idealize.ShloMosaic.frame (wpE (defs₀ (F := F)) 𝒱 (c : Thread nD τ) bd) E)
    isplitl [HR_arg4 HR_arg12 HR_arg13 HR_arg14 HW_arg10 HW_arg15]
    · iapply ((tripRun (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 k).2.2 E f_arg10 f_arg15)
      isplitl [HR_arg4]; · iexact HR_arg4
      isplitl [HR_arg12]; · iexact HR_arg12
      isplitl [HR_arg13]; · iexact HR_arg13
      isplitl [HR_arg14]; · iexact HR_arg14
      isplitl [HW_arg10]; · iexact HW_arg10
      iexact HW_arg15
    · iintro %_ ⟨HR_arg4, HR_arg12, HR_arg13, HR_arg14, HW_arg10, HW_arg15⟩
      isplitl [HR_arg4]; · iexact HR_arg4
      isplitl [HR_arg12]; · iexact HR_arg12
      isplitl [HR_arg13]; · iexact HR_arg13
      isplitl [HR_arg14]; · iexact HR_arg14
      rw [pieces_succ]
      isplitl [HW_arg10]
      · iexists _; isplitl [HW_arg10]; · iexact HW_arg10
        ipureintro; rw [h_arg10, h_arg15, ← View.writes_append]
      iexists _; isplitl [HW_arg15]; · iexact HW_arg15
      ipureintro; rw [h_arg15, ← View.writes_append]

end Cert.Proof.GdnLoop

end
-- ==== Proof.GdnRunA.lean ====
/-
One point of the gated DeltaNet kernel's grid, run once for a first tile of a batch and once for a later tile.
-/
module

public import proofs.«01_k».proof.Proof.GdnLoop

@[expose] public section

set_option maxRecDepth 16384

noncomputable section

namespace Cert.Proof.GdnFrame

open Cert.GdnIdeal Cert.GdnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first tile of a batch, where the states are set to zero first: from whole buffers, with the inputs at their blocks
    and the rest at anything, it runs to its end and leaves the inputs as they were, the pieces `L8` in the output's buffer and the
    pieces `LS4` in the states. Both lists are what the run finds; neither depends on what the buffers held before. -/
noncomputable def kernelRun0_A (c : Dev nD) (i : grid0.Coords) (arg2 : Memref sig .tc .vmem S1x256x1536 .bf16) (harg2 : arg2.IsWhole) (arg3 : Memref sig .tc .vmem S1x8x1536 .bf16) (harg3 : arg3.IsWhole) (arg4 : Memref sig .tc .vmem S1x256x512 .bf16) (harg4 : arg4.IsWhole) (arg5 : Memref sig .tc .vmem S1x256x128 .f32) (harg5 : arg5.IsWhole) (arg6 : Memref sig .tc .vmem S4x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x256x512 .bf16) (harg10 : arg10.IsWhole) (arg11 : Memref sig .tc .vmem S264x1536 .f32) (harg11 : arg11.IsWhole) (arg12 : Memref sig .tc .vmem S256x1536 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S4x128x128 .f32) (harg15 : arg15.IsWhole) (hc0 : cond0_0 i)
    (x0 : Vec F S1x256x1536 .bf16) (x1 : Vec F S1x8x1536 .bf16) (x2 : Vec F S1x256x512 .bf16) (x3 : Vec F S1x256x128 .f32) (x4 : Vec F S4x1536 .f32) (x5 : Vec F S1x128 .f32) (x6 : Vec F S1x128 .f32) (x7 : Vec F S1x128 .f32) :
    Σ' (L8 : List (View.Piece (Elt F) S1x256x512 .bf16)), { LS4 : List (View.Piece (Elt F) S4x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LS4)) -∗ K ⟨⟩))
          ⊢ wp frame (wpE (defs₀ (F := F)) Variants.none c none) E (cc0_gdn i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_gdn_eq_skeleton]; unfold cc0_gdn_skel
    simp only [k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _; iexact HS4

end Cert.Proof.GdnFrame

end
-- ==== Proof.GdnRunB.lean ====
/-
One point of the gated DeltaNet kernel's grid at a later tile of a batch.
-/
module

public import proofs.«01_k».proof.Proof.GdnLoop

@[expose] public section

set_option maxRecDepth 16384

noncomputable section

namespace Cert.Proof.GdnFrame

open Cert.GdnIdeal Cert.GdnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a later tile of a batch: the same, with the states at the contents the tile before left in them. -/
noncomputable def kernelRun0_B (c : Dev nD) (i : grid0.Coords) (arg2 : Memref sig .tc .vmem S1x256x1536 .bf16) (harg2 : arg2.IsWhole) (arg3 : Memref sig .tc .vmem S1x8x1536 .bf16) (harg3 : arg3.IsWhole) (arg4 : Memref sig .tc .vmem S1x256x512 .bf16) (harg4 : arg4.IsWhole) (arg5 : Memref sig .tc .vmem S1x256x128 .f32) (harg5 : arg5.IsWhole) (arg6 : Memref sig .tc .vmem S4x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x256x512 .bf16) (harg10 : arg10.IsWhole) (arg11 : Memref sig .tc .vmem S264x1536 .f32) (harg11 : arg11.IsWhole) (arg12 : Memref sig .tc .vmem S256x1536 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S4x128x128 .f32) (harg15 : arg15.IsWhole) (hc0 : ¬cond0_0 i)
    (x0 : Vec F S1x256x1536 .bf16) (x1 : Vec F S1x8x1536 .bf16) (x2 : Vec F S1x256x512 .bf16) (x3 : Vec F S1x256x128 .f32) (x4 : Vec F S4x1536 .f32) (x5 : Vec F S1x128 .f32) (x6 : Vec F S1x128 .f32) (x7 : Vec F S1x128 .f32) (xs4 : Vec F S4x128x128 .f32) :
    Σ' (L8 : List (View.Piece (Elt F) S1x256x512 .bf16)), { LS4 : List (View.Piece (Elt F) S4x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LS4)) -∗ K ⟨⟩))
          ⊢ wp frame (wpE (defs₀ (F := F)) Variants.none c none) E (cc0_gdn i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_gdn_eq_skeleton]; unfold cc0_gdn_skel
    simp only [k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg15.eq_unread hfs4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _; iexact HS4

end Cert.Proof.GdnFrame

end
-- ==== Proof.GdnFrame.lean ====
/-
The frame of the gated DeltaNet kernel: from any memory its launch runs to its end, and the arguments are as they were.

The two runs of the body (`GdnRunA`, `GdnRunB`) are put together over the grid's points: `outsAt0` says what the output's buffer and
the states hold after each point. The set-up is the one common to launches of this kind; only the runs are this kernel's own.
-/
module

public import proofs.«01_k».proof.Proof.GdnRunA
public import proofs.«01_k».proof.Proof.GdnRunB
public import Idealize.ShloMosaic.Lib.Claim

@[expose] public section

-- membership in a rectangle of production extents (`View.cover_of_tiled`): the elaborator's structural look
-- recurses once per coordinate of the long axes
set_option maxRecDepth 16384

noncomputable section

namespace Cert.Proof.GdnFrame

open Cert.GdnIdeal Cert.GdnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (16 stores of `S1x64x128`, checked by the kernel's evaluation: Lib/Ring.lean `Piece.tiledL`, linear in the pieces, through a loop's `@[irreducible]` trip theorem too), so they cover it. -/
theorem cover0_A_8 (c : Dev nD) (i : grid0.Coords) (arg2 : Memref sig .tc .vmem S1x256x1536 .bf16) (harg2 : arg2.IsWhole) (arg3 : Memref sig .tc .vmem S1x8x1536 .bf16) (harg3 : arg3.IsWhole) (arg4 : Memref sig .tc .vmem S1x256x512 .bf16) (harg4 : arg4.IsWhole) (arg5 : Memref sig .tc .vmem S1x256x128 .f32) (harg5 : arg5.IsWhole) (arg6 : Memref sig .tc .vmem S4x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x256x512 .bf16) (harg10 : arg10.IsWhole) (arg11 : Memref sig .tc .vmem S264x1536 .f32) (harg11 : arg11.IsWhole) (arg12 : Memref sig .tc .vmem S256x1536 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S4x128x128 .f32) (harg15 : arg15.IsWhole) (hc0 : cond0_0 i)
    (x0 : Vec F S1x256x1536 .bf16) (x1 : Vec F S1x8x1536 .bf16) (x2 : Vec F S1x256x512 .bf16) (x3 : Vec F S1x256x128 .f32) (x4 : Vec F S4x1536 .f32) (x5 : Vec F S1x128 .f32) (x6 : Vec F S1x128 .f32) (x7 : Vec F S1x128 .f32) (y : S1x256x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1 S1x64x128.size (by sl_kernel_rfl) y

/-- What case A leaves in output 8's staging buffer: its pieces read back over junk. -/
def out0_A_8 (c : Dev nD) (i : grid0.Coords) (arg2 : Memref sig .tc .vmem S1x256x1536 .bf16) (harg2 : arg2.IsWhole) (arg3 : Memref sig .tc .vmem S1x8x1536 .bf16) (harg3 : arg3.IsWhole) (arg4 : Memref sig .tc .vmem S1x256x512 .bf16) (harg4 : arg4.IsWhole) (arg5 : Memref sig .tc .vmem S1x256x128 .f32) (harg5 : arg5.IsWhole) (arg6 : Memref sig .tc .vmem S4x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x256x512 .bf16) (harg10 : arg10.IsWhole) (arg11 : Memref sig .tc .vmem S264x1536 .f32) (harg11 : arg11.IsWhole) (arg12 : Memref sig .tc .vmem S256x1536 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S4x128x128 .f32) (harg15 : arg15.IsWhole) (hc0 : cond0_0 i)
    (x0 : Vec F S1x256x1536 .bf16) (x1 : Vec F S1x8x1536 .bf16) (x2 : Vec F S1x256x512 .bf16) (x3 : Vec F S1x256x128 .f32) (x4 : Vec F S4x1536 .f32) (x5 : Vec F S1x128 .f32) (x6 : Vec F S1x128 .f32) (x7 : Vec F S1x128 .f32) : Vec F S1x256x512 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1)

/-- Case A's pieces for scratch `arg15`, which the kernel carries between points, cover it: one of them a store of the WHOLE buffer (Lib/Ring.lean `sl_whole_mem`). -/
theorem scover0_A_4 (c : Dev nD) (i : grid0.Coords) (arg2 : Memref sig .tc .vmem S1x256x1536 .bf16) (harg2 : arg2.IsWhole) (arg3 : Memref sig .tc .vmem S1x8x1536 .bf16) (harg3 : arg3.IsWhole) (arg4 : Memref sig .tc .vmem S1x256x512 .bf16) (harg4 : arg4.IsWhole) (arg5 : Memref sig .tc .vmem S1x256x128 .f32) (harg5 : arg5.IsWhole) (arg6 : Memref sig .tc .vmem S4x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x256x512 .bf16) (harg10 : arg10.IsWhole) (arg11 : Memref sig .tc .vmem S264x1536 .f32) (harg11 : arg11.IsWhole) (arg12 : Memref sig .tc .vmem S256x1536 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S4x128x128 .f32) (harg15 : arg15.IsWhole) (hc0 : cond0_0 i)
    (x0 : Vec F S1x256x1536 .bf16) (x1 : Vec F S1x8x1536 .bf16) (x2 : Vec F S1x256x512 .bf16) (x3 : Vec F S1x256x128 .f32) (x4 : Vec F S4x1536 .f32) (x5 : Vec F S1x128 .f32) (x6 : Vec F S1x128 .f32) (x7 : Vec F S1x128 .f32) (y : S4x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1 (by sl_whole_mem) y

/-- What case A leaves in scratch `arg15`: its pieces read back over junk. -/
def sout0_A_4 (c : Dev nD) (i : grid0.Coords) (arg2 : Memref sig .tc .vmem S1x256x1536 .bf16) (harg2 : arg2.IsWhole) (arg3 : Memref sig .tc .vmem S1x8x1536 .bf16) (harg3 : arg3.IsWhole) (arg4 : Memref sig .tc .vmem S1x256x512 .bf16) (harg4 : arg4.IsWhole) (arg5 : Memref sig .tc .vmem S1x256x128 .f32) (harg5 : arg5.IsWhole) (arg6 : Memref sig .tc .vmem S4x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x256x512 .bf16) (harg10 : arg10.IsWhole) (arg11 : Memref sig .tc .vmem S264x1536 .f32) (harg11 : arg11.IsWhole) (arg12 : Memref sig .tc .vmem S256x1536 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S4x128x128 .f32) (harg15 : arg15.IsWhole) (hc0 : cond0_0 i)
    (x0 : Vec F S1x256x1536 .bf16) (x1 : Vec F S1x8x1536 .bf16) (x2 : Vec F S1x256x512 .bf16) (x3 : Vec F S1x256x128 .f32) (x4 : Vec F S4x1536 .f32) (x5 : Vec F S1x128 .f32) (x6 : Vec F S1x128 .f32) (x7 : Vec F S1x128 .f32) : Vec F S4x128x128 .f32 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1)

/-- Case B's pieces for output 8 tile its block (16 stores of `S1x64x128`, checked by the kernel's evaluation: Lib/Ring.lean `Piece.tiledL`, linear in the pieces, through a loop's `@[irreducible]` trip theorem too), so they cover it. -/
theorem cover0_B_8 (c : Dev nD) (i : grid0.Coords) (arg2 : Memref sig .tc .vmem S1x256x1536 .bf16) (harg2 : arg2.IsWhole) (arg3 : Memref sig .tc .vmem S1x8x1536 .bf16) (harg3 : arg3.IsWhole) (arg4 : Memref sig .tc .vmem S1x256x512 .bf16) (harg4 : arg4.IsWhole) (arg5 : Memref sig .tc .vmem S1x256x128 .f32) (harg5 : arg5.IsWhole) (arg6 : Memref sig .tc .vmem S4x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x256x512 .bf16) (harg10 : arg10.IsWhole) (arg11 : Memref sig .tc .vmem S264x1536 .f32) (harg11 : arg11.IsWhole) (arg12 : Memref sig .tc .vmem S256x1536 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S4x128x128 .f32) (harg15 : arg15.IsWhole) (hc0 : ¬cond0_0 i)
    (x0 : Vec F S1x256x1536 .bf16) (x1 : Vec F S1x8x1536 .bf16) (x2 : Vec F S1x256x512 .bf16) (x3 : Vec F S1x256x128 .f32) (x4 : Vec F S4x1536 .f32) (x5 : Vec F S1x128 .f32) (x6 : Vec F S1x128 .f32) (x7 : Vec F S1x128 .f32) (xs4 : Vec F S4x128x128 .f32) (y : S1x256x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs4).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs4).1 S1x64x128.size (by sl_kernel_rfl) y

/-- What case B leaves in output 8's staging buffer: its pieces read back over junk. -/
def out0_B_8 (c : Dev nD) (i : grid0.Coords) (arg2 : Memref sig .tc .vmem S1x256x1536 .bf16) (harg2 : arg2.IsWhole) (arg3 : Memref sig .tc .vmem S1x8x1536 .bf16) (harg3 : arg3.IsWhole) (arg4 : Memref sig .tc .vmem S1x256x512 .bf16) (harg4 : arg4.IsWhole) (arg5 : Memref sig .tc .vmem S1x256x128 .f32) (harg5 : arg5.IsWhole) (arg6 : Memref sig .tc .vmem S4x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x256x512 .bf16) (harg10 : arg10.IsWhole) (arg11 : Memref sig .tc .vmem S264x1536 .f32) (harg11 : arg11.IsWhole) (arg12 : Memref sig .tc .vmem S256x1536 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S4x128x128 .f32) (harg15 : arg15.IsWhole) (hc0 : ¬cond0_0 i)
    (x0 : Vec F S1x256x1536 .bf16) (x1 : Vec F S1x8x1536 .bf16) (x2 : Vec F S1x256x512 .bf16) (x3 : Vec F S1x256x128 .f32) (x4 : Vec F S4x1536 .f32) (x5 : Vec F S1x128 .f32) (x6 : Vec F S1x128 .f32) (x7 : Vec F S1x128 .f32) (xs4 : Vec F S4x128x128 .f32) : Vec F S1x256x512 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs4).1)

/-- Case B's pieces for scratch `arg15`, which the kernel carries between points, cover it: 16 pieces of `S1x128x128` tiling it (Lib/Ring.lean `Piece.tiledL`). -/
theorem scover0_B_4 (c : Dev nD) (i : grid0.Coords) (arg2 : Memref sig .tc .vmem S1x256x1536 .bf16) (harg2 : arg2.IsWhole) (arg3 : Memref sig .tc .vmem S1x8x1536 .bf16) (harg3 : arg3.IsWhole) (arg4 : Memref sig .tc .vmem S1x256x512 .bf16) (harg4 : arg4.IsWhole) (arg5 : Memref sig .tc .vmem S1x256x128 .f32) (harg5 : arg5.IsWhole) (arg6 : Memref sig .tc .vmem S4x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x256x512 .bf16) (harg10 : arg10.IsWhole) (arg11 : Memref sig .tc .vmem S264x1536 .f32) (harg11 : arg11.IsWhole) (arg12 : Memref sig .tc .vmem S256x1536 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S4x128x128 .f32) (harg15 : arg15.IsWhole) (hc0 : ¬cond0_0 i)
    (x0 : Vec F S1x256x1536 .bf16) (x1 : Vec F S1x8x1536 .bf16) (x2 : Vec F S1x256x512 .bf16) (x3 : Vec F S1x256x128 .f32) (x4 : Vec F S4x1536 .f32) (x5 : Vec F S1x128 .f32) (x6 : Vec F S1x128 .f32) (x7 : Vec F S1x128 .f32) (xs4 : Vec F S4x128x128 .f32) (y : S4x128x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs4).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs4).2.1 S1x128x128.size (by sl_kernel_rfl) y

/-- What case B leaves in scratch `arg15`: its pieces read back over junk. -/
def sout0_B_4 (c : Dev nD) (i : grid0.Coords) (arg2 : Memref sig .tc .vmem S1x256x1536 .bf16) (harg2 : arg2.IsWhole) (arg3 : Memref sig .tc .vmem S1x8x1536 .bf16) (harg3 : arg3.IsWhole) (arg4 : Memref sig .tc .vmem S1x256x512 .bf16) (harg4 : arg4.IsWhole) (arg5 : Memref sig .tc .vmem S1x256x128 .f32) (harg5 : arg5.IsWhole) (arg6 : Memref sig .tc .vmem S4x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x256x512 .bf16) (harg10 : arg10.IsWhole) (arg11 : Memref sig .tc .vmem S264x1536 .f32) (harg11 : arg11.IsWhole) (arg12 : Memref sig .tc .vmem S256x1536 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S4x128x128 .f32) (harg15 : arg15.IsWhole) (hc0 : ¬cond0_0 i)
    (x0 : Vec F S1x256x1536 .bf16) (x1 : Vec F S1x8x1536 .bf16) (x2 : Vec F S1x256x512 .bf16) (x3 : Vec F S1x256x128 .f32) (x4 : Vec F S4x1536 .f32) (x5 : Vec F S1x128 .f32) (x6 : Vec F S1x128 .f32) (x7 : Vec F S1x128 .f32) (xs4 : Vec F S4x128x128 .f32) : Vec F S4x128x128 .f32 :=
  VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs4).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x512 .bf16 × Vec F S4x128x128 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (X0_0 m c ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (X0_0 m c ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 16 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2)

/-- `outsAt0` at a point of case A: that case's contents. -/
theorem outsAt0_A (c : Dev nD) (t : Fin cfg0.N) (h0 : t.val % 16 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (X0_0 m c t) (X0_1 m c t) (iblk m c 2 t) (iblk m c 3 t) (iblk m c 4 t) (iblk m c 5 t) (iblk m c 6 t) (iblk m c 7 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (X0_0 m c t) (X0_1 m c t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (outsAt0 m c (t.val - 1) (Nat.lt_of_le_of_lt (Nat.sub_le _ _) t.isLt)).2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c n hn).2)) ∗ (∃ r, prngReg c r))

/-- Before the first point nothing is held but the launch's memory. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = X0_0 m c t := by dsimp only [dats]
/-- The block of window 1 after the body. -/
theorem after0_1 (c : Dev nD) (t : Fin cfg0.N) : (dats m 0 c).after 1 t = X0_1 m c t := by dsimp only [dats]
/-- The block of window 2 after the body. -/
theorem after0_2 (c : Dev nD) (t : Fin cfg0.N) : (dats m 0 c).after 2 t = iblk m c 2 t := by dsimp only [dats]
/-- The block of window 3 after the body. -/
theorem after0_3 (c : Dev nD) (t : Fin cfg0.N) : (dats m 0 c).after 3 t = iblk m c 3 t := by dsimp only [dats]
/-- The block of window 4 after the body. -/
theorem after0_4 (c : Dev nD) (t : Fin cfg0.N) : (dats m 0 c).after 4 t = iblk m c 4 t := by dsimp only [dats]
/-- The block of window 5 after the body. -/
theorem after0_5 (c : Dev nD) (t : Fin cfg0.N) : (dats m 0 c).after 5 t = iblk m c 5 t := by dsimp only [dats]
/-- The block of window 6 after the body. -/
theorem after0_6 (c : Dev nD) (t : Fin cfg0.N) : (dats m 0 c).after 6 t = iblk m c 6 t := by dsimp only [dats]
/-- The block of window 7 after the body. -/
theorem after0_7 (c : Dev nD) (t : Fin cfg0.N) : (dats m 0 c).after 7 t = iblk m c 7 t := by dsimp only [dats]
/-- The block of window 8 after the body. -/
theorem after0_8 (c : Dev nD) (t : Fin cfg0.N) : (dats m 0 c).after 8 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
/-- The block of window 1 before the body. -/
theorem before0_1 (c : Dev nD) (t : Fin cfg0.N) (d) : (dats m 0 c).before 1 t d = X0_1 m c t :=
  before0_1_of m (dats m 0 c) (A_eq m c 1) (after0_1 m c) t d
/-- The block of window 2 before the body. -/
theorem before0_2 (c : Dev nD) (t : Fin cfg0.N) (d) : (dats m 0 c).before 2 t d = iblk m c 2 t :=
  before0_2_of m (dats m 0 c) (A_eq m c 2) (after0_2 m c) t d
/-- The block of window 3 before the body. -/
theorem before0_3 (c : Dev nD) (t : Fin cfg0.N) (d) : (dats m 0 c).before 3 t d = iblk m c 3 t :=
  before0_3_of m (dats m 0 c) (A_eq m c 3) (after0_3 m c) t d
/-- The block of window 4 before the body. -/
theorem before0_4 (c : Dev nD) (t : Fin cfg0.N) (d) : (dats m 0 c).before 4 t d = iblk m c 4 t :=
  before0_4_of m (dats m 0 c) (A_eq m c 4) (after0_4 m c) t d
/-- The block of window 5 before the body. -/
theorem before0_5 (c : Dev nD) (t : Fin cfg0.N) (d) : (dats m 0 c).before 5 t d = iblk m c 5 t :=
  before0_5_of m (dats m 0 c) (A_eq m c 5) (after0_5 m c) t d
/-- The block of window 6 before the body. -/
theorem before0_6 (c : Dev nD) (t : Fin cfg0.N) (d) : (dats m 0 c).before 6 t d = iblk m c 6 t :=
  before0_6_of m (dats m 0 c) (A_eq m c 6) (after0_6 m c) t d
/-- The block of window 7 before the body. -/
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · by_cases hz : t.val = 0
    · rw [PhiS_castSucc m c t, PhiS_zero m c _ _ hz, PhiA0_eq]
      rw [outsAt0_A m c t h0]
      unfold out0_A_8 sout0_A_4; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ _ _ _ _ ((hcond0_0 t).mpr h0) (X0_0 m c t) (X0_1 m c t) (iblk m c 2 t) (iblk m c 3 t) (iblk m c 4 t) (iblk m c 5 t) (iblk m c 6 t) (iblk m c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, ⟨%e8, H8⟩, HS0, HS1, HS2, HS3, ⟨%es4, HS4⟩⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          unfold owns; iexists _; isplitr
          swap; · iexact HS4
          ipureintro; exact View.read_writes_of_cover _ _ _ _ _ (scover0_A_4 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_8 sout0_A_4; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ _ _ _ _ ((hcond0_0 t).mpr h0) (X0_0 m c t) (X0_1 m c t) (iblk m c 2 t) (iblk m c 3 t) (iblk m c 4 t) (iblk m c 5 t) (iblk m c 6 t) (iblk m c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      isplitl [HS4]; · iexists _; iexact HS4
      iintro ⟨H0, H1, H2, H3, H4, H5, H6, H7, ⟨%e8, H8⟩, HS0, HS1, HS2, HS3, ⟨%es4, HS4⟩⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          unfold owns; iexists _; isplitr
          swap; · iexact HS4
          ipureintro; exact View.read_writes_of_cover _ _ _ _ _ (scover0_A_4 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _ _ _ _ _ _)
  · by_cases hz : t.val = 0
    · exfalso; have hN : t.val < 128 := lt_of_lt_of_eq t.isLt (show cfg0.N = 128 from N_0); omega
    · rw [PhiS_castSucc m c t, PhiS_pos m c _ _ hz]
      rw [outsAt0_B m c t h0]
      unfold out0_B_8 sout0_B_4; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ _ _ _ _ (fun h => h0 ((hcond0_0 t).mp h)) (X0_0 m c t) (X0_1 m c t) (iblk m c 2 t) (iblk m c 3 t) (iblk m c 4 t) (iblk m c 5 t) (iblk m c 6 t) (iblk m c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, ⟨%e8, H8⟩, HS0, HS1, HS2, HS3, ⟨%es4, HS4⟩⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          unfold owns; iexists _; isplitr
          swap; · iexact HS4
          ipureintro; exact View.read_writes_of_cover _ _ _ _ _ (scover0_B_4 c _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexact HS0
    isplitl [HS1]
    · iexact HS1
    isplitl [HS2]
    · iexact HS2
    isplitl [HS3]
    · iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_GdnIdeal`'s statement (Defs.lean) at any `F` — Proof.lean cites it at `Bits`:
    `theorem Cert.Proof.claim : Cert.Claim := ⟨Cert.GdnIdeal.Gen.facts, fun m ρ _ => Cert.GdnIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Proof.GdnFrame

end
-- ==== Proof.GdnSame.lean ====
/-
The gated DeltaNet program at the machine's number formats and its idealization are printed from the same text, and no operation
was rewritten. Both unfold to one program, so that the frame, proved for any number formats, holds for the first as well.
-/
module

public import proofs.«01_k».proof.Proof.GdnFrame
public import proofs.«01_k».proof.Proof.Gen.Gdn
public import Idealize.ShloMosaic.PureOps.BitExact

@[expose] public section

set_option maxHeartbeats 2000000
set_option maxRecDepth 16384

noncomputable section

namespace Cert.Proof.GdnSame

open Idealize.ShloMosaic Idealize.ShloMosaic.TcCoe Idealize.SL.Sem

/-- The body tables of the kernel are the same. -/
theorem bodies_same : @Cert.Gdn.defs₀ Bits _ _ = @Cert.GdnIdeal.defs₀ Bits _ _ := by
  refine congrArg Defs.onTc ?_
  funext l x
  match l, x with
  | 0, (t, s) => rfl

/-- So are the tables with the launch's pipeline. -/
theorem defs_same : @Cert.Gdn.defs Bits _ _ = @Cert.GdnIdeal.defs Bits _ _ :=
  congrArg (Pipeline.defs (Cert.GdnIdeal.pcfgs (F := Bits))) bodies_same

/-- The host functions are the same. -/
theorem main_same : @Cert.Gdn.main Bits _ _ = @Cert.GdnIdeal.main Bits _ _ := rfl

/-- The frame of the program at the machine's number formats: it runs to its end, leaves its arguments as they were and every
    counter at zero. -/
theorem frame (m : (ℓ : Loc Cert.Gdn.nD Cert.Gdn.τ Cert.Gdn.sig) → Buf (Elt Bits) ℓ) (ρ : Dev Cert.Gdn.nD → PrngReg) :
    θ_run (Cert.Gdn.defs (F := Bits)) (onTc (τ := Cert.Gdn.τ) (Cert.Gdn.main (F := Bits))) ⟨m, fun _ => 0, ρ⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4)
      ∧ r.2.mem ((c.tc : Thread Cert.Gdn.nD Cert.Gdn.τ).loc Cert.Gdn.main_arg5) = m ((c.tc : Thread Cert.Gdn.nD Cert.Gdn.τ).loc Cert.Gdn.main_arg5))
      ∧ r.2.sem = fun _ => 0) := by
  rw [defs_same]
  exact Cert.Proof.GdnFrame.frame (F := Bits) m ρ

end Cert.Proof.GdnSame

end
-- ==== Proof.GdnMath.lean ====
/- The gated delta rule over the reals: a block of rows of the recurrence, solved at once. -/
module

public import Mathlib.Analysis.SpecialFunctions.Exp
public import Mathlib.LinearAlgebra.Matrix.NonsingularInverse
public import Mathlib.Tactic.NoncommRing

@[expose] public section

noncomputable section

namespace Cert.Proof.GdnMath

open Finset

/-! ## The recurrence -/

variable {m : ℕ} (q k v : ℕ → Fin m → ℝ) (g b : ℕ → ℝ)

/-- The state before row `p`: each row decays it by `exp g` and then adds its key times its correction. -/
def state : ℕ → Fin m → Fin m → ℝ
  | 0 => fun _ _ => 0
  | p + 1 => fun d e => Real.exp (g p) * state p d e
      + k p d * (b p * (v p e - ∑ x, k p x * (Real.exp (g p) * state p x e)))

/-- The correction of row `p`: its value less what the decayed state already holds at its key, times its rate. -/
def delta (p : ℕ) (e : Fin m) : ℝ := b p * (v p e - ∑ x, k p x * (Real.exp (g p) * state k v g b p x e))

/-- What row `p` reads from the state it has updated. -/
def out (p : ℕ) (e : Fin m) : ℝ := ∑ d, q p d * state k v g b (p + 1) d e

/-- One position of the recurrence. -/
theorem state_succ (p : ℕ) (d e : Fin m) :
    state k v g b (p + 1) d e = Real.exp (g p) * state k v g b p d e + k p d * delta k v g b p e := rfl

/-- The sum of the first `i` log decays of the block that starts at row `o`. -/
def cum (o i : ℕ) : ℝ := ∑ j ∈ range i, g (o + j)

/-- A running sum takes one more term. -/
theorem cum_succ (o i : ℕ) : cum g o (i + 1) = cum g o i + g (o + i) := sum_range_succ _ _

/-- The state inside a block: what was there at its start, decayed, and each row's correction at its key, decayed since. -/
theorem state_block (o i : ℕ) (d e : Fin m) :
    state k v g b (o + i) d e = Real.exp (cum g o i) * state k v g b o d e
      + ∑ j ∈ range i, Real.exp (cum g o i - cum g o (j + 1)) * (k (o + j) d * delta k v g b (o + j) e) := by
  induction i with
  | zero => simp [cum]
  | succ i ih =>
    rw [← add_assoc, state_succ, ih, sum_range_succ, sub_self, Real.exp_zero, one_mul, cum_succ, Real.exp_add, mul_add, mul_sum,
      ← add_assoc]
    congr 1; congr 1
    · ring
    · refine sum_congr rfl fun j _ => ?_
      rw [show cum g o i + g (o + i) - cum g o (j + 1) = g (o + i) + (cum g o i - cum g o (j + 1)) by ring, Real.exp_add]; ring

/-- The decayed state at row `i` of the block, before the row's own correction. -/
theorem decayed_block (o i : ℕ) (d e : Fin m) :
    Real.exp (g (o + i)) * state k v g b (o + i) d e = Real.exp (cum g o (i + 1)) * state k v g b o d e
      + ∑ j ∈ range i, Real.exp (cum g o (i + 1) - cum g o (j + 1)) * (k (o + j) d * delta k v g b (o + j) e) := by
  have h := state_block k v g b o (i + 1) d e
  rw [← add_assoc, state_succ, sum_range_succ, sub_self, Real.exp_zero, one_mul, ← add_assoc] at h
  exact add_right_cancel h

/-! ## The inverse of a unit lower triangular matrix -/

/-- One doubling of the series for the inverse: if `t` is an inverse up to `p`, then `t + t p` is one up to `p * p`. -/
theorem double {R : Type*} [Ring R] {a t p : R} (h : a * t = 1 - p) : a * (t + t * p) = 1 - p * p := by
  rw [mul_add, ← mul_assoc, h]; noncomm_ring

/-- The powers of a strictly lower triangular matrix move away from the diagonal. -/
theorem pow_lower {n : ℕ} {P : Matrix (Fin n) (Fin n) ℝ} (hP : ∀ i j : Fin n, i ≤ j → P i j = 0) (l : ℕ) (i j : Fin n)
    (h : i.val < j.val + l) : (P ^ l) i j = 0 := by
  induction l generalizing i j with
  | zero => rw [pow_zero, Matrix.one_apply_ne]; rintro rfl; omega
  | succ l ih =>
    rw [pow_succ, Matrix.mul_apply]
    refine sum_eq_zero fun x _ => ?_
    by_cases hx : x ≤ j
    · rw [hP x j hx, mul_zero]
    · have : j.val < x.val := not_le.mp hx
      rw [ih i x (by omega), zero_mul]

/-- A strictly lower triangular matrix to the power of its size is zero. -/
theorem pow_zero_of_lower {n : ℕ} {P : Matrix (Fin n) (Fin n) ℝ} (hP : ∀ i j : Fin n, i ≤ j → P i j = 0) : P ^ n = 0 :=
  Matrix.ext fun i j => pow_lower hP n i j (by have := i.isLt; omega)

/-- The product of `1 + P`, `1 + P²`, … , `1 + P³²`. -/
def series (P : Matrix (Fin 64) (Fin 64) ℝ) : Matrix (Fin 64) (Fin 64) ℝ :=
  let p2 := P * P
  let t2 := (1 + P) + (1 + P) * p2
  let p4 := p2 * p2
  let t4 := t2 + t2 * p4
  let p8 := p4 * p4
  let t8 := t4 + t4 * p8
  let p16 := p8 * p8
  let t16 := t8 + t8 * p16
  let p32 := p16 * p16
  t16 + t16 * p32

/-- For a strictly lower triangular `P` of 64 rows that product is the inverse of `1 - P`. -/
theorem series_inverse {P : Matrix (Fin 64) (Fin 64) ℝ} (hP : ∀ i j : Fin 64, i ≤ j → P i j = 0) : series P * (1 - P) = 1 := by
  have h0 : (1 - P) * (1 + P) = 1 - P * P := by noncomm_ring
  have h := double (double (double (double (double h0))))
  have h64 : P * P * (P * P) * (P * P * (P * P)) * (P * P * (P * P) * (P * P * (P * P)))
      * (P * P * (P * P) * (P * P * (P * P)) * (P * P * (P * P) * (P * P * (P * P))))
      * (P * P * (P * P) * (P * P * (P * P)) * (P * P * (P * P) * (P * P * (P * P)))
      * (P * P * (P * P) * (P * P * (P * P)) * (P * P * (P * P) * (P * P * (P * P))))) = P ^ 64 := by
    simp only [← pow_two, ← pow_mul]; norm_num
  rw [h64, pow_zero_of_lower hP, sub_zero] at h
  exact mul_eq_one_comm.mp h

/-! ## A block of 64 rows -/

/-- How much the rows of a block correct each other: row `i` by row `j` before it. -/
def mix (o : ℕ) : Matrix (Fin 64) (Fin 64) ℝ := fun i j =>
  if j < i then (∑ d, k (o + i.val) d * b (o + i.val) * k (o + j.val) d) * Real.exp (cum g o (i.val + 1) - cum g o (j.val + 1)) else 0

/-- The block's values times their rates. -/
def vals (o : ℕ) : Matrix (Fin 64) (Fin m) ℝ := fun i e => v (o + i.val) e * b (o + i.val)

/-- The block's keys times their rates, decayed from the block's start. -/
def keys (o : ℕ) : Matrix (Fin 64) (Fin m) ℝ := fun i d => k (o + i.val) d * b (o + i.val) * Real.exp (cum g o (i.val + 1))

/-- The state before row `o`, as a matrix. -/
def stateM (o : ℕ) : Matrix (Fin m) (Fin m) ℝ := state k v g b o

/-- The corrections of the block's rows, as a matrix. -/
def deltas (o : ℕ) : Matrix (Fin 64) (Fin m) ℝ := fun i e => delta k v g b (o + i.val) e

/-- The corrections of the block's rows, solved from the values, the keys and the state at its start. -/
def solved (o : ℕ) : Matrix (Fin 64) (Fin m) ℝ :=
  series (-mix k g b o) * vals v b o - series (-mix k g b o) * keys k g b o * stateM k v g b o

/-- A masked sum over a chunk's rows before a row is a sum over a range. -/
theorem sum_before {M : Type*} [AddCommMonoid M] (i : Fin 64) (f : ℕ → M) :
    ∑ j : Fin 64, (if j < i then f j.val else 0) = ∑ j ∈ range i.val, f j := by
  have h := Fin.sum_univ_eq_sum_range (fun j => if j < i.val then f j else 0) 64
  simp only [Fin.lt_def, h]
  rw [← sum_filter]
  refine sum_congr (ext fun j => ?_) fun _ _ => rfl
  simp only [mem_filter, mem_range]; have := i.isLt; omega

/-- The same up to the row itself. -/
theorem sum_upto {M : Type*} [AddCommMonoid M] (i : Fin 64) (f : ℕ → M) :
    ∑ j : Fin 64, (if j ≤ i then f j.val else 0) = ∑ j ∈ range (i.val + 1), f j := by
  have h := Fin.sum_univ_eq_sum_range (fun j => if j ≤ i.val then f j else 0) 64
  simp only [Fin.le_def, h]
  rw [← sum_filter]
  refine sum_congr (ext fun j => ?_) fun _ _ => rfl
  simp only [mem_filter, mem_range]; have := i.isLt; omega

/-- The solved corrections are the recurrence's. -/
theorem solved_eq (o : ℕ) : solved k v g b o = deltas k v g b o := by
  have hlow : ∀ i j : Fin 64, i ≤ j → (-mix k g b o) i j = 0 := fun i j h => by
    rw [Matrix.neg_apply, mix, if_neg (not_lt.mpr h), neg_zero]
  have hrow : (1 - -mix k g b o) * deltas k v g b o = vals v b o - keys k g b o * stateM k v g b o := by
    rw [sub_neg_eq_add, Matrix.add_mul, Matrix.one_mul]
    refine Matrix.ext fun i e => ?_
    rw [Matrix.add_apply, Matrix.sub_apply, Matrix.mul_apply, Matrix.mul_apply]
    have hs : ∑ j, mix k g b o i j * deltas k v g b o j e
        = ∑ j ∈ range i.val, (∑ d, k (o + i.val) d * b (o + i.val) * k (o + j) d)
            * Real.exp (cum g o (i.val + 1) - cum g o (j + 1)) * delta k v g b (o + j) e := by
      rw [← sum_before i fun j => (∑ d, k (o + i.val) d * b (o + i.val) * k (o + j) d)
            * Real.exp (cum g o (i.val + 1) - cum g o (j + 1)) * delta k v g b (o + j) e]
      refine sum_congr rfl fun j _ => ?_
      rw [mix, deltas]; split_ifs <;> simp
    rw [hs]
    simp only [vals, keys, stateM, deltas]
    rw [delta]
    simp only [decayed_block, mul_add, mul_sum, sum_add_distrib, mul_sub, sum_mul]
    rw [sum_comm (s := univ) (t := range i.val)]
    have e1 : ∑ x, b (o + i.val) * (k (o + i.val) x * (Real.exp (cum g o (i.val + 1)) * state k v g b o x e))
        = ∑ x, k (o + i.val) x * b (o + i.val) * Real.exp (cum g o (i.val + 1)) * state k v g b o x e :=
      sum_congr rfl fun x _ => by ring
    have e2 : ∑ j ∈ range i.val, ∑ x, b (o + i.val) * (k (o + i.val) x * (Real.exp (cum g o (i.val + 1) - cum g o (j + 1))
          * (k (o + j) x * delta k v g b (o + j) e)))
        = ∑ j ∈ range i.val, ∑ x, k (o + i.val) x * b (o + i.val) * k (o + j) x
            * Real.exp (cum g o (i.val + 1) - cum g o (j + 1)) * delta k v g b (o + j) e :=
      sum_congr rfl fun j _ => sum_congr rfl fun x _ => by ring
    rw [e1, e2]; ring
  rw [solved, Matrix.mul_assoc, ← Matrix.mul_sub, ← hrow, ← Matrix.mul_assoc, series_inverse hlow, Matrix.one_mul]

/-- What a row of the block reads, from the state at the block's start and the solved corrections. -/
theorem out_block (o : ℕ) (i : Fin 64) (e : Fin m) :
    ∑ d, q (o + i.val) d * Real.exp (cum g o (i.val + 1)) * state k v g b o d e
      + ∑ j : Fin 64, (if j ≤ i then (∑ d, q (o + i.val) d * k (o + j.val) d)
          * Real.exp (cum g o (i.val + 1) - cum g o (j.val + 1)) else 0) * solved k v g b o j e
      = out q k v g b (o + i.val) e := by
  rw [solved_eq, out]; simp only [deltas]
  have hs : ∑ j : Fin 64, (if j ≤ i then (∑ d, q (o + i.val) d * k (o + j.val) d)
          * Real.exp (cum g o (i.val + 1) - cum g o (j.val + 1)) else 0) * delta k v g b (o + j.val) e
      = ∑ j ∈ range (i.val + 1), (∑ d, q (o + i.val) d * k (o + j) d)
          * Real.exp (cum g o (i.val + 1) - cum g o (j + 1)) * delta k v g b (o + j) e := by
    rw [← sum_upto i fun j => (∑ d, q (o + i.val) d * k (o + j) d)
          * Real.exp (cum g o (i.val + 1) - cum g o (j + 1)) * delta k v g b (o + j) e]
    refine sum_congr rfl fun j _ => ?_
    split_ifs <;> simp
  rw [hs]
  simp only [add_assoc, state_block, mul_add, mul_sum, sum_add_distrib, sum_mul]
  rw [sum_comm (s := univ) (t := range (i.val + 1))]
  congr 1
  · exact sum_congr rfl fun d _ => by ring
  · exact sum_congr rfl fun j _ => sum_congr rfl fun d _ => by ring

/-- The state at the block's end, from the state at its start and the solved corrections. -/
theorem state_end (o : ℕ) (d e : Fin m) :
    state k v g b o d e * Real.exp (cum g o 64)
      + ∑ j : Fin 64, k (o + j.val) d * Real.exp (cum g o 64 - cum g o (j.val + 1)) * solved k v g b o j e
      = state k v g b (o + 64) d e := by
  rw [solved_eq]; simp only [deltas]; rw [state_block, ← Fin.sum_univ_eq_sum_range
    (fun j => Real.exp (cum g o 64 - cum g o (j + 1)) * (k (o + j) d * delta k v g b (o + j) e)) 64, mul_comm]
  congr 1
  exact sum_congr rfl fun j _ => by ring

end Cert.Proof.GdnMath
-- ==== Proof.GdnChunk.lean ====
/-
One chunk of 64 rows of the gated DeltaNet kernel, for one head, over the extended reals: when the chunk's inputs are numbers, the
state it leaves and the outputs it reads are the numbers of the recurrence in `GdnMath`.
-/
module

public import proofs.«01_k».proof.Proof.GdnMath
public import proofs.«01_k».proof.Proof.Gen.GdnIdeal.Skeleton
public import Idealize.ShloMosaic.Lib.Pointwise
public import Idealize.ShloMosaic.Lib.Tactic
public import Idealize.ShloMosaic.PureOps.Ideal

@[expose] public section

set_option maxRecDepth 16384

noncomputable section

namespace Cert.Proof.GdnChunk

open Cert.GdnIdeal Cert.GdnIdeal.Gen Idealize.ShloMosaic Cert.Proof.GdnMath

/-- An array of extended reals of two axes that holds the numbers of a matrix. -/
def Is {a b : ℕ} (x : (⟨2, ![a, b]⟩ : Shape).Idx → EReal) (A : Matrix (Fin a) (Fin b) ℝ) : Prop :=
  ∀ i j, x (ix2 i j) = ((A i j : ℝ) : EReal)

/-- A finite sum of numbers is their sum as a number. -/
theorem coe_sum {n : ℕ} (f : Fin n → ℝ) : ∑ x, ((f x : ℝ) : EReal) = ((∑ x, f x : ℝ) : EReal) := by
  induction n with
  | zero => simp
  | succ n ih => rw [Fin.sum_univ_succ, Fin.sum_univ_succ, ih, EReal.coe_add]

/-- A row times a column, of matrices of numbers. -/
theorem sum_mul {a n b : ℕ} {x : (⟨2, ![a, n]⟩ : Shape).Idx → EReal} {y : (⟨2, ![n, b]⟩ : Shape).Idx → EReal}
    {A : Matrix (Fin a) (Fin n) ℝ} {B : Matrix (Fin n) (Fin b) ℝ} (hx : Is x A) (hy : Is y B) (i : Fin a) (j : Fin b) :
    ∑ t, x (ix2 i t) * y (ix2 t j) = (((A * B) i j : ℝ) : EReal) := by
  rw [Matrix.mul_apply, ← coe_sum]
  exact Finset.sum_congr rfl fun t _ => by rw [hx, hy, EReal.coe_mul]

/-- The product of two 64 × 64 arrays. -/
def mm (x y : FVec Ideal S64x64 .f32) : FVec Ideal S64x64 .f32 :=
  matmul dot_S64x64_S64x64_S64x64_1_0_0_1_n_n (some .fp32) x y (constant S64x64 .f32 0x00000000#32)

/-- The product of arrays that are matrices is the matrices' product. -/
theorem mm_is {x y : FVec Ideal S64x64 .f32} {A B : Matrix (Fin 64) (Fin 64) ℝ} (hx : Is x A) (hy : Is y B) :
    Is (mm x y) (A * B) := fun i j => by
  have h : mm x y (ix2 i j) = ∑ t, x (ix2 i t) * y (ix2 t j) := by unfold mm; pointwise; try rfl
  rw [h]; exact sum_mul hx hy i j

/-- `t + t·p`. -/
def dbl (t p : FVec Ideal S64x64 .f32) : FVec Ideal S64x64 .f32 := addf t (mm t p)

/-- A doubling step on arrays that are matrices. -/
theorem dbl_is {t p : FVec Ideal S64x64 .f32} {A B : Matrix (Fin 64) (Fin 64) ℝ} (ht : Is t A) (hp : Is p B) :
    Is (dbl t p) (A + A * B) := fun i j => by
  show t (ix2 i j) + mm t p (ix2 i j) = _
  rw [ht, mm_is ht hp, ← EReal.coe_add]; rfl

/-- The square. -/
def sq (p : FVec Ideal S64x64 .f32) : FVec Ideal S64x64 .f32 := mm p p

/-- A squaring on an array that is a matrix. -/
theorem sq_is {p : FVec Ideal S64x64 .f32} {A : Matrix (Fin 64) (Fin 64) ℝ} (hp : Is p A) : Is (sq p) (A * A) := mm_is hp hp

/-- The kernel's strictly lower triangular matrix, negated. -/
def lower (kn : FVec Ideal S64x128 .f32) (dec : FVec Ideal S64x64 .f32) (kb : FVec Ideal S64x128 .f32) : FVec Ideal S64x64 .f32 :=
  subf (broadcast S64x64 (Scalar.ofBits .f32 0x00000000#32)) (select k0_pay4
    (mulf (matmul dot_S64x128_S64x128_S64x64_1_1_0_0_n_n none (truncf .bf16 kb bitsLt_bf16_f32) (k0_pay20 kn)
      (constant S64x64 .f32 0x00000000#32)) dec) (broadcast S64x64 (Scalar.ofBits .f32 0x00000000#32)))

/-- The kernel's inverse is five doubling steps, each with the next square. -/
theorem pay21_eq (kn : FVec Ideal S64x128 .f32) (dec : FVec Ideal S64x64 .f32) (kb : FVec Ideal S64x128 .f32) (P : FVec Ideal S64x64 .f32)
    (hP : P = lower kn dec kb) :
    k0_pay21 k0_pay4 k0_pay6 kn dec kb = dbl (dbl (dbl (dbl (dbl (addf k0_pay6 P) (sq P)) (sq (sq P))) (sq (sq (sq P))))
      (sq (sq (sq (sq P))))) (sq (sq (sq (sq (sq P))))) := by
  subst hP; rfl

/-- The strict mask: the columns before the row. -/
theorem mask_lt (i j : Fin 64) : k0_pay4 (ix2 i j) = if j < i then 1#1 else 0#1 := by
  revert i j; decide +kernel

/-- The mask with its diagonal: the columns up to the row. -/
theorem mask_le (i j : Fin 64) : k0_pay3 (ix2 i j) = if j ≤ i then 1#1 else 0#1 := by
  revert i j; decide +kernel

/-- Turning a mask into numbers. -/
theorem mask_num (c : Prop) [Decidable c] : FloatOps.sitofp (F := Ideal) FTy.f32 (BitVec.setWidth 32 (if c then 1#1 else 0#1))
    = (((if c then 1 else 0 : ℝ) : ℝ) : EReal) := by
  split <;> (show ((((BitVec.setWidth 32 _ : BitVec 32).toInt : ℝ)) : EReal) = _; norm_num)

/-- The kernel's identity is the identity matrix. -/
theorem ident_is : Is (k0_pay6 (F := Ideal)) (1 : Matrix (Fin 64) (Fin 64) ℝ) := fun i j => by
  have h : k0_pay6 (F := Ideal) (ix2 i j) = FloatOps.sitofp (F := Ideal) FTy.f32 (BitVec.setWidth 32 (if i = j then 1#1 else 0#1)) := by
    unfold k0_pay6; pointwise
    have : IntOp.cmpi .eq (BitVec.ofNat 32 i.val) (BitVec.ofNat 32 j.val) = if i = j then 1#1 else 0#1 := by
      revert i j; decide +kernel
    rw [this]
  rw [h, mask_num, Matrix.one_apply]

/-- The kernel's triangle of ones is the lower triangular matrix of ones. -/
theorem tri_is : Is (k0_pay5 (F := Ideal)) (fun i j => if j ≤ i then 1 else 0) := fun i j => by
  have h : k0_pay5 (F := Ideal) (ix2 i j) = FloatOps.sitofp (F := Ideal) FTy.f32 (BitVec.setWidth 32 (if j ≤ i then 1#1 else 0#1)) := by
    unfold k0_pay5; pointwise; rw [mask_le]
  rw [h, mask_num]

/-- Choosing by a mask. -/
theorem select_if (c : Prop) [Decidable c] (x y : EReal) :
    Scalar.select (if c then 1#1 else 0#1) x y = if c then x else y := by
  by_cases hc : c <;> simp [hc, Scalar.select]

/-- The kernel's negated matrix holds the negated `mix`. -/
theorem lower_is {kn kb : FVec Ideal S64x128 .f32} {dec : FVec Ideal S64x64 .f32} {k : ℕ → Fin 128 → ℝ} {g b : ℕ → ℝ} {o : ℕ} {c0 : ℝ}
    (hk : Is kn (fun i d => k (o + i.val) d)) (hkb : Is kb (fun i d => k (o + i.val) d * b (o + i.val)))
    (hd : Is dec (fun i j => Real.exp (if j ≤ i then cum g o (i.val + 1) - cum g o (j.val + 1) else c0))) :
    Is (lower kn dec kb) (-mix k g b o) := fun i j => by
  have h : lower kn dec kb (ix2 i j)
      = 0 - Scalar.select (k0_pay4 (ix2 i j)) ((∑ x, kb (ix2 i x) * kn (ix2 j x)) * dec (ix2 i j)) 0 := by
    unfold lower k0_pay20; pointwise
  have hs : ∑ x, kb (ix2 i x) * kn (ix2 j x)
      = ((∑ x, k (o + i.val) x * b (o + i.val) * k (o + j.val) x : ℝ) : EReal) := by
    rw [← coe_sum]; exact Finset.sum_congr rfl fun x _ => by rw [hkb, hk, ← EReal.coe_mul]
  rw [h, mask_lt, select_if, hs, hd, ← EReal.coe_mul, Matrix.neg_apply, mix, zero_sub]
  by_cases hji : j < i
  · rw [if_pos hji, if_pos hji]; beta_reduce; rw [if_pos hji.le, EReal.coe_neg]
  · rw [if_neg hji, if_neg hji]; simp

/-- The kernel's product of the powers holds `series`. -/
theorem pay21_is {kn kb : FVec Ideal S64x128 .f32} {dec : FVec Ideal S64x64 .f32} {P : Matrix (Fin 64) (Fin 64) ℝ}
    (hP : Is (lower kn dec kb) P) : Is (k0_pay21 k0_pay4 k0_pay6 kn dec kb) (series P) := by
  rw [pay21_eq kn dec kb _ rfl]
  have hs := sq_is hP
  have h0 : Is (addf (k0_pay6 (F := Ideal)) (lower kn dec kb)) (1 + P) := fun i j => by
    show k0_pay6 (F := Ideal) (ix2 i j) + lower kn dec kb (ix2 i j) = _
    rw [ident_is, hP, ← EReal.coe_add]; rfl
  exact dbl_is (dbl_is (dbl_is (dbl_is (dbl_is h0 hs) (sq_is hs)) (sq_is (sq_is hs))) (sq_is (sq_is (sq_is hs))))
    (sq_is (sq_is (sq_is (sq_is hs))))

end Cert.Proof.GdnChunk

end
-- ==== Proof.GdnHead.lean ====
/-
The kernel's work on one chunk for one head, written once for any head: `headState` is the state it leaves and `headOut` the gated
and normalized output. When the chunk's rows are numbers they are `GdnMath`'s recurrence.
-/
module

public import proofs.«01_k».proof.Proof.GdnChunk

@[expose] public section

set_option maxRecDepth 16384

noncomputable section

namespace Cert.Proof.GdnHead

open Cert.GdnIdeal Cert.GdnIdeal.Gen Idealize.ShloMosaic Cert.Proof.GdnMath Cert.Proof.GdnChunk

/-- The proofs that column `h` of the log decays and column `4 + h` of the rates are columns. -/
structure Cols (h : ℕ) : Prop where
  gc : S64x128.Slices ![0, h] S64x1
  gl : S64x128.Slices ![63, h] S1x1
  gr : S128x64.Slices ![h, 0] S1x64
  be : S64x128.Slices ![0, 4 + h] S64x1

section Words
variable {h : ℕ} (sl : Cols h) (G B Q K V : FVec Ideal S64x128 .f32) (S : FVec Ideal S1x128x128 .f32)

/-- The running sums of the log decays, as a column. -/
def gc : FVec Ideal S64x1 .f32 := extractStridedSlice S64x1 ![0, h] (k0_pay9 k0_pay5 G) sl.gc
/-- Their last. -/
def gl : FVec Ideal S1x1 .f32 := extractStridedSlice S1x1 ![63, h] (k0_pay9 k0_pay5 G) sl.gl
/-- Their differences, exponentiated below the diagonal. -/
def dec : FVec Ideal S64x64 .f32 :=
  exp (select k0_pay3 (subf (broadcastTo S64x64 (gc sl G) broadcasts_S64x1_S64x64)
      (broadcastTo S64x64 (extractStridedSlice S1x64 ![h, 0] (k0_pay10 k0_pay5 G) sl.gr) broadcasts_S1x64_S64x64))
    (broadcast S64x64 (Scalar.ofBits .f32 0xF149F2CA#32)))
/-- The rates, one per row. -/
def be : FVec Ideal S64x1 .f32 := extractStridedSlice S64x1 ![0, 4 + h] B sl.be
/-- The write strengths, one row each. -/
def bb : FVec Ideal S64x128 .f32 := broadcastTo S64x128 (be sl B) broadcasts_S64x1_S64x128
/-- The normalized keys times their rates. -/
def kb : FVec Ideal S64x128 .f32 := mulf (k0_pay12 K) (bb sl B)
/-- The values' part of the corrections. -/
def uu : FVec Ideal S64x128 .f32 := k0_pay22 k0_pay4 k0_pay6 V (k0_pay12 K) (dec sl G) (kb sl B K) (bb sl B)
/-- The keys' part. -/
def ww : FVec Ideal S64x128 .f32 := k0_pay23 k0_pay4 k0_pay6 (k0_pay12 K) (dec sl G) (exp (gc sl G)) (kb sl B K)
/-- The state the chunk leaves. -/
def headState : FVec Ideal S1x128x128 .f32 :=
  k0_pay30 (gl sl G) (uu sl G B K V) (ww sl G B K) (k0_pay26 (k0_pay12 K) (gc sl G) (gl sl G)) S
/-- What the chunk's rows read. -/
def oo : FVec Ideal S64x128 .f32 :=
  addf (matmul dot_S64x128_S128x128_S64x128_1_0_0_1_n_n none
      (truncf .bf16 (k0_pay25 (k0_pay11 Q) (exp (gc sl G))) bitsLt_bf16_f32) (k0_pay28 S) (constant S64x128 .f32 0x00000000#32))
    (matmul dot_S64x64_S64x128_S64x128_1_0_0_1_n_n none
      (truncf .bf16 (k0_pay24 k0_pay3 (k0_pay11 Q) (k0_pay12 K) (dec sl G)) bitsLt_bf16_f32)
      (k0_pay29 (uu sl G B K V) (ww sl G B K) S) (constant S64x128 .f32 0x00000000#32))
/-- The chunk's normalized and gated output. -/
def headOut (nw : FVec Ideal S1x128 .f32) (gate : FVec Ideal S1x64x128 .bf16) : FVec Ideal S1x64x128 .bf16 :=
  k0_pay34 (k0_pay31 (k0_pay7 nw) (uu sl G B K V) (ww sl G B K) (k0_pay24 k0_pay3 (k0_pay11 Q) (k0_pay12 K) (dec sl G))
      (k0_pay25 (k0_pay11 Q) (exp (gc sl G))) S) (k0_pay32 gate) (k0_pay33 gate) (Scalar.ofBits .f32 0x3F800000#32)

end Words

/-- All that the chunk's inputs are taken to be. -/
structure Rows (G B Q K V : FVec Ideal S64x128 .f32) (S : FVec Ideal S1x128x128 .f32) (q k v : ℕ → Fin 128 → ℝ) (g b : ℕ → ℝ)
    (o h : ℕ) (hh : 4 + h < 128) : Prop where
  onG : ∀ i : Fin 64, G (ix2 i ⟨h, by omega⟩) = ((g (o + i.val) : ℝ) : EReal)
  onB : ∀ i : Fin 64, B (ix2 i ⟨4 + h, hh⟩) = ((b (o + i.val) : ℝ) : EReal)
  onQ : Is (k0_pay11 (F := Ideal) Q) (fun i d => q (o + i.val) d)
  onK : Is (k0_pay12 (F := Ideal) K) (fun i d => k (o + i.val) d)
  onV : Is V (fun i d => v (o + i.val) d)
  onS : ∀ d e : Fin 128, S (ix3 0 d e) = ((state k v g b o d e : ℝ) : EReal)

section Numbers
variable {h : ℕ} (hh : 4 + h < 128) (sl : Cols h) {G B Q K V : FVec Ideal S64x128 .f32} {S : FVec Ideal S1x128x128 .f32}
  {q k v : ℕ → Fin 128 → ℝ} {g b : ℕ → ℝ} {o : ℕ}

include hh in
/-- The running sums of a head's log decays within a chunk. -/
theorem cum_col (hG : ∀ i : Fin 64, G (ix2 i ⟨h, by omega⟩) = ((g (o + i.val) : ℝ) : EReal)) (i : Fin 64) :
    k0_pay9 (F := Ideal) k0_pay5 G (ix2 i ⟨h, by omega⟩) = ((cum g o (i.val + 1) : ℝ) : EReal) := by
  have e : k0_pay9 k0_pay5 G (ix2 i ⟨h, by omega⟩) = ∑ t, k0_pay5 (F := Ideal) (ix2 i t) * G (ix2 t ⟨h, by omega⟩) := by
    unfold k0_pay9; pointwise
  rw [e, cum, ← sum_upto i fun t => g (o + t), ← coe_sum]
  refine Finset.sum_congr rfl fun t _ => ?_
  rw [tri_is, hG, ← EReal.coe_mul]; beta_reduce
  split <;> simp

include hh in
/-- The same as a column. -/
theorem gc_is (hG : ∀ i : Fin 64, G (ix2 i ⟨h, by omega⟩) = ((g (o + i.val) : ℝ) : EReal)) :
    Is (gc sl G) (fun i _ => cum g o (i.val + 1)) := fun i j => by
  have e : gc sl G (ix2 i j) = k0_pay9 k0_pay5 G (ix2 i ⟨h, by omega⟩) := by
    rw [Fin.fin_one_eq_zero j]; unfold gc; pointwise
  rw [e, cum_col hh hG]

include hh in
/-- The chunk's whole log decay. -/
theorem gl_is (hG : ∀ i : Fin 64, G (ix2 i ⟨h, by omega⟩) = ((g (o + i.val) : ℝ) : EReal)) :
    Is (gl sl G) (fun _ _ => cum g o 64) := fun i j => by
  have e : gl sl G (ix2 i j) = k0_pay9 k0_pay5 G (ix2 63 ⟨h, by omega⟩) := by
    rw [Fin.fin_one_eq_zero j, Fin.fin_one_eq_zero i]; unfold gl; pointwise
  rw [e, cum_col hh hG]; rfl

/-- The word for minus 10³⁰ is a number. -/
theorem low_word : ∃ c : ℝ, Ideal.ofBits FTy.f32 0xF149F2CA#32 = (c : EReal) := by
  refine ⟨-(13234890 * 2 ^ 76), ?_⟩
  simp [Ideal.ofBits, Ideal.ieee]

include hh in
/-- The decays between a chunk's positions: the exponentials of the differences of running sums. -/
theorem dec_is (hG : ∀ i : Fin 64, G (ix2 i ⟨h, by omega⟩) = ((g (o + i.val) : ℝ) : EReal)) : ∃ c0 : ℝ,
    Is (dec sl G) (fun i j => Real.exp (if j ≤ i then cum g o (i.val + 1) - cum g o (j.val + 1) else c0)) := by
  obtain ⟨c0, hc0⟩ := low_word
  refine ⟨c0, fun i j => ?_⟩
  have e : dec sl G (ix2 i j) = Ideal.exp (Scalar.select (k0_pay3 (ix2 i j))
      (gc sl G (ix2 i 0) - k0_pay9 (F := Ideal) k0_pay5 G (ix2 j ⟨h, by omega⟩)) (Ideal.ofBits FTy.f32 0xF149F2CA#32)) := by
    unfold dec k0_pay10; pointwise
    try rfl
  rw [e, gc_is hh sl hG, cum_col hh hG, hc0, mask_le, select_if, ← EReal.coe_sub]; beta_reduce
  split <;> rfl

include hh in
/-- The write strengths as a matrix. -/
theorem bb_is (hB : ∀ i : Fin 64, B (ix2 i ⟨4 + h, hh⟩) = ((b (o + i.val) : ℝ) : EReal)) :
    Is (bb sl B) (fun i _ => b (o + i.val)) := fun i j => by
  have e : bb sl B (ix2 i j) = B (ix2 i ⟨4 + h, hh⟩) := by unfold bb be; pointwise
  rw [e, hB]

include hh in
/-- The keys times their write strengths as a matrix. -/
theorem kb_is (hB : ∀ i : Fin 64, B (ix2 i ⟨4 + h, hh⟩) = ((b (o + i.val) : ℝ) : EReal))
    (hK : Is (k0_pay12 (F := Ideal) K) (fun i d => k (o + i.val) d)) :
    Is (kb sl B K) (fun i d => k (o + i.val) d * b (o + i.val)) := fun i j => by
  have e : kb sl B K (ix2 i j) = k0_pay12 (F := Ideal) K (ix2 i j) * bb sl B (ix2 i j) := by unfold kb; pointwise
  rw [e, hK, bb_is hh sl hB, ← EReal.coe_mul]

/-- The exponential of a column of numbers. -/
theorem exp_is {x : FVec Ideal S64x1 .f32} {f : ℕ → ℝ} (hx : Is x (fun i _ => f i.val)) :
    Is (exp x) (fun i _ => Real.exp (f i.val)) := fun i j => by
  have e : exp x (ix2 i j) = Ideal.exp (x (ix2 i j)) := by pointwise; try rfl
  rw [e, hx]; rfl

variable (r : Rows G B Q K V S q k v g b o h hh)

include r in
/-- A head's strictly lower triangular matrix. -/
theorem lower_head : Is (lower (k0_pay12 (F := Ideal) K) (dec sl G) (kb sl B K)) (-mix k g b o) := by
  obtain ⟨c0, hd⟩ := dec_is hh sl r.onG
  exact lower_is r.onK (kb_is hh sl r.onB r.onK) hd

include r in
/-- The inverse times the values. -/
theorem uu_is : Is (uu sl G B K V) (series (-mix k g b o) * vals v b o) := fun i e => by
  have hm : Is (mulf V (bb sl B)) (vals v b o) := fun i e => by
    show V (ix2 i e) * bb sl B (ix2 i e) = _
    rw [r.onV, bb_is hh sl r.onB, ← EReal.coe_mul]; rfl
  have eq : uu sl G B K V (ix2 i e) = ∑ t, k0_pay21 (F := Ideal) k0_pay4 k0_pay6 (k0_pay12 K) (dec sl G) (kb sl B K) (ix2 i t)
      * mulf V (bb sl B) (ix2 t e) := by
    unfold uu k0_pay22; pointwise
  rw [eq]; exact sum_mul (pay21_is (lower_head hh sl r)) hm i e

include r in
/-- The inverse times the decayed keys. -/
theorem ww_is : Is (ww sl G B K) (series (-mix k g b o) * keys k g b o) := fun i e => by
  have hm : Is (mulf (kb sl B K) (broadcastTo S64x128 (exp (gc sl G)) broadcasts_S64x1_S64x128)) (keys k g b o) := fun i e => by
    have h1 : mulf (kb sl B K) (broadcastTo S64x128 (exp (gc sl G)) broadcasts_S64x1_S64x128) (ix2 i e)
        = kb sl B K (ix2 i e) * exp (gc sl G) (ix2 i 0) := by pointwise; try rfl
    rw [h1, kb_is hh sl r.onB r.onK, exp_is (f := fun i => cum g o (i + 1)) (gc_is hh sl r.onG), ← EReal.coe_mul]; rfl
  have eq : ww sl G B K (ix2 i e) = ∑ t, k0_pay21 (F := Ideal) k0_pay4 k0_pay6 (k0_pay12 K) (dec sl G) (kb sl B K) (ix2 i t)
      * mulf (kb sl B K) (broadcastTo S64x128 (exp (gc sl G)) broadcasts_S64x1_S64x128) (ix2 t e) := by
    unfold ww k0_pay23; pointwise
  rw [eq]; exact sum_mul (pay21_is (lower_head hh sl r)) hm i e

include r in
/-- The state a chunk starts with as a matrix. -/
theorem state_is : Is (k0_pay28 (F := Ideal) S) (stateM k v g b o) := fun d e => by
  have eq : k0_pay28 (F := Ideal) S (ix2 d e) = S (ix3 0 d e) := by unfold k0_pay28 k0_pay27; pointwise
  rw [eq, r.onS]; rfl

include r in
/-- The corrections of a chunk's positions: the inverse applied to values less what the state gives for the keys. -/
theorem solved_is : Is (k0_pay29 (F := Ideal) (uu sl G B K V) (ww sl G B K) S) (solved k v g b o) := fun i e => by
  have eq : k0_pay29 (F := Ideal) (uu sl G B K V) (ww sl G B K) S (ix2 i e)
      = uu sl G B K V (ix2 i e) - ∑ t, ww sl G B K (ix2 i t) * k0_pay28 (F := Ideal) S (ix2 t e) := by
    unfold k0_pay29; pointwise
  rw [eq, uu_is hh sl r, sum_mul (ww_is hh sl r) (state_is hh r), ← EReal.coe_sub]; rfl

include r in
/-- THE STATE the chunk leaves is the recurrence's, 64 rows on. -/
theorem headState_eq (d e : Fin 128) : headState sl G B K V S (ix3 0 d e) = ((state k v g b (o + 64) d e : ℝ) : EReal) := by
  have eq : headState sl G B K V S (ix3 0 d e) = S (ix3 0 d e) * Ideal.exp (gl sl G (ix2 0 0))
      + ∑ t, (k0_pay12 (F := Ideal) K (ix2 t d) * Ideal.exp (gl sl G (ix2 0 0) - gc sl G (ix2 t 0)))
        * k0_pay29 (F := Ideal) (uu sl G B K V) (ww sl G B K) S (ix2 t e) := by
    unfold headState k0_pay30 k0_pay26 k0_pay27; pointwise; try rfl
  rw [eq, r.onS, gl_is hh sl r.onG, ← state_end, EReal.coe_add, EReal.coe_mul, ← coe_sum]
  congr 1
  refine Finset.sum_congr rfl fun t _ => ?_
  rw [r.onK, gc_is hh sl r.onG, solved_is hh sl r, ← EReal.coe_sub, EReal.coe_mul, EReal.coe_mul]; rfl

include r in
/-- WHAT THE CHUNK'S ROWS READ is what the recurrence's rows read. -/
theorem oo_is : Is (oo sl G B Q K V S) (fun i e => out q k v g b (o + i.val) e) := fun i e => by
  obtain ⟨c0, hd⟩ := dec_is hh sl r.onG
  have h25 : Is (k0_pay25 (F := Ideal) (k0_pay11 Q) (exp (gc sl G))) (fun i d => q (o + i.val) d * Real.exp (cum g o (i.val + 1))) := fun i d => by
    have h1 : k0_pay25 (F := Ideal) (k0_pay11 Q) (exp (gc sl G)) (ix2 i d)
        = k0_pay11 (F := Ideal) Q (ix2 i d) * exp (gc sl G) (ix2 i 0) := by unfold k0_pay25; pointwise; try rfl
    rw [h1, r.onQ, exp_is (f := fun i => cum g o (i + 1)) (gc_is hh sl r.onG), ← EReal.coe_mul]
  have h24 : Is (k0_pay24 (F := Ideal) k0_pay3 (k0_pay11 Q) (k0_pay12 K) (dec sl G)) (fun i j => if j ≤ i then (∑ d, q (o + i.val) d * k (o + j.val) d)
      * Real.exp (cum g o (i.val + 1) - cum g o (j.val + 1)) else 0) := fun i j => by
    have h1 : k0_pay24 (F := Ideal) k0_pay3 (k0_pay11 Q) (k0_pay12 K) (dec sl G) (ix2 i j) = Scalar.select (k0_pay3 (ix2 i j))
        ((∑ x, k0_pay11 (F := Ideal) Q (ix2 i x) * k0_pay12 (F := Ideal) K (ix2 j x)) * dec sl G (ix2 i j)) 0 := by
      unfold k0_pay24 k0_pay20; pointwise
    have hs : ∑ x, k0_pay11 (F := Ideal) Q (ix2 i x) * k0_pay12 (F := Ideal) K (ix2 j x)
        = ((∑ x, q (o + i.val) x * k (o + j.val) x : ℝ) : EReal) := by
      rw [← coe_sum]; exact Finset.sum_congr rfl fun x _ => by rw [r.onQ, r.onK, ← EReal.coe_mul]
    rw [h1, mask_le, select_if, hs, hd, ← EReal.coe_mul]; beta_reduce
    by_cases hji : j ≤ i
    · rw [if_pos hji, if_pos hji, if_pos hji]
    · rw [if_neg hji, if_neg hji]; rfl
  have eq : oo sl G B Q K V S (ix2 i e) = ∑ t, k0_pay25 (F := Ideal) (k0_pay11 Q) (exp (gc sl G)) (ix2 i t) * k0_pay28 (F := Ideal) S (ix2 t e)
      + ∑ t, k0_pay24 (F := Ideal) k0_pay3 (k0_pay11 Q) (k0_pay12 K) (dec sl G) (ix2 i t)
        * k0_pay29 (F := Ideal) (uu sl G B K V) (ww sl G B K) S (ix2 t e) := by
    unfold oo; pointwise
  rw [eq, sum_mul h25 (state_is hh r), sum_mul h24 (solved_is hh sl r), ← EReal.coe_add]
  exact congrArg (fun x : ℝ => (x : EReal)) (out_block q k v g b o i e)

/-- A gated and normalized entry, of what its row reads, its weight and its gate. -/
def gated (x : Fin 128 → EReal) (w z : EReal) (e : Fin 128) : EReal :=
  x e * Ideal.rsqrt (Ideal.div (∑ t, x t * x t) (Ideal.ofBits .f32 0x43000000#32) + Ideal.ofBits .f32 0x358637BD#32) * w
    * (z * Ideal.div (Ideal.ofBits .f32 0x3F800000#32) (Ideal.ofBits .f32 0x3F800000#32 + Ideal.exp (0 - z)))

/-- The chunk's output, entry by entry. -/
theorem headOut_eq (nw : FVec Ideal S1x128 .f32) (gate : FVec Ideal S1x64x128 .bf16) (i : Fin 64) (e : Fin 128) :
    headOut sl G B Q K V S nw gate (ix3 0 i e)
      = gated (fun e => oo sl G B Q K V S (ix2 i e)) (nw (ix2 0 e)) (gate (ix3 0 i e)) e := by
  have h31 : k0_pay31 (F := Ideal) (k0_pay7 nw) (uu sl G B K V) (ww sl G B K) (k0_pay24 k0_pay3 (k0_pay11 Q) (k0_pay12 K) (dec sl G))
      (k0_pay25 (k0_pay11 Q) (exp (gc sl G))) S = mulf (mulf (oo sl G B Q K V S) (broadcastTo S64x128
        (rsqrt (addf (divf (shapeCast S64x1 (multiReduction .add [1] S64 (mulf (oo sl G B Q K V S) (oo sl G B Q K V S)) 0x00000000#32
          reduces_S64x128_S64 (.inl rfl) rfl) shapeCasts_S64_S64x1) (broadcast S64x1 (Scalar.ofBits .f32 0x43000000#32)))
          (broadcast S64x1 (Scalar.ofBits .f32 0x358637BD#32)))) broadcasts_S64x1_S64x128))
        (broadcastTo S64x128 (k0_pay7 nw) broadcasts_S1x128_S64x128) := rfl
  unfold headOut gated
  rw [h31]
  unfold k0_pay34 k0_pay32 k0_pay33 k0_pay32 k0_pay7
  pointwise
  try rfl

end Numbers

end Cert.Proof.GdnHead

end
-- ==== Proof.GdnTrip.lean ====
/-
One trip of the kernel's loop over the chunks of a tile: it leaves in the states what `headState` leaves head by head, and in the
output block the 64 rows of `headOut`, 128 columns per head.
-/
module

public import proofs.«01_k».proof.Proof.GdnHead
public import Idealize.ShloMosaic.Lib.Pipeline.ValueKit.Tiles
public import Idealize.ShloMosaic.Lib.WritesUnit
public import Idealize.ShloMosaic.Lib.VecWindow
public import proofs.«01_k».proof.Proof.GdnLoop
public import proofs.«01_k».proof.Proof.GdnFrame

@[expose] public section

set_option maxRecDepth 16384

noncomputable section

namespace Cert.Proof.GdnTrip

open Cert.GdnIdeal Cert.GdnIdeal.Gen
open Idealize.ShloMosaic Idealize.ShloMosaic.TcCoe Idealize.SL.Sem
open Cert.Proof.GdnLoop Cert.Proof.GdnHead

/-- Each head's columns are columns. -/
theorem cols : ∀ h : Fin 4, Cols h.val := by
  intro h
  fin_cases h
  · exact ⟨slices_S64x128_o0_0_S64x1, slices_S64x128_o63_0_S1x1, slices_S128x64_o0_0_S1x64, slices_S64x128_o0_4_S64x1⟩
  · exact ⟨slices_S64x128_o0_1_S64x1, slices_S64x128_o63_1_S1x1, slices_S128x64_o1_0_S1x64, slices_S64x128_o0_5_S64x1⟩
  · exact ⟨slices_S64x128_o0_2_S64x1, slices_S64x128_o63_2_S1x1, slices_S128x64_o2_0_S1x64, slices_S64x128_o0_6_S64x1⟩
  · exact ⟨slices_S64x128_o0_3_S64x1, slices_S64x128_o63_3_S1x1, slices_S128x64_o3_0_S1x64, slices_S64x128_o0_7_S64x1⟩

/-- 64 rows from row `64 k` on and 128 columns from column `c` on, of an array of 256 rows. -/
def rows {w : ℕ} (X : (⟨2, ![256, w]⟩ : Shape).Idx → EReal) (k : Fin 4) (c : ℕ) (hc : c + 128 ≤ w) : FVec Ideal S64x128 .f32 :=
  fun j => X (ix2 ⟨64 * k.val + (j 0).val, by have h : (j 0).val < 64 := (j 0).isLt; omega⟩
    ⟨c + (j 1).val, by have h : (j 1).val < 128 := (j 1).isLt; omega⟩)

/-- The same of the gate's block. -/
def gates (Z : FVec Ideal S1x256x512 .bf16) (k h : Fin 4) : FVec Ideal S1x64x128 .bf16 :=
  fun j => Z (ix3 0 ⟨64 * k.val + (j 1).val, by have h : (j 1).val < 64 := (j 1).isLt; omega⟩
    ⟨128 * h.val + (j 2).val, by have h : (j 2).val < 128 := (j 2).isLt; omega⟩)

/-- One head's state. -/
def slab (S : FVec Ideal S4x128x128 .f32) (h : Fin 4) : FVec Ideal S1x128x128 .f32 := fun j => S (ix3 h (j 1) (j 2))

/-- A load of a chunk's rows is those rows. -/
theorem ld_rows {w : ℕ} (X : (⟨2, ![256, w]⟩ : Shape).Idx → EReal) (k : Fin 4) (c : ℕ) (hc : c + 128 ≤ w) (off : Fin 2 → ℕ) (inb)
    (h0 : off 0 = 64 * k.val) (h1 : off 1 = c) :
    View.ld (Val := Elt Ideal) (e' := .f32) (S := ⟨2, ![256, w]⟩) X (Rect.unit off S64x128.size inb) = rows X k c hc := by
  funext j
  refine View.ld_unit_apply_of (Val := Elt Ideal) (e := .f32) X off S64x128.size inb j _ fun a => ?_
  match a with
  | ⟨0, _⟩ => exact congrArg (· + (j 0).val) h0.symm
  | ⟨1, _⟩ => exact congrArg (· + (j 1).val) h1.symm

/-- A load of a chunk's gate columns is those. -/
theorem ld_gates (Z : FVec Ideal S1x256x512 .bf16) (k h : Fin 4) (off : Fin 3 → ℕ) (inb)
    (h0 : off 0 = 0) (h1 : off 1 = 64 * k.val) (h2 : off 2 = 128 * h.val) :
    View.ld (Val := Elt Ideal) (e' := .bf16) (S := S1x256x512) Z (Rect.unit off S1x64x128.size inb) = gates Z k h := by
  funext j
  refine View.ld_unit_apply_of (Val := Elt Ideal) (e := .bf16) Z off S1x64x128.size inb j _ fun a => ?_
  match a with
  | ⟨0, _⟩ => have h : (j 0).val < 1 := (j 0).isLt; show 0 = off 0 + (j 0).val; omega
  | ⟨1, _⟩ => exact congrArg (· + (j 1).val) h1.symm
  | ⟨2, _⟩ => exact congrArg (· + (j 2).val) h2.symm

/-- A load of a head's state is that slab. -/
theorem ld_slab (S : FVec Ideal S4x128x128 .f32) (h : Fin 4) (off : Fin 3 → ℕ) (inb) (h0 : off 0 = h.val) (h1 : off 1 = 0) (h2 : off 2 = 0) :
    View.ld (Val := Elt Ideal) (e' := .f32) (S := S4x128x128) S (Rect.unit off ![1, 128, 128] inb) = slab S h := by
  funext j
  refine View.ld_unit_apply_of (Val := Elt Ideal) (e := .f32) S off ![1, 128, 128] inb j _ fun a => ?_
  match a with
  | ⟨0, _⟩ => have hj : (j 0).val < 1 := (j 0).isLt; show h.val = off 0 + (j 0).val; omega
  | ⟨1, _⟩ => show (j 1).val = off 1 + (j 1).val; omega
  | ⟨2, _⟩ => show (j 2).val = off 2 + (j 2).val; omega

/-- A tile has four chunks. -/
theorem trips_eq : k0_t1_loop.trips = 4 := by decide +kernel

/-- Where a trip's loads start. -/
theorem offs : ∀ k : Fin k0_t1_loop.trips, k0_off1 k 0 = 64 * k.val ∧ k0_off1 k 1 = 0
    ∧ k0_off2 k 0 = 64 * k.val ∧ k0_off2 k 1 = 0
    ∧ k0_off3 k 0 = 64 * k.val ∧ k0_off3 k 1 = 512
    ∧ k0_off4 k 0 = 64 * k.val ∧ k0_off4 k 1 = 1024
    ∧ k0_off6 k 0 = 64 * k.val ∧ k0_off6 k 1 = 128
    ∧ k0_off7 k 0 = 64 * k.val ∧ k0_off7 k 1 = 640
    ∧ k0_off8 k 0 = 64 * k.val ∧ k0_off8 k 1 = 1152
    ∧ k0_off10 k 0 = 64 * k.val ∧ k0_off10 k 1 = 256
    ∧ k0_off11 k 0 = 64 * k.val ∧ k0_off11 k 1 = 768
    ∧ k0_off12 k 0 = 64 * k.val ∧ k0_off12 k 1 = 1280
    ∧ k0_off14 k 0 = 64 * k.val ∧ k0_off14 k 1 = 384
    ∧ k0_off15 k 0 = 64 * k.val ∧ k0_off15 k 1 = 896
    ∧ k0_off16 k 0 = 64 * k.val ∧ k0_off16 k 1 = 1408 := by decide +kernel

/-- Where a trip's loads of the gates start. -/
theorem offs3 : ∀ k : Fin k0_t1_loop.trips, k0_off5 k 0 = 0 ∧ k0_off5 k 1 = 64 * k.val ∧ k0_off5 k 2 = 0
    ∧ k0_off9 k 0 = 0 ∧ k0_off9 k 1 = 64 * k.val ∧ k0_off9 k 2 = 128
    ∧ k0_off13 k 0 = 0 ∧ k0_off13 k 1 = 64 * k.val ∧ k0_off13 k 2 = 256
    ∧ k0_off17 k 0 = 0 ∧ k0_off17 k 1 = 64 * k.val ∧ k0_off17 k 2 = 384 := by decide +kernel

/-- What a tile's chunks work on: the convolved rows, the log decays, the rates, the gate and the norm's weight. -/
structure Tile where
  Y : FVec Ideal S256x1536 .f32
  G : FVec Ideal S256x128 .f32
  B : FVec Ideal S256x128 .f32
  Z : FVec Ideal S1x256x512 .bf16
  W : FVec Ideal S1x128 .f32

/-- The states after chunk `k`, of the states before it. -/
def Tile.next (T : Tile) (k : Fin 4) (S : FVec Ideal S4x128x128 .f32) : FVec Ideal S4x128x128 .f32 := fun j =>
  headState (cols (j 0)) (rows T.G k 0 (by omega)) (rows T.B k 0 (by omega))
    (rows T.Y k (512 + 128 * (j 0).val) (by have h : (j 0).val < 4 := (j 0).isLt; omega))
    (rows T.Y k (1024 + 128 * (j 0).val) (by have h : (j 0).val < 4 := (j 0).isLt; omega)) (slab S (j 0)) (ix3 0 (j 1) (j 2))

/-- One head's output of chunk `k`. -/
def Tile.out (T : Tile) (k h : Fin 4) (S : FVec Ideal S4x128x128 .f32) : FVec Ideal S1x64x128 .bf16 :=
  headOut (cols h) (rows T.G k 0 (by omega)) (rows T.B k 0 (by omega)) (rows T.Y k (128 * h.val) (by omega))
    (rows T.Y k (512 + 128 * h.val) (by omega)) (rows T.Y k (1024 + 128 * h.val) (by omega)) (slab S h) T.W (gates T.Z k h)

/-- A head's new state from what is loaded is the tile's. -/
theorem next_of (T : Tile) (k : Fin 4) (S : FVec Ideal S4x128x128 .f32) (h : Fin 4) (d e : Fin 128) {G B K V : FVec Ideal S64x128 .f32}
    {S' : FVec Ideal S1x128x128 .f32} (hG : G = rows T.G k 0 (by omega)) (hB : B = rows T.B k 0 (by omega))
    (hK : K = rows T.Y k (512 + 128 * h.val) (by omega)) (hV : V = rows T.Y k (1024 + 128 * h.val) (by omega)) (hS : S' = slab S h) :
    headState (cols h) G B K V S' (ix3 0 d e) = T.next k S (ix3 h d e) := by
  subst hG hB hK hV hS; rfl

/-- A head's output from what is loaded is the tile's. -/
theorem out_of (T : Tile) (k : Fin 4) (S : FVec Ideal S4x128x128 .f32) (h : Fin 4) {G B Q K V : FVec Ideal S64x128 .f32}
    {S' : FVec Ideal S1x128x128 .f32} {W : FVec Ideal S1x128 .f32} {Z : FVec Ideal S1x64x128 .bf16} (j : S1x64x128.Idx)
    (hG : G = rows T.G k 0 (by omega)) (hB : B = rows T.B k 0 (by omega)) (hQ : Q = rows T.Y k (128 * h.val) (by omega))
    (hK : K = rows T.Y k (512 + 128 * h.val) (by omega)) (hV : V = rows T.Y k (1024 + 128 * h.val) (by omega)) (hS : S' = slab S h)
    (hW : W = T.W) (hZ : Z = gates T.Z k h) :
    headOut (cols h) G B Q K V S' W Z j = T.out k h S j := by
  subst hG hB hQ hK hV hS hW hZ; rfl

section Trip
variable (𝒱 : Variants) (c : Dev nD) (bd : Option 𝒱.V) (i : grid0.Coords) (arg2 : Memref sig .tc .vmem S1x256x1536 .bf16) (harg2 : arg2.IsWhole) (arg3 : Memref sig .tc .vmem S1x8x1536 .bf16) (harg3 : arg3.IsWhole) (arg4 : Memref sig .tc .vmem S1x256x512 .bf16) (harg4 : arg4.IsWhole) (arg5 : Memref sig .tc .vmem S1x256x128 .f32) (harg5 : arg5.IsWhole) (arg6 : Memref sig .tc .vmem S4x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x256x512 .bf16) (harg10 : arg10.IsWhole) (arg11 : Memref sig .tc .vmem S264x1536 .f32) (harg11 : arg11.IsWhole) (arg12 : Memref sig .tc .vmem S256x1536 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S4x128x128 .f32) (harg15 : arg15.IsWhole) (v93 : Vec Ideal S1x128 .f32) (X_arg4 : BufTy.Contents (Elt Ideal) arg4.view.ty) (X_arg12 : BufTy.Contents (Elt Ideal) arg12.view.ty) (X_arg13 : BufTy.Contents (Elt Ideal) arg13.view.ty) (X_arg14 : BufTy.Contents (Elt Ideal) arg14.view.ty)
  (T : Tile) (h4 : arg4.view.read (Elt Ideal) X_arg4 = T.Z) (h12 : arg12.view.read (Elt Ideal) X_arg12 = T.Y)
  (h13 : arg13.view.read (Elt Ideal) X_arg13 = T.G) (h14 : arg14.view.read (Elt Ideal) X_arg14 = T.B) (h93 : v93 = T.W)

include h12 h13 h14 in
/-- A trip leaves the state after its chunk. -/
theorem trip_state (k : Fin k0_t1_loop.trips) (f : BufTy.Contents (Elt Ideal) arg15.view.ty) :
    arg15.view.read (Elt Ideal) (arg15.view.writes (Elt Ideal) f ((tripRun (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 k).2.1 f))
      = T.next (k.cast trips_eq) (arg15.view.read (Elt Ideal) f) := by
  obtain ⟨o1, p1, o2, p2, o3, p3, o4, p4, o6, p6, o7, p7, o8, p8, o10, p10, o11, p11, o12, p12, o14, p14, o15, p15, o16, p16⟩ := offs k
  unfold tripRun; dsimp only
  simp only [View.readAt_eq_ld, h12, h13, h14]
  funext j
  obtain ⟨h, d, e, rfl⟩ : ∃ (h : Fin 4) (d e : Fin 128), j = ix3 h d e := ⟨j 0, j 1, j 2, (ix3_eta j).symm⟩
  have mem (h : Fin 4) : ∀ a : Fin 3, ((ix3 h d e : S4x128x128.Idx) a).val
      = (![h.val, 0, 0] : Fin 3 → ℕ) a + ((ix3 0 d e : S1x128x128.Idx) a).val := by
    intro a; match a with
    | ⟨0, _⟩ => rfl
    | ⟨1, _⟩ => exact (Nat.zero_add _).symm
    | ⟨2, _⟩ => exact (Nat.zero_add _).symm
  fin_cases h
  · refine (View.read_writes_cons_unit_of_not_mem _ _ _ _ _ _ rfl 0 (Or.inl (by decide : 0 < 3))).trans ?_
    refine (View.read_writes_cons_unit_of_not_mem _ _ _ _ _ _ rfl 0 (Or.inl (by decide : 0 < 2))).trans ?_
    refine (View.read_writes_cons_unit_of_not_mem _ _ _ _ _ _ rfl 0 (Or.inl (by decide : 0 < 1))).trans ?_
    refine (View.read_writes_cons_unit_of_mem _ _ _ _ _ _ (ix3 0 d e) rfl (mem 0)).trans ?_
    refine Eq.trans ?_ (next_of T (k.cast trips_eq) _ 0 d e (ld_rows T.G _ _ _ _ (k0_off1_inb k) o1 p1)
      (ld_rows T.B _ _ _ _ (k0_off1_inb k) o1 p1) (ld_rows T.Y _ _ _ _ (k0_off3_inb k) o3 p3)
      (ld_rows T.Y _ _ _ _ (k0_off4_inb k) o4 p4) (ld_slab _ 0 ![0, 0, 0] inb_S4x128x128_S1x128x128_0_0_0 rfl rfl rfl))
    sl_unfold_words
    simp only [View.readAt_eq_ld, h12, h13, h14]
    rfl
  · refine (View.read_writes_cons_unit_of_not_mem _ _ _ _ _ _ rfl 0 (Or.inl (by decide : 1 < 3))).trans ?_
    refine (View.read_writes_cons_unit_of_not_mem _ _ _ _ _ _ rfl 0 (Or.inl (by decide : 1 < 2))).trans ?_
    refine (View.read_writes_cons_unit_of_mem _ _ _ _ _ _ (ix3 0 d e) rfl (mem 1)).trans ?_
    refine Eq.trans ?_ (next_of T (k.cast trips_eq) _ 1 d e (ld_rows T.G _ _ _ _ (k0_off1_inb k) o1 p1)
      (ld_rows T.B _ _ _ _ (k0_off1_inb k) o1 p1) (ld_rows T.Y _ _ _ _ (k0_off7_inb k) o7 p7)
      (ld_rows T.Y _ _ _ _ (k0_off8_inb k) o8 p8) (ld_slab _ 1 ![1, 0, 0] inb_S4x128x128_S1x128x128_1_0_0 rfl rfl rfl))
    sl_unfold_words
    simp only [View.readAt_eq_ld, h12, h13, h14]
    rfl
  · refine (View.read_writes_cons_unit_of_not_mem _ _ _ _ _ _ rfl 0 (Or.inl (by decide : 2 < 3))).trans ?_
    refine (View.read_writes_cons_unit_of_mem _ _ _ _ _ _ (ix3 0 d e) rfl (mem 2)).trans ?_
    refine Eq.trans ?_ (next_of T (k.cast trips_eq) _ 2 d e (ld_rows T.G _ _ _ _ (k0_off1_inb k) o1 p1)
      (ld_rows T.B _ _ _ _ (k0_off1_inb k) o1 p1) (ld_rows T.Y _ _ _ _ (k0_off11_inb k) o11 p11)
      (ld_rows T.Y _ _ _ _ (k0_off12_inb k) o12 p12) (ld_slab _ 2 ![2, 0, 0] inb_S4x128x128_S1x128x128_2_0_0 rfl rfl rfl))
    sl_unfold_words
    simp only [View.readAt_eq_ld, h12, h13, h14]
    rfl
  · refine (View.read_writes_cons_unit_of_mem _ _ _ _ _ _ (ix3 0 d e) rfl (mem 3)).trans ?_
    refine Eq.trans ?_ (next_of T (k.cast trips_eq) _ 3 d e (ld_rows T.G _ _ _ _ (k0_off1_inb k) o1 p1)
      (ld_rows T.B _ _ _ _ (k0_off1_inb k) o1 p1) (ld_rows T.Y _ _ _ _ (k0_off15_inb k) o15 p15)
      (ld_rows T.Y _ _ _ _ (k0_off16_inb k) o16 p16) (ld_slab _ 3 ![3, 0, 0] inb_S4x128x128_S1x128x128_3_0_0 rfl rfl rfl))
    sl_unfold_words
    simp only [View.readAt_eq_ld, h12, h13, h14]
    rfl

include h4 h12 h13 h14 h93 in
/-- A trip leaves its chunk's outputs in its rows. -/
theorem trip_out (k : Fin k0_t1_loop.trips) (f : BufTy.Contents (Elt Ideal) arg15.view.ty) (f' : BufTy.Contents (Elt Ideal) arg10.view.ty)
    (h : Fin 4) (i' : Fin 64) (e : Fin 128) (r : Fin 256) (l : Fin 512) (hr : r.val = 64 * k.val + i'.val) (hl : l.val = 128 * h.val + e.val) :
    arg10.view.read (Elt Ideal) (arg10.view.writes (Elt Ideal) f' ((tripRun (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 k).1 f)) (ix3 0 r l)
      = T.out (k.cast trips_eq) h (arg15.view.read (Elt Ideal) f) (ix3 0 i' e) := by
  obtain ⟨o1, p1, o2, p2, o3, p3, o4, p4, o6, p6, o7, p7, o8, p8, o10, p10, o11, p11, o12, p12, o14, p14, o15, p15, o16, p16⟩ := offs k
  obtain ⟨a5, b5, c5, a9, b9, c9, a13, b13, c13, a17, b17, c17⟩ := offs3 k
  have he := e.isLt
  have mem (off : Fin 3 → ℕ) (h0 : off 0 = 0) (h1 : off 1 = 64 * k.val) (h2 : off 2 = 128 * h.val) : ∀ a : Fin 3,
      ((ix3 0 r l : S1x256x512.Idx) a).val = off a + ((ix3 0 i' e : S1x64x128.Idx) a).val := by
    intro a; match a with
    | ⟨0, _⟩ => exact (congrArg (· + 0) h0).symm
    | ⟨1, _⟩ => show r.val = off 1 + i'.val; omega
    | ⟨2, _⟩ => show l.val = off 2 + e.val; omega
  have skip (off : Fin 3 → ℕ) (h' : ℕ) (h2 : off 2 = 128 * h') (hh : h.val < h') :
      ((ix3 0 r l : S1x256x512.Idx) 2).val < off 2 ∨ off 2 + S1x64x128.size 2 ≤ ((ix3 0 r l : S1x256x512.Idx) 2).val :=
    Or.inl (by show l.val < off 2; omega)
  unfold tripRun; dsimp only
  fin_cases h
  · refine (View.read_writes_cons_unit_of_not_mem _ _ _ _ _ _ rfl 2 (skip (k0_off17 k) 3 c17 (by decide))).trans ?_
    refine (View.read_writes_cons_unit_of_not_mem _ _ _ _ _ _ rfl 2 (skip (k0_off13 k) 2 c13 (by decide))).trans ?_
    refine (View.read_writes_cons_unit_of_not_mem _ _ _ _ _ _ rfl 2 (skip (k0_off9 k) 1 c9 (by decide))).trans ?_
    refine (View.read_writes_cons_unit_of_mem _ _ _ _ _ _ (ix3 0 i' e) rfl (mem (k0_off5 k) a5 b5 c5)).trans ?_
    refine Eq.trans ?_ (out_of T (k.cast trips_eq) (arg15.view.read (Elt Ideal) f) 0 (ix3 0 i' e) (ld_rows T.G _ _ _ _ (k0_off1_inb k) o1 p1)
      (ld_rows T.B _ _ _ _ (k0_off1_inb k) o1 p1) (ld_rows T.Y _ _ _ _ (k0_off2_inb k) o2 p2)
      (ld_rows T.Y _ _ _ _ (k0_off3_inb k) o3 p3)
      (ld_rows T.Y _ _ _ _ (k0_off4_inb k) o4 p4) (ld_slab _ 0 ![0, 0, 0] inb_S4x128x128_S1x128x128_0_0_0 rfl rfl rfl) h93
      (ld_gates T.Z _ 0 _ (k0_off5_inb k) a5 b5 c5))
    sl_unfold_words
    simp only [View.readAt_eq_ld, h4, h12, h13, h14]
    rfl
  · refine (View.read_writes_cons_unit_of_not_mem _ _ _ _ _ _ rfl 2 (skip (k0_off17 k) 3 c17 (by decide))).trans ?_
    refine (View.read_writes_cons_unit_of_not_mem _ _ _ _ _ _ rfl 2 (skip (k0_off13 k) 2 c13 (by decide))).trans ?_
    refine (View.read_writes_cons_unit_of_mem _ _ _ _ _ _ (ix3 0 i' e) rfl (mem (k0_off9 k) a9 b9 c9)).trans ?_
    refine Eq.trans ?_ (out_of T (k.cast trips_eq) (arg15.view.read (Elt Ideal) f) 1 (ix3 0 i' e) (ld_rows T.G _ _ _ _ (k0_off1_inb k) o1 p1)
      (ld_rows T.B _ _ _ _ (k0_off1_inb k) o1 p1) (ld_rows T.Y _ _ _ _ (k0_off6_inb k) o6 p6)
      (ld_rows T.Y _ _ _ _ (k0_off7_inb k) o7 p7)
      (ld_rows T.Y _ _ _ _ (k0_off8_inb k) o8 p8) (ld_slab _ 1 ![1, 0, 0] inb_S4x128x128_S1x128x128_1_0_0 rfl rfl rfl) h93
      (ld_gates T.Z _ 1 _ (k0_off9_inb k) a9 b9 c9))
    sl_unfold_words
    simp only [View.readAt_eq_ld, h4, h12, h13, h14]
    rfl
  · refine (View.read_writes_cons_unit_of_not_mem _ _ _ _ _ _ rfl 2 (skip (k0_off17 k) 3 c17 (by decide))).trans ?_
    refine (View.read_writes_cons_unit_of_mem _ _ _ _ _ _ (ix3 0 i' e) rfl (mem (k0_off13 k) a13 b13 c13)).trans ?_
    refine Eq.trans ?_ (out_of T (k.cast trips_eq) (arg15.view.read (Elt Ideal) f) 2 (ix3 0 i' e) (ld_rows T.G _ _ _ _ (k0_off1_inb k) o1 p1)
      (ld_rows T.B _ _ _ _ (k0_off1_inb k) o1 p1) (ld_rows T.Y _ _ _ _ (k0_off10_inb k) o10 p10)
      (ld_rows T.Y _ _ _ _ (k0_off11_inb k) o11 p11)
      (ld_rows T.Y _ _ _ _ (k0_off12_inb k) o12 p12) (ld_slab _ 2 ![2, 0, 0] inb_S4x128x128_S1x128x128_2_0_0 rfl rfl rfl) h93
      (ld_gates T.Z _ 2 _ (k0_off13_inb k) a13 b13 c13))
    sl_unfold_words
    simp only [View.readAt_eq_ld, h4, h12, h13, h14]
    rfl
  · refine (View.read_writes_cons_unit_of_mem _ _ _ _ _ _ (ix3 0 i' e) rfl (mem (k0_off17 k) a17 b17 c17)).trans ?_
    refine Eq.trans ?_ (out_of T (k.cast trips_eq) (arg15.view.read (Elt Ideal) f) 3 (ix3 0 i' e) (ld_rows T.G _ _ _ _ (k0_off1_inb k) o1 p1)
      (ld_rows T.B _ _ _ _ (k0_off1_inb k) o1 p1) (ld_rows T.Y _ _ _ _ (k0_off14_inb k) o14 p14)
      (ld_rows T.Y _ _ _ _ (k0_off15_inb k) o15 p15)
      (ld_rows T.Y _ _ _ _ (k0_off16_inb k) o16 p16) (ld_slab _ 3 ![3, 0, 0] inb_S4x128x128_S1x128x128_3_0_0 rfl rfl rfl) h93
      (ld_gates T.Z _ 3 _ (k0_off17_inb k) a17 b17 c17))
    sl_unfold_words
    simp only [View.readAt_eq_ld, h4, h12, h13, h14]
    rfl

/-- Outside its 64 rows a trip leaves the output block as it was. -/
theorem trip_out_other (k : Fin k0_t1_loop.trips) (f : BufTy.Contents (Elt Ideal) arg15.view.ty) (f' : BufTy.Contents (Elt Ideal) arg10.view.ty)
    (r : Fin 256) (l : Fin 512) (hr : r.val < 64 * k.val ∨ 64 * k.val + 64 ≤ r.val) :
    arg10.view.read (Elt Ideal) (arg10.view.writes (Elt Ideal) f' ((tripRun (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 k).1 f)) (ix3 0 r l)
      = arg10.view.read (Elt Ideal) f' (ix3 0 r l) := by
  obtain ⟨a5, b5, c5, a9, b9, c9, a13, b13, c13, a17, b17, c17⟩ := offs3 k
  have skip (off : Fin 3 → ℕ) (h1 : off 1 = 64 * k.val) :
      ((ix3 0 r l : S1x256x512.Idx) 1).val < off 1 ∨ off 1 + S1x64x128.size 1 ≤ ((ix3 0 r l : S1x256x512.Idx) 1).val := by
    show r.val < off 1 ∨ off 1 + 64 ≤ r.val; omega
  unfold tripRun; dsimp only
  refine (View.read_writes_cons_unit_of_not_mem _ _ _ _ _ _ rfl 1 (skip (k0_off17 k) b17)).trans ?_
  refine (View.read_writes_cons_unit_of_not_mem _ _ _ _ _ _ rfl 1 (skip (k0_off13 k) b13)).trans ?_
  refine (View.read_writes_cons_unit_of_not_mem _ _ _ _ _ _ rfl 1 (skip (k0_off9 k) b9)).trans ?_
  exact View.read_writes_cons_unit_of_not_mem _ _ _ _ _ _ rfl 1 (skip (k0_off5 k) b5)

end Trip

end Cert.Proof.GdnTrip

end
-- ==== Proof.GdnTile.lean ====
/-
The four chunks of a tile one after the other: the states which they leave and the output block which they fill, and, where the
tile's rows are numbers, the numbers of `GdnMath`'s recurrence.
-/
module

public import proofs.«01_k».proof.Proof.GdnTrip

@[expose] public section

set_option maxRecDepth 16384

noncomputable section

namespace Cert.Proof.GdnTile

open Cert.GdnIdeal Cert.GdnIdeal.Gen
open Idealize.ShloMosaic Idealize.ShloMosaic.TcCoe Idealize.SL.Sem
open Cert.Proof.GdnMath Cert.Proof.GdnChunk Cert.Proof.GdnLoop Cert.Proof.GdnHead Cert.Proof.GdnTrip

/-- The states before chunk `k` of a tile. -/
def states (T : Tile) (S : FVec Ideal S4x128x128 .f32) : ℕ → FVec Ideal S4x128x128 .f32
  | 0 => S
  | k + 1 => if h : k < 4 then T.next ⟨k, h⟩ (states T S k) else states T S k

/-- The tile's output block. -/
def block (T : Tile) (S : FVec Ideal S4x128x128 .f32) (r : Fin 256) (l : Fin 512) : EReal :=
  T.out ⟨r.val / 64, by omega⟩ ⟨l.val / 128, by omega⟩ (states T S (r.val / 64))
    (ix3 0 ⟨r.val % 64, by omega⟩ ⟨l.val % 128, by omega⟩)

section Loop
variable (𝒱 : Variants) (c : Dev nD) (bd : Option 𝒱.V) (i : grid0.Coords) (arg2 : Memref sig .tc .vmem S1x256x1536 .bf16) (harg2 : arg2.IsWhole) (arg3 : Memref sig .tc .vmem S1x8x1536 .bf16) (harg3 : arg3.IsWhole) (arg4 : Memref sig .tc .vmem S1x256x512 .bf16) (harg4 : arg4.IsWhole) (arg5 : Memref sig .tc .vmem S1x256x128 .f32) (harg5 : arg5.IsWhole) (arg6 : Memref sig .tc .vmem S4x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x256x512 .bf16) (harg10 : arg10.IsWhole) (arg11 : Memref sig .tc .vmem S264x1536 .f32) (harg11 : arg11.IsWhole) (arg12 : Memref sig .tc .vmem S256x1536 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S4x128x128 .f32) (harg15 : arg15.IsWhole) (v93 : Vec Ideal S1x128 .f32) (X_arg4 : BufTy.Contents (Elt Ideal) arg4.view.ty) (X_arg12 : BufTy.Contents (Elt Ideal) arg12.view.ty) (X_arg13 : BufTy.Contents (Elt Ideal) arg13.view.ty) (X_arg14 : BufTy.Contents (Elt Ideal) arg14.view.ty)
  (T : Tile) (h4 : arg4.view.read (Elt Ideal) X_arg4 = T.Z) (h12 : arg12.view.read (Elt Ideal) X_arg12 = T.Y)
  (h13 : arg13.view.read (Elt Ideal) X_arg13 = T.G) (h14 : arg14.view.read (Elt Ideal) X_arg14 = T.B) (h93 : v93 = T.W)

  (G_arg15 : BufTy.Contents (Elt Ideal) arg15.view.ty)

include h12 h13 h14 in
/-- The loop leaves the state after its chunks. -/
theorem loop_states : ∀ k ≤ 4, arg15.view.read (Elt Ideal) (arg15.view.writes (Elt Ideal) G_arg15 (pieces (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 G_arg15 k).2)
    = states T (arg15.view.read (Elt Ideal) G_arg15) k
  | 0, _ => by rw [pieces.eq_1, View.writes_nil]; rfl
  | k + 1, hk => by
    have ht : k < k0_t1_loop.trips := by rw [trips_eq]; omega
    have ih := loop_states k (by omega)
    have hs := pieces_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 G_arg15 ⟨k, ht⟩
    rw [show k + 1 = (⟨k, ht⟩ : Fin k0_t1_loop.trips).val + 1 from rfl, hs]
    dsimp only [tripPieces]
    rw [View.writes_append, trip_state 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 T h12 h13 h14 ⟨k, ht⟩, ih]
    have hk4 : k < 4 := by omega
    have hn : states T (arg15.view.read (Elt Ideal) G_arg15) (k + 1) = T.next ⟨k, hk4⟩ (states T (arg15.view.read (Elt Ideal) G_arg15) k) :=
      dif_pos hk4
    exact hn.symm

include h4 h12 h13 h14 h93 in
/-- The loop leaves, in the rows of the chunks done, their outputs. -/
theorem loop_block (f' : BufTy.Contents (Elt Ideal) arg10.view.ty) : ∀ k ≤ 4, ∀ (r : Fin 256) (l : Fin 512), r.val < 64 * k →
    arg10.view.read (Elt Ideal) (arg10.view.writes (Elt Ideal) f' (pieces (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 G_arg15 k).1) (ix3 0 r l)
      = block T (arg15.view.read (Elt Ideal) G_arg15) r l
  | 0, _, r, l, h => absurd h (by omega)
  | k + 1, hk, r, l, h => by
    have ht : k < k0_t1_loop.trips := by rw [trips_eq]; omega
    have hs := pieces_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 G_arg15 ⟨k, ht⟩
    rw [show k + 1 = (⟨k, ht⟩ : Fin k0_t1_loop.trips).val + 1 from rfl, hs]
    dsimp only [tripPieces]
    rw [View.writes_append]
    by_cases hr : r.val < 64 * k
    · rw [trip_out_other 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 ⟨k, ht⟩ _ _ r l (Or.inl hr)]
      exact loop_block f' k (by omega) r l hr
    · have hd : r.val / 64 = k := by omega
      rw [trip_out 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 T h4 h12 h13 h14 h93 ⟨k, ht⟩ _ _ ⟨l.val / 128, by omega⟩ ⟨r.val % 64, by omega⟩ ⟨l.val % 128, by omega⟩ r l
        (by show r.val = 64 * k + r.val % 64; omega) (by show l.val = 128 * (l.val / 128) + l.val % 128; omega),
        loop_states 𝒱 c bd i arg2 harg2 arg3 harg3 arg4 harg4 arg5 harg5 arg6 harg6 arg7 harg7 arg8 harg8 arg9 harg9 arg10 harg10 arg11 harg11 arg12 harg12 arg13 harg13 arg14 harg14 arg15 harg15 v93 X_arg4 X_arg12 X_arg13 X_arg14 T h12 h13 h14 G_arg15 k (by omega)]
      subst hd; rfl

end Loop

/-! ## Where the rows are numbers -/

/-- A query row divided by its length and scaled. -/
def unitQ (x : Fin 128 → EReal) (d : Fin 128) : EReal :=
  x d * Ideal.rsqrt (∑ t, x t * x t + Ideal.ofBits .f32 0x358637BD#32) * Ideal.ofBits .f32 0x3DB504F3#32

/-- A key row divided by its length. -/
def unitK (x : Fin 128 → EReal) (d : Fin 128) : EReal :=
  x d * Ideal.rsqrt (∑ t, x t * x t + Ideal.ofBits .f32 0x358637BD#32)

/-- The kernel's query rows are divided by their length and scaled. -/
theorem pay11_apply (X : FVec Ideal S64x128 .f32) (i : Fin 64) (d : Fin 128) :
    k0_pay11 (F := Ideal) X (ix2 i d) = unitQ (fun e => X (ix2 i e)) d := by
  unfold k0_pay11 unitQ; pointwise; try rfl

/-- The kernel's key rows are divided by their length. -/
theorem pay12_apply (X : FVec Ideal S64x128 .f32) (i : Fin 64) (d : Fin 128) :
    k0_pay12 (F := Ideal) X (ix2 i d) = unitK (fun e => X (ix2 i e)) d := by
  unfold k0_pay12 unitK; pointwise; try rfl

/-- One head's rows of a tile that starts at row `o` are numbers. -/
structure Nums (T : Tile) (q k v : ℕ → Fin 128 → ℝ) (g b : ℕ → ℝ) (o : ℕ) (h : Fin 4) : Prop where
  onG : ∀ r : Fin 256, T.G (ix2 r ⟨h.val, by omega⟩) = ((g (o + r.val) : ℝ) : EReal)
  onB : ∀ r : Fin 256, T.B (ix2 r ⟨4 + h.val, by omega⟩) = ((b (o + r.val) : ℝ) : EReal)
  onQ : ∀ (r : Fin 256) (d : Fin 128), unitQ (fun e => T.Y (ix2 r ⟨128 * h.val + e.val, by omega⟩)) d = ((q (o + r.val) d : ℝ) : EReal)
  onK : ∀ (r : Fin 256) (d : Fin 128), unitK (fun e => T.Y (ix2 r ⟨512 + 128 * h.val + e.val, by omega⟩)) d = ((k (o + r.val) d : ℝ) : EReal)
  onV : ∀ (r : Fin 256) (d : Fin 128), T.Y (ix2 r ⟨1024 + 128 * h.val + d.val, by omega⟩) = ((v (o + r.val) d : ℝ) : EReal)

section Numbers
variable {T : Tile} {q k v : ℕ → Fin 128 → ℝ} {g b : ℕ → ℝ} {o : ℕ} {h : Fin 4} (N : Nums T q k v g b o h)
  {S : FVec Ideal S4x128x128 .f32}

/-- A chunk of such a tile, from a state that is the recurrence's. -/
theorem chunk_rows (N : Nums T q k v g b o h) (c : Fin 4)
    (hS : ∀ d e, S (ix3 h d e) = ((state k v g b (o + 64 * c.val) d e : ℝ) : EReal)) :
    Rows (rows T.G c 0 (by omega)) (rows T.B c 0 (by omega)) (rows T.Y c (128 * h.val) (by omega)) (rows T.Y c (512 + 128 * h.val) (by omega))
      (rows T.Y c (1024 + 128 * h.val) (by omega)) (slab S h) q k v g b (o + 64 * c.val) h.val (by omega) where
  onG i := by
    refine Eq.trans ?_ ((N.onG ⟨64 * c.val + i.val, by omega⟩).trans (by rw [Nat.add_assoc]))
    exact congrArg (fun x => T.G (ix2 _ x)) (Fin.ext (Nat.zero_add _))
  onB i := by
    refine Eq.trans ?_ ((N.onB ⟨64 * c.val + i.val, by omega⟩).trans (by rw [Nat.add_assoc]))
    exact congrArg (fun x => T.B (ix2 _ x)) (Fin.ext (Nat.zero_add _))
  onQ i d := (pay11_apply _ i d).trans ((N.onQ ⟨64 * c.val + i.val, by omega⟩ d).trans (by beta_reduce; rw [Nat.add_assoc]))
  onK i d := (pay12_apply _ i d).trans ((N.onK ⟨64 * c.val + i.val, by omega⟩ d).trans (by beta_reduce; rw [Nat.add_assoc]))
  onV i d := (N.onV ⟨64 * c.val + i.val, by omega⟩ d).trans (by beta_reduce; rw [Nat.add_assoc])
  onS d e := hS d e

/-- The states before each chunk are the recurrence's. -/
theorem states_eq (N : Nums T q k v g b o h) (hS : ∀ d e, S (ix3 h d e) = ((state k v g b o d e : ℝ) : EReal)) :
    ∀ c ≤ 4, ∀ d e, states T S c (ix3 h d e) = ((state k v g b (o + 64 * c) d e : ℝ) : EReal)
  | 0, _, d, e => hS d e
  | c + 1, hc, d, e => by
    have ih := states_eq N hS c (by omega)
    have hc' : c < 4 := by omega
    have hs : states T S (c + 1) = T.next ⟨c, hc'⟩ (states T S c) := dif_pos hc'
    rw [hs]
    have hh := headState_eq (by omega) (cols h) (chunk_rows N ⟨c, hc'⟩ ih) d e
    exact hh.trans (by rw [Nat.add_assoc]; rfl)

/-- THE TILE'S OUTPUT: each row's read of the recurrence, normalized and gated. -/
theorem block_eq (N : Nums T q k v g b o h) (hS : ∀ d e, S (ix3 h d e) = ((state k v g b o d e : ℝ) : EReal)) (r : Fin 256) (e : Fin 128) :
    block T S r ⟨128 * h.val + e.val, by omega⟩
      = gated (fun e => ((out q k v g b (o + r.val) e : ℝ) : EReal)) (T.W (ix2 0 e)) (T.Z (ix3 0 r ⟨128 * h.val + e.val, by omega⟩)) e := by
  have hr : 64 * (r.val / 64) + r.val % 64 = r.val := by omega
  have e1 : (⟨(128 * h.val + e.val) / 128, by omega⟩ : Fin 4) = h := Fin.ext (by show (128 * h.val + e.val) / 128 = h.val; omega)
  have e2 : (⟨(128 * h.val + e.val) % 128, by omega⟩ : Fin 128) = e := Fin.ext (by show (128 * h.val + e.val) % 128 = e.val; omega)
  unfold block
  simp only [e1, e2]
  unfold Tile.out
  rw [headOut_eq]
  have hN := chunk_rows N ⟨r.val / 64, by omega⟩ (states_eq N hS (r.val / 64) (by omega))
  have ho := oo_is (by omega) (cols h) hN ⟨r.val % 64, by omega⟩
  have hidx : o + 64 * (r.val / 64) + r.val % 64 = o + r.val := by omega
  have hz : gates T.Z ⟨r.val / 64, by omega⟩ h (ix3 0 ⟨r.val % 64, by omega⟩ e) = T.Z (ix3 0 r ⟨128 * h.val + e.val, by omega⟩) :=
    congrArg (fun x => T.Z (ix3 0 x _)) (Fin.ext hr)
  rw [hz]
  refine congrArg (fun f => gated f _ _ e) (funext fun e => (ho e).trans ?_)
  show ((out q k v g b (o + 64 * (r.val / 64) + r.val % 64) e : ℝ) : EReal) = _
  rw [hidx]

end Numbers

end Cert.Proof.GdnTile

end
-- ==== Proof.GdnArgs.lean ====
/-
What the gated DeltaNet computes of its arguments before the recurrence, as functions of a batch, a position and a column: the causal
convolution over four positions and its silu, the log decays and the write strengths. Both programs are read off to these functions.
Where the arguments are numbers, these are numbers.
-/
module

public import proofs.«01_k».proof.Proof.GdnTile

@[expose] public section

set_option maxRecDepth 16384

noncomputable section

namespace Cert.Proof.GdnArgs

open Cert.GdnIdeal Cert.GdnIdeal.Gen
open Idealize.ShloMosaic Idealize.ShloMosaic.TcCoe Idealize.SL.Sem
open Cert.Proof.GdnMath Cert.Proof.GdnHead Cert.Proof.GdnTile

variable (P : FVec Ideal S8x4096x8192 .bf16) (A : FVec Ideal S8x4096x128 .f32) (C : FVec Ideal S4x1536 .f32) (L D : FVec Ideal S4 .f32)
  (N : FVec Ideal S128 .f32)

/-- The first 1536 columns of the projections, three rows of zeros before them. -/
def past (b : Fin 8) (n : ℕ) (l : Fin 1536) : EReal :=
  if h : 3 ≤ n ∧ n < 4099 then P (ix3 b ⟨n - 3, by omega⟩ ⟨l.val, by omega⟩) else 0

/-- The causal convolution. -/
def conv (b : Fin 8) (s : ℕ) (l : Fin 1536) : EReal :=
  C (ix2 0 l) * past P b s l + C (ix2 1 l) * past P b (s + 1) l + C (ix2 2 l) * past P b (s + 2) l + C (ix2 3 l) * past P b (s + 3) l

/-- The logistic function. -/
def lgst (x : EReal) : EReal := Ideal.div (Ideal.ofBits .f32 0x3F800000#32) (Ideal.ofBits .f32 0x3F800000#32 + Ideal.exp (0 - x))

/-- The convolution times its logistic function. -/
def act (b : Fin 8) (s : ℕ) (l : Fin 1536) : EReal := conv P C b s l * lgst (conv P C b s l)

/-- The logarithm of one and an exponential, without overflow. -/
def soft (x : EReal) : EReal := max x 0 + Ideal.log (Ideal.ofBits .f32 0x3F800000#32 + Ideal.exp (0 - max x (-x)))

/-- A lane of the second projection; beyond the sequence zero. -/
def lane (b : Fin 8) (s : ℕ) (l : Fin 8) : EReal := if h : s < 4096 then A (ix3 b ⟨s, h⟩ ⟨l.val, by omega⟩) else 0

/-- The log decay of a head. -/
def gAt (b : Fin 8) (s : ℕ) (h : Fin 4) : EReal :=
  (0 - Ideal.exp (L (ix1 h))) * soft (lane A b s ⟨h.val, by omega⟩ + D (ix1 h))

/-- The write strength of a head. -/
def bAt (b : Fin 8) (s : ℕ) (h : Fin 4) : EReal := lgst (lane A b s ⟨4 + h.val, by omega⟩)

/-- A head's queries, keys and values. -/
def qAt (b : Fin 8) (s : ℕ) (h : Fin 4) (d : Fin 128) : EReal := unitQ (fun e => act P C b s ⟨128 * h.val + e.val, by omega⟩) d
/-- A head's keys. -/
def kAt (b : Fin 8) (s : ℕ) (h : Fin 4) (d : Fin 128) : EReal := unitK (fun e => act P C b s ⟨512 + 128 * h.val + e.val, by omega⟩) d
/-- A head's values. -/
def vAt (b : Fin 8) (s : ℕ) (h : Fin 4) (d : Fin 128) : EReal := act P C b s ⟨1024 + 128 * h.val + d.val, by omega⟩

/-- The same as numbers. -/
def q (b : Fin 8) (h : Fin 4) (s : ℕ) (d : Fin 128) : ℝ := (qAt P C b s h d).toReal
/-- The keys as numbers. -/
def k (b : Fin 8) (h : Fin 4) (s : ℕ) (d : Fin 128) : ℝ := (kAt P C b s h d).toReal
/-- The values as numbers. -/
def v (b : Fin 8) (h : Fin 4) (s : ℕ) (d : Fin 128) : ℝ := (vAt P C b s h d).toReal
/-- The log decays as numbers. -/
def g (b : Fin 8) (h : Fin 4) (s : ℕ) : ℝ := (gAt A L D b s h).toReal
/-- The write strengths as numbers. -/
def be (b : Fin 8) (h : Fin 4) (s : ℕ) : ℝ := (bAt A b s h).toReal

/-- The state of a head after `s` positions, and its output at position `s`. -/
def stateAt (b : Fin 8) (h : Fin 4) (s : ℕ) (d e : Fin 128) : ℝ := state (k P C b h) (v P C b h) (g A L D b h) (be A b h) s d e
/-- A head's output at a position. -/
def outAt (b : Fin 8) (h : Fin 4) (s : ℕ) (e : Fin 128) : ℝ := out (q P C b h) (k P C b h) (v P C b h) (g A L D b h) (be A b h) s e

/-- One element of the result. -/
def resultAt (b : Fin 8) (s : Fin 4096) (h : Fin 4) (e : Fin 128) : EReal :=
  gated (fun e => ((outAt P A C L D b h s.val e : ℝ) : EReal)) (N (ix1 e)) (P (ix3 b s ⟨1536 + 128 * h.val + e.val, by omega⟩)) e

/-- The result. -/
def result : FVec Ideal S8x4096x512 .bf16 := fun i =>
  resultAt P A C L D N (i 0) (i 1) ⟨(i 2).val / 128, by have h : (i 2).val < 512 := (i 2).isLt; omega⟩ ⟨(i 2).val % 128, by omega⟩

/-- What the values and the log decays are made of are numbers. (The queries, keys and write strengths are numbers anyway.) -/
structure Finite : Prop where
  onP : ∀ (b : Fin 8) (s : Fin 4096) (l : Fin 512), ∃ y : ℝ, P (ix3 b s ⟨1024 + l.val, by omega⟩) = y
  onA : ∀ (b : Fin 8) (s : Fin 4096) (h : Fin 4), ∃ y : ℝ, A (ix3 b s ⟨h.val, by omega⟩) = y
  onC : ∀ (i : Fin 4) (l : Fin 512), ∃ y : ℝ, C (ix2 i ⟨1024 + l.val, by omega⟩) = y
  onL : ∀ h : Fin 4, ∃ y : ℝ, L (ix1 h) = y
  onD : ∀ h : Fin 4, ∃ y : ℝ, D (ix1 h) = y

/-- To be a number, of an extended real. -/
def Num (x : EReal) : Prop := ∃ y : ℝ, x = y

/-- A real number is a number. -/
theorem Num.coe (y : ℝ) : Num y := ⟨y, rfl⟩
/-- Zero is a number. -/
theorem Num.zero : Num 0 := ⟨0, rfl⟩
/-- A sum of numbers is a number. -/
theorem Num.add {x y : EReal} : Num x → Num y → Num (x + y) := by rintro ⟨a, rfl⟩ ⟨b, rfl⟩; exact ⟨a + b, rfl⟩
/-- A product of numbers is a number. -/
theorem Num.mul {x y : EReal} : Num x → Num y → Num (x * y) := by rintro ⟨a, rfl⟩ ⟨b, rfl⟩; exact ⟨a * b, (EReal.coe_mul a b).symm⟩
/-- A difference of numbers is a number. -/
theorem Num.sub {x y : EReal} : Num x → Num y → Num (x - y) := by rintro ⟨a, rfl⟩ ⟨b, rfl⟩; exact ⟨a - b, rfl⟩
/-- The negative of a number is a number. -/
theorem Num.neg {x : EReal} : Num x → Num (-x) := by rintro ⟨a, rfl⟩; exact ⟨-a, rfl⟩
/-- The larger of two numbers is a number. -/
theorem Num.max {x y : EReal} (hx : Num x) (hy : Num y) : Num (max x y) := by
  rcases max_choice x y with h | h <;> rw [h] <;> assumption
/-- The exponential of a number is a number. -/
theorem Num.exp {x : EReal} : Num x → Num (Ideal.exp x) := by rintro ⟨a, rfl⟩; exact ⟨Real.exp a, rfl⟩
/-- A finite sum of numbers is a number. -/
theorem Num.sum {n : ℕ} {f : Fin n → EReal} (h : ∀ i, Num (f i)) : Num (∑ i, f i) := by
  choose y hy using h
  exact ⟨∑ i, y i, by rw [Finset.sum_congr rfl fun i _ => hy i]; exact GdnChunk.coe_sum _⟩
/-- A number is the real it stands for. -/
theorem Num.toReal {x : EReal} : Num x → x = ((x.toReal : ℝ) : EReal) := by rintro ⟨a, rfl⟩; rfl

/-- The value of a word from its sign, exponent and fraction fields. -/
theorem word_f32 (w : BitVec 32) (a f : ℕ) (hs : (w.extractLsb' (8 + 23) 1 == 1#1) = false) (ha : (w.extractLsb' 23 8).toNat = a)
    (hf : (w.extractLsb' 0 23).toNat = f) (h0 : a ≠ 0) (h1 : a ≠ 2 ^ 8 - 1) :
    Ideal.ofBits .f32 w = ((((2 ^ 23 + f : ℕ) : ℝ) * (2 : ℝ) ^ ((a : ℤ) - (2 ^ (8 - 1) - 1) - (23 : ℕ)) : ℝ) : EReal) := by
  show Ideal.ieee 8 23 w = _
  unfold Ideal.ieee
  dsimp only
  rw [hs, ha, hf, if_neg h1, if_neg h0]
  congr 1
  simp

/-- The literal one is one. -/
theorem one_f32 : Ideal.ofBits .f32 0x3F800000#32 = ((1 : ℝ) : EReal) := by
  rw [word_f32 _ 127 0 (by decide) (by decide) (by decide) (by decide) (by decide)]
  congr 1
  norm_num

/-- The logistic function of every extended real is a number: at the infinities one and zero. -/
theorem lgst_num (x : EReal) : Num (lgst x) := by
  unfold lgst
  rw [one_f32]
  induction x with
  | bot =>
    have h : ((1 : ℝ) : EReal) + Ideal.exp (0 - (⊥ : EReal)) = ⊤ := by
      rw [zero_sub, EReal.neg_bot]; exact EReal.coe_add_top 1
    rw [h, Ideal.div, if_neg (by simp), EReal.inv_top, mul_zero]
    exact Num.zero
  | top =>
    have h : ((1 : ℝ) : EReal) + Ideal.exp (0 - (⊤ : EReal)) = ((1 : ℝ) : EReal) := by
      rw [zero_sub, EReal.neg_top]; exact add_zero _
    rw [h, Ideal.div, if_neg (by simp), ← EReal.coe_inv]
    exact ⟨_, (EReal.coe_mul _ _).symm⟩
  | coe a =>
    have h : ((1 : ℝ) : EReal) + Ideal.exp (0 - (a : EReal)) = ((1 + Real.exp (0 - a) : ℝ) : EReal) := rfl
    have hne : ((1 + Real.exp (0 - a) : ℝ) : EReal) ≠ 0 := by
      have := Real.exp_pos (0 - a)
      exact_mod_cast (by positivity : (0 : ℝ) < 1 + Real.exp (0 - a)).ne'
    rw [h, Ideal.div, if_neg hne, ← EReal.coe_inv]
    exact ⟨_, (EReal.coe_mul _ _).symm⟩

/-- The softplus of a number is a number. -/
theorem soft_num {x : EReal} : Num x → Num (soft x) := by
  intro hx
  refine Num.add (Num.max hx Num.zero) ?_
  obtain ⟨a, ha⟩ := Num.sub Num.zero (Num.max hx hx.neg)
  rw [ha, one_f32]
  have h : ((1 : ℝ) : EReal) + Ideal.exp (a : EReal) = ((1 + Real.exp a : ℝ) : EReal) := rfl
  rw [h]
  have hp : ¬ (1 + Real.exp a ≤ 0) := by have := Real.exp_pos a; intro h; linarith
  exact ⟨Real.log (1 + Real.exp a), by show (if 1 + Real.exp a ≤ 0 then ⊥ else _) = _; rw [if_neg hp]⟩

/-- The literal added to a row's square sum is a positive number. -/
theorem eps_f32 : ∃ r : ℝ, 0 < r ∧ Ideal.ofBits .f32 0x358637BD#32 = (r : EReal) :=
  ⟨_, by positivity, word_f32 _ 107 407485 (by decide) (by decide) (by decide) (by decide) (by decide)⟩

/-- The queries' scale is a number. -/
theorem scale_f32 : Num (Ideal.ofBits .f32 0x3DB504F3#32) :=
  ⟨_, word_f32 _ 123 3474675 (by decide) (by decide) (by decide) (by decide) (by decide)⟩

/-- The reciprocal length of a row of numbers is a number. -/
theorem len_num {x : Fin 128 → EReal} (h : ∀ e, Num (x e)) : Num (Ideal.rsqrt (∑ e, x e * x e + Ideal.ofBits .f32 0x358637BD#32)) := by
  choose y hy using h
  obtain ⟨r, hr, he⟩ := eps_f32
  have hs : ∑ e, x e * x e = ((∑ e, y e * y e : ℝ) : EReal) := by
    rw [← GdnChunk.coe_sum]
    exact Finset.sum_congr rfl fun e _ => by rw [hy e, EReal.coe_mul]
  have hp : 0 < ∑ e, y e * y e + r := add_pos_of_nonneg_of_pos (Finset.sum_nonneg fun e _ => mul_self_nonneg _) hr
  rw [hs, he, ← EReal.coe_add]
  exact ⟨(Real.sqrt (∑ e, y e * y e + r))⁻¹, by
    show (if _ < 0 then ⊥ else if _ = 0 then ⊤ else _) = _
    rw [if_neg (not_lt.mpr hp.le), if_neg hp.ne']⟩

/-- A square is at least zero, and that of an infinity is infinity. -/
theorem sq_nonneg (x : EReal) : 0 ≤ x * x := by
  induction x with
  | bot => simp
  | top => simp
  | coe a => exact_mod_cast mul_self_nonneg a
/-- The square of an infinity is infinity. -/
theorem sq_top {x : EReal} (h : ¬ Num x) : x * x = ⊤ := by
  induction x with
  | bot => simp
  | top => simp
  | coe a => exact absurd ⟨a, rfl⟩ h

/-- A row divided by its length is made of numbers: where the row holds an infinity the reciprocal length is zero. -/
theorem unitK_num (x : Fin 128 → EReal) (d : Fin 128) : Num (unitK x d) := by
  unfold unitK
  by_cases h : ∀ e, Num (x e)
  · exact Num.mul (h d) (len_num h)
  · obtain ⟨e, he⟩ := not_forall.1 h
    have hs : ∑ t, x t * x t = ⊤ := top_le_iff.1 ((sq_top he).symm.trans_le
      (Finset.single_le_sum (f := fun t => x t * x t) (fun t _ => sq_nonneg _) (Finset.mem_univ e)))
    obtain ⟨r, -, hr⟩ := eps_f32
    rw [hs, hr, EReal.top_add_coe]
    show Num (x d * 0)
    rw [mul_zero]
    exact Num.zero

/-- So is a query row. -/
theorem unitQ_num (x : Fin 128 → EReal) (d : Fin 128) : Num (unitQ x d) :=
  Num.mul (unitK_num x d) scale_f32

/-- The queries, keys and write strengths are numbers, whatever the arguments. -/
theorem q_eq (b : Fin 8) (h : Fin 4) (s : ℕ) (d : Fin 128) : qAt P C b s h d = ((q P C b h s d : ℝ) : EReal) :=
  Num.toReal (unitQ_num _ d)
/-- The keys are numbers, whatever the arguments. -/
theorem k_eq (b : Fin 8) (h : Fin 4) (s : ℕ) (d : Fin 128) : kAt P C b s h d = ((k P C b h s d : ℝ) : EReal) :=
  Num.toReal (unitK_num _ d)
/-- The write strengths are numbers, whatever the arguments. -/
theorem be_eq (b : Fin 8) (h : Fin 4) (s : ℕ) : bAt A b s h = ((be A b h s : ℝ) : EReal) :=
  Num.toReal (lgst_num _)

section Numbers
variable {P A C L D} (F : Finite P A C L D)
include F

/-- The padded value columns are numbers. -/
theorem past_num (b : Fin 8) (n : ℕ) (l : Fin 512) : Num (past P b n ⟨1024 + l.val, by omega⟩) := by
  unfold past; split_ifs
  · exact F.onP _ _ _
  · exact Num.zero

/-- The convolved value columns are numbers. -/
theorem act_num (b : Fin 8) (s : ℕ) (l : Fin 512) : Num (act P C b s ⟨1024 + l.val, by omega⟩) :=
  Num.mul (Num.add (Num.add (Num.add (Num.mul (F.onC 0 l) (past_num F b _ l)) (Num.mul (F.onC 1 l) (past_num F b _ l)))
    (Num.mul (F.onC 2 l) (past_num F b _ l))) (Num.mul (F.onC 3 l) (past_num F b _ l))) (lgst_num _)

/-- The decay columns are numbers. -/
theorem lane_num (b : Fin 8) (s : ℕ) (h : Fin 4) : Num (lane A b s ⟨h.val, by omega⟩) := by
  unfold lane; split_ifs
  · exact F.onA _ _ _
  · exact Num.zero

/-- The values are numbers. -/
theorem v_eq (b : Fin 8) (h : Fin 4) (s : ℕ) (d : Fin 128) : vAt P C b s h d = ((v P C b h s d : ℝ) : EReal) := by
  refine Num.toReal ?_
  have e : (⟨1024 + 128 * h.val + d.val, by omega⟩ : Fin 1536) = ⟨1024 + (128 * h.val + d.val), by omega⟩ := Fin.ext (by dsimp only; omega)
  show Num (act P C b s ⟨1024 + 128 * h.val + d.val, by omega⟩)
  rw [e]
  exact act_num F b s ⟨128 * h.val + d.val, by omega⟩
/-- The log decays are numbers. -/
theorem g_eq (b : Fin 8) (h : Fin 4) (s : ℕ) : gAt A L D b s h = ((g A L D b h s : ℝ) : EReal) :=
  Num.toReal (Num.mul (Num.sub Num.zero (Num.exp (F.onL h))) (soft_num (Num.add (lane_num F _ _ _) (F.onD h))))

end Numbers

end Cert.Proof.GdnArgs

end
-- ==== Proof.GdnPoint.lean ====
/-
One grid point of the kernel: what it does in its buffers before the chunks (the convolution over the tile's rows and the eight rows
before them, the log decays and the write strengths), and the output block and the states which it leaves.
-/
module

public import proofs.«01_k».proof.Proof.GdnTile
public import proofs.«01_k».proof.Proof.GdnFrame

@[expose] public section

set_option maxRecDepth 16384

noncomputable section

namespace Cert.Proof.GdnPoint

open Cert.GdnIdeal Cert.GdnIdeal.Gen
open Idealize.ShloMosaic Idealize.ShloMosaic.TcCoe Idealize.SL.Sem
open Cert.Proof.GdnLoop Cert.Proof.GdnHead Cert.Proof.GdnTrip Cert.Proof.GdnTile Cert.Proof.GdnFrame

/-- The widened tile with the eight rows before it on top, at a row and a column. -/
def bufAt (i : grid0.Coords) (x0 : FVec Ideal S1x256x1536 .bf16) (x1 : FVec Ideal S1x8x1536 .bf16) (a : Fin 264) (l : Fin 1536) : EReal :=
  if h : a.val < 8 then k0_pay108 (F := Ideal) i x1 (ix2 ⟨a.val, h⟩ l)
  else k0_pay109 (F := Ideal) x0 (ix2 ⟨a.val - 8, by omega⟩ l)

/-- The same as a vector. -/
def buf (i : grid0.Coords) (x0 : FVec Ideal S1x256x1536 .bf16) (x1 : FVec Ideal S1x8x1536 .bf16) : FVec Ideal S264x1536 .f32 := fun y =>
  bufAt i x0 x1 (y 0) (y 1)

/-- 256 of its rows, from row `n`. -/
def win (X : FVec Ideal S264x1536 .f32) (n : ℕ) (hn : n + 256 ≤ 264) : FVec Ideal S256x1536 .f32 := fun j =>
  X (ix2 ⟨n + (j 0).val, by have h : (j 0).val < 256 := (j 0).isLt; omega⟩ (j 1))

/-- One row of the convolution's weights. -/
def row (X : FVec Ideal S4x1536 .f32) (n : Fin 4) : FVec Ideal S1x1536 .f32 := fun j => X (ix2 n (j 1))

/-- What the chunks read, of a point's input blocks. -/
def tileOf (i : grid0.Coords) (x0 : FVec Ideal S1x256x1536 .bf16) (x1 : FVec Ideal S1x8x1536 .bf16) (x2 : FVec Ideal S1x256x512 .bf16)
    (x3 : FVec Ideal S1x256x128 .f32) (x4 : FVec Ideal S4x1536 .f32) (x5 x6 x7 : FVec Ideal S1x128 .f32) : Tile where
  Y := k0_pay111 (F := Ideal) (k0_pay110 (F := Ideal) (row x4 0) (win (buf i x0 x1) 5 (by omega)) (row x4 1) (win (buf i x0 x1) 6 (by omega)))
    (row x4 2) (win (buf i x0 x1) 7 (by omega)) (row x4 3) (win (buf i x0 x1) 8 (by omega))
  G := k0_pay1 (F := Ideal) (k0_pay113 (F := Ideal) x5) (k0_pay115 (F := Ideal) x3 x6) (k0_pay116 (F := Ideal) x3 x6)
  B := k0_pay2 (F := Ideal) (k0_pay112 (F := Ideal) x3)
  Z := x2
  W := x7

/-- A load of 256 rows is the window there. -/
theorem ld_win (X : FVec Ideal S264x1536 .f32) (n : ℕ) (hn : n + 256 ≤ 264) (off : Fin 2 → ℕ) (inb) (h0 : off 0 = n) (h1 : off 1 = 0) :
    View.ld (Val := Elt Ideal) (e' := .f32) (S := S264x1536) X (Rect.unit off S256x1536.size inb) = win X n hn := by
  funext j
  refine View.ld_unit_apply_of (Val := Elt Ideal) (e := .f32) X off S256x1536.size inb j _ fun a => ?_
  match a with
  | ⟨0, _⟩ => exact congrArg (· + (j 0).val) h0.symm
  | ⟨1, _⟩ => show (j 1).val = off 1 + (j 1).val; omega

/-- A load of one row is that row. -/
theorem ld_row (X : FVec Ideal S4x1536 .f32) (n : Fin 4) (off : Fin 2 → ℕ) (inb) (h0 : off 0 = n.val) (h1 : off 1 = 0) :
    View.ld (Val := Elt Ideal) (e' := .f32) (S := S4x1536) X (Rect.unit off S1x1536.size inb) = row X n := by
  funext j
  refine View.ld_unit_apply_of (Val := Elt Ideal) (e := .f32) X off S1x1536.size inb j _ fun a => ?_
  match a with
  | ⟨0, _⟩ => have hj : (j 0).val < 1 := (j 0).isLt; show n.val = off 0 + (j 0).val; omega
  | ⟨1, _⟩ => show (j 1).val = off 1 + (j 1).val; omega

/-- Zero offsets of a matrix. -/
theorem zero2 : (![0, 0] : Fin 2 → ℕ) = fun _ => 0 := by funext a; fin_cases a <;> rfl
/-- Zero offsets of a three-axis array. -/
theorem zero3 : (![0, 0, 0] : Fin 3 → ℕ) = fun _ => 0 := by funext a; fin_cases a <;> rfl

/-- The buffer after its two stores. -/
theorem read_buf {κ : Kind} {sp : Space} (v : View sig κ sp S264x1536 .f32) (f : v.ty.Contents (Elt Ideal)) (i : grid0.Coords) (x0 : FVec Ideal S1x256x1536 .bf16) (x1 : FVec Ideal S1x8x1536 .bf16) :
    v.read (Elt Ideal) (v.writes (Elt Ideal) f [⟨Rect.unit ![8, 0] S256x1536.size inb_S264x1536_S256x1536_8_0, k0_pay109 (F := Ideal) x0⟩,
      ⟨Rect.unit ![0, 0] S8x1536.size inb_S264x1536_S8x1536_0_0, k0_pay108 (F := Ideal) i x1⟩]) = buf i x0 x1 := by
  funext y
  obtain ⟨a, l, rfl⟩ : ∃ (a : Fin 264) (l : Fin 1536), y = ix2 a l := ⟨y 0, y 1, eq_ix2 y⟩
  by_cases ha : a.val < 8
  · refine (View.read_writes_cons_unit_of_not_mem _ _ _ _ _ _ rfl 0 (Or.inl ha)).trans ?_
    refine (View.read_writes_cons_unit_of_mem _ _ _ _ _ _ (ix2 ⟨a.val, ha⟩ l) rfl fun b => ?_).trans ?_
    · match b with
      | ⟨0, _⟩ => exact (Nat.zero_add _).symm
      | ⟨1, _⟩ => exact (Nat.zero_add _).symm
    · show _ = bufAt i x0 x1 a l
      unfold bufAt; rw [dif_pos ha]
  · have hn : a.val - 8 < 256 := by omega
    refine (View.read_writes_cons_unit_of_mem _ _ _ _ _ _ (ix2 ⟨a.val - 8, hn⟩ l) rfl fun b => ?_).trans ?_
    · match b with
      | ⟨0, _⟩ => show a.val = 8 + (a.val - 8); omega
      | ⟨1, _⟩ => exact (Nat.zero_add _).symm
    · show _ = bufAt i x0 x1 a l
      unfold bufAt; rw [dif_neg ha]

section Point
variable (c : Dev nD) (i : grid0.Coords) (arg2 : Memref sig .tc .vmem S1x256x1536 .bf16) (harg2 : arg2.IsWhole) (arg3 : Memref sig .tc .vmem S1x8x1536 .bf16) (harg3 : arg3.IsWhole) (arg4 : Memref sig .tc .vmem S1x256x512 .bf16) (harg4 : arg4.IsWhole) (arg5 : Memref sig .tc .vmem S1x256x128 .f32) (harg5 : arg5.IsWhole) (arg6 : Memref sig .tc .vmem S4x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x256x512 .bf16) (harg10 : arg10.IsWhole) (arg11 : Memref sig .tc .vmem S264x1536 .f32) (harg11 : arg11.IsWhole) (arg12 : Memref sig .tc .vmem S256x1536 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S4x128x128 .f32) (harg15 : arg15.IsWhole)
  (x0 : Vec Ideal S1x256x1536 .bf16) (x1 : Vec Ideal S1x8x1536 .bf16) (x2 : Vec Ideal S1x256x512 .bf16) (x3 : Vec Ideal S1x256x128 .f32) (x4 : Vec Ideal S4x1536 .f32) (x5 : Vec Ideal S1x128 .f32) (x6 : Vec Ideal S1x128 .f32) (x7 : Vec Ideal S1x128 .f32)

/-- The block of a point at which the states begin. -/
theorem out_A (hc0 : cond0_0 i) (r : Fin 256) (l : Fin 512) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix3 0 r l) = block (tileOf i x0 x1 x2 x3 x4 x5 x6 x7) (k0_pay107 (F := Ideal)) r l := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7), ← View.read_writes_eq_canon arg10.view arg10.view.junk _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A; dsimp only; sl_unfold_words
  refine (loop_block Variants.none c none i arg2 harg2 arg3 harg3 arg4 harg4 arg5 harg5 arg6 harg6 arg7 harg7 arg8 harg8 arg9 harg9 arg10 harg10 arg11 harg11 arg12 harg12 arg13 harg13 arg14 harg14 arg15 harg15 _ _ _ _ _ (tileOf i x0 x1 x2 x3 x4 x5 x6 x7) ?_ ?_ ?_ ?_ ?_ _ _ 4 le_rfl r l r.isLt).trans ?_
  · exact harg4.read_unread x2
  · refine (View.read_writes_full _ _ _ _ _).trans ?_
    simp only [View.readCov, View.readAt_eq_ld, harg2.read_unread, harg3.read_unread, harg6.read_unread]
    simp only [View.ld_unit_zero (S := S1x256x1536) zero3, View.ld_unit_zero (S := S1x8x1536) zero3]
    rw [read_buf,
      ld_win _ 5 (by omega) ![5, 0] _ rfl rfl, ld_win _ 6 (by omega) ![6, 0] _ rfl rfl, ld_win _ 7 (by omega) ![7, 0] _ rfl rfl,
      ld_win _ 8 (by omega) ![8, 0] _ rfl rfl, ld_row x4 0 ![0, 0] _ rfl rfl, ld_row x4 1 ![1, 0] _ rfl rfl, ld_row x4 2 ![2, 0] _ rfl rfl, ld_row x4 3 ![3, 0] _ rfl rfl]
    rfl
  · refine (View.read_writes_full _ _ _ _ _).trans ?_
    simp only [View.readAt_eq_ld, harg5.read_unread, harg7.read_unread, harg8.read_unread]
    simp only [View.ld_unit_zero (S := S1x256x128) zero3, View.ld_unit_zero (S := S1x128) zero2]
    rfl
  · refine (View.read_writes_full _ _ _ _ _).trans ?_
    simp only [View.readAt_eq_ld, harg5.read_unread]
    simp only [View.ld_unit_zero (S := S1x256x128) zero3]
    rfl
  · simp only [View.readAt_eq_ld, harg9.read_unread]
    simp only [View.ld_unit_zero (S := S1x128) zero2]
    rfl
  · exact congrArg (fun S => block _ S r l) (View.read_writes_full _ _ _ _ _)

/-- The states after it. -/
theorem state_A (hc0 : cond0_0 i) :
    sout0_A_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = states (tileOf i x0 x1 x2 x3 x4 x5 x6 x7) (k0_pay107 (F := Ideal)) 4 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7), ← View.read_writes_eq_canon arg15.view arg15.view.junk _ (scover0_A_4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A; dsimp only; sl_unfold_words
  rw [View.writes_append]
  refine (loop_states Variants.none c none i arg2 harg2 arg3 harg3 arg4 harg4 arg5 harg5 arg6 harg6 arg7 harg7 arg8 harg8 arg9 harg9 arg10 harg10 arg11 harg11 arg12 harg12 arg13 harg13 arg14 harg14 arg15 harg15 _ _ _ _ _ (tileOf i x0 x1 x2 x3 x4 x5 x6 x7) ?_ ?_ ?_ _ 4 le_rfl).trans ?_
  · refine (View.read_writes_full _ _ _ _ _).trans ?_
    simp only [View.readCov, View.readAt_eq_ld, harg2.read_unread, harg3.read_unread, harg6.read_unread]
    simp only [View.ld_unit_zero (S := S1x256x1536) zero3, View.ld_unit_zero (S := S1x8x1536) zero3]
    rw [read_buf,
      ld_win _ 5 (by omega) ![5, 0] _ rfl rfl, ld_win _ 6 (by omega) ![6, 0] _ rfl rfl, ld_win _ 7 (by omega) ![7, 0] _ rfl rfl,
      ld_win _ 8 (by omega) ![8, 0] _ rfl rfl, ld_row x4 0 ![0, 0] _ rfl rfl, ld_row x4 1 ![1, 0] _ rfl rfl, ld_row x4 2 ![2, 0] _ rfl rfl, ld_row x4 3 ![3, 0] _ rfl rfl]
    rfl
  · refine (View.read_writes_full _ _ _ _ _).trans ?_
    simp only [View.readAt_eq_ld, harg5.read_unread, harg7.read_unread, harg8.read_unread]
    simp only [View.ld_unit_zero (S := S1x256x128) zero3, View.ld_unit_zero (S := S1x128) zero2]
    rfl
  · refine (View.read_writes_full _ _ _ _ _).trans ?_
    simp only [View.readAt_eq_ld, harg5.read_unread]
    simp only [View.ld_unit_zero (S := S1x256x128) zero3]
    rfl
  · exact congrArg (fun S => states _ S 4) (View.read_writes_full _ _ _ _ _)

/-- The block of a point that goes on from the states `xs4`. -/
theorem out_B (hc0 : ¬cond0_0 i) (xs4 : Vec Ideal S4x128x128 .f32) (r : Fin 256) (l : Fin 512) :
    out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs4 (ix3 0 r l) = block (tileOf i x0 x1 x2 x3 x4 x5 x6 x7) xs4 r l := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs4), ← View.read_writes_eq_canon arg10.view arg10.view.junk _ (cover0_B_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs4)]
  unfold kernelRun0_B; dsimp only; sl_unfold_words
  refine (loop_block Variants.none c none i arg2 harg2 arg3 harg3 arg4 harg4 arg5 harg5 arg6 harg6 arg7 harg7 arg8 harg8 arg9 harg9 arg10 harg10 arg11 harg11 arg12 harg12 arg13 harg13 arg14 harg14 arg15 harg15 _ _ _ _ _ (tileOf i x0 x1 x2 x3 x4 x5 x6 x7) ?_ ?_ ?_ ?_ ?_ _ _ 4 le_rfl r l r.isLt).trans ?_
  · exact harg4.read_unread x2
  · refine (View.read_writes_full _ _ _ _ _).trans ?_
    simp only [View.readCov, View.readAt_eq_ld, harg2.read_unread, harg3.read_unread, harg6.read_unread]
    simp only [View.ld_unit_zero (S := S1x256x1536) zero3, View.ld_unit_zero (S := S1x8x1536) zero3]
    rw [read_buf,
      ld_win _ 5 (by omega) ![5, 0] _ rfl rfl, ld_win _ 6 (by omega) ![6, 0] _ rfl rfl, ld_win _ 7 (by omega) ![7, 0] _ rfl rfl,
      ld_win _ 8 (by omega) ![8, 0] _ rfl rfl, ld_row x4 0 ![0, 0] _ rfl rfl, ld_row x4 1 ![1, 0] _ rfl rfl, ld_row x4 2 ![2, 0] _ rfl rfl, ld_row x4 3 ![3, 0] _ rfl rfl]
    rfl
  · refine (View.read_writes_full _ _ _ _ _).trans ?_
    simp only [View.readAt_eq_ld, harg5.read_unread, harg7.read_unread, harg8.read_unread]
    simp only [View.ld_unit_zero (S := S1x256x128) zero3, View.ld_unit_zero (S := S1x128) zero2]
    rfl
  · refine (View.read_writes_full _ _ _ _ _).trans ?_
    simp only [View.readAt_eq_ld, harg5.read_unread]
    simp only [View.ld_unit_zero (S := S1x256x128) zero3]
    rfl
  · simp only [View.readAt_eq_ld, harg9.read_unread]
    simp only [View.ld_unit_zero (S := S1x128) zero2]
    rfl
  · exact congrArg (fun S => block _ S r l) (harg15.read_unread xs4)

/-- The states after it. -/
theorem state_B (hc0 : ¬cond0_0 i) (xs4 : Vec Ideal S4x128x128 .f32) :
    sout0_B_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs4 = states (tileOf i x0 x1 x2 x3 x4 x5 x6 x7) xs4 4 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs4), ← View.read_writes_eq_canon arg15.view (harg15.unread xs4) _ (scover0_B_4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs4)]
  unfold kernelRun0_B; dsimp only; sl_unfold_words
  try rw [List.append_nil]
  refine (loop_states Variants.none c none i arg2 harg2 arg3 harg3 arg4 harg4 arg5 harg5 arg6 harg6 arg7 harg7 arg8 harg8 arg9 harg9 arg10 harg10 arg11 harg11 arg12 harg12 arg13 harg13 arg14 harg14 arg15 harg15 _ _ _ _ _ (tileOf i x0 x1 x2 x3 x4 x5 x6 x7) ?_ ?_ ?_ _ 4 le_rfl).trans ?_
  · refine (View.read_writes_full _ _ _ _ _).trans ?_
    simp only [View.readCov, View.readAt_eq_ld, harg2.read_unread, harg3.read_unread, harg6.read_unread]
    simp only [View.ld_unit_zero (S := S1x256x1536) zero3, View.ld_unit_zero (S := S1x8x1536) zero3]
    rw [read_buf,
      ld_win _ 5 (by omega) ![5, 0] _ rfl rfl, ld_win _ 6 (by omega) ![6, 0] _ rfl rfl, ld_win _ 7 (by omega) ![7, 0] _ rfl rfl,
      ld_win _ 8 (by omega) ![8, 0] _ rfl rfl, ld_row x4 0 ![0, 0] _ rfl rfl, ld_row x4 1 ![1, 0] _ rfl rfl, ld_row x4 2 ![2, 0] _ rfl rfl, ld_row x4 3 ![3, 0] _ rfl rfl]
    rfl
  · refine (View.read_writes_full _ _ _ _ _).trans ?_
    simp only [View.readAt_eq_ld, harg5.read_unread, harg7.read_unread, harg8.read_unread]
    simp only [View.ld_unit_zero (S := S1x256x128) zero3, View.ld_unit_zero (S := S1x128) zero2]
    rfl
  · refine (View.read_writes_full _ _ _ _ _).trans ?_
    simp only [View.readAt_eq_ld, harg5.read_unread]
    simp only [View.ld_unit_zero (S := S1x256x128) zero3]
    rfl
  · exact congrArg (fun S => states _ S 4) (harg15.read_unread xs4)

end Point

end Cert.Proof.GdnPoint

end
-- ==== Proof.GdnRun.lean ====
/-
The gated DeltaNet kernel's result array as a function of its arguments: the blocks which the grid points read, the states which one
point hands to the next, the blocks which they write back, and the array after the run.
-/
module

public import proofs.«01_k».proof.Proof.GdnArgs
public import proofs.«01_k».proof.Proof.GdnPoint
public import Idealize.ShloMosaic.Lib.Pipeline.Value

@[expose] public section

set_option maxRecDepth 16384

noncomputable section

namespace Cert.Proof.GdnRun

open Cert.GdnIdeal Cert.GdnIdeal.Gen
open Idealize.ShloMosaic Idealize.ShloMosaic.TcCoe Idealize.SL.Sem
open Idealize.ShloMosaic.Pipeline (Dat)
open Cert.Proof.GdnMath Cert.Proof.GdnHead Cert.Proof.GdnTrip Cert.Proof.GdnTile Cert.Proof.GdnFrame Cert.Proof.GdnPoint Cert.Proof.GdnArgs

variable (m : (ℓ : Loc nD τ sig) → Buf (Elt Ideal) ℓ) (ρ : Dev nD → PrngReg) (c : Dev nD)

/-- One of the arguments on a device. -/
abbrev argP : FVec Ideal S8x4096x8192 .bf16 := m ((c : Thread nD τ).loc main_arg0)
/-- One of the arguments on a device. -/
abbrev argA : FVec Ideal S8x4096x128 .f32 := m ((c : Thread nD τ).loc main_arg1)
/-- One of the arguments on a device. -/
abbrev argC : FVec Ideal S4x1536 .f32 := m ((c : Thread nD τ).loc main_arg2)
/-- One of the arguments on a device. -/
abbrev argL : FVec Ideal S4 .f32 := m ((c : Thread nD τ).loc main_arg3)
/-- One of the arguments on a device. -/
abbrev argD : FVec Ideal S4 .f32 := m ((c : Thread nD τ).loc main_arg4)
/-- One of the arguments on a device. -/
abbrev argN : FVec Ideal S128 .f32 := m ((c : Thread nD τ).loc main_arg5)

/-- A grid point's number is below the number of points. -/
theorem lt_N (t : Fin cfg0.N) : t.val < 128 := lt_of_lt_of_eq t.isLt N_0

/-- The batch of a point. -/
def bOf (t : Fin cfg0.N) : Fin 8 := ⟨t.val / 16, by have := lt_N t; omega⟩

/-- Row `r` of the point's tile, counted in the whole sequence. -/
def sOf (t : Fin cfg0.N) (r : Fin 256) : Fin 4096 := ⟨t.val % 16 * 256 + r.val, by omega⟩

/-- Row `r` of the eight rows before the point's tile; of the first eight rows at the first tile. -/
def hOf (t : Fin cfg0.N) (r : Fin 8) : Fin 4096 := ⟨(t.val % 16 * 32 - 1) * 8 + r.val, by omega⟩

/-- The block index of each window at each grid point. -/
theorem idx : ∀ t : Fin cfg0.N, (win0_0.index t (0 : Fin 3) = t.val / 16 ∧ win0_0.index t (1 : Fin 3) = t.val % 16 ∧ win0_0.index t (2 : Fin 3) = 0)
    ∧ (win0_1.index t (0 : Fin 3) = t.val / 16 ∧ win0_1.index t (1 : Fin 3) = t.val % 16 * 32 - 1 ∧ win0_1.index t (2 : Fin 3) = 0)
    ∧ (win0_2.index t (0 : Fin 3) = t.val / 16 ∧ win0_2.index t (1 : Fin 3) = t.val % 16 ∧ win0_2.index t (2 : Fin 3) = 3)
    ∧ (win0_3.index t (0 : Fin 3) = t.val / 16 ∧ win0_3.index t (1 : Fin 3) = t.val % 16 ∧ win0_3.index t (2 : Fin 3) = 0)
    ∧ (win0_8.index t (0 : Fin 3) = t.val / 16 ∧ win0_8.index t (1 : Fin 3) = t.val % 16 ∧ win0_8.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- The gate. -/
theorem iblk2_apply (t : Fin cfg0.N) (r : Fin 256) (d : Fin 512) :
    iblk m c 2 t (ix3 0 r d) = argP m c (ix3 (bOf t) (sOf t r) ⟨1536 + d.val, by omega⟩) := by
  obtain ⟨-, -, ⟨e0, e1, e2⟩, -⟩ := idx t
  have hemb : ((cfg0.win 2).blk t).view.emb (ix3 0 r d) = (ix3 (bOf t) (sOf t r) ⟨1536 + d.val, by omega⟩ : S8x4096x8192.Idx) := by
    funext a; apply Fin.ext
    match a with
    | ⟨0, _⟩ => show win0_2.index t (0 : Fin 3) * 1 + 1 * 0 = t.val / 16; omega
    | ⟨1, _⟩ => show win0_2.index t (1 : Fin 3) * 256 + 1 * r.val = t.val % 16 * 256 + r.val; omega
    | ⟨2, _⟩ => show win0_2.index t (2 : Fin 3) * 512 + 1 * d.val = 1536 + d.val; omega
  show V m c (Pipeline.arrRef spec0 2) (((cfg0.win 2).blk t).view.emb (ix3 0 r d)) = _
  rw [hemb]
  exact congrFun (V_main_arg0 m c) _

/-- The second projection. -/
theorem iblk3_apply (t : Fin cfg0.N) (r : Fin 256) (d : Fin 128) :
    iblk m c 3 t (ix3 0 r d) = argA m c (ix3 (bOf t) (sOf t r) d) := by
  obtain ⟨-, -, -, ⟨e0, e1, e2⟩, -⟩ := idx t
  have hemb : ((cfg0.win 3).blk t).view.emb (ix3 0 r d) = (ix3 (bOf t) (sOf t r) d : S8x4096x128.Idx) := by
    funext a; apply Fin.ext
    match a with
    | ⟨0, _⟩ => show win0_3.index t (0 : Fin 3) * 1 + 1 * 0 = t.val / 16; omega
    | ⟨1, _⟩ => show win0_3.index t (1 : Fin 3) * 256 + 1 * r.val = t.val % 16 * 256 + r.val; omega
    | ⟨2, _⟩ => show win0_3.index t (2 : Fin 3) * 128 + 1 * d.val = d.val; omega
  show V m c (Pipeline.arrRef spec0 3) (((cfg0.win 3).blk t).view.emb (ix3 0 r d)) = _
  rw [hemb]
  exact congrFun (V_main_arg1 m c) _

/-- The weights of the convolution. -/
theorem iblk4_apply (t : Fin cfg0.N) (i : Fin 4) (d : Fin 1536) : iblk m c 4 t (ix2 i d) = argC m c (ix2 i d) := by
  obtain ⟨-, -, -, -, -, ⟨e0, e1⟩, -⟩ := idx t
  have hemb : ((cfg0.win 4).blk t).view.emb (ix2 i d) = (ix2 i d : S4x1536.Idx) := by
    funext a; apply Fin.ext
    match a with
    | ⟨0, _⟩ => show win0_4.index t (0 : Fin 2) * 4 + 1 * i.val = i.val; omega
    | ⟨1, _⟩ => show win0_4.index t (1 : Fin 2) * 1536 + 1 * d.val = d.val; omega
  show V m c (Pipeline.arrRef spec0 4) (((cfg0.win 4).blk t).view.emb (ix2 i d)) = _
  rw [hemb]
  exact congrFun (V_main_arg2 m c) _

/-- The logarithms of the decay rates, in the first four lanes. -/
theorem iblk5_apply (t : Fin cfg0.N) (d : Fin 4) : iblk m c 5 t (ix2 0 ⟨d.val, by omega⟩) = argL m c (ix1 d) := by
  obtain ⟨-, -, -, -, -, -, ⟨e0, e1⟩, -⟩ := idx t
  have hemb : ((cfg0.win 5).blk t).view.emb (ix2 0 ⟨d.val, by omega⟩) = (ix2 (0 : Fin 1) ⟨d.val, by omega⟩ : S1x128.Idx) := by
    funext a; apply Fin.ext
    match a with
    | ⟨0, _⟩ => show win0_5.index t (0 : Fin 2) * 1 + 1 * 0 = 0; omega
    | ⟨1, _⟩ => show win0_5.index t (1 : Fin 2) * 128 + 1 * d.val = d.val; omega
  show V m c (Pipeline.arrRef spec0 5) (((cfg0.win 5).blk t).view.emb (ix2 0 ⟨d.val, by omega⟩)) = _
  rw [hemb]
  show StableHlo.after (hostOps0 ++ (hostOps0_1 ++ (hostOps0_2 ++ (hostOps0_3 ++ (hostOps0_4 ++ []))))) (fun b => m (c, b))
    (Proc.tc.devRef main_v1) _ = _
  simp only [hostOps0, hostOps0_1, hostOps0_2, hostOps0_3, hostOps0_4, List.cons_append, List.nil_append]
  entry_read
  show broadcastInDim S1x128 ![1] bcast_S128_S1x128_1 (pad S128 ![0] ![124] ![0] (argL m c) (sitofp .f32 (constantI S_ 32 0#32))
    pads_S4_S128_01240 h_S_) (ix2 0 ⟨d.val, _⟩) = _
  pointwise

/-- The offsets of the time steps, in the first four lanes. -/
theorem iblk6_apply (t : Fin cfg0.N) (d : Fin 4) : iblk m c 6 t (ix2 0 ⟨d.val, by omega⟩) = argD m c (ix1 d) := by
  obtain ⟨-, -, -, -, -, -, -, ⟨e0, e1⟩, -⟩ := idx t
  have hemb : ((cfg0.win 6).blk t).view.emb (ix2 0 ⟨d.val, by omega⟩) = (ix2 (0 : Fin 1) ⟨d.val, by omega⟩ : S1x128.Idx) := by
    funext a; apply Fin.ext
    match a with
    | ⟨0, _⟩ => show win0_6.index t (0 : Fin 2) * 1 + 1 * 0 = 0; omega
    | ⟨1, _⟩ => show win0_6.index t (1 : Fin 2) * 128 + 1 * d.val = d.val; omega
  show V m c (Pipeline.arrRef spec0 6) (((cfg0.win 6).blk t).view.emb (ix2 0 ⟨d.val, by omega⟩)) = _
  rw [hemb]
  show StableHlo.after (hostOps0 ++ (hostOps0_1 ++ (hostOps0_2 ++ (hostOps0_3 ++ (hostOps0_4 ++ []))))) (fun b => m (c, b))
    (Proc.tc.devRef main_v3) _ = _
  simp only [hostOps0, hostOps0_1, hostOps0_2, hostOps0_3, hostOps0_4, List.cons_append, List.nil_append]
  entry_read
  show broadcastInDim S1x128 ![1] bcast_S128_S1x128_1 (pad S128 ![0] ![124] ![0] (argD m c) (sitofp .f32 (constantI S_ 32 0#32))
    pads_S4_S128_01240 h_S_) (ix2 0 ⟨d.val, _⟩) = _
  pointwise

/-- The weights of the heads' normalisation. -/
theorem iblk7_apply (t : Fin cfg0.N) (d : Fin 128) : iblk m c 7 t (ix2 0 d) = argN m c (ix1 d) := by
  obtain ⟨-, -, -, -, -, -, -, -, e0, e1⟩ := idx t
  have hemb : ((cfg0.win 7).blk t).view.emb (ix2 0 d) = (ix2 (0 : Fin 1) d : S1x128.Idx) := by
    funext a; apply Fin.ext
    match a with
    | ⟨0, _⟩ => show win0_7.index t (0 : Fin 2) * 1 + 1 * 0 = 0; omega
    | ⟨1, _⟩ => show win0_7.index t (1 : Fin 2) * 128 + 1 * d.val = d.val; omega
  show V m c (Pipeline.arrRef spec0 7) (((cfg0.win 7).blk t).view.emb (ix2 0 d)) = _
  rw [hemb]
  show StableHlo.after (hostOps0 ++ (hostOps0_1 ++ (hostOps0_2 ++ (hostOps0_3 ++ (hostOps0_4 ++ []))))) (fun b => m (c, b))
    (Proc.tc.devRef main_v4) _ = _
  simp only [hostOps0, hostOps0_1, hostOps0_2, hostOps0_3, hostOps0_4, List.cons_append, List.nil_append]
  entry_read
  pointwise

/-- The tile in its buffer. -/
theorem X0_apply (t : Fin cfg0.N) (r : Fin 256) (d : Fin 1536) :
    X0_0 m c t (ix3 0 r d) = argP m c (ix3 (bOf t) (sOf t r) ⟨d.val, by omega⟩) := by
  obtain ⟨⟨e0, e1, e2⟩, -⟩ := idx t
  unfold X0_0 Pipeline.Window.fill
  rw [dif_pos (moved0_0 t _)]
  refine (congrFun (V_main_arg0 m c) _).trans (congrArg (argP m c) ?_)
  funext a; apply Fin.ext
  match a with
  | ⟨0, _⟩ => show win0_0.index t (0 : Fin 3) * 1 + 1 * 0 = t.val / 16; omega
  | ⟨1, _⟩ => show win0_0.index t (1 : Fin 3) * 256 + 1 * r.val = t.val % 16 * 256 + r.val; omega
  | ⟨2, _⟩ => show win0_0.index t (2 : Fin 3) * 1536 + 1 * d.val = d.val; omega

/-- The eight rows before it in their buffer. -/
theorem X1_apply (t : Fin cfg0.N) (r : Fin 8) (d : Fin 1536) :
    X0_1 m c t (ix3 0 r d) = argP m c (ix3 (bOf t) (hOf t r) ⟨d.val, by omega⟩) := by
  obtain ⟨-, ⟨e0, e1, e2⟩, -⟩ := idx t
  unfold X0_1 Pipeline.Window.fill
  rw [dif_pos (moved0_1 t _)]
  refine (congrFun (V_main_arg0 m c) _).trans (congrArg (argP m c) ?_)
  funext a; apply Fin.ext
  match a with
  | ⟨0, _⟩ => show win0_1.index t (0 : Fin 3) * 1 + 1 * 0 = t.val / 16; omega
  | ⟨1, _⟩ => show win0_1.index t (1 : Fin 3) * 8 + 1 * r.val = (t.val % 16 * 32 - 1) * 8 + r.val; omega
  | ⟨2, _⟩ => show win0_1.index t (2 : Fin 3) * 1536 + 1 * d.val = d.val; omega

/-- Whether a point's tile is the first. -/
theorem first : ∀ t : Fin cfg0.N, Scalar.cmpi .eq (BitVec.ofNat 32 (grid0.coords t 1).val) 0#32 = if t.val % 16 = 0 then 1#1 else 0#1 :=
  (by decide +kernel : ∀ t : Fin grid0.N, _)

/-- The eight rows in front: zero at the first tile. -/
theorem pay108_apply (t : Fin cfg0.N) (x1 : FVec Ideal S1x8x1536 .bf16) (r : Fin 8) (l : Fin 1536) :
    k0_pay108 (F := Ideal) (grid0.coords t) x1 (ix2 r l) = if t.val % 16 = 0 then 0 else x1 (ix3 0 r l) := by
  unfold k0_pay108
  pointwise
  rw [first t]
  split_ifs with h
  · simp [Scalar.select, Ideal.ofBits, Ideal.ieee]
  · simp [Scalar.select]

/-- The loaded rows of the convolved columns. -/
theorem pay109_apply (x0 : FVec Ideal S1x256x1536 .bf16) (r : Fin 256) (l : Fin 1536) :
    k0_pay109 (F := Ideal) x0 (ix2 r l) = x0 (ix3 0 r l) := by
  unfold k0_pay109
  pointwise

/-- The buffer's row `5 + n` is the row of the projections three positions before the tile's row `n`. -/
theorem buf_past (t : Fin cfg0.N) (n : ℕ) (hn : 5 + n < 264) (l : Fin 1536) :
    bufAt (grid0.coords t) (X0_0 m c t) (X0_1 m c t) ⟨5 + n, hn⟩ l = past (argP m c) (bOf t) (t.val % 16 * 256 + n) l := by
  unfold bufAt past
  by_cases h : 5 + n < 8
  · rw [dif_pos h, pay108_apply]
    by_cases h0 : t.val % 16 = 0
    · rw [if_pos h0, dif_neg (by omega)]
    · rw [if_neg h0, X1_apply, dif_pos (by omega)]
      congr 2
      apply Fin.ext
      show (t.val % 16 * 32 - 1) * 8 + (5 + n) = t.val % 16 * 256 + n - 3
      omega
  · rw [dif_neg h, pay109_apply, X0_apply, dif_pos (by omega)]
    congr 2
    apply Fin.ext
    show t.val % 16 * 256 + (5 + n - 8) = t.val % 16 * 256 + n - 3
    omega

/-- What the chunks of a point read. -/
def tile (t : Fin cfg0.N) : Tile :=
  tileOf (grid0.coords t) (X0_0 m c t) (X0_1 m c t) (iblk m c 2 t) (iblk m c 3 t) (iblk m c 4 t) (iblk m c 5 t) (iblk m c 6 t) (iblk m c 7 t)

/-- The convolution of a row and its three predecessors, times its logistic function. -/
theorem pay111_apply (w5 w6 w7 w8 : FVec Ideal S1x1536 .f32) (y5 y6 y7 y8 : FVec Ideal S256x1536 .f32) (r : Fin 256) (l : Fin 1536)
    (a b c d e f g h x : EReal) (ha : w5 (ix2 0 l) = a) (hb : y5 (ix2 r l) = b) (hc : w6 (ix2 0 l) = c) (hd : y6 (ix2 r l) = d)
    (he : w7 (ix2 0 l) = e) (hf : y7 (ix2 r l) = f) (hg : w8 (ix2 0 l) = g) (hh : y8 (ix2 r l) = h) (hx : a * b + c * d + e * f + g * h = x) :
    k0_pay111 (F := Ideal) (k0_pay110 (F := Ideal) w5 y5 w6 y6) w7 y7 w8 y8 (ix2 r l) = x * lgst x := by
  subst ha hb hc hd he hf hg hh hx
  unfold k0_pay111 k0_pay110
  pointwise
  unfold lgst
  simp [one_f32]

/-- The buffer's rows are the padded projections. -/
theorem win_apply (t : Fin cfg0.N) (n : ℕ) (hn : 5 + n + 256 ≤ 264) (r : Fin 256) (l : Fin 1536) :
    win (buf (grid0.coords t) (X0_0 m c t) (X0_1 m c t)) (5 + n) hn (ix2 r l)
      = past (argP m c) (bOf t) (t.val % 16 * 256 + r.val + n) l := by
  refine Eq.trans ?_ ((buf_past m c t (n + r.val) (by omega) l).trans (congrArg (past (argP m c) (bOf t) · l) (by omega)))
  show bufAt _ _ _ ⟨5 + n + r.val, _⟩ l = _
  congr 1
  apply Fin.ext
  show 5 + n + r.val = 5 + (n + r.val)
  omega

/-- A row of the convolution's weights. -/
theorem row_apply (t : Fin cfg0.N) (i : Fin 4) (l : Fin 1536) : row (iblk m c 4 t) i (ix2 0 l) = argC m c (ix2 i l) := iblk4_apply m c t i l

/-- The convolved rows. -/
theorem tile_Y (t : Fin cfg0.N) (r : Fin 256) (l : Fin 1536) :
    (tile m c t).Y (ix2 r l) = act (argP m c) (argC m c) (bOf t) (t.val % 16 * 256 + r.val) l :=
  pay111_apply _ _ _ _ _ _ _ _ r l _ _ _ _ _ _ _ _ _ (row_apply m c t 0 l) (win_apply m c t 0 (by omega) r l)
    (row_apply m c t 1 l) (win_apply m c t 1 (by omega) r l) (row_apply m c t 2 l) (win_apply m c t 2 (by omega) r l)
    (row_apply m c t 3 l) (win_apply m c t 3 (by omega) r l) rfl

/-- The absolute value is the larger of a number and its negative. -/
theorem absf_eq (x : Ideal .f32) : FloatOps.absf x = max (x : EReal) (-x) := rfl

/-- The log decays of a tile. -/
theorem pay1_apply (x3 : FVec Ideal S1x256x128 .f32) (x5 x6 : FVec Ideal S1x128 .f32) (r : Fin 256) (l : Fin 128) :
    k0_pay1 (F := Ideal) (k0_pay113 (F := Ideal) x5) (k0_pay115 (F := Ideal) x3 x6) (k0_pay116 (F := Ideal) x3 x6) (ix2 r l)
      = (0 - Ideal.exp (x5 (ix2 0 l))) * soft (x3 (ix3 0 r l) + x6 (ix2 0 l)) := by
  unfold k0_pay1 k0_pay113 k0_pay115 k0_pay116 k0_pay114 k0_pay112
  pointwise
  unfold soft
  simp [one_f32, absf_eq]

/-- The write strengths of a tile. -/
theorem pay2_apply (x3 : FVec Ideal S1x256x128 .f32) (r : Fin 256) (l : Fin 128) :
    k0_pay2 (F := Ideal) (k0_pay112 (F := Ideal) x3) (ix2 r l) = lgst (x3 (ix3 0 r l)) := by
  unfold k0_pay2 k0_pay112
  pointwise
  unfold lgst
  simp [one_f32, absf_eq]

/-- A tile's lanes of the second projection. -/
theorem lane_eq (t : Fin cfg0.N) (r : Fin 256) (l : Fin 8) :
    iblk m c 3 t (ix3 0 r ⟨l.val, by omega⟩) = lane (argA m c) (bOf t) (t.val % 16 * 256 + r.val) l := by
  rw [iblk3_apply]
  unfold lane
  rw [dif_pos (by omega)]
  rfl

/-- The log decays. -/
theorem tile_G (t : Fin cfg0.N) (r : Fin 256) (h : Fin 4) : (tile m c t).G (ix2 r ⟨h.val, by omega⟩)
    = gAt (argA m c) (argL m c) (argD m c) (bOf t) (t.val % 16 * 256 + r.val) h := by
  refine (pay1_apply _ _ _ r ⟨h.val, by omega⟩).trans ?_
  rw [iblk5_apply, iblk6_apply]
  unfold gAt
  rw [← lane_eq m c t r ⟨h.val, by omega⟩]

/-- The write strengths. -/
theorem tile_B (t : Fin cfg0.N) (r : Fin 256) (h : Fin 4) : (tile m c t).B (ix2 r ⟨4 + h.val, by omega⟩)
    = bAt (argA m c) (bOf t) (t.val % 16 * 256 + r.val) h := by
  refine (pay2_apply _ r ⟨4 + h.val, by omega⟩).trans ?_
  unfold bAt
  rw [← lane_eq m c t r ⟨4 + h.val, by omega⟩]

/-- A tile's gate columns. -/
theorem tile_Z (t : Fin cfg0.N) (r : Fin 256) (l : Fin 512) :
    (tile m c t).Z (ix3 0 r l) = argP m c (ix3 (bOf t) (sOf t r) ⟨1536 + l.val, by omega⟩) := iblk2_apply m c t r l

/-- A tile's norm weights. -/
theorem tile_W (t : Fin cfg0.N) (e : Fin 128) : (tile m c t).W (ix2 0 e) = argN m c (ix1 e) := iblk7_apply m c t e

/-- The tile as numbers. -/
theorem nums (F : Finite (argP m c) (argA m c) (argC m c) (argL m c) (argD m c)) (t : Fin cfg0.N) (h : Fin 4) :
    Nums (tile m c t) (q (argP m c) (argC m c) (bOf t) h) (k (argP m c) (argC m c) (bOf t) h) (v (argP m c) (argC m c) (bOf t) h)
      (g (argA m c) (argL m c) (argD m c) (bOf t) h) (be (argA m c) (bOf t) h) (t.val % 16 * 256) h where
  onG r := (tile_G m c t r h).trans (g_eq F _ _ _)
  onB r := (tile_B m c t r h).trans (be_eq _ _ _ _)
  onQ r d := (congrArg (unitQ · d) (funext fun e => tile_Y m c t r _)).trans (q_eq _ _ (bOf t) h _ d)
  onK r d := (congrArg (unitK · d) (funext fun e => tile_Y m c t r _)).trans (k_eq _ _ (bOf t) h _ d)
  onV r d := (tile_Y m c t r _).trans (v_eq F (bOf t) h _ d)

/-- A point: the block and the states it leaves, from zero states at the first tile, else from those the point before left. -/
theorem point (t : Fin cfg0.N) : ∃ S : FVec Ideal S4x128x128 .f32,
    (∀ (r : Fin 256) (l : Fin 512), (outsAt0 m c t.val t.isLt).1 (ix3 0 r l) = block (tile m c t) S r l)
      ∧ (outsAt0 m c t.val t.isLt).2 = states (tile m c t) S 4
      ∧ ((t.val % 16 = 0 ∧ S = k0_pay107 (F := Ideal))
        ∨ (¬ t.val % 16 = 0 ∧ S = (outsAt0 m c (t.val - 1) (Nat.lt_of_le_of_lt (Nat.sub_le _ _) t.isLt)).2)) := by
  by_cases h0 : t.val % 16 = 0
  · refine ⟨_, fun r l => ?_, ?_, Or.inl ⟨h0, rfl⟩⟩ <;> rw [outsAt0_A m c t h0]
    · exact out_A ..
    · exact state_A ..
  · refine ⟨_, fun r l => ?_, ?_, Or.inr ⟨h0, rfl⟩⟩ <;> rw [outsAt0_B m c t h0]
    · exact out_B ..
    · exact state_B ..

/-- The state starts at zero. -/
theorem pay107_apply (h : Fin 4) (d e : Fin 128) : k0_pay107 (F := Ideal) (ix3 h d e) = 0 := by
  unfold k0_pay107
  pointwise

/-- The states which a point starts from and those which it leaves. -/
theorem point_states (F : Finite (argP m c) (argA m c) (argC m c) (argL m c) (argD m c)) : ∀ (n : ℕ) (hn : n < cfg0.N) (h : Fin 4),
    ∃ S : FVec Ideal S4x128x128 .f32,
      (∀ (r : Fin 256) (l : Fin 512), (outsAt0 m c n hn).1 (ix3 0 r l) = block (tile m c ⟨n, hn⟩) S r l)
      ∧ (∀ d e, S (ix3 h d e)
          = ((stateAt (argP m c) (argA m c) (argC m c) (argL m c) (argD m c) (bOf ⟨n, hn⟩) h (n % 16 * 256) d e : ℝ) : EReal))
      ∧ (∀ d e, (outsAt0 m c n hn).2 (ix3 h d e)
          = ((stateAt (argP m c) (argA m c) (argC m c) (argL m c) (argD m c) (bOf ⟨n, hn⟩) h (n % 16 * 256 + 256) d e : ℝ) : EReal)) := by
  intro n
  induction n with
  | zero =>
    intro hn h
    obtain ⟨S, h1, h2, h3⟩ := point m c ⟨0, hn⟩
    have hS : ∀ d e, S (ix3 h d e)
        = ((stateAt (argP m c) (argA m c) (argC m c) (argL m c) (argD m c) (bOf ⟨0, hn⟩) h (0 % 16 * 256) d e : ℝ) : EReal) := by
      intro d e
      obtain ⟨-, rfl⟩ | ⟨hne, -⟩ := h3
      · exact pay107_apply h d e
      · exact absurd rfl hne
    exact ⟨S, h1, hS, fun d e => (congrFun h2 _).trans (states_eq (nums m c F ⟨0, hn⟩ h) hS 4 le_rfl d e)⟩
  | succ n ih =>
    intro hn h
    obtain ⟨S, h1, h2, h3⟩ := point m c ⟨n + 1, hn⟩
    have hS : ∀ d e, S (ix3 h d e)
        = ((stateAt (argP m c) (argA m c) (argC m c) (argL m c) (argD m c) (bOf ⟨n + 1, hn⟩) h ((n + 1) % 16 * 256) d e : ℝ) : EReal) := by
      intro d e
      obtain ⟨h0, rfl⟩ | ⟨hne, rfl⟩ := h3
      · have h0' : (n + 1) % 16 = 0 := h0
        rw [h0']
        exact pay107_apply h d e
      · obtain ⟨_, -, -, h4⟩ := ih (by omega) h
        have hne' : ¬ (n + 1) % 16 = 0 := hne
        have hb : bOf ⟨n + 1, hn⟩ = bOf ⟨n, by omega⟩ := Fin.ext (by show (n + 1) / 16 = n / 16; omega)
        have ho : (n + 1) % 16 * 256 = n % 16 * 256 + 256 := by omega
        rw [hb, ho]
        exact h4 d e
    exact ⟨S, h1, hS, fun d e => (congrFun h2 _).trans (states_eq (nums m c F ⟨n + 1, hn⟩ h) hS 4 le_rfl d e)⟩

/-- The result of the run, as a function of the arguments. -/
abbrev final : FVec Ideal S8x4096x512 .bf16 := result (argP m c) (argA m c) (argC m c) (argL m c) (argD m c) (argN m c)

/-- What a point leaves in its output block. -/
theorem out_apply (F : Finite (argP m c) (argA m c) (argC m c) (argL m c) (argD m c)) (t : Fin cfg0.N) (r : Fin 256) (l : Fin 512) :
    (outsAt0 m c t.val t.isLt).1 (ix3 0 r l) = final m c (ix3 (bOf t) (sOf t r) l) := by
  obtain ⟨h, e, rfl⟩ : ∃ (h : Fin 4) (e : Fin 128), l = ⟨128 * h.val + e.val, by omega⟩ :=
    ⟨⟨l.val / 128, by omega⟩, ⟨l.val % 128, by omega⟩, Fin.ext (by show l.val = 128 * (l.val / 128) + l.val % 128; omega)⟩
  obtain ⟨S, h1, hS, -⟩ := point_states m c F t.val t.isLt h
  have hh : (⟨(128 * h.val + e.val) / 128, by omega⟩ : Fin 4) = h := Fin.ext (by show (128 * h.val + e.val) / 128 = h.val; omega)
  have he : (⟨(128 * h.val + e.val) % 128, by omega⟩ : Fin 128) = e := Fin.ext (by show (128 * h.val + e.val) % 128 = e.val; omega)
  have hz : (⟨1536 + (128 * h.val + e.val), by omega⟩ : Fin 8192) = ⟨1536 + 128 * h.val + e.val, by omega⟩ := Fin.ext (by simp only []; omega)
  show _ = resultAt _ _ _ _ _ _ (bOf t) (sOf t r) ⟨(128 * h.val + e.val) / 128, _⟩ ⟨(128 * h.val + e.val) % 128, _⟩
  rw [hh, he, h1, block_eq (nums m c F t h) hS r e, tile_W, tile_Z, hz]
  rfl

/-- Where a point's output block lies. -/
theorem emb8 (t : Fin cfg0.N) (r : Fin 256) (d : Fin 512) :
    ((cfg0.win 8).blk t).view.emb (ix3 0 r d) = (ix3 (bOf t) (sOf t r) d : S8x4096x512.Idx) := by
  obtain ⟨-, -, -, -, ⟨e0, e1, e2⟩, -⟩ := idx t
  funext a; apply Fin.ext
  match a with
  | ⟨0, _⟩ => show win0_8.index t (0 : Fin 3) * 1 + 1 * 0 = t.val / 16; omega
  | ⟨1, _⟩ => show win0_8.index t (1 : Fin 3) * 256 + 1 * r.val = t.val % 16 * 256 + r.val; omega
  | ⟨2, _⟩ => show win0_8.index t (2 : Fin 3) * 512 + 1 * d.val = d.val; omega

/-- What a point writes back is its block of the result. -/
theorem flushed_eq (F : Finite (argP m c) (argA m c) (argC m c) (argL m c) (argD m c)) (t : Fin cfg0.N) :
    (dats m 0 c).flushed 8 t = ((cfg0.win 8).blk t).view.read (Elt Ideal) (final m c) := by
  show (cfg0.win 8).cut (grid0.coords t) ((dats m 0 c).after 8 t) = _
  rw [after0_8]
  funext j
  obtain ⟨z, r, d, rfl⟩ : ∃ (z : Fin 1) (r : Fin 256) (d : Fin 512), j = ix3 z r d := ⟨j 0, j 1, j 2, eq_ix3 j⟩
  obtain rfl : z = 0 := Subsingleton.elim _ _
  show (outsAt0 m c t.val t.isLt).1 (ix3 0 r d) = final m c (((cfg0.win 8).blk t).view.emb (ix3 0 r d))
  rw [emb8, out_apply m c F]

/-- Every index of the result is in some point's block. -/
theorem covered (i : S8x4096x512.Idx) : ∃ t : Fin cfg0.N, (cfg0.win 8).flush t = true ∧ i ∈ ((cfg0.win 8).blk t).view.set := by
  obtain ⟨b, s, d, rfl⟩ : ∃ (b : Fin 8) (s : Fin 4096) (d : Fin 512), i = ix3 b s d := ⟨i 0, i 1, i 2, eq_ix3 i⟩
  have hN : cfg0.N = 128 := N_0
  have hlt : b.val * 16 + s.val / 256 < cfg0.N := by omega
  refine ⟨⟨b.val * 16 + s.val / 256, hlt⟩, flush0_8 _, ?_⟩
  have h := ((cfg0.win 8).blk ⟨b.val * 16 + s.val / 256, hlt⟩).view.emb_mem_set (ix3 0 (⟨s.val % 256, by omega⟩ : Fin 256) d)
  rw [emb8] at h
  have he : (ix3 b s d : S8x4096x512.Idx)
      = ix3 (bOf ⟨b.val * 16 + s.val / 256, hlt⟩) (sOf ⟨b.val * 16 + s.val / 256, hlt⟩ ⟨s.val % 256, by omega⟩) d := by
    unfold bOf sOf
    congr 1 <;> apply Fin.ext <;> dsimp only <;> omega
  rw [he]
  exact h

/-- The result array after the run. -/
theorem final_eq (F : Finite (argP m c) (argA m c) (argC m c) (argL m c) (argD m c)) : (dats m 0 c).arrAt 8 cfg0.N = final m c :=
  (dats m 0 c).arrAt_eq_of_cover 8 (final m c) (fun t _ => flushed_eq m c F t) covered

/-- The run with the result array at its function of the arguments, and the arguments unchanged. -/
theorem run (F : ∀ c : Dev nD, Finite (argP m c) (argA m c) (argC m c) (argL m c) (argD m c)) :
    θ_run defs (onTc (τ := τ) (Cert.GdnIdeal.main (F := Ideal))) ⟨m, fun _ => 0, ρ⟩ fun r => ∀ c : Dev nD,
      r.2.mem ((c : Thread nD τ).loc main_v5) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).1 8).trans (final_eq m c (F c)),
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.Proof.GdnRun

end
-- ==== Proof.GdnRefRun.lean ====
/-
The run of the gated DeltaNet reference in terms of the step of its scan (`Gen/RefGdnIdeal/Step.lean`), taken over from the
generated text: every value of one trip is the step's, what precedes the loop is the initial state, and the results are read off
state number 4096 of any sequence that starts there and goes on by `step`.
-/
module

public import proofs.«01_k».proof.Proof.Gen.RefGdnIdeal.Run
public import proofs.«01_k».proof.Proof.Gen.RefGdnIdeal.Step

@[expose] public section

noncomputable section

namespace Cert.Proof.GdnRefRun

open Idealize.ShloMosaic Idealize.ShloMosaic.TcCoe Idealize.SL.Sem Idealize.ShloMosaic.StableHlo
open Cert.RefGdnIdeal Cert.RefGdnIdeal.Gen Cert.RefGdnIdeal.Value
open Cert.RefGdnIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v75_7) = s.main_v75_7
  f_8 : V0 (Proc.devRef .tc main_v75_8) = s.main_v75_8
  f_1 : V0 (Proc.devRef .tc main_v75_1) = s.main_v75_1
  f_2 : V0 (Proc.devRef .tc main_v75_2) = s.main_v75_2
  f_3 : V0 (Proc.devRef .tc main_v75_3) = s.main_v75_3
  f_4 : V0 (Proc.devRef .tc main_v75_4) = s.main_v75_4
  f_5 : V0 (Proc.devRef .tc main_v75_5) = s.main_v75_5
  n_6 : V0 (Proc.devRef .tc main_v75_6) = constantI S_ 32 (BitVec.ofNat 32 j)
  k_0 : V0 (Proc.devRef .tc main_v75_0) = Cert.RefGdnIdeal.Step.K_main_v73 (F := F)

variable {V0 s j}

set_option maxRecDepth 8192 in
/-- What operation 0 of a trip leaves is `step`'s value 0. -/
theorem al_0 (h : Holds V0 s j) : (Host.dynamicSlice S1 (V0 (Proc.devRef .tc main_v75_0)) (fun k => (((![V0 (Proc.devRef .tc main_v75_6)] : Fin 1 → (⟨S_, .i32⟩ : BufTy).Contents (Elt F))) k (Shape.Idx.first h_S_)).toInt) sliceFits_S4096_S1 : (Proc.devRef .tc main_while0b_call3_v0 : DevRef τ sig).ty.Contents (Elt F)) = Cert.RefGdnIdeal.Step.b0 j s := by
  unfold Cert.RefGdnIdeal.Step.b0
  rw [h.k_0, h.n_6]
  try rfl
set_option maxRecDepth 8192 in
/-- What operation 1 of a trip leaves is `step`'s value 1. -/
theorem al_1 (h : Holds V0 s j) : (res_main_while0b_v97 V0 : (Proc.devRef .tc main_while0b_v97 : DevRef τ sig).ty.Contents (Elt F)) = Cert.RefGdnIdeal.Step.b1 j s := by
  unfold res_main_while0b_v97 Cert.RefGdnIdeal.Step.b1
  rw [← al_0 h]
  try rfl
set_option maxRecDepth 8192 in
/-- What operation 2 of a trip leaves is `step`'s value 2. -/
theorem al_2 (h : Holds V0 s j) : (constantI S_ 32 0#32 : (Proc.devRef .tc main_while0b_call4_c : DevRef τ sig).ty.Contents (Elt F)) = Cert.RefGdnIdeal.Step.b2 j s := by
  unfold Cert.RefGdnIdeal.Step.b2
  rfl
set_option maxRecDepth 8192 in
/-- What operation 3 of a trip leaves is `step`'s value 3. -/
theorem al_3 (h : Holds V0 s j) : (cmpi .slt (res_main_while0b_v97 V0) (constantI S_ 32 0#32) : (Proc.devRef .tc main_while0b_call4_v0 : DevRef τ sig).ty.Contents (Elt F)) = Cert.RefGdnIdeal.Step.b3 j s := by
  unfold Cert.RefGdnIdeal.Step.b3
  rw [← al_1 h, ← al_2 h]
  try rfl
set_option maxRecDepth 8192 in
/-- What operation 4 of a trip leaves is `step`'s value 4. -/
theorem al_4 (h : Holds V0 s j) : (constantI S_ 32 4096#32 : (Proc.devRef .tc main_while0b_call4_c_0 : DevRef τ sig).ty.Contents (Elt F)) = Cert.RefGdnIdeal.Step.b4 j s := by
  unfold Cert.RefGdnIdeal.Step.b4
  rfl
set_option maxRecDepth 8192 in
/-- What operation 5 of a trip leaves is `step`'s value 5. -/
theorem al_5 (h : Holds V0 s j) : (addi (res_main_while0b_v97 V0) (constantI S_ 32 4096#32) : (Proc.devRef .tc main_while0b_call4_v1 : DevRef τ sig).ty.Contents (Elt F)) = Cert.RefGdnIdeal.Step.b5 j s := by
  unfold Cert.RefGdnIdeal.Step.b5
  rw [← al_1 h, ← al_4 h]
  try rfl
set_option maxRecDepth 8192 in
/-- What operation 6 of a trip leaves is `step`'s value 6. -/
theorem al_6 (h : Holds V0 s j) : (select (cmpi .slt (res_main_while0b_v97 V0) (constantI S_ 32 0#32)) (addi (res_main_while0b_v97 V0) (constantI S_ 32 4096#32)) (res_main_while0b_v97 V0) : (Proc.devRef .tc main_while0b_call4_v2 : DevRef τ sig).ty.Contents (Elt F)) = Cert.RefGdnIdeal.Step.b6 j s := by
  unfold Cert.RefGdnIdeal.Step.b6
  rw [← al_3 h, ← al_5 h, ← al_1 h]
  try rfl
set_option maxRecDepth 8192 in
/-- What operation 7 of a trip leaves is `step`'s value 7. -/
theorem al_7 (h : Holds V0 s j) : (constantI S_ 32 0#32 : (Proc.devRef .tc main_while0b_call4_c_1 : DevRef τ sig).ty.Contents (Elt F)) = Cert.RefGdnIdeal.Step.b7 j s := by
  unfold Cert.RefGdnIdeal.Step.b7
  rfl
set_option maxRecDepth 8192 in
/-- What operation 8 of a trip leaves is `step`'s value 8. -/
theorem al_8 (h : Holds V0 s j) : (constantI S_ 32 0#32 : (Proc.devRef .tc main_while0b_call4_c_2 : DevRef τ sig).ty.Contents (Elt F)) = Cert.RefGdnIdeal.Step.b8 j s := by
  unfold Cert.RefGdnIdeal.Step.b8
  rfl
set_option maxRecDepth 8192 in
/-- What operation 9 of a trip leaves is `step`'s value 9. -/
theorem al_9 (h : Holds V0 s j) : (constantI S_ 32 0#32 : (Proc.devRef .tc main_while0b_call4_c_3 : DevRef τ sig).ty.Contents (Elt F)) = Cert.RefGdnIdeal.Step.b9 j s := by
  unfold Cert.RefGdnIdeal.Step.b9
  rfl
set_option maxRecDepth 8192 in
/-- What operation 10 of a trip leaves is `step`'s value 10. -/
theorem al_10 (h : Holds V0 s j) : (Host.dynamicSlice S8x1x4x128 (V0 (Proc.devRef .tc main_v75_1)) (fun k => (((![constantI S_ 32 0#32, select (cmpi .slt (res_main_while0b_v97 V0) (constantI S_ 32 0#32)) (addi (res_main_while0b_v97 V0) (constantI S_ 32 4096#32)) (res_main_while0b_v97 V0), constantI S_ 32 0#32, constantI S_ 32 0#32] : Fin 4 → (⟨S_, .i32⟩ : BufTy).Contents (Elt F))) k (Shape.Idx.first h_S_)).toInt) sliceFits_S8x4096x4x128_S8x1x4x128 : (Proc.devRef .tc main_while0b_call4_v3 : DevRef τ sig).ty.Contents (Elt F)) = Cert.RefGdnIdeal.Step.b10 j s := by
  unfold Cert.RefGdnIdeal.Step.b10
  rw [← al_7 h, ← al_6 h, ← al_8 h, ← al_9 h, h.f_1]
  try rfl
set_option maxRecDepth 8192 in
/-- What operation 11 of a trip leaves is `step`'s value 11. -/
theorem al_11 (h : Holds V0 s j) : (shapeCast S8x4x128 (Host.dynamicSlice S8x1x4x128 (V0 (Proc.devRef .tc main_v75_1)) (fun k => (((![constantI S_ 32 0#32, select (cmpi .slt (res_main_while0b_v97 V0) (constantI S_ 32 0#32)) (addi (res_main_while0b_v97 V0) (constantI S_ 32 4096#32)) (res_main_while0b_v97 V0), constantI S_ 32 0#32, constantI S_ 32 0#32] : Fin 4 → (⟨S_, .i32⟩ : BufTy).Contents (Elt F))) k (Shape.Idx.first h_S_)).toInt) sliceFits_S8x4096x4x128_S8x1x4x128) shapeCasts_S8x1x4x128_S8x4x128 : (Proc.devRef .tc main_while0b_v98 : DevRef τ sig).ty.Contents (Elt F)) = Cert.RefGdnIdeal.Step.b11 j s := by
  unfold Cert.RefGdnIdeal.Step.b11
  rw [← al_10 h]
  try rfl
set_option maxRecDepth 8192 in
/-- What operation 12 of a trip leaves is `step`'s value 12. -/
theorem al_12 (h : Holds V0 s j) : (constantI S_ 32 0#32 : (Proc.devRef .tc main_while0b_call5_c : DevRef τ sig).ty.Contents (Elt F)) = Cert.RefGdnIdeal.Step.b12 j s := by
  unfold Cert.RefGdnIdeal.Step.b12
  rfl
set_option maxRecDepth 8192 in
/-- What operation 13 of a trip leaves is `step`'s value 13. -/
theorem al_13 (h : Holds V0 s j) : (cmpi .slt (res_main_while0b_v97 V0) (constantI S_ 32 0#32) : (Proc.devRef .tc main_while0b_call5_v0 : DevRef τ sig).ty.Contents (Elt F)) = Cert.RefGdnIdeal.Step.b13 j s := by
  unfold Cert.RefGdnIdeal.Step.b13
  rw [← al_1 h, ← al_12 h]
  try rfl
set_option maxRecDepth 8192 in
/-- What operation 14 of a trip leaves is `step`'s value 14. -/
theorem al_14 (h : Holds V0 s j) : (constantI S_ 32 4096#32 : (Proc.devRef .tc main_while0b_call5_c_0 : DevRef τ sig).ty.Contents (Elt F)) = Cert.RefGdnIdeal.Step.b14 j s := by
  unfold Cert.RefGdnIdeal.Step.b14
  rfl
set_option maxRecDepth 8192 in
/-- What operation 15 of a trip leaves is `step`'s value 15. -/
theorem al_15 (h : Holds V0 s j) : (addi (res_main_while0b_v97 V0) (constantI S_ 32 4096#32) : (Proc.devRef .tc main_while0b_call5_v1 : DevRef τ sig).ty.Contents (Elt F)) = Cert.RefGdnIdeal.Step.b15 j s := by
  unfold Cert.RefGdnIdeal.Step.b15
  rw [← al_1 h, ← al_14 h]
  try rfl
set_option maxRecDepth 8192 in
/-- What operation 16 of a trip leaves is `step`'s value 16. -/
theorem al_16 (h : Holds V0 s j) : (select (cmpi .slt (res_main_while0b_v97 V0) (constantI S_ 32 0#32)) (addi (res_main_while0b_v97 V0) (constantI S_ 32 4096#32)) (res_main_while0b_v97 V0) : (Proc.devRef .tc main_while0b_call5_v2 : DevRef τ sig).ty.Contents (Elt F)) = Cert.RefGdnIdeal.Step.b16 j s := by
  unfold Cert.RefGdnIdeal.Step.b16
  rw [← al_13 h, ← al_15 h, ← al_1 h]
  try rfl
set_option maxRecDepth 8192 in
/-- What operation 17 of a trip leaves is `step`'s value 17. -/
theorem al_17 (h : Holds V0 s j) : (constantI S_ 32 0#32 : (Proc.devRef .tc main_while0b_call5_c_1 : DevRef τ sig).ty.Contents (Elt F)) = Cert.RefGdnIdeal.Step.b17 j s := by
  unfold Cert.RefGdnIdeal.Step.b17
  rfl
set_option maxRecDepth 8192 in
/-- What operation 18 of a trip leaves is `step`'s value 18. -/
theorem al_18 (h : Holds V0 s j) : (constantI S_ 32 0#32 : (Proc.devRef .tc main_while0b_call5_c_2 : DevRef τ sig).ty.Contents (Elt F)) = Cert.RefGdnIdeal.Step.b18 j s := by
  unfold Cert.RefGdnIdeal.Step.b18
  rfl
set_option maxRecDepth 8192 in
/-- What operation 19 of a trip leaves is `step`'s value 19. -/
theorem al_19 (h : Holds V0 s j) : (constantI S_ 32 0#32 : (Proc.devRef .tc main_while0b_call5_c_3 : DevRef τ sig).ty.Contents (Elt F)) = Cert.RefGdnIdeal.Step.b19 j s := by
  unfold Cert.RefGdnIdeal.Step.b19
  rfl
set_option maxRecDepth 8192 in
/-- What operation 20 of a trip leaves is `step`'s value 20. -/
theorem al_20 (h : Holds V0 s j) : (Host.dynamicSlice S8x1x4x128 (V0 (Proc.devRef .tc main_v75_2)) (fun k => (((![constantI S_ 32 0#32, select (cmpi .slt (res_main_while0b_v97 V0) (constantI S_ 32 0#32)) (addi (res_main_while0b_v97 V0) (constantI S_ 32 4096#32)) (res_main_while0b_v97 V0), constantI S_ 32 0#32, constantI S_ 32 0#32] : Fin 4 → (⟨S_, .i32⟩ : BufTy).Contents (Elt F))) k (Shape.Idx.first h_S_)).toInt) sliceFits_S8x4096x4x128_S8x1x4x128 : (Proc.devRef .tc main_while0b_call5_v3 : DevRef τ sig).ty.Contents (Elt F)) = Cert.RefGdnIdeal.Step.b20 j s := by
  unfold Cert.RefGdnIdeal.Step.b20
  rw [← al_17 h, ← al_16 h, ← al_18 h, ← al_19 h, h.f_2]
  try rfl
set_option maxRecDepth 8192 in
/-- What operation 21 of a trip leaves is `step`'s value 21. -/
theorem al_21 (h : Holds V0 s j) : (res_main_while0b_v99 V0 : (Proc.devRef .tc main_while0b_v99 : DevRef τ sig).ty.Contents (Elt F)) = Cert.RefGdnIdeal.Step.b21 j s := by
  unfold res_main_while0b_v99 Cert.RefGdnIdeal.Step.b21
  rw [← al_20 h]
  try rfl
set_option maxRecDepth 8192 in
/-- What operation 22 of a trip leaves is `step`'s value 22. -/
theorem al_22 (h : Holds V0 s j) : (constantI S_ 32 0#32 : (Proc.devRef .tc main_while0b_call6_c : DevRef τ sig).ty.Contents (Elt F)) = Cert.RefGdnIdeal.Step.b22 j s := by
  unfold Cert.RefGdnIdeal.Step.b22
  rfl
set_option maxRecDepth 8192 in
/-- What operation 23 of a trip leaves is `step`'s value 23. -/
theorem al_23 (h : Holds V0 s j) : (cmpi .slt (res_main_while0b_v97 V0) (constantI S_ 32 0#32) : (Proc.devRef .tc main_while0b_call6_v0 : DevRef τ sig).ty.Contents (Elt F)) = Cert.RefGdnIdeal.Step.b23 j s := by
  unfold Cert.RefGdnIdeal.Step.b23
  rw [← al_1 h, ← al_22 h]
  try rfl
set_option maxRecDepth 8192 in
/-- What operation 24 of a trip leaves is `step`'s value 24. -/
theorem al_24 (h : Holds V0 s j) : (constantI S_ 32 4096#32 : (Proc.devRef .tc main_while0b_call6_c_0 : DevRef τ sig).ty.Contents (Elt F)) = Cert.RefGdnIdeal.Step.b24 j s := by
  unfold Cert.RefGdnIdeal.Step.b24
  rfl
set_option maxRecDepth 8192 in
/-- What operation 25 of a trip leaves is `step`'s value 25. -/
theorem al_25 (h : Holds V0 s j) : (addi (res_main_while0b_v97 V0) (constantI S_ 32 4096#32) : (Proc.devRef .tc main_while0b_call6_v1 : DevRef τ sig).ty.Contents (Elt F)) = Cert.RefGdnIdeal.Step.b25 j s := by
  unfold Cert.RefGdnIdeal.Step.b25
  rw [← al_1 h, ← al_24 h]
  try rfl
set_option maxRecDepth 8192 in
/-- What operation 26 of a trip leaves is `step`'s value 26. -/
theorem al_26 (h : Holds V0 s j) : (select (cmpi .slt (res_main_while0b_v97 V0) (constantI S_ 32 0#32)) (addi (res_main_while0b_v97 V0) (constantI S_ 32 4096#32)) (res_main_while0b_v97 V0) : (Proc.devRef .tc main_while0b_call6_v2 : DevRef τ sig).ty.Contents (Elt F)) = Cert.RefGdnIdeal.Step.b26 j s := by
  unfold Cert.RefGdnIdeal.Step.b26
  rw [← al_23 h, ← al_25 h, ← al_1 h]
  try rfl
set_option maxRecDepth 8192 in
/-- What operation 27 of a trip leaves is `step`'s value 27. -/
theorem al_27 (h : Holds V0 s j) : (constantI S_ 32 0#32 : (Proc.devRef .tc main_while0b_call6_c_1 : DevRef τ sig).ty.Contents (Elt F)) = Cert.RefGdnIdeal.Step.b27 j s := by
  unfold Cert.RefGdnIdeal.Step.b27
  rfl
set_option maxRecDepth 8192 in
/-- What operation 28 of a trip leaves is `step`'s value 28. -/
theorem al_28 (h : Holds V0 s j) : (constantI S_ 32 0#32 : (Proc.devRef .tc main_while0b_call6_c_2 : DevRef τ sig).ty.Contents (Elt F)) = Cert.RefGdnIdeal.Step.b28 j s := by
  unfold Cert.RefGdnIdeal.Step.b28
  rfl
set_option maxRecDepth 8192 in
/-- What operation 29 of a trip leaves is `step`'s value 29. -/
theorem al_29 (h : Holds V0 s j) : (constantI S_ 32 0#32 : (Proc.devRef .tc main_while0b_call6_c_3 : DevRef τ sig).ty.Contents (Elt F)) = Cert.RefGdnIdeal.Step.b29 j s := by
  unfold Cert.RefGdnIdeal.Step.b29
  rfl
set_option maxRecDepth 8192 in
/-- What operation 30 of a trip leaves is `step`'s value 30. -/
theorem al_30 (h : Holds V0 s j) : (Host.dynamicSlice S8x1x4x128 (V0 (Proc.devRef .tc main_v75_3)) (fun k => (((![constantI S_ 32 0#32, select (cmpi .slt (res_main_while0b_v97 V0) (constantI S_ 32 0#32)) (addi (res_main_while0b_v97 V0) (constantI S_ 32 4096#32)) (res_main_while0b_v97 V0), constantI S_ 32 0#32, constantI S_ 32 0#32] : Fin 4 → (⟨S_, .i32⟩ : BufTy).Contents (Elt F))) k (Shape.Idx.first h_S_)).toInt) sliceFits_S8x4096x4x128_S8x1x4x128 : (Proc.devRef .tc main_while0b_call6_v3 : DevRef τ sig).ty.Contents (Elt F)) = Cert.RefGdnIdeal.Step.b30 j s := by
  unfold Cert.RefGdnIdeal.Step.b30
  rw [← al_27 h, ← al_26 h, ← al_28 h, ← al_29 h, h.f_3]
  try rfl
set_option maxRecDepth 8192 in
/-- What operation 31 of a trip leaves is `step`'s value 31. -/
theorem al_31 (h : Holds V0 s j) : (shapeCast S8x4x128 (Host.dynamicSlice S8x1x4x128 (V0 (Proc.devRef .tc main_v75_3)) (fun k => (((![constantI S_ 32 0#32, select (cmpi .slt (res_main_while0b_v97 V0) (constantI S_ 32 0#32)) (addi (res_main_while0b_v97 V0) (constantI S_ 32 4096#32)) (res_main_while0b_v97 V0), constantI S_ 32 0#32, constantI S_ 32 0#32] : Fin 4 → (⟨S_, .i32⟩ : BufTy).Contents (Elt F))) k (Shape.Idx.first h_S_)).toInt) sliceFits_S8x4096x4x128_S8x1x4x128) shapeCasts_S8x1x4x128_S8x4x128 : (Proc.devRef .tc main_while0b_v100 : DevRef τ sig).ty.Contents (Elt F)) = Cert.RefGdnIdeal.Step.b31 j s := by
  unfold Cert.RefGdnIdeal.Step.b31
  rw [← al_30 h]
  try rfl
set_option maxRecDepth 8192 in
/-- What operation 32 of a trip leaves is `step`'s value 32. -/
theorem al_32 (h : Holds V0 s j) : (constantI S_ 32 0#32 : (Proc.devRef .tc main_while0b_call7_c : DevRef τ sig).ty.Contents (Elt F)) = Cert.RefGdnIdeal.Step.b32 j s := by
  unfold Cert.RefGdnIdeal.Step.b32
  rfl
set_option maxRecDepth 8192 in
/-- What operation 33 of a trip leaves is `step`'s value 33. -/
theorem al_33 (h : Holds V0 s j) : (cmpi .slt (res_main_while0b_v97 V0) (constantI S_ 32 0#32) : (Proc.devRef .tc main_while0b_call7_v0 : DevRef τ sig).ty.Contents (Elt F)) = Cert.RefGdnIdeal.Step.b33 j s := by
  unfold Cert.RefGdnIdeal.Step.b33
  rw [← al_1 h, ← al_32 h]
  try rfl
set_option maxRecDepth 8192 in
/-- What operation 34 of a trip leaves is `step`'s value 34. -/
theorem al_34 (h : Holds V0 s j) : (constantI S_ 32 4096#32 : (Proc.devRef .tc main_while0b_call7_c_0 : DevRef τ sig).ty.Contents (Elt F)) = Cert.RefGdnIdeal.Step.b34 j s := by
  unfold Cert.RefGdnIdeal.Step.b34
  rfl
set_option maxRecDepth 8192 in
/-- What operation 35 of a trip leaves is `step`'s value 35. -/
theorem al_35 (h : Holds V0 s j) : (addi (res_main_while0b_v97 V0) (constantI S_ 32 4096#32) : (Proc.devRef .tc main_while0b_call7_v1 : DevRef τ sig).ty.Contents (Elt F)) = Cert.RefGdnIdeal.Step.b35 j s := by
  unfold Cert.RefGdnIdeal.Step.b35
  rw [← al_1 h, ← al_34 h]
  try rfl
set_option maxRecDepth 8192 in
/-- What operation 36 of a trip leaves is `step`'s value 36. -/
theorem al_36 (h : Holds V0 s j) : (select (cmpi .slt (res_main_while0b_v97 V0) (constantI S_ 32 0#32)) (addi (res_main_while0b_v97 V0) (constantI S_ 32 4096#32)) (res_main_while0b_v97 V0) : (Proc.devRef .tc main_while0b_call7_v2 : DevRef τ sig).ty.Contents (Elt F)) = Cert.RefGdnIdeal.Step.b36 j s := by
  unfold Cert.RefGdnIdeal.Step.b36
  rw [← al_33 h, ← al_35 h, ← al_1 h]
  try rfl
set_option maxRecDepth 8192 in
/-- What operation 37 of a trip leaves is `step`'s value 37. -/
theorem al_37 (h : Holds V0 s j) : (constantI S_ 32 0#32 : (Proc.devRef .tc main_while0b_call7_c_1 : DevRef τ sig).ty.Contents (Elt F)) = Cert.RefGdnIdeal.Step.b37 j s := by
  unfold Cert.RefGdnIdeal.Step.b37
  rfl
set_option maxRecDepth 8192 in
/-- What operation 38 of a trip leaves is `step`'s value 38. -/
theorem al_38 (h : Holds V0 s j) : (constantI S_ 32 0#32 : (Proc.devRef .tc main_while0b_call7_c_2 : DevRef τ sig).ty.Contents (Elt F)) = Cert.RefGdnIdeal.Step.b38 j s := by
  unfold Cert.RefGdnIdeal.Step.b38
  rfl
set_option maxRecDepth 8192 in
/-- What operation 39 of a trip leaves is `step`'s value 39. -/
theorem al_39 (h : Holds V0 s j) : (Host.dynamicSlice S8x1x4 (V0 (Proc.devRef .tc main_v75_4)) (fun k => (((![constantI S_ 32 0#32, select (cmpi .slt (res_main_while0b_v97 V0) (constantI S_ 32 0#32)) (addi (res_main_while0b_v97 V0) (constantI S_ 32 4096#32)) (res_main_while0b_v97 V0), constantI S_ 32 0#32] : Fin 3 → (⟨S_, .i32⟩ : BufTy).Contents (Elt F))) k (Shape.Idx.first h_S_)).toInt) sliceFits_S8x4096x4_S8x1x4 : (Proc.devRef .tc main_while0b_call7_v3 : DevRef τ sig).ty.Contents (Elt F)) = Cert.RefGdnIdeal.Step.b39 j s := by
  unfold Cert.RefGdnIdeal.Step.b39
  rw [← al_37 h, ← al_36 h, ← al_38 h, h.f_4]
  try rfl
set_option maxRecDepth 8192 in
/-- What operation 40 of a trip leaves is `step`'s value 40. -/
theorem al_40 (h : Holds V0 s j) : (shapeCast S8x4 (Host.dynamicSlice S8x1x4 (V0 (Proc.devRef .tc main_v75_4)) (fun k => (((![constantI S_ 32 0#32, select (cmpi .slt (res_main_while0b_v97 V0) (constantI S_ 32 0#32)) (addi (res_main_while0b_v97 V0) (constantI S_ 32 4096#32)) (res_main_while0b_v97 V0), constantI S_ 32 0#32] : Fin 3 → (⟨S_, .i32⟩ : BufTy).Contents (Elt F))) k (Shape.Idx.first h_S_)).toInt) sliceFits_S8x4096x4_S8x1x4) shapeCasts_S8x1x4_S8x4 : (Proc.devRef .tc main_while0b_v101 : DevRef τ sig).ty.Contents (Elt F)) = Cert.RefGdnIdeal.Step.b40 j s := by
  unfold Cert.RefGdnIdeal.Step.b40
  rw [← al_39 h]
  try rfl
set_option maxRecDepth 8192 in
/-- What operation 41 of a trip leaves is `step`'s value 41. -/
theorem al_41 (h : Holds V0 s j) : (constantI S_ 32 0#32 : (Proc.devRef .tc main_while0b_call8_c : DevRef τ sig).ty.Contents (Elt F)) = Cert.RefGdnIdeal.Step.b41 j s := by
  unfold Cert.RefGdnIdeal.Step.b41
  rfl
set_option maxRecDepth 8192 in
/-- What operation 42 of a trip leaves is `step`'s value 42. -/
theorem al_42 (h : Holds V0 s j) : (cmpi .slt (res_main_while0b_v97 V0) (constantI S_ 32 0#32) : (Proc.devRef .tc main_while0b_call8_v0 : DevRef τ sig).ty.Contents (Elt F)) = Cert.RefGdnIdeal.Step.b42 j s := by
  unfold Cert.RefGdnIdeal.Step.b42
  rw [← al_1 h, ← al_41 h]
  try rfl
set_option maxRecDepth 8192 in
/-- What operation 43 of a trip leaves is `step`'s value 43. -/
theorem al_43 (h : Holds V0 s j) : (constantI S_ 32 4096#32 : (Proc.devRef .tc main_while0b_call8_c_0 : DevRef τ sig).ty.Contents (Elt F)) = Cert.RefGdnIdeal.Step.b43 j s := by
  unfold Cert.RefGdnIdeal.Step.b43
  rfl
set_option maxRecDepth 8192 in
/-- What operation 44 of a trip leaves is `step`'s value 44. -/
theorem al_44 (h : Holds V0 s j) : (addi (res_main_while0b_v97 V0) (constantI S_ 32 4096#32) : (Proc.devRef .tc main_while0b_call8_v1 : DevRef τ sig).ty.Contents (Elt F)) = Cert.RefGdnIdeal.Step.b44 j s := by
  unfold Cert.RefGdnIdeal.Step.b44
  rw [← al_1 h, ← al_43 h]
  try rfl
set_option maxRecDepth 8192 in
/-- What operation 45 of a trip leaves is `step`'s value 45. -/
theorem al_45 (h : Holds V0 s j) : (select (cmpi .slt (res_main_while0b_v97 V0) (constantI S_ 32 0#32)) (addi (res_main_while0b_v97 V0) (constantI S_ 32 4096#32)) (res_main_while0b_v97 V0) : (Proc.devRef .tc main_while0b_call8_v2 : DevRef τ sig).ty.Contents (Elt F)) = Cert.RefGdnIdeal.Step.b45 j s := by
  unfold Cert.RefGdnIdeal.Step.b45
  rw [← al_42 h, ← al_44 h, ← al_1 h]
  try rfl
set_option maxRecDepth 8192 in
/-- What operation 46 of a trip leaves is `step`'s value 46. -/
theorem al_46 (h : Holds V0 s j) : (constantI S_ 32 0#32 : (Proc.devRef .tc main_while0b_call8_c_1 : DevRef τ sig).ty.Contents (Elt F)) = Cert.RefGdnIdeal.Step.b46 j s := by
  unfold Cert.RefGdnIdeal.Step.b46
  rfl
set_option maxRecDepth 8192 in
/-- What operation 47 of a trip leaves is `step`'s value 47. -/
theorem al_47 (h : Holds V0 s j) : (constantI S_ 32 0#32 : (Proc.devRef .tc main_while0b_call8_c_2 : DevRef τ sig).ty.Contents (Elt F)) = Cert.RefGdnIdeal.Step.b47 j s := by
  unfold Cert.RefGdnIdeal.Step.b47
  rfl
set_option maxRecDepth 8192 in
/-- What operation 48 of a trip leaves is `step`'s value 48. -/
theorem al_48 (h : Holds V0 s j) : (Host.dynamicSlice S8x1x4 (V0 (Proc.devRef .tc main_v75_5)) (fun k => (((![constantI S_ 32 0#32, select (cmpi .slt (res_main_while0b_v97 V0) (constantI S_ 32 0#32)) (addi (res_main_while0b_v97 V0) (constantI S_ 32 4096#32)) (res_main_while0b_v97 V0), constantI S_ 32 0#32] : Fin 3 → (⟨S_, .i32⟩ : BufTy).Contents (Elt F))) k (Shape.Idx.first h_S_)).toInt) sliceFits_S8x4096x4_S8x1x4 : (Proc.devRef .tc main_while0b_call8_v3 : DevRef τ sig).ty.Contents (Elt F)) = Cert.RefGdnIdeal.Step.b48 j s := by
  unfold Cert.RefGdnIdeal.Step.b48
  rw [← al_46 h, ← al_45 h, ← al_47 h, h.f_5]
  try rfl
set_option maxRecDepth 8192 in
/-- What operation 49 of a trip leaves is `step`'s value 49. -/
theorem al_49 (h : Holds V0 s j) : (shapeCast S8x4 (Host.dynamicSlice S8x1x4 (V0 (Proc.devRef .tc main_v75_5)) (fun k => (((![constantI S_ 32 0#32, select (cmpi .slt (res_main_while0b_v97 V0) (constantI S_ 32 0#32)) (addi (res_main_while0b_v97 V0) (constantI S_ 32 4096#32)) (res_main_while0b_v97 V0), constantI S_ 32 0#32] : Fin 3 → (⟨S_, .i32⟩ : BufTy).Contents (Elt F))) k (Shape.Idx.first h_S_)).toInt) sliceFits_S8x4096x4_S8x1x4) shapeCasts_S8x1x4_S8x4 : (Proc.devRef .tc main_while0b_v102 : DevRef τ sig).ty.Contents (Elt F)) = Cert.RefGdnIdeal.Step.b49 j s := by
  unfold Cert.RefGdnIdeal.Step.b49
  rw [← al_48 h]
  try rfl
set_option maxRecDepth 8192 in
/-- What operation 50 of a trip leaves is `step`'s value 50. -/
theorem al_50 (h : Holds V0 s j) : (Host.exp (shapeCast S8x4 (Host.dynamicSlice S8x1x4 (V0 (Proc.devRef .tc main_v75_4)) (fun k => (((![constantI S_ 32 0#32, select (cmpi .slt (res_main_while0b_v97 V0) (constantI S_ 32 0#32)) (addi (res_main_while0b_v97 V0) (constantI S_ 32 4096#32)) (res_main_while0b_v97 V0), constantI S_ 32 0#32] : Fin 3 → (⟨S_, .i32⟩ : BufTy).Contents (Elt F))) k (Shape.Idx.first h_S_)).toInt) sliceFits_S8x4096x4_S8x1x4) shapeCasts_S8x1x4_S8x4) : (Proc.devRef .tc main_while0b_v103 : DevRef τ sig).ty.Contents (Elt F)) = Cert.RefGdnIdeal.Step.b50 j s := by
  unfold Cert.RefGdnIdeal.Step.b50
  rw [← al_40 h]
  try rfl
set_option maxRecDepth 8192 in
/-- What operation 51 of a trip leaves is `step`'s value 51. -/
theorem al_51 (h : Holds V0 s j) : (broadcastInDim S8x4x1x1 ![0, 1] bcast_S8x4_S8x4x1x1_0_1 (Host.exp (shapeCast S8x4 (Host.dynamicSlice S8x1x4 (V0 (Proc.devRef .tc main_v75_4)) (fun k => (((![constantI S_ 32 0#32, select (cmpi .slt (res_main_while0b_v97 V0) (constantI S_ 32 0#32)) (addi (res_main_while0b_v97 V0) (constantI S_ 32 4096#32)) (res_main_while0b_v97 V0), constantI S_ 32 0#32] : Fin 3 → (⟨S_, .i32⟩ : BufTy).Contents (Elt F))) k (Shape.Idx.first h_S_)).toInt) sliceFits_S8x4096x4_S8x1x4) shapeCasts_S8x1x4_S8x4)) : (Proc.devRef .tc main_while0b_v104 : DevRef τ sig).ty.Contents (Elt F)) = Cert.RefGdnIdeal.Step.b51 j s := by
  unfold Cert.RefGdnIdeal.Step.b51
  rw [← al_50 h]
  try rfl
set_option maxRecDepth 8192 in
/-- What operation 52 of a trip leaves is `step`'s value 52. -/
theorem al_52 (h : Holds V0 s j) : (broadcastInDim S8x4x128x128 ![0, 1, 2, 3] bcast_S8x4x1x1_S8x4x128x128_0_1_2_3 (broadcastInDim S8x4x1x1 ![0, 1] bcast_S8x4_S8x4x1x1_0_1 (Host.exp (shapeCast S8x4 (Host.dynamicSlice S8x1x4 (V0 (Proc.devRef .tc main_v75_4)) (fun k => (((![constantI S_ 32 0#32, select (cmpi .slt (res_main_while0b_v97 V0) (constantI S_ 32 0#32)) (addi (res_main_while0b_v97 V0) (constantI S_ 32 4096#32)) (res_main_while0b_v97 V0), constantI S_ 32 0#32] : Fin 3 → (⟨S_, .i32⟩ : BufTy).Contents (Elt F))) k (Shape.Idx.first h_S_)).toInt) sliceFits_S8x4096x4_S8x1x4) shapeCasts_S8x1x4_S8x4))) : (Proc.devRef .tc main_while0b_v105 : DevRef τ sig).ty.Contents (Elt F)) = Cert.RefGdnIdeal.Step.b52 j s := by
  unfold Cert.RefGdnIdeal.Step.b52
  rw [← al_51 h]
  try rfl
set_option maxRecDepth 8192 in
/-- What operation 53 of a trip leaves is `step`'s value 53. -/
theorem al_53 (h : Holds V0 s j) : (res_main_while0b_v106 V0 : (Proc.devRef .tc main_while0b_v106 : DevRef τ sig).ty.Contents (Elt F)) = Cert.RefGdnIdeal.Step.b53 j s := by
  unfold res_main_while0b_v106 Cert.RefGdnIdeal.Step.b53
  rw [← al_52 h, h.f_7]
  try rfl
set_option maxRecDepth 8192 in
/-- What operation 54 of a trip leaves is `step`'s value 54. -/
theorem al_54 (h : Holds V0 s j) : (broadcastInDim S8x4x1 ![0, 1] bcast_S8x4_S8x4x1_0_1 (shapeCast S8x4 (Host.dynamicSlice S8x1x4 (V0 (Proc.devRef .tc main_v75_5)) (fun k => (((![constantI S_ 32 0#32, select (cmpi .slt (res_main_while0b_v97 V0) (constantI S_ 32 0#32)) (addi (res_main_while0b_v97 V0) (constantI S_ 32 4096#32)) (res_main_while0b_v97 V0), constantI S_ 32 0#32] : Fin 3 → (⟨S_, .i32⟩ : BufTy).Contents (Elt F))) k (Shape.Idx.first h_S_)).toInt) sliceFits_S8x4096x4_S8x1x4) shapeCasts_S8x1x4_S8x4) : (Proc.devRef .tc main_while0b_v107 : DevRef τ sig).ty.Contents (Elt F)) = Cert.RefGdnIdeal.Step.b54 j s := by
  unfold Cert.RefGdnIdeal.Step.b54
  rw [← al_49 h]
  try rfl
set_option maxRecDepth 8192 in
/-- What operation 55 of a trip leaves is `step`'s value 55. -/
theorem al_55 (h : Holds V0 s j) : (Host.dotGeneral dot_S8x4x128_S8x4x128x128_S8x4x128_2_2_n_3_01_01 none (res_main_while0b_v99 V0) (res_main_while0b_v106 V0) : (Proc.devRef .tc main_while0b_v108 : DevRef τ sig).ty.Contents (Elt F)) = Cert.RefGdnIdeal.Step.b55 j s := by
  unfold Cert.RefGdnIdeal.Step.b55
  rw [← al_21 h, ← al_53 h]
  try rfl
set_option maxRecDepth 8192 in
/-- What operation 56 of a trip leaves is `step`'s value 56. -/
theorem al_56 (h : Holds V0 s j) : (subf (shapeCast S8x4x128 (Host.dynamicSlice S8x1x4x128 (V0 (Proc.devRef .tc main_v75_3)) (fun k => (((![constantI S_ 32 0#32, select (cmpi .slt (res_main_while0b_v97 V0) (constantI S_ 32 0#32)) (addi (res_main_while0b_v97 V0) (constantI S_ 32 4096#32)) (res_main_while0b_v97 V0), constantI S_ 32 0#32, constantI S_ 32 0#32] : Fin 4 → (⟨S_, .i32⟩ : BufTy).Contents (Elt F))) k (Shape.Idx.first h_S_)).toInt) sliceFits_S8x4096x4x128_S8x1x4x128) shapeCasts_S8x1x4x128_S8x4x128) (Host.dotGeneral dot_S8x4x128_S8x4x128x128_S8x4x128_2_2_n_3_01_01 none (res_main_while0b_v99 V0) (res_main_while0b_v106 V0)) : (Proc.devRef .tc main_while0b_v109 : DevRef τ sig).ty.Contents (Elt F)) = Cert.RefGdnIdeal.Step.b56 j s := by
  unfold Cert.RefGdnIdeal.Step.b56
  rw [← al_31 h, ← al_55 h]
  try rfl
set_option maxRecDepth 8192 in
/-- What operation 57 of a trip leaves is `step`'s value 57. -/
theorem al_57 (h : Holds V0 s j) : (broadcastInDim S8x4x128 ![0, 1, 2] bcast_S8x4x1_S8x4x128_0_1_2 (broadcastInDim S8x4x1 ![0, 1] bcast_S8x4_S8x4x1_0_1 (shapeCast S8x4 (Host.dynamicSlice S8x1x4 (V0 (Proc.devRef .tc main_v75_5)) (fun k => (((![constantI S_ 32 0#32, select (cmpi .slt (res_main_while0b_v97 V0) (constantI S_ 32 0#32)) (addi (res_main_while0b_v97 V0) (constantI S_ 32 4096#32)) (res_main_while0b_v97 V0), constantI S_ 32 0#32] : Fin 3 → (⟨S_, .i32⟩ : BufTy).Contents (Elt F))) k (Shape.Idx.first h_S_)).toInt) sliceFits_S8x4096x4_S8x1x4) shapeCasts_S8x1x4_S8x4)) : (Proc.devRef .tc main_while0b_v110 : DevRef τ sig).ty.Contents (Elt F)) = Cert.RefGdnIdeal.Step.b57 j s := by
  unfold Cert.RefGdnIdeal.Step.b57
  rw [← al_54 h]
  try rfl
set_option maxRecDepth 8192 in
/-- What operation 58 of a trip leaves is `step`'s value 58. -/
theorem al_58 (h : Holds V0 s j) : (mulf (broadcastInDim S8x4x128 ![0, 1, 2] bcast_S8x4x1_S8x4x128_0_1_2 (broadcastInDim S8x4x1 ![0, 1] bcast_S8x4_S8x4x1_0_1 (shapeCast S8x4 (Host.dynamicSlice S8x1x4 (V0 (Proc.devRef .tc main_v75_5)) (fun k => (((![constantI S_ 32 0#32, select (cmpi .slt (res_main_while0b_v97 V0) (constantI S_ 32 0#32)) (addi (res_main_while0b_v97 V0) (constantI S_ 32 4096#32)) (res_main_while0b_v97 V0), constantI S_ 32 0#32] : Fin 3 → (⟨S_, .i32⟩ : BufTy).Contents (Elt F))) k (Shape.Idx.first h_S_)).toInt) sliceFits_S8x4096x4_S8x1x4) shapeCasts_S8x1x4_S8x4))) (subf (shapeCast S8x4x128 (Host.dynamicSlice S8x1x4x128 (V0 (Proc.devRef .tc main_v75_3)) (fun k => (((![constantI S_ 32 0#32, select (cmpi .slt (res_main_while0b_v97 V0) (constantI S_ 32 0#32)) (addi (res_main_while0b_v97 V0) (constantI S_ 32 4096#32)) (res_main_while0b_v97 V0), constantI S_ 32 0#32, constantI S_ 32 0#32] : Fin 4 → (⟨S_, .i32⟩ : BufTy).Contents (Elt F))) k (Shape.Idx.first h_S_)).toInt) sliceFits_S8x4096x4x128_S8x1x4x128) shapeCasts_S8x1x4x128_S8x4x128) (Host.dotGeneral dot_S8x4x128_S8x4x128x128_S8x4x128_2_2_n_3_01_01 none (res_main_while0b_v99 V0) (res_main_while0b_v106 V0))) : (Proc.devRef .tc main_while0b_v111 : DevRef τ sig).ty.Contents (Elt F)) = Cert.RefGdnIdeal.Step.b58 j s := by
  unfold Cert.RefGdnIdeal.Step.b58
  rw [← al_57 h, ← al_56 h]
  try rfl
set_option maxRecDepth 8192 in
/-- What operation 59 of a trip leaves is `step`'s value 59. -/
theorem al_59 (h : Holds V0 s j) : (broadcastInDim S8x4x128x1 ![0, 1, 2] bcast_S8x4x128_S8x4x128x1_0_1_2 (res_main_while0b_v99 V0) : (Proc.devRef .tc main_while0b_v112 : DevRef τ sig).ty.Contents (Elt F)) = Cert.RefGdnIdeal.Step.b59 j s := by
  unfold Cert.RefGdnIdeal.Step.b59
  rw [← al_21 h]
  try rfl
set_option maxRecDepth 8192 in
/-- What operation 60 of a trip leaves is `step`'s value 60. -/
theorem al_60 (h : Holds V0 s j) : (broadcastInDim S8x4x1x128 ![0, 1, 3] bcast_S8x4x128_S8x4x1x128_0_1_3 (mulf (broadcastInDim S8x4x128 ![0, 1, 2] bcast_S8x4x1_S8x4x128_0_1_2 (broadcastInDim S8x4x1 ![0, 1] bcast_S8x4_S8x4x1_0_1 (shapeCast S8x4 (Host.dynamicSlice S8x1x4 (V0 (Proc.devRef .tc main_v75_5)) (fun k => (((![constantI S_ 32 0#32, select (cmpi .slt (res_main_while0b_v97 V0) (constantI S_ 32 0#32)) (addi (res_main_while0b_v97 V0) (constantI S_ 32 4096#32)) (res_main_while0b_v97 V0), constantI S_ 32 0#32] : Fin 3 → (⟨S_, .i32⟩ : BufTy).Contents (Elt F))) k (Shape.Idx.first h_S_)).toInt) sliceFits_S8x4096x4_S8x1x4) shapeCasts_S8x1x4_S8x4))) (subf (shapeCast S8x4x128 (Host.dynamicSlice S8x1x4x128 (V0 (Proc.devRef .tc main_v75_3)) (fun k => (((![constantI S_ 32 0#32, select (cmpi .slt (res_main_while0b_v97 V0) (constantI S_ 32 0#32)) (addi (res_main_while0b_v97 V0) (constantI S_ 32 4096#32)) (res_main_while0b_v97 V0), constantI S_ 32 0#32, constantI S_ 32 0#32] : Fin 4 → (⟨S_, .i32⟩ : BufTy).Contents (Elt F))) k (Shape.Idx.first h_S_)).toInt) sliceFits_S8x4096x4x128_S8x1x4x128) shapeCasts_S8x1x4x128_S8x4x128) (Host.dotGeneral dot_S8x4x128_S8x4x128x128_S8x4x128_2_2_n_3_01_01 none (res_main_while0b_v99 V0) (res_main_while0b_v106 V0)))) : (Proc.devRef .tc main_while0b_v113 : DevRef τ sig).ty.Contents (Elt F)) = Cert.RefGdnIdeal.Step.b60 j s := by
  unfold Cert.RefGdnIdeal.Step.b60
  rw [← al_58 h]
  try rfl
set_option maxRecDepth 8192 in
/-- What operation 61 of a trip leaves is `step`'s value 61. -/
theorem al_61 (h : Holds V0 s j) : (broadcastInDim S8x4x128x128 ![0, 1, 2, 3] bcast_S8x4x128x1_S8x4x128x128_0_1_2_3 (broadcastInDim S8x4x128x1 ![0, 1, 2] bcast_S8x4x128_S8x4x128x1_0_1_2 (res_main_while0b_v99 V0)) : (Proc.devRef .tc main_while0b_v114 : DevRef τ sig).ty.Contents (Elt F)) = Cert.RefGdnIdeal.Step.b61 j s := by
  unfold Cert.RefGdnIdeal.Step.b61
  rw [← al_59 h]
  try rfl
set_option maxRecDepth 8192 in
/-- What operation 62 of a trip leaves is `step`'s value 62. -/
theorem al_62 (h : Holds V0 s j) : (broadcastInDim S8x4x128x128 ![0, 1, 2, 3] bcast_S8x4x1x128_S8x4x128x128_0_1_2_3 (broadcastInDim S8x4x1x128 ![0, 1, 3] bcast_S8x4x128_S8x4x1x128_0_1_3 (mulf (broadcastInDim S8x4x128 ![0, 1, 2] bcast_S8x4x1_S8x4x128_0_1_2 (broadcastInDim S8x4x1 ![0, 1] bcast_S8x4_S8x4x1_0_1 (shapeCast S8x4 (Host.dynamicSlice S8x1x4 (V0 (Proc.devRef .tc main_v75_5)) (fun k => (((![constantI S_ 32 0#32, select (cmpi .slt (res_main_while0b_v97 V0) (constantI S_ 32 0#32)) (addi (res_main_while0b_v97 V0) (constantI S_ 32 4096#32)) (res_main_while0b_v97 V0), constantI S_ 32 0#32] : Fin 3 → (⟨S_, .i32⟩ : BufTy).Contents (Elt F))) k (Shape.Idx.first h_S_)).toInt) sliceFits_S8x4096x4_S8x1x4) shapeCasts_S8x1x4_S8x4))) (subf (shapeCast S8x4x128 (Host.dynamicSlice S8x1x4x128 (V0 (Proc.devRef .tc main_v75_3)) (fun k => (((![constantI S_ 32 0#32, select (cmpi .slt (res_main_while0b_v97 V0) (constantI S_ 32 0#32)) (addi (res_main_while0b_v97 V0) (constantI S_ 32 4096#32)) (res_main_while0b_v97 V0), constantI S_ 32 0#32, constantI S_ 32 0#32] : Fin 4 → (⟨S_, .i32⟩ : BufTy).Contents (Elt F))) k (Shape.Idx.first h_S_)).toInt) sliceFits_S8x4096x4x128_S8x1x4x128) shapeCasts_S8x1x4x128_S8x4x128) (Host.dotGeneral dot_S8x4x128_S8x4x128x128_S8x4x128_2_2_n_3_01_01 none (res_main_while0b_v99 V0) (res_main_while0b_v106 V0))))) : (Proc.devRef .tc main_while0b_v115 : DevRef τ sig).ty.Contents (Elt F)) = Cert.RefGdnIdeal.Step.b62 j s := by
  unfold Cert.RefGdnIdeal.Step.b62
  rw [← al_60 h]
  try rfl
set_option maxRecDepth 8192 in
/-- What operation 63 of a trip leaves is `step`'s value 63. -/
theorem al_63 (h : Holds V0 s j) : (mulf (broadcastInDim S8x4x128x128 ![0, 1, 2, 3] bcast_S8x4x128x1_S8x4x128x128_0_1_2_3 (broadcastInDim S8x4x128x1 ![0, 1, 2] bcast_S8x4x128_S8x4x128x1_0_1_2 (res_main_while0b_v99 V0))) (broadcastInDim S8x4x128x128 ![0, 1, 2, 3] bcast_S8x4x1x128_S8x4x128x128_0_1_2_3 (broadcastInDim S8x4x1x128 ![0, 1, 3] bcast_S8x4x128_S8x4x1x128_0_1_3 (mulf (broadcastInDim S8x4x128 ![0, 1, 2] bcast_S8x4x1_S8x4x128_0_1_2 (broadcastInDim S8x4x1 ![0, 1] bcast_S8x4_S8x4x1_0_1 (shapeCast S8x4 (Host.dynamicSlice S8x1x4 (V0 (Proc.devRef .tc main_v75_5)) (fun k => (((![constantI S_ 32 0#32, select (cmpi .slt (res_main_while0b_v97 V0) (constantI S_ 32 0#32)) (addi (res_main_while0b_v97 V0) (constantI S_ 32 4096#32)) (res_main_while0b_v97 V0), constantI S_ 32 0#32] : Fin 3 → (⟨S_, .i32⟩ : BufTy).Contents (Elt F))) k (Shape.Idx.first h_S_)).toInt) sliceFits_S8x4096x4_S8x1x4) shapeCasts_S8x1x4_S8x4))) (subf (shapeCast S8x4x128 (Host.dynamicSlice S8x1x4x128 (V0 (Proc.devRef .tc main_v75_3)) (fun k => (((![constantI S_ 32 0#32, select (cmpi .slt (res_main_while0b_v97 V0) (constantI S_ 32 0#32)) (addi (res_main_while0b_v97 V0) (constantI S_ 32 4096#32)) (res_main_while0b_v97 V0), constantI S_ 32 0#32, constantI S_ 32 0#32] : Fin 4 → (⟨S_, .i32⟩ : BufTy).Contents (Elt F))) k (Shape.Idx.first h_S_)).toInt) sliceFits_S8x4096x4x128_S8x1x4x128) shapeCasts_S8x1x4x128_S8x4x128) (Host.dotGeneral dot_S8x4x128_S8x4x128x128_S8x4x128_2_2_n_3_01_01 none (res_main_while0b_v99 V0) (res_main_while0b_v106 V0)))))) : (Proc.devRef .tc main_while0b_v116 : DevRef τ sig).ty.Contents (Elt F)) = Cert.RefGdnIdeal.Step.b63 j s := by
  unfold Cert.RefGdnIdeal.Step.b63
  rw [← al_61 h, ← al_62 h]
  try rfl
set_option maxRecDepth 8192 in
/-- What operation 64 of a trip leaves is `step`'s value 64. -/
theorem al_64 (h : Holds V0 s j) : (res_main_while0b_v117 V0 : (Proc.devRef .tc main_while0b_v117 : DevRef τ sig).ty.Contents (Elt F)) = Cert.RefGdnIdeal.Step.b64 j s := by
  unfold res_main_while0b_v117 Cert.RefGdnIdeal.Step.b64
  rw [← al_53 h, ← al_63 h]
  try rfl
set_option maxRecDepth 8192 in
/-- What operation 65 of a trip leaves is `step`'s value 65. -/
theorem al_65 (h : Holds V0 s j) : (Host.dotGeneral dot_S8x4x128_S8x4x128x128_S8x4x128_2_2_n_3_01_01 none (shapeCast S8x4x128 (Host.dynamicSlice S8x1x4x128 (V0 (Proc.devRef .tc main_v75_1)) (fun k => (((![constantI S_ 32 0#32, select (cmpi .slt (res_main_while0b_v97 V0) (constantI S_ 32 0#32)) (addi (res_main_while0b_v97 V0) (constantI S_ 32 4096#32)) (res_main_while0b_v97 V0), constantI S_ 32 0#32, constantI S_ 32 0#32] : Fin 4 → (⟨S_, .i32⟩ : BufTy).Contents (Elt F))) k (Shape.Idx.first h_S_)).toInt) sliceFits_S8x4096x4x128_S8x1x4x128) shapeCasts_S8x1x4x128_S8x4x128) (res_main_while0b_v117 V0) : (Proc.devRef .tc main_while0b_v118 : DevRef τ sig).ty.Contents (Elt F)) = Cert.RefGdnIdeal.Step.b65 j s := by
  unfold Cert.RefGdnIdeal.Step.b65
  rw [← al_11 h, ← al_64 h]
  try rfl
set_option maxRecDepth 8192 in
/-- What operation 66 of a trip leaves is `step`'s value 66. -/
theorem al_66 (h : Holds V0 s j) : (broadcastInDim S1x8x4x128 ![1, 2, 3] bcast_S8x4x128_S1x8x4x128_1_2_3 (Host.dotGeneral dot_S8x4x128_S8x4x128x128_S8x4x128_2_2_n_3_01_01 none (shapeCast S8x4x128 (Host.dynamicSlice S8x1x4x128 (V0 (Proc.devRef .tc main_v75_1)) (fun k => (((![constantI S_ 32 0#32, select (cmpi .slt (res_main_while0b_v97 V0) (constantI S_ 32 0#32)) (addi (res_main_while0b_v97 V0) (constantI S_ 32 4096#32)) (res_main_while0b_v97 V0), constantI S_ 32 0#32, constantI S_ 32 0#32] : Fin 4 → (⟨S_, .i32⟩ : BufTy).Contents (Elt F))) k (Shape.Idx.first h_S_)).toInt) sliceFits_S8x4096x4x128_S8x1x4x128) shapeCasts_S8x1x4x128_S8x4x128) (res_main_while0b_v117 V0)) : (Proc.devRef .tc main_while0b_call9_v0 : DevRef τ sig).ty.Contents (Elt F)) = Cert.RefGdnIdeal.Step.b66 j s := by
  unfold Cert.RefGdnIdeal.Step.b66
  rw [← al_65 h]
  try rfl
set_option maxRecDepth 8192 in
/-- What operation 67 of a trip leaves is `step`'s value 67. -/
theorem al_67 (h : Holds V0 s j) : (constantI S_ 32 0#32 : (Proc.devRef .tc main_while0b_call9_c : DevRef τ sig).ty.Contents (Elt F)) = Cert.RefGdnIdeal.Step.b67 j s := by
  unfold Cert.RefGdnIdeal.Step.b67
  rfl
set_option maxRecDepth 8192 in
/-- What operation 68 of a trip leaves is `step`'s value 68. -/
theorem al_68 (h : Holds V0 s j) : (constantI S_ 32 0#32 : (Proc.devRef .tc main_while0b_call9_c_0 : DevRef τ sig).ty.Contents (Elt F)) = Cert.RefGdnIdeal.Step.b68 j s := by
  unfold Cert.RefGdnIdeal.Step.b68
  rfl
set_option maxRecDepth 8192 in
/-- What operation 69 of a trip leaves is `step`'s value 69. -/
theorem al_69 (h : Holds V0 s j) : (constantI S_ 32 0#32 : (Proc.devRef .tc main_while0b_call9_c_1 : DevRef τ sig).ty.Contents (Elt F)) = Cert.RefGdnIdeal.Step.b69 j s := by
  unfold Cert.RefGdnIdeal.Step.b69
  rfl
set_option maxRecDepth 8192 in
/-- What operation 70 of a trip leaves is `step`'s value 70. -/
theorem al_70 (h : Holds V0 s j) : (Host.dynamicUpdateSlice (V0 (Proc.devRef .tc main_v75_8)) (broadcastInDim S1x8x4x128 ![1, 2, 3] bcast_S8x4x128_S1x8x4x128_1_2_3 (Host.dotGeneral dot_S8x4x128_S8x4x128x128_S8x4x128_2_2_n_3_01_01 none (shapeCast S8x4x128 (Host.dynamicSlice S8x1x4x128 (V0 (Proc.devRef .tc main_v75_1)) (fun k => (((![constantI S_ 32 0#32, select (cmpi .slt (res_main_while0b_v97 V0) (constantI S_ 32 0#32)) (addi (res_main_while0b_v97 V0) (constantI S_ 32 4096#32)) (res_main_while0b_v97 V0), constantI S_ 32 0#32, constantI S_ 32 0#32] : Fin 4 → (⟨S_, .i32⟩ : BufTy).Contents (Elt F))) k (Shape.Idx.first h_S_)).toInt) sliceFits_S8x4096x4x128_S8x1x4x128) shapeCasts_S8x1x4x128_S8x4x128) (res_main_while0b_v117 V0))) (fun k => (((![V0 (Proc.devRef .tc main_v75_6), constantI S_ 32 0#32, constantI S_ 32 0#32, constantI S_ 32 0#32] : Fin 4 → (⟨S_, .i32⟩ : BufTy).Contents (Elt F))) k (Shape.Idx.first h_S_)).toInt) updateFits_S4096x8x4x128_S1x8x4x128 : (Proc.devRef .tc main_while0b_v119 : DevRef τ sig).ty.Contents (Elt F)) = Cert.RefGdnIdeal.Step.b70 j s := by
  unfold Cert.RefGdnIdeal.Step.b70
  rw [← al_66 h, ← al_67 h, ← al_68 h, ← al_69 h, h.f_8, h.n_6]
  try rfl

/-! One trip's step of the carried values is `step`, field by field; a counter steps to the next number. -/

/-- A trip leaves the state that `step` makes. -/
theorem step_7 (h : Holds V0 s j) : step_main_v75_7 V0 = (step j s).main_v75_7 := by
  unfold step_main_v75_7 Cert.RefGdnIdeal.Step.step
  show id (res_main_while0b_v117 V0) = _
  rw [al_64 h]
  try rfl
/-- A trip leaves the outputs that `step` makes. -/
theorem step_8 (h : Holds V0 s j) : step_main_v75_8 V0 = (step j s).main_v75_8 := by
  unfold step_main_v75_8 Cert.RefGdnIdeal.Step.step
  exact al_70 h
/-- A trip counts one further. -/
theorem step_6 (h : Holds V0 s j) : step_main_v75_6 V0 = constantI S_ 32 (BitVec.ofNat 32 (j + 1)) := by
  unfold step_main_v75_6
  rw [h.n_6]
  funext i
  show BitVec.ofNat 32 j + 1#32 = BitVec.ofNat 32 (j + 1)
  simp only [BitVec.ofNat_add]

set_option maxRecDepth 8192 in
/-- What the operations after the loop leave is the result's function of the loop's last state. -/
theorem out_main_v96_holds (h : Holds V0 s j) {x_main_arg0 : (⟨S8x4096x8192, .bf16⟩ : BufTy).Contents (Elt F)} (h_main_arg0 : V0 (Proc.devRef .tc main_arg0) = x_main_arg0) {x_main_arg5 : (⟨S128, .f32⟩ : BufTy).Contents (Elt F)} (h_main_arg5 : V0 (Proc.devRef .tc main_arg5) = x_main_arg5) : out_main_v96 V0 = Cert.RefGdnIdeal.Step.R_main_v96 s x_main_arg0 x_main_arg5 := by
  unfold out_main_v96 Cert.RefGdnIdeal.Step.R_main_v96
  rw [h.f_8, h_main_arg0, h_main_arg5]
  try rfl

/-- One trip keeps the valuation holding: `step` of the state, the same set-up values, the next number. -/
theorem holds_step (h : Holds V0 s j) : Holds (STEP V0) (step j s) (j + 1) where
  f_7 := (STEP_main_v75_7 V0).trans (step_7 h)
  f_8 := (STEP_main_v75_8 V0).trans (step_8 h)
  n_6 := (STEP_main_v75_6 V0).trans (step_6 h)
  k_0 := (STEP_main_v75_0 V0).trans h.k_0
  f_1 := (STEP_main_v75_1 V0).trans h.f_1
  f_2 := (STEP_main_v75_2 V0).trans h.f_2
  f_3 := (STEP_main_v75_3 V0).trans h.f_3
  f_4 := (STEP_main_v75_4 V0).trans h.f_4
  f_5 := (STEP_main_v75_5 V0).trans h.f_5

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `RefGdnIdeal` terminates with each result at its field of state
    number 4096 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v96) = Cert.RefGdnIdeal.Step.R_main_v96 (it c 4096) (m ((c.tc : Thread nD τ).loc main_arg0)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 4096
    ⟨(h c).1.trans (out_main_v96_holds hk (iter_main_arg0 m c 4096) (iter_main_arg5 m c 4096)), (h c).2.1, (h c).2.2.1, (h c).2.2.2.1, (h c).2.2.2.2.1, (h c).2.2.2.2.2.1, (h c).2.2.2.2.2.2⟩) (Value.run m ρ)

end Cert.Proof.GdnRefRun

end
-- ==== Proof.GdnRef.lean ====
/- The gated DeltaNet reference as functions of its arguments: the projections, convolution, queries, keys, values, decays and
   write strengths its loop reads, one trip of the loop, the loop by induction over the positions, and the result. -/
module

public import proofs.«01_k».proof.Proof.GdnArgs
public import proofs.«01_k».proof.Proof.GdnRefRun
public import proofs.«01_k».proof.Proof.SbStep
public import proofs.«01_k».proof.Proof.ProjStep

@[expose] public section

set_option maxRecDepth 16384

noncomputable section

namespace Cert.Proof.GdnRef

open Idealize.ShloMosaic Idealize.ShloMosaic.TcCoe Idealize.SL.Sem
open Cert.RefGdnIdeal Cert.RefGdnIdeal.Gen Cert.RefGdnIdeal.Step
open Cert.Proof.GdnMath Cert.Proof.GdnHead Cert.Proof.GdnTile Cert.Proof.GdnArgs

section Arrays
variable (P : FVec Ideal S8x4096x8192 .bf16) (A : FVec Ideal S8x4096x128 .f32) (C : FVec Ideal S4x1536 .f32) (L D : FVec Ideal S4 .f32)
  (N : FVec Ideal S128 .f32)

/-- The quotient of the literal one and one plus an exponential is the logistic function. -/
theorem lgst_eq (x : EReal) : Ideal.div 1 (1 + Ideal.exp (-x)) = lgst x := by
  unfold lgst
  rw [one_f32, zero_sub]
  rfl

/-- The padded projections. -/
theorem v2_apply (b : Fin 8) (n : Fin 4099) (l : Fin 1536) : A_main_v2 (F := Ideal) P A C L D (ix3 b n l) = past P b n.val l := by
  unfold A_main_v2 A_main_v1 A_main_v0 K_main_call0_v0 K_main_c
  pointwise
  have hn := n.isLt
  unfold past
  by_cases h : 3 ≤ n.val
  · rw [dif_pos (show 3 ≤ n.val ∧ n.val - 3 < 4096 by omega), dif_pos (show 3 ≤ n.val ∧ n.val < 4099 by omega)]
  · rw [dif_neg (by omega), dif_neg (by omega)]
    exact ProjStep.sitofp_zero

/-- The causal convolution. -/
theorem v29_apply (b : Fin 8) (s : Fin 4096) (l : Fin 1536) : A_main_v29 (F := Ideal) P A C L D (ix3 b s l) = conv P C b s.val l := by
  unfold A_main_v29 A_main_v28 A_main_v27 A_main_v26 A_main_v25 A_main_v24 A_main_v23 A_main_v22 A_main_v21 A_main_v20 A_main_v19 A_main_v18
    A_main_v17 A_main_v16 A_main_v15 A_main_v14 A_main_v13 A_main_v12 A_main_v11 A_main_v10 A_main_v9 A_main_v8 A_main_v7 A_main_v6
    A_main_v5 A_main_v4 A_main_v3
  pointwise [v2_apply]
  unfold conv
  rw [Nat.add_comm 1 s.val, Nat.add_comm 2 s.val, Nat.add_comm 3 s.val]

/-- Times its logistic function. -/
theorem v30_apply (b : Fin 8) (s : Fin 4096) (l : Fin 1536) : A_main_v30 (F := Ideal) P A C L D (ix3 b s l) = act P C b s.val l := by
  unfold A_main_v30 A_main_call1_v5 A_main_call1_v3 A_main_call1_v1 A_main_call1_v0 K_main_call1_v2 K_main_call1_v4 K_main_call1_cst K_main_call1_cst_0
  pointwise [v29_apply]
  unfold act
  rw [← lgst_eq]

/-- The columns of the queries. -/
theorem v32_apply (b : Fin 8) (s : Fin 4096) (h : Fin 4) (d : Fin 128) : A_main_v32 (F := Ideal) P A C L D (ix4 b s h d)
    = act P C b s.val ⟨128 * h.val + d.val, by omega⟩ := by
  unfold A_main_v32 A_main_v31
  pointwise [v30_apply]
  refine congrArg (act P C b s.val) (Fin.ext ?_)
  dsimp only
  omega

/-- The columns of the keys. -/
theorem v44_apply (b : Fin 8) (s : Fin 4096) (h : Fin 4) (d : Fin 128) : A_main_v44 (F := Ideal) P A C L D (ix4 b s h d)
    = act P C b s.val ⟨512 + 128 * h.val + d.val, by omega⟩ := by
  unfold A_main_v44 A_main_v43
  pointwise [v30_apply]
  refine congrArg (act P C b s.val) (Fin.ext ?_)
  dsimp only
  omega

/-- The columns of the values. -/
theorem v54_apply (b : Fin 8) (s : Fin 4096) (h : Fin 4) (d : Fin 128) : A_main_v54 (F := Ideal) P A C L D (ix4 b s h d)
    = act P C b s.val ⟨1024 + 128 * h.val + d.val, by omega⟩ := by
  unfold A_main_v54 A_main_v53
  pointwise [v30_apply]
  refine congrArg (act P C b s.val) (Fin.ext ?_)
  dsimp only
  omega

/-- The queries, keys, values, write strengths and log decays. -/
theorem v42_apply (b : Fin 8) (s : Fin 4096) (h : Fin 4) (d : Fin 128) : A_main_v42 (F := Ideal) P A C L D (ix4 b s h d) = qAt P C b s.val h d := by
  unfold A_main_v42 A_main_v40 A_main_v39 A_main_v38 A_main_v37 A_main_v35 A_main_v34 A_main_v33 K_main_cst K_main_v36 K_main_cst_0 K_main_v41 K_main_cst_1
  pointwise [v32_apply]
  unfold qAt unitQ
  rfl

/-- The keys. -/
theorem v52_apply (b : Fin 8) (s : Fin 4096) (h : Fin 4) (d : Fin 128) : A_main_v52 (F := Ideal) P A C L D (ix4 b s h d) = kAt P C b s.val h d := by
  unfold A_main_v52 A_main_v51 A_main_v50 A_main_v49 A_main_v47 A_main_v46 A_main_v45 K_main_cst_2 K_main_v48 K_main_cst_3
  pointwise [v44_apply]
  unfold kAt unitK
  rfl

/-- The write strengths. -/
theorem v61_apply (b : Fin 8) (s : Fin 4096) (h : Fin 4) : A_main_v61 (F := Ideal) P A C L D (ix3 b s h) = bAt A b s.val h := by
  unfold A_main_v61 A_main_v59 A_main_v57 A_main_v56 A_main_v55 K_main_v58 K_main_v60 K_main_cst_4 K_main_cst_5
  pointwise
  unfold bAt lane
  rw [dif_pos s.isLt]
  exact lgst_eq _

/-- The log decays. -/
theorem v71_apply (b : Fin 8) (s : Fin 4096) (h : Fin 4) : A_main_v71 (F := Ideal) P A C L D (ix3 b s h) = gAt A L D b s.val h := by
  unfold A_main_v71 A_main_v70 A_main_v69 A_main_v68 A_main_call2_v11 A_main_call2_v10 A_main_call2_v9 A_main_call2_v8 A_main_call2_v7
    A_main_call2_v6 A_main_call2_v4 A_main_call2_v3 A_main_call2_v1 A_main_v67 A_main_v66 A_main_v65 A_main_v64 A_main_v63 A_main_v62
    K_main_call2_v0 K_main_call2_v2 K_main_call2_v5 K_main_call2_cst
  pointwise
  unfold gAt lane soft
  rw [dif_pos s.isLt, if_neg (fun h => h rfl), one_f32, zero_sub, zero_sub]
  rfl

end Arrays

section Trip
/-- Equal coordinates, equal positions. -/
theorem same3 {a b c : ℕ} {i i' : Fin a} {j j' : Fin b} {k k' : Fin c} (h1 : i = i') (h2 : j = j') (h3 : k = k') : ix3 i j k = ix3 i' j' k' := by
  subst h1 h2 h3; rfl
/-- The same with four coordinates. -/
theorem same4 {a b c d : ℕ} {i i' : Fin a} {j j' : Fin b} {k k' : Fin c} {l l' : Fin d} (h1 : i = i') (h2 : j = j') (h3 : k = k') (h4 : l = l') :
    ix4 i j k l = ix4 i' j' k' l' := by
  subst h1 h2 h3 h4; rfl

/-- The trip's number as a word. -/
theorem word (j : ℕ) (hj : j < 4096) (s : State Ideal) (i : S_.Idx) : b1 j s i = BitVec.ofNat 32 j := by
  unfold b1 b0 K_main_v73
  pointwise
  exact congrArg (BitVec.ofNat 32) (Host.clampedStart_of_le _ _ _ j (SbStep.toInt_small j (by omega)) (by show j + 1 ≤ 4096; omega))

/-- A word that is not negative is not shifted. -/
theorem notNeg (j : ℕ) (hj : j < 4096) (c : BitVec 32) :
    (if IntOp.cmpi .slt (BitVec.ofNat 32 j) 0#32 = 1#1 then c else BitVec.ofNat 32 j) = BitVec.ofNat 32 j := by
  rw [WordCmp.cmpi_slt_eq, SbStep.toInt_small j (by omega), decide_eq_false (by simp), if_neg (by decide)]

/-- A block of one position, its start the position's word and zeros. -/
theorem start4 (j : ℕ) (hj : j < 4096) (a0 a1 a2 a3 : IVec S_ 32) (h0 : ∀ i, a0 i = 0#32) (h1 : ∀ i, a1 i = BitVec.ofNat 32 j)
    (h2 : ∀ i, a2 i = 0#32) (h3 : ∀ i, a3 i = 0#32) (x : FVec Ideal S8x4096x4x128 .f32) (b : Fin 8) (h : Fin 4) (d : Fin 128) :
    Host.dynamicSlice S8x1x4x128 x (fun k => ((![a0, a1, a2, a3] : Fin 4 → IVec S_ 32) k (Shape.Idx.first h_S_)).toInt)
      sliceFits_S8x4096x4x128_S8x1x4x128 (ix4 b 0 h d) = x (ix4 b ⟨j, hj⟩ h d) := by
  have e0 := Host.clampedStart_of_le (s := S8x4096x4x128) (t := S8x1x4x128) rfl (fun k => ((![a0, a1, a2, a3] : Fin 4 → IVec S_ 32) k (Shape.Idx.first h_S_)).toInt)
    0 0 (by show (a0 _).toInt = _; rw [h0]; rfl) (by decide)
  have e1 := Host.clampedStart_of_le (s := S8x4096x4x128) (t := S8x1x4x128) rfl (fun k => ((![a0, a1, a2, a3] : Fin 4 → IVec S_ 32) k (Shape.Idx.first h_S_)).toInt)
    1 j (by show (a1 _).toInt = _; rw [h1]; exact SbStep.toInt_small j (by omega)) (by show j + 1 ≤ 4096; omega)
  have e2 := Host.clampedStart_of_le (s := S8x4096x4x128) (t := S8x1x4x128) rfl (fun k => ((![a0, a1, a2, a3] : Fin 4 → IVec S_ 32) k (Shape.Idx.first h_S_)).toInt)
    2 0 (by show (a2 _).toInt = _; rw [h2]; rfl) (by decide)
  have e3 := Host.clampedStart_of_le (s := S8x4096x4x128) (t := S8x1x4x128) rfl (fun k => ((![a0, a1, a2, a3] : Fin 4 → IVec S_ 32) k (Shape.Idx.first h_S_)).toInt)
    3 0 (by show (a3 _).toInt = _; rw [h3]; rfl) (by decide)
  pointwise
  exact congrArg x (same4 (Fin.ext ((congrArg (· + b.val) e0).trans (Nat.zero_add _))) (Fin.ext e1) (Fin.ext ((congrArg (· + h.val) e2).trans (Nat.zero_add _)))
    (Fin.ext ((congrArg (· + d.val) e3).trans (Nat.zero_add _))))

/-- The same of the arrays without a last axis. -/
theorem start3 (j : ℕ) (hj : j < 4096) (a0 a1 a2 : IVec S_ 32) (h0 : ∀ i, a0 i = 0#32) (h1 : ∀ i, a1 i = BitVec.ofNat 32 j)
    (h2 : ∀ i, a2 i = 0#32) (x : FVec Ideal S8x4096x4 .f32) (b : Fin 8) (h : Fin 4) :
    Host.dynamicSlice S8x1x4 x (fun k => ((![a0, a1, a2] : Fin 3 → IVec S_ 32) k (Shape.Idx.first h_S_)).toInt)
      sliceFits_S8x4096x4_S8x1x4 (ix3 b 0 h) = x (ix3 b ⟨j, hj⟩ h) := by
  have e0 := Host.clampedStart_of_le (s := S8x4096x4) (t := S8x1x4) rfl (fun k => ((![a0, a1, a2] : Fin 3 → IVec S_ 32) k (Shape.Idx.first h_S_)).toInt)
    0 0 (by show (a0 _).toInt = _; rw [h0]; rfl) (by decide)
  have e1 := Host.clampedStart_of_le (s := S8x4096x4) (t := S8x1x4) rfl (fun k => ((![a0, a1, a2] : Fin 3 → IVec S_ 32) k (Shape.Idx.first h_S_)).toInt)
    1 j (by show (a1 _).toInt = _; rw [h1]; exact SbStep.toInt_small j (by omega)) (by show j + 1 ≤ 4096; omega)
  have e2 := Host.clampedStart_of_le (s := S8x4096x4) (t := S8x1x4) rfl (fun k => ((![a0, a1, a2] : Fin 3 → IVec S_ 32) k (Shape.Idx.first h_S_)).toInt)
    2 0 (by show (a2 _).toInt = _; rw [h2]; rfl) (by decide)
  pointwise
  exact congrArg x (same3 (Fin.ext ((congrArg (· + b.val) e0).trans (Nat.zero_add _))) (Fin.ext e1) (Fin.ext ((congrArg (· + h.val) e2).trans (Nat.zero_add _))))

variable (j : ℕ) (hj : j < 4096) (s : State Ideal)
include hj

/-- The words that a trip's blocks start at. -/
theorem word6 (i : S_.Idx) : b6 j s i = BitVec.ofNat 32 j := by
  unfold b6 b3 b5 b2 b4
  pointwise [word j hj s]
  exact notNeg j hj _
/-- The word the keys' block starts at. -/
theorem word16 (i : S_.Idx) : b16 j s i = BitVec.ofNat 32 j := by
  unfold b16 b13 b15 b12 b14
  pointwise [word j hj s]
  exact notNeg j hj _
/-- The word the values' block starts at. -/
theorem word26 (i : S_.Idx) : b26 j s i = BitVec.ofNat 32 j := by
  unfold b26 b23 b25 b22 b24
  pointwise [word j hj s]
  exact notNeg j hj _
/-- The word the log decays' block starts at. -/
theorem word36 (i : S_.Idx) : b36 j s i = BitVec.ofNat 32 j := by
  unfold b36 b33 b35 b32 b34
  pointwise [word j hj s]
  exact notNeg j hj _
/-- The word the write strengths' block starts at. -/
theorem word45 (i : S_.Idx) : b45 j s i = BitVec.ofNat 32 j := by
  unfold b45 b42 b44 b41 b43
  pointwise [word j hj s]
  exact notNeg j hj _

/-- The position's queries, keys, values, log decays and write strengths. -/
theorem b10_apply (b : Fin 8) (h : Fin 4) (d : Fin 128) : b10 j s (ix4 b 0 h d) = s.main_v75_1 (ix4 b ⟨j, hj⟩ h d) :=
  start4 j hj _ _ _ _ (fun _ => rfl) (word6 j hj s) (fun _ => rfl) (fun _ => rfl) _ b h d
/-- The position's keys, as a block. -/
theorem b20_apply (b : Fin 8) (h : Fin 4) (d : Fin 128) : b20 j s (ix4 b 0 h d) = s.main_v75_2 (ix4 b ⟨j, hj⟩ h d) :=
  start4 j hj _ _ _ _ (fun _ => rfl) (word16 j hj s) (fun _ => rfl) (fun _ => rfl) _ b h d
/-- The position's values, as a block. -/
theorem b30_apply (b : Fin 8) (h : Fin 4) (d : Fin 128) : b30 j s (ix4 b 0 h d) = s.main_v75_3 (ix4 b ⟨j, hj⟩ h d) :=
  start4 j hj _ _ _ _ (fun _ => rfl) (word26 j hj s) (fun _ => rfl) (fun _ => rfl) _ b h d
/-- The position's log decays, as a block. -/
theorem b39_apply (b : Fin 8) (h : Fin 4) : b39 j s (ix3 b 0 h) = s.main_v75_4 (ix3 b ⟨j, hj⟩ h) :=
  start3 j hj _ _ _ (fun _ => rfl) (word36 j hj s) (fun _ => rfl) _ b h
/-- The position's write strengths, as a block. -/
theorem b48_apply (b : Fin 8) (h : Fin 4) : b48 j s (ix3 b 0 h) = s.main_v75_5 (ix3 b ⟨j, hj⟩ h) :=
  start3 j hj _ _ _ (fun _ => rfl) (word45 j hj s) (fun _ => rfl) _ b h
/-- The position's queries. -/
theorem b11_apply (b : Fin 8) (h : Fin 4) (d : Fin 128) : b11 j s (ix3 b h d) = s.main_v75_1 (ix4 b ⟨j, hj⟩ h d) := by
  unfold b11
  pointwise [b10_apply j hj s]
/-- The position's keys. -/
theorem b21_apply (b : Fin 8) (h : Fin 4) (d : Fin 128) : b21 j s (ix3 b h d) = s.main_v75_2 (ix4 b ⟨j, hj⟩ h d) := by
  unfold b21
  pointwise [b20_apply j hj s]
/-- The position's values. -/
theorem b31_apply (b : Fin 8) (h : Fin 4) (d : Fin 128) : b31 j s (ix3 b h d) = s.main_v75_3 (ix4 b ⟨j, hj⟩ h d) := by
  unfold b31
  pointwise [b30_apply j hj s]
/-- The position's log decays. -/
theorem b40_apply (b : Fin 8) (h : Fin 4) : b40 j s (ix2 b h) = s.main_v75_4 (ix3 b ⟨j, hj⟩ h) := by
  unfold b40
  pointwise [b39_apply j hj s]
/-- The position's write strengths. -/
theorem b49_apply (b : Fin 8) (h : Fin 4) : b49 j s (ix2 b h) = s.main_v75_5 (ix3 b ⟨j, hj⟩ h) := by
  unfold b49
  pointwise [b48_apply j hj s]

/-- The state after the trip. -/
theorem b64_apply (b : Fin 8) (h : Fin 4) (d e : Fin 128) : b64 j s (ix4 b h d e)
    = Ideal.exp (s.main_v75_4 (ix3 b ⟨j, hj⟩ h)) * s.main_v75_7 (ix4 b h d e)
      + s.main_v75_2 (ix4 b ⟨j, hj⟩ h d) * (s.main_v75_5 (ix3 b ⟨j, hj⟩ h) * (s.main_v75_3 (ix4 b ⟨j, hj⟩ h e)
        - ∑ x, s.main_v75_2 (ix4 b ⟨j, hj⟩ h x) * (Ideal.exp (s.main_v75_4 (ix3 b ⟨j, hj⟩ h)) * s.main_v75_7 (ix4 b h x e)))) := by
  unfold b64 b63 b62 b61 b60 b59 b58 b57 b56 b55 b54 b53 b52 b51 b50
  pointwise [b21_apply j hj s, b31_apply j hj s, b40_apply j hj s, b49_apply j hj s]

/-- The outputs after the trip: the position's queries against the state, the others as before. -/
theorem b70_apply (p : Fin 4096) (b : Fin 8) (h : Fin 4) (e : Fin 128) : b70 j s (ix4 p b h e)
    = if p.val = j then ∑ x, s.main_v75_1 (ix4 b ⟨j, hj⟩ h x) * b64 j s (ix4 b h x e) else s.main_v75_8 (ix4 p b h e) := by
  have h65 : ∀ (b : Fin 8) (h : Fin 4) (e : Fin 128), b65 j s (ix3 b h e) = ∑ x, s.main_v75_1 (ix4 b ⟨j, hj⟩ h x) * b64 j s (ix4 b h x e) := by
    intro b h e
    unfold b65
    pointwise [b11_apply j hj s]
  have e0 := Host.clampedStart_of_le (s := S4096x8x4x128) (t := S1x8x4x128) rfl
    (fun k => ((![constantI S_ 32 (BitVec.ofNat 32 j), b67 j s, b68 j s, b69 j s] : Fin 4 → IVec S_ 32) k (Shape.Idx.first h_S_)).toInt)
    0 j (SbStep.toInt_small j (by omega)) (by show j + 1 ≤ 4096; omega)
  have e1 := Host.clampedStart_of_le (s := S4096x8x4x128) (t := S1x8x4x128) rfl
    (fun k => ((![constantI S_ 32 (BitVec.ofNat 32 j), b67 j s, b68 j s, b69 j s] : Fin 4 → IVec S_ 32) k (Shape.Idx.first h_S_)).toInt)
    1 0 rfl (by decide)
  have e2 := Host.clampedStart_of_le (s := S4096x8x4x128) (t := S1x8x4x128) rfl
    (fun k => ((![constantI S_ 32 (BitVec.ofNat 32 j), b67 j s, b68 j s, b69 j s] : Fin 4 → IVec S_ 32) k (Shape.Idx.first h_S_)).toInt)
    2 0 rfl (by decide)
  have e3 := Host.clampedStart_of_le (s := S4096x8x4x128) (t := S1x8x4x128) rfl
    (fun k => ((![constantI S_ 32 (BitVec.ofNat 32 j), b67 j s, b68 j s, b69 j s] : Fin 4 → IVec S_ 32) k (Shape.Idx.first h_S_)).toInt)
    3 0 rfl (by decide)
  unfold b70 b66
  pointwise
  simp only [e0, e1, e2, e3]
  by_cases hp : p.val = j
  · rw [if_pos hp, dif_pos (by omega), ← h65 b h e]
    rfl
  · rw [if_neg hp, dif_neg (by omega)]

end Trip

section Loop
/-- The state before trip `n`. -/
def iter (s : State Ideal) : ℕ → State Ideal
  | 0 => s
  | n + 1 => step n (iter s n)

variable {P : FVec Ideal S8x4096x8192 .bf16} {A : FVec Ideal S8x4096x128 .f32} {C : FVec Ideal S4x1536 .f32} {L D : FVec Ideal S4 .f32}

/-- The loop's arrays hold the queries, keys, values, log decays and write strengths, the state after `n` positions, and the outputs of
    the positions before `n`. -/
structure At (P : FVec Ideal S8x4096x8192 .bf16) (A : FVec Ideal S8x4096x128 .f32) (C : FVec Ideal S4x1536 .f32) (L D : FVec Ideal S4 .f32)
    (n : ℕ) (s : State Ideal) : Prop where
  onQ : ∀ b p h d, s.main_v75_1 (ix4 b p h d) = ((q P C b h p.val d : ℝ) : EReal)
  onK : ∀ b p h d, s.main_v75_2 (ix4 b p h d) = ((k P C b h p.val d : ℝ) : EReal)
  onV : ∀ b p h d, s.main_v75_3 (ix4 b p h d) = ((v P C b h p.val d : ℝ) : EReal)
  onG : ∀ b p h, s.main_v75_4 (ix3 b p h) = ((g A L D b h p.val : ℝ) : EReal)
  onB : ∀ b p h, s.main_v75_5 (ix3 b p h) = ((be A b h p.val : ℝ) : EReal)
  onS : ∀ b h d e, s.main_v75_7 (ix4 b h d e) = ((stateAt P A C L D b h n d e : ℝ) : EReal)
  onO : ∀ p b h e, p.val < n → s.main_v75_8 (ix4 p b h e) = ((outAt P A C L D b h p.val e : ℝ) : EReal)

/-- So they do before the first trip. -/
theorem at_init (F : Finite P A C L D) : At P A C L D 0 (init (F := Ideal) P A C L D) where
  onQ b p h d := (v42_apply P A C L D b p h d).trans (q_eq _ _ b h p.val d)
  onK b p h d := (v52_apply P A C L D b p h d).trans (k_eq _ _ b h p.val d)
  onV b p h d := (v54_apply P A C L D b p h d).trans (v_eq F b h p.val d)
  onG b p h := (v71_apply P A C L D b p h).trans (g_eq F b h p.val)
  onB b p h := (v61_apply P A C L D b p h).trans (be_eq _ b h p.val)
  onS b h d e := by
    show K_main_v72 (F := Ideal) (ix4 b h d e) = _
    unfold K_main_v72 K_main_cst_6
    pointwise
    rfl
  onO p b h e hp := absurd hp (Nat.not_lt_zero _)

/-- A trip keeps that. -/
theorem at_step (n : ℕ) (hn : n < 4096) {s : State Ideal} (H : At P A C L D n s) : At P A C L D (n + 1) (step n s) := by
  have hS : ∀ b h d e, b64 n s (ix4 b h d e) = ((stateAt P A C L D b h (n + 1) d e : ℝ) : EReal) := by
    intro b h d e
    rw [b64_apply n hn s, H.onK, H.onG, H.onB, H.onV, H.onS]
    have hx : ∀ x, s.main_v75_2 (ix4 b ⟨n, hn⟩ h x) * (Ideal.exp ((g A L D b h n : ℝ) : EReal) * s.main_v75_7 (ix4 b h x e))
        = ((k P C b h n x * (Real.exp (g A L D b h n) * stateAt P A C L D b h n x e) : ℝ) : EReal) := by
      intro x
      rw [H.onK, H.onS, EReal.coe_mul, EReal.coe_mul]
      rfl
    rw [Finset.sum_congr rfl fun x _ => hx x, GdnChunk.coe_sum, ← EReal.coe_sub, ← EReal.coe_mul, ← EReal.coe_mul]
    show ((Real.exp (g A L D b h n) : ℝ) : EReal) * _ + _ = _
    rw [← EReal.coe_mul, ← EReal.coe_add]
    rfl
  refine ⟨H.onQ, H.onK, H.onV, H.onG, H.onB, fun b h d e => ?_, fun p b h e hp => ?_⟩
  · rw [step_main_v75_7]; exact hS b h d e
  · rw [step_main_v75_8, b70_apply n hn s]
    split_ifs with he
    · have hx : ∀ x, s.main_v75_1 (ix4 b ⟨n, hn⟩ h x) * b64 n s (ix4 b h x e)
          = ((q P C b h n x * stateAt P A C L D b h (n + 1) x e : ℝ) : EReal) := by
        intro x
        rw [H.onQ, hS, EReal.coe_mul]
      rw [Finset.sum_congr rfl fun x _ => hx x, GdnChunk.coe_sum, he]
      rfl
    · exact H.onO p b h e (by omega)

/-- So they do before every trip, and after the last. -/
theorem at_iter (F : Finite P A C L D) (n : ℕ) (hn : n ≤ 4096) : At P A C L D n (iter (init (F := Ideal) P A C L D) n) := by
  induction n with
  | zero => exact at_init F
  | succ n ih => exact at_step n (by omega) (ih (by omega))

/-- What the operations after the loop make of its last state is the result. -/
theorem out_eq (N : FVec Ideal S128 .f32) {s : State Ideal} (H : At P A C L D 4096 s) : R_main_v96 s P N = result P A C L D N := by
  funext i
  obtain ⟨b, n, l, rfl⟩ : ∃ (b : Fin 8) (n : Fin 4096) (l : Fin 512), i = ix3 b n l := ⟨i 0, i 1, i 2, eq_ix3 i⟩
  obtain ⟨h, e, rfl⟩ : ∃ (h : Fin 4) (e : Fin 128), l = ⟨128 * h.val + e.val, by omega⟩ :=
    ⟨⟨l.val / 128, by omega⟩, ⟨l.val % 128, by omega⟩, Fin.ext (by dsimp only; omega)⟩
  have hr : result P A C L D N (ix3 b n ⟨128 * h.val + e.val, by omega⟩) = resultAt P A C L D N b n h e := by
    show resultAt P A C L D N b n ⟨(128 * h.val + e.val) / 128, _⟩ ⟨(128 * h.val + e.val) % 128, _⟩ = _
    congr 1 <;> exact Fin.ext (by dsimp only; omega)
  rw [hr]
  have ho : ∀ x, s.main_v75_8 (ix4 n b h x) = ((outAt P A C L D b h n.val x : ℝ) : EReal) := fun x => H.onO n b h x n.isLt
  have hz : ∀ p, P (ix3 b n ⟨1536 + (h.val * 128 + e.val), p⟩) = P (ix3 b n ⟨1536 + 128 * h.val + e.val, by omega⟩) := fun p =>
    congrArg P (same3 rfl rfl (Fin.ext (by dsimp only; omega)))
  unfold R_main_v96
  pointwise
  simp only [ho]
  rw [hz, lgst_eq]
  rfl

end Loop

end Cert.Proof.GdnRef

end
-- ==== Proof.GdnClaim.lean ====
/- The claims about the gated DeltaNet kernel: that kernel and reference leave the same array where what the
   values and log decays are made of are numbers. -/
module

public import proofs.«01_k».proof.Defs
public import proofs.«01_k».proof.Proof.SbClaim
public import proofs.«01_k».proof.Proof.GdnRun
public import proofs.«01_k».proof.Proof.GdnRef
public import Idealize.ShloMosaic.Lib.Quiescent

@[expose] public section

noncomputable section

namespace Cert.Proof.GdnClaim

open Idealize.ShloMosaic Idealize.ShloMosaic.TcCoe Idealize.SL.Sem
open Cert.Pre_finite_gdn Cert.Proof.GdnArgs

/-- The shape relations that the precondition's operations take. -/
theorem pre_facts : Cert.Pre_finite_gdn.Facts where
  slices_S4x1536_S4x512_0_1024 := by decide
  shapeCasts_S4x512_S4x4x128 := by decide
  slices_S8x4096x8192_S8x4096x512_0_0_1024 := by decide
  bitsLt_bf16_f32 := by decide
  bcast_S_S8x4096x512 := by decide
  shapeCasts_S8x4096x512_S8x4096x4x128 := by decide
  slices_S8x4096x128_S8x4096x4_0_0_0 := by decide
  bcast_S_S8x4096x4 := by decide
  bcast_S8x4096x4_S8x4096x4x1_0_1_2 := by decide
  bcast_S8x4096x4x1_S8x4096x4x128_0_1_2_3 := by decide
  bcast_S_S4 := by decide
  bcast_S4_S4x1_0 := by decide
  bcast_S4x1_S1x1x4x1_2_3 := by decide
  bcast_S1x1x4x1_S8x4096x4x128_0_1_2_3 := by decide
  slices_S4x4x128_S1x4x128_0_0_0 := by decide
  shapeCasts_S1x4x128_S4x128 := by decide
  bcast_S_S4x128 := by decide
  bcast_S4x128_S1x1x4x128_2_3 := by decide
  bcast_S1x1x4x128_S8x4096x4x128_0_1_2_3 := by decide
  slices_S4x4x128_S1x4x128_1_0_0 := by decide
  slices_S4x4x128_S1x4x128_2_0_0 := by decide
  slices_S4x4x128_S1x4x128_3_0_0 := by decide

/-- The reference runs, keeps its arguments and ends quiescent. -/
theorem frame_reference : Cert.quiescent_RefGdnIdeal := fun m ρ _ =>
  (θ_run Cert.RefGdnIdeal.defs _ _).mono (fun r h => ⟨fun c => (h c).2, sem_eq_zero_of_no_sems (by decide) r.2⟩)
    (Cert.RefGdnIdeal.Value.run (F := Ideal) m ρ)

/-- A conjunction of bits that is one has both bits one. -/
theorem and_one (x y : BitVec 1) (h : IntOp.andi x y = 1#1) : x = 1#1 ∧ y = 1#1 := by
  revert x y; decide

/-- A comparison with infinity whose bit is one says that its operand is a number. -/
theorem num_of_bit (x : EReal) (h : BitVec.ofBool (decide (max x (-x) < Ideal.ofBits .f32 0x7F800000#32)) = 1#1) : Num x := by
  rw [SbClaim.inf_f32] at h
  exact SbClaim.real_of_abs_lt _ (SbClaim.of_bit _ h)

section Pre
variable (P : FVec Ideal S8x4096x8192 .bf16) (A : FVec Ideal S8x4096x128 .f32) (C : FVec Ideal S4x1536 .f32) (L D : FVec Ideal S4 .f32)
  (N : FVec Ideal S128 .f32)

/-- Where the precondition holds, what the values and decays are made of are numbers: its comparisons at one position. -/
theorem at_position [Cert.Pre_finite_gdn.Facts] (H : (Cert.Pre_finite_gdn.fn (F := Ideal) P A C L D N) = fun _ => 1#1)
    (b : Fin 8) (s : Fin 4096) (h : Fin 4) (j : Fin 128) :
    Num (P (ix3 b s ⟨1024 + (h.val * 128 + j.val), by omega⟩)) ∧ Num (A (ix3 b s ⟨h.val, by omega⟩))
    ∧ Num (L (ix1 h)) ∧ Num (D (ix1 h)) ∧ ∀ i : Fin 4, Num (C (ix2 i ⟨1024 + (h.val * 128 + j.val), by omega⟩)) := by
  have hx := congrFun H (ix4 b s h j)
  unfold Cert.Pre_finite_gdn.fn Cert.Pre_finite_gdn.fn_part1 Cert.Pre_finite_gdn.fn_part2 at hx
  dsimp only at hx
  pointwise at hx
  obtain ⟨hx, c3⟩ := and_one _ _ hx
  obtain ⟨hx, c2⟩ := and_one _ _ hx
  obtain ⟨hx, c1⟩ := and_one _ _ hx
  obtain ⟨hx, c0⟩ := and_one _ _ hx
  obtain ⟨hx, d0⟩ := and_one _ _ hx
  obtain ⟨hx, l0⟩ := and_one _ _ hx
  obtain ⟨p0, a0⟩ := and_one _ _ hx
  refine ⟨num_of_bit _ p0, num_of_bit _ a0, num_of_bit _ l0, num_of_bit _ d0, fun i => ?_⟩
  fin_cases i
  · exact num_of_bit _ c0
  · exact num_of_bit _ c1
  · exact num_of_bit _ c2
  · exact num_of_bit _ c3

/-- The columns of all heads, and so all that the values and decays are made of. -/
theorem finite [Cert.Pre_finite_gdn.Facts] (H : (Cert.Pre_finite_gdn.fn (F := Ideal) P A C L D N) = fun _ => 1#1) : Finite P A C L D where
  onP b s l := by
    have h := (at_position P A C L D N H b s ⟨l.val / 128, by omega⟩ ⟨l.val % 128, by omega⟩).1
    have e : (⟨1024 + (l.val / 128 * 128 + l.val % 128), by omega⟩ : Fin 8192) = ⟨1024 + l.val, by omega⟩ := Fin.ext (by dsimp only; omega)
    exact e ▸ h
  onA b s h := (at_position P A C L D N H b s h 0).2.1
  onC i l := by
    have h := (at_position P A C L D N H 0 0 ⟨l.val / 128, by omega⟩ ⟨l.val % 128, by omega⟩).2.2.2.2 i
    have e : (⟨1024 + (l.val / 128 * 128 + l.val % 128), by omega⟩ : Fin 1536) = ⟨1024 + l.val, by omega⟩ := Fin.ext (by dsimp only; omega)
    exact e ▸ h
  onL h := (at_position P A C L D N H 0 0 h 0).2.2.1
  onD h := (at_position P A C L D N H 0 0 h 0).2.2.2.1

end Pre

/-- From arguments that agree, what the values and decays are made of numbers, kernel and reference end with the same result array:
    `GdnArgs.result` of the arguments. -/
theorem algebraic : Cert.algebraic_GdnIdeal_RefGdnIdeal_pre_finite_gdn (hPre_finite_gdn := pre_facts) := by
  intro m ρ m' ρ' hpre hagree
  have hF : ∀ c, Finite (GdnRun.argP m c) (GdnRun.argA m c) (GdnRun.argC m c) (GdnRun.argL m c) (GdnRun.argD m c) := fun c =>
    @finite _ _ _ _ _ _ pre_facts (hpre c)
  refine ⟨_, GdnRun.run m ρ hF, ?_⟩
  refine (θ_run Cert.RefGdnIdeal.defs _ _).mono (fun _ h c => ⟨(h c).1.trans ?_, (h c).2⟩)
    (GdnRefRun.run_iter m' ρ' (fun c => GdnRef.iter (GdnRefRun.initState m' c)) (fun _ => rfl) (fun _ _ => rfl))
  obtain ⟨h0, h1, h2, h3, h4, h5⟩ := hagree c
  dsimp only [GdnRefRun.initState]
  rw [h0, h1, h2, h3, h4, h5]
  exact GdnRef.out_eq _ (GdnRef.at_iter (hF c) 4096 le_rfl)

end Cert.Proof.GdnClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.RefFfnIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.RefProjIdeal
public import proofs.«01_k».proof.Proof.Gen.KernelIdeal.Value
public import proofs.«01_k».proof.Proof.Gen.FfnIdeal.Value
public import proofs.«01_k».proof.Proof.Gen.ReferenceIdeal.Read
public import proofs.«01_k».proof.Proof.Gen.RefFfnIdeal.Read
public import proofs.«01_k».proof.Proof.Gen.RefProjIdeal.Read
public import proofs.«01_k».proof.Proof.FfnClaim
public import proofs.«01_k».proof.Proof.SbClaim
public import proofs.«01_k».proof.Proof.ProjFrame
public import proofs.«01_k».proof.Proof.ProjClaim
public import proofs.«01_k».proof.Proof.MergeClaim
public import proofs.«01_k».proof.Merge
public import proofs.«01_k».proof.MergeIdeal
public import proofs.«01_k».proof.RefMergeIdeal
public import proofs.«01_k».proof.Proof.Gen.Merge.Frame
public import proofs.«01_k».proof.Proof.Gen.MergeIdeal.Frame
public import proofs.«01_k».proof.Proof.Gen.MergeIdeal.Value
public import proofs.«01_k».proof.Proof.Gen.RefMergeIdeal.Run
public import proofs.«01_k».proof.Proof.Gen.RefMergeIdeal.Read
public import proofs.«01_k».proof.Proof.GdnSame
public import proofs.«01_k».proof.Proof.GdnFrame
public import proofs.«01_k».proof.Proof.GdnClaim
public import proofs.«01_k».proof.Proof.Gen.Pre_finite_scores
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Ffn.Gen.facts, Cert.FfnIdeal.Gen.facts, Cert.RefFfnIdeal.Gen.facts,
  Cert.Proj.Gen.facts, Cert.ProjIdeal.Gen.facts, Cert.RefProjIdeal.Gen.facts,
  Cert.Merge.Gen.facts, Cert.MergeIdeal.Gen.facts, Cert.RefMergeIdeal.Gen.facts,
  Cert.Gdn.Gen.facts, Cert.GdnIdeal.Gen.facts, Cert.RefGdnIdeal.Gen.facts,
  Cert.Proof.SbClaim.pre_facts, Cert.Proof.GdnClaim.pre_facts,
  fun m ρ _ => Cert.Kernel.Gen.frame m ρ, fun m ρ _ => Cert.KernelIdeal.Gen.frame m ρ, fun m ρ _ => Cert.KernelIdeal.Gen.frame m ρ,
  Cert.Proof.SbClaim.frame_reference, fun m ρ _ => Cert.Proof.SbClaim.frame_reference m ρ trivial,
  fun m ρ _ => Cert.Ffn.Gen.frame m ρ, fun m ρ _ => Cert.FfnIdeal.Gen.frame m ρ, Cert.Proof.FfnClaim.frame_reference,
  fun m ρ _ => Cert.Proof.ProjFrame.frame m ρ, fun m ρ _ => Cert.Proof.ProjIdealFrame.frame m ρ, Cert.Proof.ProjClaim.frame_reference,
  fun m ρ _ => Cert.Merge.Gen.frame m ρ, fun m ρ _ => Cert.MergeIdeal.Gen.frame m ρ, Cert.Proof.MergeClaim.frame_reference,
  fun m ρ _ => Cert.Proof.GdnSame.frame m ρ, fun m ρ _ => Cert.Proof.GdnFrame.frame m ρ, fun m ρ _ => Cert.Proof.GdnFrame.frame m ρ,
  Cert.Proof.GdnClaim.frame_reference, fun m ρ _ => Cert.Proof.GdnClaim.frame_reference m ρ trivial,
  trivial, Cert.Proof.SbClaim.algebraic, trivial, Cert.Proof.FfnClaim.algebraic, trivial, Cert.Proof.ProjClaim.algebraic,
  trivial, Cert.Proof.MergeClaim.algebraic, trivial, Cert.Proof.GdnClaim.algebraic⟩

end Cert.Proof

end
